-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_gate_finite [hPre_gate_finite : Cert.Pre_gate_finite.Facts] (m : (ℓ : Loc Cert.GateIdeal.nD Cert.GateIdeal.τ Cert.GateIdeal.sig) → Buf (Elt Ideal) ℓ) : Prop :=
  ∀ c : Dev Cert.GateIdeal.nD,
    (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.1 = (fun _ => 1#1)
    ∧ (Cert.Pre_gate_finite.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_finite [hPre_in_finite : Cert.Pre_in_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.2.2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.2.2.2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.2.2.2.2.1 = (fun _ => 1#1)
    ∧ (Cert.Pre_in_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8))).2.2.2.2.2.2.2 = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_finite [hPre_in_finite : Cert.Pre_in_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.2.2.1 = (fun _ => 1#1)
    ∧ (Cert.Pre_in_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8))).2.2.2.2.2.2.2 = (fun _ => 1#1)

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjIdeal_up_finite [hPre_up_finite : Cert.Pre_up_finite.Facts] (m : (ℓ : Loc Cert.UpProjIdeal.nD Cert.UpProjIdeal.τ Cert.UpProjIdeal.sig) → Buf (Elt Ideal) ℓ) : Prop :=
  ∀ c : Dev Cert.UpProjIdeal.nD,
    (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.2.1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.2.2.1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.2.2.2.1 = (fun _ => 1#1)
    ∧ (Cert.Pre_up_finite.fn (F := Ideal) (m ((c.tc : Thread Cert.UpProjIdeal.nD Cert.UpProjIdeal.τ).loc Cert.UpProjIdeal.main_arg0)) (m ((c.tc : Thread Cert.UpProjIdeal.nD Cert.UpProjIdeal.τ).loc Cert.UpProjIdeal.main_arg1)) (m ((c.tc : Thread Cert.UpProjIdeal.nD Cert.UpProjIdeal.τ).loc Cert.UpProjIdeal.main_arg2)) (m ((c.tc : Thread Cert.UpProjIdeal.nD Cert.UpProjIdeal.τ).loc Cert.UpProjIdeal.main_arg3)) (m ((c.tc : Thread Cert.UpProjIdeal.nD Cert.UpProjIdeal.τ).loc Cert.UpProjIdeal.main_arg4)) (m ((c.tc : Thread Cert.UpProjIdeal.nD Cert.UpProjIdeal.τ).loc Cert.UpProjIdeal.main_arg5)) (m ((c.tc : Thread Cert.UpProjIdeal.nD Cert.UpProjIdeal.τ).loc Cert.UpProjIdeal.main_arg6))).2.2.2.2.2 = (fun _ => 1#1)

def Pre_UpProjRefIdeal (m : (ℓ : Loc Cert.UpProjRefIdeal.nD Cert.UpProjRefIdeal.τ Cert.UpProjRefIdeal.sig) → Buf (Elt Ideal) ℓ) : Prop :=
  True

def Pre_UpProjRefIdeal_up_finite [hPre_up_finite : Cert.Pre_up_finite.Facts] (m : (ℓ : Loc Cert.UpProjRefIdeal.nD Cert.UpProjRefIdeal.τ Cert.UpProjRefIdeal.sig) → Buf (Elt Ideal) ℓ) : Prop :=
  ∀ c : Dev Cert.UpProjRefIdeal.nD,
    (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.2.1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.2.2.1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.2.2.2.1 = (fun _ => 1#1)
    ∧ (Cert.Pre_up_finite.fn (F := Ideal) (m ((c.tc : Thread Cert.UpProjRefIdeal.nD Cert.UpProjRefIdeal.τ).loc Cert.UpProjRefIdeal.main_arg0)) (m ((c.tc : Thread Cert.UpProjRefIdeal.nD Cert.UpProjRefIdeal.τ).loc Cert.UpProjRefIdeal.main_arg1)) (m ((c.tc : Thread Cert.UpProjRefIdeal.nD Cert.UpProjRefIdeal.τ).loc Cert.UpProjRefIdeal.main_arg2)) (m ((c.tc : Thread Cert.UpProjRefIdeal.nD Cert.UpProjRefIdeal.τ).loc Cert.UpProjRefIdeal.main_arg3)) (m ((c.tc : Thread Cert.UpProjRefIdeal.nD Cert.UpProjRefIdeal.τ).loc Cert.UpProjRefIdeal.main_arg4)) (m ((c.tc : Thread Cert.UpProjRefIdeal.nD Cert.UpProjRefIdeal.τ).loc Cert.UpProjRefIdeal.main_arg5)) (m ((c.tc : Thread Cert.UpProjRefIdeal.nD Cert.UpProjRefIdeal.τ).loc Cert.UpProjRefIdeal.main_arg6))).2.2.2.2.2 = (fun _ => 1#1)

def Pre_WDown (m : (ℓ : Loc Cert.WDown.nD Cert.WDown.τ Cert.WDown.sig) → Buf (Elt Bits) ℓ) : Prop :=
  True

def Pre_WDownIdeal (m : (ℓ : Loc Cert.WDownIdeal.nD Cert.WDownIdeal.τ Cert.WDownIdeal.sig) → Buf (Elt Ideal) ℓ) : Prop :=
  True

def Pre_WDownRefIdeal (m : (ℓ : Loc Cert.WDownRefIdeal.nD Cert.WDownRefIdeal.τ Cert.WDownRefIdeal.sig) → Buf (Elt Ideal) ℓ) : Prop :=
  True

def Pre_WUp (m : (ℓ : Loc Cert.WUp.nD Cert.WUp.τ Cert.WUp.sig) → Buf (Elt Bits) ℓ) : Prop :=
  True

def Pre_WUpIdeal (m : (ℓ : Loc Cert.WUpIdeal.nD Cert.WUpIdeal.τ Cert.WUpIdeal.sig) → Buf (Elt Ideal) ℓ) : Prop :=
  True

def Pre_WUpRefIdeal (m : (ℓ : Loc Cert.WUpRefIdeal.nD Cert.WUpRefIdeal.τ Cert.WUpRefIdeal.sig) → Buf (Elt Ideal) ℓ) : Prop :=
  True

def Pre_WBranch (m : (ℓ : Loc Cert.WBranch.nD Cert.WBranch.τ Cert.WBranch.sig) → Buf (Elt Bits) ℓ) : Prop :=
  True

def Pre_WBranchIdeal (m : (ℓ : Loc Cert.WBranchIdeal.nD Cert.WBranchIdeal.τ Cert.WBranchIdeal.sig) → Buf (Elt Ideal) ℓ) : Prop :=
  True

def Pre_WBranchRefIdeal (m : (ℓ : Loc Cert.WBranchRefIdeal.nD Cert.WBranchRefIdeal.τ Cert.WBranchRefIdeal.sig) → Buf (Elt Ideal) ℓ) : Prop :=
  True

def Pre_WQkv (m : (ℓ : Loc Cert.WQkv.nD Cert.WQkv.τ Cert.WQkv.sig) → Buf (Elt Bits) ℓ) : Prop :=
  True

def Pre_WQkvIdeal (m : (ℓ : Loc Cert.WQkvIdeal.nD Cert.WQkvIdeal.τ Cert.WQkvIdeal.sig) → Buf (Elt Ideal) ℓ) : Prop :=
  True

def Pre_WQkvRefIdeal (m : (ℓ : Loc Cert.WQkvRefIdeal.nD Cert.WQkvRefIdeal.τ Cert.WQkvRefIdeal.sig) → Buf (Elt Ideal) ℓ) : Prop :=
  True

def Pre_WRest (m : (ℓ : Loc Cert.WRest.nD Cert.WRest.τ Cert.WRest.sig) → Buf (Elt Bits) ℓ) : Prop :=
  True

def Pre_WRestIdeal (m : (ℓ : Loc Cert.WRestIdeal.nD Cert.WRestIdeal.τ Cert.WRestIdeal.sig) → Buf (Elt Ideal) ℓ) : Prop :=
  True

def Pre_WRestRefIdeal (m : (ℓ : Loc Cert.WRestRefIdeal.nD Cert.WRestRefIdeal.τ Cert.WRestRefIdeal.sig) → Buf (Elt Ideal) ℓ) : Prop :=
  True

def Pre_WInGate (m : (ℓ : Loc Cert.WInGate.nD Cert.WInGate.τ Cert.WInGate.sig) → Buf (Elt Bits) ℓ) : Prop :=
  True

def Pre_WInGateIdeal (m : (ℓ : Loc Cert.WInGateIdeal.nD Cert.WInGateIdeal.τ Cert.WInGateIdeal.sig) → Buf (Elt Ideal) ℓ) : Prop :=
  True

def Pre_WInGateRefIdeal (m : (ℓ : Loc Cert.WInGateRefIdeal.nD Cert.WInGateRefIdeal.τ Cert.WInGateRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_AdamModRefIdeal (m : (ℓ : Loc Cert.AdamModRefIdeal.nD Cert.AdamModRefIdeal.τ Cert.AdamModRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_gate_finite [hGateIdeal : Cert.GateIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_gate_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjIdeal_pre_in_finite [hInProjIdeal : Cert.InProjIdeal.Facts] [hPre_in_finite : Cert.Pre_in_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_InProjRefIdeal_pre_in_finite [hInProjRefIdeal : Cert.InProjRefIdeal.Facts] [hPre_in_finite : Cert.Pre_in_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2)
      ∧ r.2.mem ((c.tc : Thread Cert.UpFwd.nD Cert.UpFwd.τ).loc Cert.UpFwd.main_arg3) = m ((c.tc : Thread Cert.UpFwd.nD Cert.UpFwd.τ).loc Cert.UpFwd.main_arg3))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
      ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2)
      ∧ r.2.mem ((c.tc : Thread Cert.UpFwdRefIdeal.nD Cert.UpFwdRefIdeal.τ).loc Cert.UpFwdRefIdeal.main_arg3) = m ((c.tc : Thread Cert.UpFwdRefIdeal.nD Cert.UpFwdRefIdeal.τ).loc Cert.UpFwdRefIdeal.main_arg3))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2)
      ∧ r.2.mem ((c.tc : Thread Cert.InFwd.nD Cert.InFwd.τ).loc Cert.InFwd.main_arg3) = m ((c.tc : Thread Cert.InFwd.nD Cert.InFwd.τ).loc Cert.InFwd.main_arg3)
      ∧ r.2.mem ((c.tc : Thread Cert.InFwd.nD Cert.InFwd.τ).loc Cert.InFwd.main_arg4) = m ((c.tc : Thread Cert.InFwd.nD Cert.InFwd.τ).loc Cert.InFwd.main_arg4))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
      ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
      ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2)
      ∧ r.2.mem ((c.tc : Thread Cert.InFwdRefIdeal.nD Cert.InFwdRefIdeal.τ).loc Cert.InFwdRefIdeal.main_arg3) = m ((c.tc : Thread Cert.InFwdRefIdeal.nD Cert.InFwdRefIdeal.τ).loc Cert.InFwdRefIdeal.main_arg3)
      ∧ r.2.mem ((c.tc : Thread Cert.InFwdRefIdeal.nD Cert.InFwdRefIdeal.τ).loc Cert.InFwdRefIdeal.main_arg4) = m ((c.tc : Thread Cert.InFwdRefIdeal.nD Cert.InFwdRefIdeal.τ).loc Cert.InFwdRefIdeal.main_arg4))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10)
      ∧ r.2.mem ((c.tc : Thread Cert.MixFwd.nD Cert.MixFwd.τ).loc Cert.MixFwd.main_arg11) = m ((c.tc : Thread Cert.MixFwd.nD Cert.MixFwd.τ).loc Cert.MixFwd.main_arg11)
      ∧ r.2.mem ((c.tc : Thread Cert.MixFwd.nD Cert.MixFwd.τ).loc Cert.MixFwd.main_arg12) = m ((c.tc : Thread Cert.MixFwd.nD Cert.MixFwd.τ).loc Cert.MixFwd.main_arg12))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
      ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
      ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10)
      ∧ r.2.mem ((c.tc : Thread Cert.MixFwdRefIdeal.nD Cert.MixFwdRefIdeal.τ).loc Cert.MixFwdRefIdeal.main_arg11) = m ((c.tc : Thread Cert.MixFwdRefIdeal.nD Cert.MixFwdRefIdeal.τ).loc Cert.MixFwdRefIdeal.main_arg11)
      ∧ r.2.mem ((c.tc : Thread Cert.MixFwdRefIdeal.nD Cert.MixFwdRefIdeal.τ).loc Cert.MixFwdRefIdeal.main_arg12) = m ((c.tc : Thread Cert.MixFwdRefIdeal.nD Cert.MixFwdRefIdeal.τ).loc Cert.MixFwdRefIdeal.main_arg12))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2)
      ∧ r.2.mem ((c.tc : Thread Cert.UpProj.nD Cert.UpProj.τ).loc Cert.UpProj.main_arg3) = m ((c.tc : Thread Cert.UpProj.nD Cert.UpProj.τ).loc Cert.UpProj.main_arg3)
      ∧ r.2.mem ((c.tc : Thread Cert.UpProj.nD Cert.UpProj.τ).loc Cert.UpProj.main_arg4) = m ((c.tc : Thread Cert.UpProj.nD Cert.UpProj.τ).loc Cert.UpProj.main_arg4)
      ∧ r.2.mem ((c.tc : Thread Cert.UpProj.nD Cert.UpProj.τ).loc Cert.UpProj.main_arg5) = m ((c.tc : Thread Cert.UpProj.nD Cert.UpProj.τ).loc Cert.UpProj.main_arg5)
      ∧ r.2.mem ((c.tc : Thread Cert.UpProj.nD Cert.UpProj.τ).loc Cert.UpProj.main_arg6) = m ((c.tc : Thread Cert.UpProj.nD Cert.UpProj.τ).loc Cert.UpProj.main_arg6))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2)
      ∧ r.2.mem ((c.tc : Thread Cert.UpProjIdeal.nD Cert.UpProjIdeal.τ).loc Cert.UpProjIdeal.main_arg3) = m ((c.tc : Thread Cert.UpProjIdeal.nD Cert.UpProjIdeal.τ).loc Cert.UpProjIdeal.main_arg3)
      ∧ r.2.mem ((c.tc : Thread Cert.UpProjIdeal.nD Cert.UpProjIdeal.τ).loc Cert.UpProjIdeal.main_arg4) = m ((c.tc : Thread Cert.UpProjIdeal.nD Cert.UpProjIdeal.τ).loc Cert.UpProjIdeal.main_arg4)
      ∧ r.2.mem ((c.tc : Thread Cert.UpProjIdeal.nD Cert.UpProjIdeal.τ).loc Cert.UpProjIdeal.main_arg5) = m ((c.tc : Thread Cert.UpProjIdeal.nD Cert.UpProjIdeal.τ).loc Cert.UpProjIdeal.main_arg5)
      ∧ r.2.mem ((c.tc : Thread Cert.UpProjIdeal.nD Cert.UpProjIdeal.τ).loc Cert.UpProjIdeal.main_arg6) = m ((c.tc : Thread Cert.UpProjIdeal.nD Cert.UpProjIdeal.τ).loc Cert.UpProjIdeal.main_arg6))
      ∧ r.2.sem = fun _ => 0)

def quiescent_UpProjIdeal_pre_up_finite [hUpProjIdeal : Cert.UpProjIdeal.Facts] [hPre_up_finite : Cert.Pre_up_finite.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal_up_finite m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2)
      ∧ r.2.mem ((c.tc : Thread Cert.UpProjIdeal.nD Cert.UpProjIdeal.τ).loc Cert.UpProjIdeal.main_arg3) = m ((c.tc : Thread Cert.UpProjIdeal.nD Cert.UpProjIdeal.τ).loc Cert.UpProjIdeal.main_arg3)
      ∧ r.2.mem ((c.tc : Thread Cert.UpProjIdeal.nD Cert.UpProjIdeal.τ).loc Cert.UpProjIdeal.main_arg4) = m ((c.tc : Thread Cert.UpProjIdeal.nD Cert.UpProjIdeal.τ).loc Cert.UpProjIdeal.main_arg4)
      ∧ r.2.mem ((c.tc : Thread Cert.UpProjIdeal.nD Cert.UpProjIdeal.τ).loc Cert.UpProjIdeal.main_arg5) = m ((c.tc : Thread Cert.UpProjIdeal.nD Cert.UpProjIdeal.τ).loc Cert.UpProjIdeal.main_arg5)
      ∧ r.2.mem ((c.tc : Thread Cert.UpProjIdeal.nD Cert.UpProjIdeal.τ).loc Cert.UpProjIdeal.main_arg6) = m ((c.tc : Thread Cert.UpProjIdeal.nD Cert.UpProjIdeal.τ).loc Cert.UpProjIdeal.main_arg6))
      ∧ r.2.sem = fun _ => 0)

def quiescent_UpProjRefIdeal [hUpProjRefIdeal : Cert.UpProjRefIdeal.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2)
      ∧ r.2.mem ((c.tc : Thread Cert.UpProjRefIdeal.nD Cert.UpProjRefIdeal.τ).loc Cert.UpProjRefIdeal.main_arg3) = m ((c.tc : Thread Cert.UpProjRefIdeal.nD Cert.UpProjRefIdeal.τ).loc Cert.UpProjRefIdeal.main_arg3)
      ∧ r.2.mem ((c.tc : Thread Cert.UpProjRefIdeal.nD Cert.UpProjRefIdeal.τ).loc Cert.UpProjRefIdeal.main_arg4) = m ((c.tc : Thread Cert.UpProjRefIdeal.nD Cert.UpProjRefIdeal.τ).loc Cert.UpProjRefIdeal.main_arg4)
      ∧ r.2.mem ((c.tc : Thread Cert.UpProjRefIdeal.nD Cert.UpProjRefIdeal.τ).loc Cert.UpProjRefIdeal.main_arg5) = m ((c.tc : Thread Cert.UpProjRefIdeal.nD Cert.UpProjRefIdeal.τ).loc Cert.UpProjRefIdeal.main_arg5)
      ∧ r.2.mem ((c.tc : Thread Cert.UpProjRefIdeal.nD Cert.UpProjRefIdeal.τ).loc Cert.UpProjRefIdeal.main_arg6) = m ((c.tc : Thread Cert.UpProjRefIdeal.nD Cert.UpProjRefIdeal.τ).loc Cert.UpProjRefIdeal.main_arg6))
      ∧ r.2.sem = fun _ => 0)

def quiescent_UpProjRefIdeal_pre_up_finite [hUpProjRefIdeal : Cert.UpProjRefIdeal.Facts] [hPre_up_finite : Cert.Pre_up_finite.Facts] : Prop :=
  ∀ (m : (ℓ : Loc Cert.UpProjRefIdeal.nD Cert.UpProjRefIdeal.τ Cert.UpProjRefIdeal.sig) → Buf (Elt Ideal) ℓ) (g : Dev Cert.UpProjRefIdeal.nD → PrngReg), Pre_UpProjRefIdeal_up_finite m →
    θ_run (Cert.UpProjRefIdeal.defs (F := Ideal)) (onTc (τ := Cert.UpProjRefIdeal.τ) (Cert.UpProjRefIdeal.main (F := Ideal))) ⟨m, fun _ => 0, g⟩ (fun r => (∀ c : Dev Cert.UpProjRefIdeal.nD,
      r.2.mem ((c.tc : Thread Cert.UpProjRefIdeal.nD Cert.UpProjRefIdeal.τ).loc Cert.UpProjRefIdeal.main_arg0) = m ((c.tc : Thread Cert.UpProjRefIdeal.nD Cert.UpProjRefIdeal.τ).loc Cert.UpProjRefIdeal.main_arg0)
      ∧ r.2.mem ((c.tc : Thread Cert.UpProjRefIdeal.nD Cert.UpProjRefIdeal.τ).loc Cert.UpProjRefIdeal.main_arg1) = m ((c.tc : Thread Cert.UpProjRefIdeal.nD Cert.UpProjRefIdeal.τ).loc Cert.UpProjRefIdeal.main_arg1)
      ∧ r.2.mem ((c.tc : Thread Cert.UpProjRefIdeal.nD Cert.UpProjRefIdeal.τ).loc Cert.UpProjRefIdeal.main_arg2) = m ((c.tc : Thread Cert.UpProjRefIdeal.nD Cert.UpProjRefIdeal.τ).loc Cert.UpProjRefIdeal.main_arg2)
      ∧ r.2.mem ((c.tc : Thread Cert.UpProjRefIdeal.nD Cert.UpProjRefIdeal.τ).loc Cert.UpProjRefIdeal.main_arg3) = m ((c.tc : Thread Cert.UpProjRefIdeal.nD Cert.UpProjRefIdeal.τ).loc Cert.UpProjRefIdeal.main_arg3)
      ∧ r.2.mem ((c.tc : Thread Cert.UpProjRefIdeal.nD Cert.UpProjRefIdeal.τ).loc Cert.UpProjRefIdeal.main_arg4) = m ((c.tc : Thread Cert.UpProjRefIdeal.nD Cert.UpProjRefIdeal.τ).loc Cert.UpProjRefIdeal.main_arg4)
      ∧ r.2.mem ((c.tc : Thread Cert.UpProjRefIdeal.nD Cert.UpProjRefIdeal.τ).loc Cert.UpProjRefIdeal.main_arg5) = m ((c.tc : Thread Cert.UpProjRefIdeal.nD Cert.UpProjRefIdeal.τ).loc Cert.UpProjRefIdeal.main_arg5)
      ∧ r.2.mem ((c.tc : Thread Cert.UpProjRefIdeal.nD Cert.UpProjRefIdeal.τ).loc Cert.UpProjRefIdeal.main_arg6) = m ((c.tc : Thread Cert.UpProjRefIdeal.nD Cert.UpProjRefIdeal.τ).loc Cert.UpProjRefIdeal.main_arg6))
      ∧ r.2.sem = fun _ => 0)

def quiescent_WDown [hWDown : Cert.WDown.Facts] : Prop :=
  ∀ (m : (ℓ : Loc Cert.WDown.nD Cert.WDown.τ Cert.WDown.sig) → Buf (Elt Bits) ℓ) (g : Dev Cert.WDown.nD → PrngReg), Pre_WDown m →
    θ_run (Cert.WDown.defs (F := Bits)) (onTc (τ := Cert.WDown.τ) (Cert.WDown.main (F := Bits))) ⟨m, fun _ => 0, g⟩ (fun r => (∀ c : Dev Cert.WDown.nD,
      r.2.mem ((c.tc : Thread Cert.WDown.nD Cert.WDown.τ).loc Cert.WDown.main_arg0) = m ((c.tc : Thread Cert.WDown.nD Cert.WDown.τ).loc Cert.WDown.main_arg0)
      ∧ r.2.mem ((c.tc : Thread Cert.WDown.nD Cert.WDown.τ).loc Cert.WDown.main_arg1) = m ((c.tc : Thread Cert.WDown.nD Cert.WDown.τ).loc Cert.WDown.main_arg1))
      ∧ r.2.sem = fun _ => 0)

def quiescent_WDownIdeal [hWDownIdeal : Cert.WDownIdeal.Facts] : Prop :=
  ∀ (m : (ℓ : Loc Cert.WDownIdeal.nD Cert.WDownIdeal.τ Cert.WDownIdeal.sig) → Buf (Elt Ideal) ℓ) (g : Dev Cert.WDownIdeal.nD → PrngReg), Pre_WDownIdeal m →
    θ_run (Cert.WDownIdeal.defs (F := Ideal)) (onTc (τ := Cert.WDownIdeal.τ) (Cert.WDownIdeal.main (F := Ideal))) ⟨m, fun _ => 0, g⟩ (fun r => (∀ c : Dev Cert.WDownIdeal.nD,
      r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
      ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ r.2.sem = fun _ => 0)

def quiescent_WDownRefIdeal [hWDownRefIdeal : Cert.WDownRefIdeal.Facts] : Prop :=
  ∀ (m : (ℓ : Loc Cert.WDownRefIdeal.nD Cert.WDownRefIdeal.τ Cert.WDownRefIdeal.sig) → Buf (Elt Ideal) ℓ) (g : Dev Cert.WDownRefIdeal.nD → PrngReg), Pre_WDownRefIdeal m →
    θ_run (Cert.WDownRefIdeal.defs (F := Ideal)) (onTc (τ := Cert.WDownRefIdeal.τ) (Cert.WDownRefIdeal.main (F := Ideal))) ⟨m, fun _ => 0, g⟩ (fun r => (∀ c : Dev Cert.WDownRefIdeal.nD,
      r.2.mem ((c.tc : Thread Cert.WDownRefIdeal.nD Cert.WDownRefIdeal.τ).loc Cert.WDownRefIdeal.main_arg0) = m ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m ((c.tc : Thread Cert.WDownRefIdeal.nD Cert.WDownRefIdeal.τ).loc Cert.WDownRefIdeal.main_arg1))
      ∧ r.2.sem = fun _ => 0)

def quiescent_WUp [hWUp : Cert.WUp.Facts] : Prop :=
  ∀ (m : (ℓ : Loc Cert.WUp.nD Cert.WUp.τ Cert.WUp.sig) → Buf (Elt Bits) ℓ) (g : Dev Cert.WUp.nD → PrngReg), Pre_WUp m →
    θ_run (Cert.WUp.defs (F := Bits)) (onTc (τ := Cert.WUp.τ) (Cert.WUp.main (F := Bits))) ⟨m, fun _ => 0, g⟩ (fun r => (∀ c : Dev Cert.WUp.nD,
      r.2.mem ((c.tc : Thread Cert.WUp.nD Cert.WUp.τ).loc Cert.WUp.main_arg0) = m ((c.tc : Thread Cert.WUp.nD Cert.WUp.τ).loc Cert.WUp.main_arg0)
      ∧ r.2.mem ((c.tc : Thread Cert.WUp.nD Cert.WUp.τ).loc Cert.WUp.main_arg1) = m ((c.tc : Thread Cert.WUp.nD Cert.WUp.τ).loc Cert.WUp.main_arg1))
      ∧ r.2.sem = fun _ => 0)

def quiescent_WUpIdeal [hWUpIdeal : Cert.WUpIdeal.Facts] : Prop :=
  ∀ (m : (ℓ : Loc Cert.WUpIdeal.nD Cert.WUpIdeal.τ Cert.WUpIdeal.sig) → Buf (Elt Ideal) ℓ) (g : Dev Cert.WUpIdeal.nD → PrngReg), Pre_WUpIdeal m →
    θ_run (Cert.WUpIdeal.defs (F := Ideal)) (onTc (τ := Cert.WUpIdeal.τ) (Cert.WUpIdeal.main (F := Ideal))) ⟨m, fun _ => 0, g⟩ (fun r => (∀ c : Dev Cert.WUpIdeal.nD,
      r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
      ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ r.2.sem = fun _ => 0)

def quiescent_WUpRefIdeal [hWUpRefIdeal : Cert.WUpRefIdeal.Facts] : Prop :=
  ∀ (m : (ℓ : Loc Cert.WUpRefIdeal.nD Cert.WUpRefIdeal.τ Cert.WUpRefIdeal.sig) → Buf (Elt Ideal) ℓ) (g : Dev Cert.WUpRefIdeal.nD → PrngReg), Pre_WUpRefIdeal m →
    θ_run (Cert.WUpRefIdeal.defs (F := Ideal)) (onTc (τ := Cert.WUpRefIdeal.τ) (Cert.WUpRefIdeal.main (F := Ideal))) ⟨m, fun _ => 0, g⟩ (fun r => (∀ c : Dev Cert.WUpRefIdeal.nD,
      r.2.mem ((c.tc : Thread Cert.WUpRefIdeal.nD Cert.WUpRefIdeal.τ).loc Cert.WUpRefIdeal.main_arg0) = m ((c.tc : Thread Cert.WUpRefIdeal.nD Cert.WUpRefIdeal.τ).loc Cert.WUpRefIdeal.main_arg0)
      ∧ r.2.mem ((c.tc : Thread Cert.WUpRefIdeal.nD Cert.WUpRefIdeal.τ).loc Cert.WUpRefIdeal.main_arg1) = m ((c.tc : Thread Cert.WUpRefIdeal.nD Cert.WUpRefIdeal.τ).loc Cert.WUpRefIdeal.main_arg1))
      ∧ r.2.sem = fun _ => 0)

def quiescent_WBranch [hWBranch : Cert.WBranch.Facts] : Prop :=
  ∀ (m : (ℓ : Loc Cert.WBranch.nD Cert.WBranch.τ Cert.WBranch.sig) → Buf (Elt Bits) ℓ) (g : Dev Cert.WBranch.nD → PrngReg), Pre_WBranch m →
    θ_run (Cert.WBranch.defs (F := Bits)) (onTc (τ := Cert.WBranch.τ) (Cert.WBranch.main (F := Bits))) ⟨m, fun _ => 0, g⟩ (fun r => (∀ c : Dev Cert.WBranch.nD,
      r.2.mem ((c.tc : Thread Cert.WBranch.nD Cert.WBranch.τ).loc Cert.WBranch.main_arg0) = m ((c.tc : Thread Cert.WBranch.nD Cert.WBranch.τ).loc Cert.WBranch.main_arg0)
      ∧ r.2.mem ((c.tc : Thread Cert.WBranch.nD Cert.WBranch.τ).loc Cert.WBranch.main_arg1) = m ((c.tc : Thread Cert.WBranch.nD Cert.WBranch.τ).loc Cert.WBranch.main_arg1))
      ∧ r.2.sem = fun _ => 0)

def quiescent_WBranchIdeal [hWBranchIdeal : Cert.WBranchIdeal.Facts] : Prop :=
  ∀ (m : (ℓ : Loc Cert.WBranchIdeal.nD Cert.WBranchIdeal.τ Cert.WBranchIdeal.sig) → Buf (Elt Ideal) ℓ) (g : Dev Cert.WBranchIdeal.nD → PrngReg), Pre_WBranchIdeal m →
    θ_run (Cert.WBranchIdeal.defs (F := Ideal)) (onTc (τ := Cert.WBranchIdeal.τ) (Cert.WBranchIdeal.main (F := Ideal))) ⟨m, fun _ => 0, g⟩ (fun r => (∀ c : Dev Cert.WBranchIdeal.nD,
      r.2.mem ((c.tc : Thread Cert.WBranchIdeal.nD Cert.WBranchIdeal.τ).loc Cert.WBranchIdeal.main_arg0) = m ((c.tc : Thread Cert.WBranchIdeal.nD Cert.WBranchIdeal.τ).loc Cert.WBranchIdeal.main_arg0)
      ∧ r.2.mem ((c.tc : Thread Cert.WBranchIdeal.nD Cert.WBranchIdeal.τ).loc Cert.WBranchIdeal.main_arg1) = m ((c.tc : Thread Cert.WBranchIdeal.nD Cert.WBranchIdeal.τ).loc Cert.WBranchIdeal.main_arg1))
      ∧ r.2.sem = fun _ => 0)

def quiescent_WBranchRefIdeal [hWBranchRefIdeal : Cert.WBranchRefIdeal.Facts] : Prop :=
  ∀ (m : (ℓ : Loc Cert.WBranchRefIdeal.nD Cert.WBranchRefIdeal.τ Cert.WBranchRefIdeal.sig) → Buf (Elt Ideal) ℓ) (g : Dev Cert.WBranchRefIdeal.nD → PrngReg), Pre_WBranchRefIdeal m →
    θ_run (Cert.WBranchRefIdeal.defs (F := Ideal)) (onTc (τ := Cert.WBranchRefIdeal.τ) (Cert.WBranchRefIdeal.main (F := Ideal))) ⟨m, fun _ => 0, g⟩ (fun r => (∀ c : Dev Cert.WBranchRefIdeal.nD,
      r.2.mem ((c.tc : Thread Cert.WBranchRefIdeal.nD Cert.WBranchRefIdeal.τ).loc Cert.WBranchRefIdeal.main_arg0) = m ((c.tc : Thread Cert.WBranchRefIdeal.nD Cert.WBranchRefIdeal.τ).loc Cert.WBranchRefIdeal.main_arg0)
      ∧ r.2.mem ((c.tc : Thread Cert.WBranchRefIdeal.nD Cert.WBranchRefIdeal.τ).loc Cert.WBranchRefIdeal.main_arg1) = m ((c.tc : Thread Cert.WBranchRefIdeal.nD Cert.WBranchRefIdeal.τ).loc Cert.WBranchRefIdeal.main_arg1))
      ∧ r.2.sem = fun _ => 0)

def quiescent_WQkv [hWQkv : Cert.WQkv.Facts] : Prop :=
  ∀ (m : (ℓ : Loc Cert.WQkv.nD Cert.WQkv.τ Cert.WQkv.sig) → Buf (Elt Bits) ℓ) (g : Dev Cert.WQkv.nD → PrngReg), Pre_WQkv m →
    θ_run (Cert.WQkv.defs (F := Bits)) (onTc (τ := Cert.WQkv.τ) (Cert.WQkv.main (F := Bits))) ⟨m, fun _ => 0, g⟩ (fun r => (∀ c : Dev Cert.WQkv.nD,
      r.2.mem ((c.tc : Thread Cert.WQkv.nD Cert.WQkv.τ).loc Cert.WQkv.main_arg0) = m ((c.tc : Thread Cert.WQkv.nD Cert.WQkv.τ).loc Cert.WQkv.main_arg0)
      ∧ r.2.mem ((c.tc : Thread Cert.WQkv.nD Cert.WQkv.τ).loc Cert.WQkv.main_arg1) = m ((c.tc : Thread Cert.WQkv.nD Cert.WQkv.τ).loc Cert.WQkv.main_arg1))
      ∧ r.2.sem = fun _ => 0)

def quiescent_WQkvIdeal [hWQkvIdeal : Cert.WQkvIdeal.Facts] : Prop :=
  ∀ (m : (ℓ : Loc Cert.WQkvIdeal.nD Cert.WQkvIdeal.τ Cert.WQkvIdeal.sig) → Buf (Elt Ideal) ℓ) (g : Dev Cert.WQkvIdeal.nD → PrngReg), Pre_WQkvIdeal m →
    θ_run (Cert.WQkvIdeal.defs (F := Ideal)) (onTc (τ := Cert.WQkvIdeal.τ) (Cert.WQkvIdeal.main (F := Ideal))) ⟨m, fun _ => 0, g⟩ (fun r => (∀ c : Dev Cert.WQkvIdeal.nD,
      r.2.mem ((c.tc : Thread Cert.WQkvIdeal.nD Cert.WQkvIdeal.τ).loc Cert.WQkvIdeal.main_arg0) = m ((c.tc : Thread Cert.WQkvIdeal.nD Cert.WQkvIdeal.τ).loc Cert.WQkvIdeal.main_arg0)
      ∧ r.2.mem ((c.tc : Thread Cert.WQkvIdeal.nD Cert.WQkvIdeal.τ).loc Cert.WQkvIdeal.main_arg1) = m ((c.tc : Thread Cert.WQkvIdeal.nD Cert.WQkvIdeal.τ).loc Cert.WQkvIdeal.main_arg1))
      ∧ r.2.sem = fun _ => 0)

def quiescent_WQkvRefIdeal [hWQkvRefIdeal : Cert.WQkvRefIdeal.Facts] : Prop :=
  ∀ (m : (ℓ : Loc Cert.WQkvRefIdeal.nD Cert.WQkvRefIdeal.τ Cert.WQkvRefIdeal.sig) → Buf (Elt Ideal) ℓ) (g : Dev Cert.WQkvRefIdeal.nD → PrngReg), Pre_WQkvRefIdeal m →
    θ_run (Cert.WQkvRefIdeal.defs (F := Ideal)) (onTc (τ := Cert.WQkvRefIdeal.τ) (Cert.WQkvRefIdeal.main (F := Ideal))) ⟨m, fun _ => 0, g⟩ (fun r => (∀ c : Dev Cert.WQkvRefIdeal.nD,
      r.2.mem ((c.tc : Thread Cert.WQkvRefIdeal.nD Cert.WQkvRefIdeal.τ).loc Cert.WQkvRefIdeal.main_arg0) = m ((c.tc : Thread Cert.WQkvRefIdeal.nD Cert.WQkvRefIdeal.τ).loc Cert.WQkvRefIdeal.main_arg0)
      ∧ r.2.mem ((c.tc : Thread Cert.WQkvRefIdeal.nD Cert.WQkvRefIdeal.τ).loc Cert.WQkvRefIdeal.main_arg1) = m ((c.tc : Thread Cert.WQkvRefIdeal.nD Cert.WQkvRefIdeal.τ).loc Cert.WQkvRefIdeal.main_arg1))
      ∧ r.2.sem = fun _ => 0)

def quiescent_WRest [hWRest : Cert.WRest.Facts] : Prop :=
  ∀ (m : (ℓ : Loc Cert.WRest.nD Cert.WRest.τ Cert.WRest.sig) → Buf (Elt Bits) ℓ) (g : Dev Cert.WRest.nD → PrngReg), Pre_WRest m →
    θ_run (Cert.WRest.defs (F := Bits)) (onTc (τ := Cert.WRest.τ) (Cert.WRest.main (F := Bits))) ⟨m, fun _ => 0, g⟩ (fun r => (∀ c : Dev Cert.WRest.nD,
      r.2.mem ((c.tc : Thread Cert.WRest.nD Cert.WRest.τ).loc Cert.WRest.main_arg0) = m ((c.tc : Thread Cert.WRest.nD Cert.WRest.τ).loc Cert.WRest.main_arg0)
      ∧ r.2.mem ((c.tc : Thread Cert.WRest.nD Cert.WRest.τ).loc Cert.WRest.main_arg1) = m ((c.tc : Thread Cert.WRest.nD Cert.WRest.τ).loc Cert.WRest.main_arg1))
      ∧ r.2.sem = fun _ => 0)

def quiescent_WRestIdeal [hWRestIdeal : Cert.WRestIdeal.Facts] : Prop :=
  ∀ (m : (ℓ : Loc Cert.WRestIdeal.nD Cert.WRestIdeal.τ Cert.WRestIdeal.sig) → Buf (Elt Ideal) ℓ) (g : Dev Cert.WRestIdeal.nD → PrngReg), Pre_WRestIdeal m →
    θ_run (Cert.WRestIdeal.defs (F := Ideal)) (onTc (τ := Cert.WRestIdeal.τ) (Cert.WRestIdeal.main (F := Ideal))) ⟨m, fun _ => 0, g⟩ (fun r => (∀ c : Dev Cert.WRestIdeal.nD,
      r.2.mem ((c.tc : Thread Cert.WRestIdeal.nD Cert.WRestIdeal.τ).loc Cert.WRestIdeal.main_arg0) = m ((c.tc : Thread Cert.WRestIdeal.nD Cert.WRestIdeal.τ).loc Cert.WRestIdeal.main_arg0)
      ∧ r.2.mem ((c.tc : Thread Cert.WRestIdeal.nD Cert.WRestIdeal.τ).loc Cert.WRestIdeal.main_arg1) = m ((c.tc : Thread Cert.WRestIdeal.nD Cert.WRestIdeal.τ).loc Cert.WRestIdeal.main_arg1))
      ∧ r.2.sem = fun _ => 0)

def quiescent_WRestRefIdeal [hWRestRefIdeal : Cert.WRestRefIdeal.Facts] : Prop :=
  ∀ (m : (ℓ : Loc Cert.WRestRefIdeal.nD Cert.WRestRefIdeal.τ Cert.WRestRefIdeal.sig) → Buf (Elt Ideal) ℓ) (g : Dev Cert.WRestRefIdeal.nD → PrngReg), Pre_WRestRefIdeal m →
    θ_run (Cert.WRestRefIdeal.defs (F := Ideal)) (onTc (τ := Cert.WRestRefIdeal.τ) (Cert.WRestRefIdeal.main (F := Ideal))) ⟨m, fun _ => 0, g⟩ (fun r => (∀ c : Dev Cert.WRestRefIdeal.nD,
      r.2.mem ((c.tc : Thread Cert.WRestRefIdeal.nD Cert.WRestRefIdeal.τ).loc Cert.WRestRefIdeal.main_arg0) = m ((c.tc : Thread Cert.WRestRefIdeal.nD Cert.WRestRefIdeal.τ).loc Cert.WRestRefIdeal.main_arg0)
      ∧ r.2.mem ((c.tc : Thread Cert.WRestRefIdeal.nD Cert.WRestRefIdeal.τ).loc Cert.WRestRefIdeal.main_arg1) = m ((c.tc : Thread Cert.WRestRefIdeal.nD Cert.WRestRefIdeal.τ).loc Cert.WRestRefIdeal.main_arg1))
      ∧ r.2.sem = fun _ => 0)

def quiescent_WInGate [hWInGate : Cert.WInGate.Facts] : Prop :=
  ∀ (m : (ℓ : Loc Cert.WInGate.nD Cert.WInGate.τ Cert.WInGate.sig) → Buf (Elt Bits) ℓ) (g : Dev Cert.WInGate.nD → PrngReg), Pre_WInGate m →
    θ_run (Cert.WInGate.defs (F := Bits)) (onTc (τ := Cert.WInGate.τ) (Cert.WInGate.main (F := Bits))) ⟨m, fun _ => 0, g⟩ (fun r => (∀ c : Dev Cert.WInGate.nD,
      r.2.mem ((c.tc : Thread Cert.WInGate.nD Cert.WInGate.τ).loc Cert.WInGate.main_arg0) = m ((c.tc : Thread Cert.WInGate.nD Cert.WInGate.τ).loc Cert.WInGate.main_arg0)
      ∧ r.2.mem ((c.tc : Thread Cert.WInGate.nD Cert.WInGate.τ).loc Cert.WInGate.main_arg1) = m ((c.tc : Thread Cert.WInGate.nD Cert.WInGate.τ).loc Cert.WInGate.main_arg1))
      ∧ r.2.sem = fun _ => 0)

def quiescent_WInGateIdeal [hWInGateIdeal : Cert.WInGateIdeal.Facts] : Prop :=
  ∀ (m : (ℓ : Loc Cert.WInGateIdeal.nD Cert.WInGateIdeal.τ Cert.WInGateIdeal.sig) → Buf (Elt Ideal) ℓ) (g : Dev Cert.WInGateIdeal.nD → PrngReg), Pre_WInGateIdeal m →
    θ_run (Cert.WInGateIdeal.defs (F := Ideal)) (onTc (τ := Cert.WInGateIdeal.τ) (Cert.WInGateIdeal.main (F := Ideal))) ⟨m, fun _ => 0, g⟩ (fun r => (∀ c : Dev Cert.WInGateIdeal.nD,
      r.2.mem ((c.tc : Thread Cert.WInGateIdeal.nD Cert.WInGateIdeal.τ).loc Cert.WInGateIdeal.main_arg0) = m ((c.tc : Thread Cert.WInGateIdeal.nD Cert.WInGateIdeal.τ).loc Cert.WInGateIdeal.main_arg0)
      ∧ r.2.mem ((c.tc : Thread Cert.WInGateIdeal.nD Cert.WInGateIdeal.τ).loc Cert.WInGateIdeal.main_arg1) = m ((c.tc : Thread Cert.WInGateIdeal.nD Cert.WInGateIdeal.τ).loc Cert.WInGateIdeal.main_arg1))
      ∧ r.2.sem = fun _ => 0)

def quiescent_WInGateRefIdeal [hWInGateRefIdeal : Cert.WInGateRefIdeal.Facts] : Prop :=
  ∀ (m : (ℓ : Loc Cert.WInGateRefIdeal.nD Cert.WInGateRefIdeal.τ Cert.WInGateRefIdeal.sig) → Buf (Elt Ideal) ℓ) (g : Dev Cert.WInGateRefIdeal.nD → PrngReg), Pre_WInGateRefIdeal m →
    θ_run (Cert.WInGateRefIdeal.defs (F := Ideal)) (onTc (τ := Cert.WInGateRefIdeal.τ) (Cert.WInGateRefIdeal.main (F := Ideal))) ⟨m, fun _ => 0, g⟩ (fun r => (∀ c : Dev Cert.WInGateRefIdeal.nD,
      r.2.mem ((c.tc : Thread Cert.WInGateRefIdeal.nD Cert.WInGateRefIdeal.τ).loc Cert.WInGateRefIdeal.main_arg0) = m ((c.tc : Thread Cert.WInGateRefIdeal.nD Cert.WInGateRefIdeal.τ).loc Cert.WInGateRefIdeal.main_arg0)
      ∧ r.2.mem ((c.tc : Thread Cert.WInGateRefIdeal.nD Cert.WInGateRefIdeal.τ).loc Cert.WInGateRefIdeal.main_arg1) = m ((c.tc : Thread Cert.WInGateRefIdeal.nD Cert.WInGateRefIdeal.τ).loc Cert.WInGateRefIdeal.main_arg1))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3)
      ∧ r.2.mem ((c.tc : Thread Cert.AdamSquareRefIdeal.nD Cert.AdamSquareRefIdeal.τ).loc Cert.AdamSquareRefIdeal.main_arg4) = m ((c.tc : Thread Cert.AdamSquareRefIdeal.nD Cert.AdamSquareRefIdeal.τ).loc Cert.AdamSquareRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_AdamModRefIdeal [hAdamModRefIdeal : Cert.AdamModRefIdeal.Facts] : Prop :=
  ∀ (m : (ℓ : Loc Cert.AdamModRefIdeal.nD Cert.AdamModRefIdeal.τ Cert.AdamModRefIdeal.sig) → Buf (Elt Ideal) ℓ) (g : Dev Cert.AdamModRefIdeal.nD → PrngReg), Pre_AdamModRefIdeal m →
    θ_run (Cert.AdamModRefIdeal.defs (F := Ideal)) (onTc (τ := Cert.AdamModRefIdeal.τ) (Cert.AdamModRefIdeal.main (F := Ideal))) ⟨m, fun _ => 0, g⟩ (fun r => (∀ c : Dev Cert.AdamModRefIdeal.nD,
      r.2.mem ((c.tc : Thread Cert.AdamModRefIdeal.nD Cert.AdamModRefIdeal.τ).loc Cert.AdamModRefIdeal.main_arg0) = m ((c.tc : Thread Cert.AdamModRefIdeal.nD Cert.AdamModRefIdeal.τ).loc Cert.AdamModRefIdeal.main_arg0)
      ∧ r.2.mem ((c.tc : Thread Cert.AdamModRefIdeal.nD Cert.AdamModRefIdeal.τ).loc Cert.AdamModRefIdeal.main_arg1) = m ((c.tc : Thread Cert.AdamModRefIdeal.nD Cert.AdamModRefIdeal.τ).loc Cert.AdamModRefIdeal.main_arg1)
      ∧ r.2.mem ((c.tc : Thread Cert.AdamModRefIdeal.nD Cert.AdamModRefIdeal.τ).loc Cert.AdamModRefIdeal.main_arg2) = m ((c.tc : Thread Cert.AdamModRefIdeal.nD Cert.AdamModRefIdeal.τ).loc Cert.AdamModRefIdeal.main_arg2)
      ∧ r.2.mem ((c.tc : Thread Cert.AdamModRefIdeal.nD Cert.AdamModRefIdeal.τ).loc Cert.AdamModRefIdeal.main_arg3) = m ((c.tc : Thread Cert.AdamModRefIdeal.nD Cert.AdamModRefIdeal.τ).loc Cert.AdamModRefIdeal.main_arg3))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3)
      ∧ r.2.mem ((c.tc : Thread Cert.AdamFfnRefIdeal.nD Cert.AdamFfnRefIdeal.τ).loc Cert.AdamFfnRefIdeal.main_arg4) = m ((c.tc : Thread Cert.AdamFfnRefIdeal.nD Cert.AdamFfnRefIdeal.τ).loc Cert.AdamFfnRefIdeal.main_arg4))
      ∧ r.2.sem = fun _ => 0)

def preserves_Gate_GateIdeal : Prop :=
  True

def algebraic_GateIdeal_GateRefIdeal_pre_gate_finite [hGateIdeal : Cert.GateIdeal.Facts] [hGateRefIdeal : Cert.GateRefIdeal.Facts] [hPre_gate_finite : Cert.Pre_gate_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_gate_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_v13) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_InProj_InProjIdeal : Prop :=
  True

def algebraic_InProjIdeal_InProjRefIdeal_pre_in_finite [hInProjIdeal : Cert.InProjIdeal.Facts] [hInProjRefIdeal : Cert.InProjRefIdeal.Facts] [hPre_in_finite : Cert.Pre_in_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v66) = v0 c
          ∧ r.2.mem ((c.tc : Thread Cert.InProjRefIdeal.nD Cert.InProjRefIdeal.τ).loc Cert.InProjRefIdeal.main_v68) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)
      ∧ m' ((c.tc : Thread Cert.UpFwdRefIdeal.nD Cert.UpFwdRefIdeal.τ).loc Cert.UpFwdRefIdeal.main_arg3) = m ((c.tc : Thread Cert.UpFwdIdeal.nD Cert.UpFwdIdeal.τ).loc Cert.UpFwdIdeal.main_arg3)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
          ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v20) = v0 c
          ∧ r.2.mem ((c.tc : Thread Cert.UpFwdRefIdeal.nD Cert.UpFwdRefIdeal.τ).loc Cert.UpFwdRefIdeal.main_v23) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2)
          ∧ r.2.mem ((c.tc : Thread Cert.UpFwdRefIdeal.nD Cert.UpFwdRefIdeal.τ).loc Cert.UpFwdRefIdeal.main_arg3) = m' ((c.tc : Thread Cert.UpFwdRefIdeal.nD Cert.UpFwdRefIdeal.τ).loc Cert.UpFwdRefIdeal.main_arg3))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)
      ∧ m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3)
      ∧ m' ((c.tc : Thread Cert.InFwdRefIdeal.nD Cert.InFwdRefIdeal.τ).loc Cert.InFwdRefIdeal.main_arg4) = m ((c.tc : Thread Cert.InFwdIdeal.nD Cert.InFwdIdeal.τ).loc Cert.InFwdIdeal.main_arg4)) →
    ∃ (v0 : (c : Dev Cert.InFwdIdeal.nD) → Buf (Elt Ideal) ((c.tc : Thread Cert.InFwdIdeal.nD Cert.InFwdIdeal.τ).loc Cert.InFwdIdeal.main_v1)) (v1 : (c : Dev Cert.InFwdIdeal.nD) → Buf (Elt Ideal) ((c.tc : Thread Cert.InFwdIdeal.nD Cert.InFwdIdeal.τ).loc Cert.InFwdIdeal.main_v2)) (v2 : (c : Dev Cert.InFwdIdeal.nD) → Buf (Elt Ideal) ((c.tc : Thread Cert.InFwdIdeal.nD Cert.InFwdIdeal.τ).loc Cert.InFwdIdeal.main_v3)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v1) = v0 c
          ∧ r.2.mem ((c.tc : Thread Cert.InFwdIdeal.nD Cert.InFwdIdeal.τ).loc Cert.InFwdIdeal.main_v2) = v1 c
          ∧ r.2.mem ((c.tc : Thread Cert.InFwdIdeal.nD Cert.InFwdIdeal.τ).loc Cert.InFwdIdeal.main_v3) = v2 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2)
          ∧ r.2.mem ((c.tc : Thread Cert.InFwdIdeal.nD Cert.InFwdIdeal.τ).loc Cert.InFwdIdeal.main_arg3) = m ((c.tc : Thread Cert.InFwdIdeal.nD Cert.InFwdIdeal.τ).loc Cert.InFwdIdeal.main_arg3)
          ∧ r.2.mem ((c.tc : Thread Cert.InFwdIdeal.nD Cert.InFwdIdeal.τ).loc Cert.InFwdIdeal.main_arg4) = m ((c.tc : Thread Cert.InFwdIdeal.nD Cert.InFwdIdeal.τ).loc Cert.InFwdIdeal.main_arg4))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v20) = v0 c
          ∧ r.2.mem ((c.tc : Thread Cert.InFwdRefIdeal.nD Cert.InFwdRefIdeal.τ).loc Cert.InFwdRefIdeal.main_v23) = v1 c
          ∧ r.2.mem ((c.tc : Thread Cert.InFwdRefIdeal.nD Cert.InFwdRefIdeal.τ).loc Cert.InFwdRefIdeal.main_v25) = v2 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2)
          ∧ r.2.mem ((c.tc : Thread Cert.InFwdRefIdeal.nD Cert.InFwdRefIdeal.τ).loc Cert.InFwdRefIdeal.main_arg3) = m' ((c.tc : Thread Cert.InFwdRefIdeal.nD Cert.InFwdRefIdeal.τ).loc Cert.InFwdRefIdeal.main_arg3)
          ∧ r.2.mem ((c.tc : Thread Cert.InFwdRefIdeal.nD Cert.InFwdRefIdeal.τ).loc Cert.InFwdRefIdeal.main_arg4) = m' ((c.tc : Thread Cert.InFwdRefIdeal.nD Cert.InFwdRefIdeal.τ).loc Cert.InFwdRefIdeal.main_arg4))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)
      ∧ m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11)
      ∧ m' ((c.tc : Thread Cert.MixFwdRefIdeal.nD Cert.MixFwdRefIdeal.τ).loc Cert.MixFwdRefIdeal.main_arg12) = m ((c.tc : Thread Cert.MixFwdIdeal.nD Cert.MixFwdIdeal.τ).loc Cert.MixFwdIdeal.main_arg12)) →
    ∃ (v0 : (c : Dev Cert.MixFwdIdeal.nD) → Buf (Elt Ideal) ((c.tc : Thread Cert.MixFwdIdeal.nD Cert.MixFwdIdeal.τ).loc Cert.MixFwdIdeal.main_v0_0)) (v1 : (c : Dev Cert.MixFwdIdeal.nD) → Buf (Elt Ideal) ((c.tc : Thread Cert.MixFwdIdeal.nD Cert.MixFwdIdeal.τ).loc Cert.MixFwdIdeal.main_v0_1)) (v2 : (c : Dev Cert.MixFwdIdeal.nD) → Buf (Elt Ideal) ((c.tc : Thread Cert.MixFwdIdeal.nD Cert.MixFwdIdeal.τ).loc Cert.MixFwdIdeal.main_v0_2)) (v3 : (c : Dev Cert.MixFwdIdeal.nD) → Buf (Elt Ideal) ((c.tc : Thread Cert.MixFwdIdeal.nD Cert.MixFwdIdeal.τ).loc Cert.MixFwdIdeal.main_v0_3)) (v4 : (c : Dev Cert.MixFwdIdeal.nD) → Buf (Elt Ideal) ((c.tc : Thread Cert.MixFwdIdeal.nD Cert.MixFwdIdeal.τ).loc Cert.MixFwdIdeal.main_v0_4)) (v5 : (c : Dev Cert.MixFwdIdeal.nD) → Buf (Elt Ideal) ((c.tc : Thread Cert.MixFwdIdeal.nD Cert.MixFwdIdeal.τ).loc Cert.MixFwdIdeal.main_v0_5)) (v6 : (c : Dev Cert.MixFwdIdeal.nD) → Buf (Elt Ideal) ((c.tc : Thread Cert.MixFwdIdeal.nD Cert.MixFwdIdeal.τ).loc Cert.MixFwdIdeal.main_v0_6)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0_0) = v0 c
          ∧ r.2.mem ((c.tc : Thread Cert.MixFwdIdeal.nD Cert.MixFwdIdeal.τ).loc Cert.MixFwdIdeal.main_v0_1) = v1 c
          ∧ r.2.mem ((c.tc : Thread Cert.MixFwdIdeal.nD Cert.MixFwdIdeal.τ).loc Cert.MixFwdIdeal.main_v0_2) = v2 c
          ∧ r.2.mem ((c.tc : Thread Cert.MixFwdIdeal.nD Cert.MixFwdIdeal.τ).loc Cert.MixFwdIdeal.main_v0_3) = v3 c
          ∧ r.2.mem ((c.tc : Thread Cert.MixFwdIdeal.nD Cert.MixFwdIdeal.τ).loc Cert.MixFwdIdeal.main_v0_4) = v4 c
          ∧ r.2.mem ((c.tc : Thread Cert.MixFwdIdeal.nD Cert.MixFwdIdeal.τ).loc Cert.MixFwdIdeal.main_v0_5) = v5 c
          ∧ r.2.mem ((c.tc : Thread Cert.MixFwdIdeal.nD Cert.MixFwdIdeal.τ).loc Cert.MixFwdIdeal.main_v0_6) = v6 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10)
          ∧ r.2.mem ((c.tc : Thread Cert.MixFwdIdeal.nD Cert.MixFwdIdeal.τ).loc Cert.MixFwdIdeal.main_arg11) = m ((c.tc : Thread Cert.MixFwdIdeal.nD Cert.MixFwdIdeal.τ).loc Cert.MixFwdIdeal.main_arg11)
          ∧ r.2.mem ((c.tc : Thread Cert.MixFwdIdeal.nD Cert.MixFwdIdeal.τ).loc Cert.MixFwdIdeal.main_arg12) = m ((c.tc : Thread Cert.MixFwdIdeal.nD Cert.MixFwdIdeal.τ).loc Cert.MixFwdIdeal.main_arg12))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v117) = v0 c
          ∧ r.2.mem ((c.tc : Thread Cert.MixFwdRefIdeal.nD Cert.MixFwdRefIdeal.τ).loc Cert.MixFwdRefIdeal.main_v118) = v1 c
          ∧ r.2.mem ((c.tc : Thread Cert.MixFwdRefIdeal.nD Cert.MixFwdRefIdeal.τ).loc Cert.MixFwdRefIdeal.main_v119) = v2 c
          ∧ r.2.mem ((c.tc : Thread Cert.MixFwdRefIdeal.nD Cert.MixFwdRefIdeal.τ).loc Cert.MixFwdRefIdeal.main_v120) = v3 c
          ∧ r.2.mem ((c.tc : Thread Cert.MixFwdRefIdeal.nD Cert.MixFwdRefIdeal.τ).loc Cert.MixFwdRefIdeal.main_v121) = v4 c
          ∧ r.2.mem ((c.tc : Thread Cert.MixFwdRefIdeal.nD Cert.MixFwdRefIdeal.τ).loc Cert.MixFwdRefIdeal.main_v122) = v5 c
          ∧ r.2.mem ((c.tc : Thread Cert.MixFwdRefIdeal.nD Cert.MixFwdRefIdeal.τ).loc Cert.MixFwdRefIdeal.main_v123) = v6 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10)
          ∧ r.2.mem ((c.tc : Thread Cert.MixFwdRefIdeal.nD Cert.MixFwdRefIdeal.τ).loc Cert.MixFwdRefIdeal.main_arg11) = m' ((c.tc : Thread Cert.MixFwdRefIdeal.nD Cert.MixFwdRefIdeal.τ).loc Cert.MixFwdRefIdeal.main_arg11)
          ∧ r.2.mem ((c.tc : Thread Cert.MixFwdRefIdeal.nD Cert.MixFwdRefIdeal.τ).loc Cert.MixFwdRefIdeal.main_arg12) = m' ((c.tc : Thread Cert.MixFwdRefIdeal.nD Cert.MixFwdRefIdeal.τ).loc Cert.MixFwdRefIdeal.main_arg12))

def preserves_UpProj_UpProjIdeal : Prop :=
  True

def algebraic_UpProjIdeal_UpProjRefIdeal_pre_up_finite [hUpProjIdeal : Cert.UpProjIdeal.Facts] [hUpProjRefIdeal : Cert.UpProjRefIdeal.Facts] [hPre_up_finite : Cert.Pre_up_finite.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjRefIdeal.nD Cert.UpProjRefIdeal.τ Cert.UpProjRefIdeal.sig) → Buf (Elt Ideal) ℓ) (g' : Dev Cert.UpProjRefIdeal.nD → PrngReg), Pre_UpProjIdeal_up_finite m →
    (∀ c : Dev Cert.UpProjIdeal.nD,
      m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0)
      ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1)
      ∧ m' ((c.tc : Thread Cert.UpProjRefIdeal.nD Cert.UpProjRefIdeal.τ).loc Cert.UpProjRefIdeal.main_arg2) = m ((c.tc : Thread Cert.UpProjIdeal.nD Cert.UpProjIdeal.τ).loc Cert.UpProjIdeal.main_arg2)
      ∧ m' ((c.tc : Thread Cert.UpProjRefIdeal.nD Cert.UpProjRefIdeal.τ).loc Cert.UpProjRefIdeal.main_arg3) = m ((c.tc : Thread Cert.UpProjIdeal.nD Cert.UpProjIdeal.τ).loc Cert.UpProjIdeal.main_arg3)
      ∧ m' ((c.tc : Thread Cert.UpProjRefIdeal.nD Cert.UpProjRefIdeal.τ).loc Cert.UpProjRefIdeal.main_arg4) = m ((c.tc : Thread Cert.UpProjIdeal.nD Cert.UpProjIdeal.τ).loc Cert.UpProjIdeal.main_arg4)
      ∧ m' ((c.tc : Thread Cert.UpProjRefIdeal.nD Cert.UpProjRefIdeal.τ).loc Cert.UpProjRefIdeal.main_arg5) = m ((c.tc : Thread Cert.UpProjIdeal.nD Cert.UpProjIdeal.τ).loc Cert.UpProjIdeal.main_arg5)
      ∧ m' ((c.tc : Thread Cert.UpProjRefIdeal.nD Cert.UpProjRefIdeal.τ).loc Cert.UpProjRefIdeal.main_arg6) = m ((c.tc : Thread Cert.UpProjIdeal.nD Cert.UpProjIdeal.τ).loc Cert.UpProjIdeal.main_arg6)) →
    ∃ (v0 : (c : Dev Cert.UpProjIdeal.nD) → Buf (Elt Ideal) ((c.tc : Thread Cert.UpProjIdeal.nD Cert.UpProjIdeal.τ).loc Cert.UpProjIdeal.main_v0_0)) (v1 : (c : Dev Cert.UpProjIdeal.nD) → Buf (Elt Ideal) ((c.tc : Thread Cert.UpProjIdeal.nD Cert.UpProjIdeal.τ).loc Cert.UpProjIdeal.main_v0_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v0_0) = v0 c
          ∧ r.2.mem ((c.tc : Thread Cert.UpProjIdeal.nD Cert.UpProjIdeal.τ).loc Cert.UpProjIdeal.main_v0_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2)
          ∧ r.2.mem ((c.tc : Thread Cert.UpProjIdeal.nD Cert.UpProjIdeal.τ).loc Cert.UpProjIdeal.main_arg3) = m ((c.tc : Thread Cert.UpProjIdeal.nD Cert.UpProjIdeal.τ).loc Cert.UpProjIdeal.main_arg3)
          ∧ r.2.mem ((c.tc : Thread Cert.UpProjIdeal.nD Cert.UpProjIdeal.τ).loc Cert.UpProjIdeal.main_arg4) = m ((c.tc : Thread Cert.UpProjIdeal.nD Cert.UpProjIdeal.τ).loc Cert.UpProjIdeal.main_arg4)
          ∧ r.2.mem ((c.tc : Thread Cert.UpProjIdeal.nD Cert.UpProjIdeal.τ).loc Cert.UpProjIdeal.main_arg5) = m ((c.tc : Thread Cert.UpProjIdeal.nD Cert.UpProjIdeal.τ).loc Cert.UpProjIdeal.main_arg5)
          ∧ r.2.mem ((c.tc : Thread Cert.UpProjIdeal.nD Cert.UpProjIdeal.τ).loc Cert.UpProjIdeal.main_arg6) = m ((c.tc : Thread Cert.UpProjIdeal.nD Cert.UpProjIdeal.τ).loc Cert.UpProjIdeal.main_arg6))
      ∧ θ_run (Cert.UpProjRefIdeal.defs (F := Ideal)) (onTc (τ := Cert.UpProjRefIdeal.τ) (Cert.UpProjRefIdeal.main (F := Ideal))) ⟨m', fun _ => 0, g'⟩ (fun r => ∀ c : Dev Cert.UpProjRefIdeal.nD,
          r.2.mem ((c.tc : Thread Cert.UpProjRefIdeal.nD Cert.UpProjRefIdeal.τ).loc Cert.UpProjRefIdeal.main_v59) = v0 c
          ∧ r.2.mem ((c.tc : Thread Cert.UpProjRefIdeal.nD Cert.UpProjRefIdeal.τ).loc Cert.UpProjRefIdeal.main_v61) = v1 c
          ∧ r.2.mem ((c.tc : Thread Cert.UpProjRefIdeal.nD Cert.UpProjRefIdeal.τ).loc Cert.UpProjRefIdeal.main_arg0) = m' ((c.tc : Thread Cert.UpProjRefIdeal.nD Cert.UpProjRefIdeal.τ).loc Cert.UpProjRefIdeal.main_arg0)
          ∧ r.2.mem ((c.tc : Thread Cert.UpProjRefIdeal.nD Cert.UpProjRefIdeal.τ).loc Cert.UpProjRefIdeal.main_arg1) = m' ((c.tc : Thread Cert.UpProjRefIdeal.nD Cert.UpProjRefIdeal.τ).loc Cert.UpProjRefIdeal.main_arg1)
          ∧ r.2.mem ((c.tc : Thread Cert.UpProjRefIdeal.nD Cert.UpProjRefIdeal.τ).loc Cert.UpProjRefIdeal.main_arg2) = m' ((c.tc : Thread Cert.UpProjRefIdeal.nD Cert.UpProjRefIdeal.τ).loc Cert.UpProjRefIdeal.main_arg2)
          ∧ r.2.mem ((c.tc : Thread Cert.UpProjRefIdeal.nD Cert.UpProjRefIdeal.τ).loc Cert.UpProjRefIdeal.main_arg3) = m' ((c.tc : Thread Cert.UpProjRefIdeal.nD Cert.UpProjRefIdeal.τ).loc Cert.UpProjRefIdeal.main_arg3)
          ∧ r.2.mem ((c.tc : Thread Cert.UpProjRefIdeal.nD Cert.UpProjRefIdeal.τ).loc Cert.UpProjRefIdeal.main_arg4) = m' ((c.tc : Thread Cert.UpProjRefIdeal.nD Cert.UpProjRefIdeal.τ).loc Cert.UpProjRefIdeal.main_arg4)
          ∧ r.2.mem ((c.tc : Thread Cert.UpProjRefIdeal.nD Cert.UpProjRefIdeal.τ).loc Cert.UpProjRefIdeal.main_arg5) = m' ((c.tc : Thread Cert.UpProjRefIdeal.nD Cert.UpProjRefIdeal.τ).loc Cert.UpProjRefIdeal.main_arg5)
          ∧ r.2.mem ((c.tc : Thread Cert.UpProjRefIdeal.nD Cert.UpProjRefIdeal.τ).loc Cert.UpProjRefIdeal.main_arg6) = m' ((c.tc : Thread Cert.UpProjRefIdeal.nD Cert.UpProjRefIdeal.τ).loc Cert.UpProjRefIdeal.main_arg6))

def preserves_WDown_WDownIdeal : Prop :=
  True

def algebraic_WDownIdeal_WDownRefIdeal [hWDownIdeal : Cert.WDownIdeal.Facts] [hWDownRefIdeal : Cert.WDownRefIdeal.Facts] : Prop :=
  ∀ (m : (ℓ : Loc Cert.WDownIdeal.nD Cert.WDownIdeal.τ Cert.WDownIdeal.sig) → Buf (Elt Ideal) ℓ) (g : Dev Cert.WDownIdeal.nD → PrngReg)
    (m' : (ℓ : Loc Cert.WDownRefIdeal.nD Cert.WDownRefIdeal.τ Cert.WDownRefIdeal.sig) → Buf (Elt Ideal) ℓ) (g' : Dev Cert.WDownRefIdeal.nD → PrngReg), Pre_WDownIdeal m →
    (∀ c : Dev Cert.WDownIdeal.nD,
      m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0)
      ∧ m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) →
    ∃ (v0 : (c : Dev Cert.WDownIdeal.nD) → Buf (Elt Ideal) ((c.tc : Thread Cert.WDownIdeal.nD Cert.WDownIdeal.τ).loc Cert.WDownIdeal.main_v0)),
      θ_run (Cert.WDownIdeal.defs (F := Ideal)) (onTc (τ := Cert.WDownIdeal.τ) (Cert.WDownIdeal.main (F := Ideal))) ⟨m, fun _ => 0, g⟩ (fun r => ∀ c : Dev Cert.WDownIdeal.nD,
          r.2.mem ((c.tc : Thread Cert.WDownIdeal.nD Cert.WDownIdeal.τ).loc Cert.WDownIdeal.main_v0) = v0 c
          ∧ r.2.mem ((c.tc : Thread Cert.WDownIdeal.nD Cert.WDownIdeal.τ).loc Cert.WDownIdeal.main_arg0) = m ((c.tc : Thread Cert.WDownIdeal.nD Cert.WDownIdeal.τ).loc Cert.WDownIdeal.main_arg0)
          ∧ r.2.mem ((c.tc : Thread Cert.WDownIdeal.nD Cert.WDownIdeal.τ).loc Cert.WDownIdeal.main_arg1) = m ((c.tc : Thread Cert.WDownIdeal.nD Cert.WDownIdeal.τ).loc Cert.WDownIdeal.main_arg1))
      ∧ θ_run (Cert.WDownRefIdeal.defs (F := Ideal)) (onTc (τ := Cert.WDownRefIdeal.τ) (Cert.WDownRefIdeal.main (F := Ideal))) ⟨m', fun _ => 0, g'⟩ (fun r => ∀ c : Dev Cert.WDownRefIdeal.nD,
          r.2.mem ((c.tc : Thread Cert.WDownRefIdeal.nD Cert.WDownRefIdeal.τ).loc Cert.WDownRefIdeal.main_v6) = v0 c
          ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
          ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1))

def preserves_WUp_WUpIdeal : Prop :=
  True

def algebraic_WUpIdeal_WUpRefIdeal [hWUpIdeal : Cert.WUpIdeal.Facts] [hWUpRefIdeal : Cert.WUpRefIdeal.Facts] : Prop :=
  ∀ (m : (ℓ : Loc Cert.WUpIdeal.nD Cert.WUpIdeal.τ Cert.WUpIdeal.sig) → Buf (Elt Ideal) ℓ) (g : Dev Cert.WUpIdeal.nD → PrngReg)
    (m' : (ℓ : Loc Cert.WUpRefIdeal.nD Cert.WUpRefIdeal.τ Cert.WUpRefIdeal.sig) → Buf (Elt Ideal) ℓ) (g' : Dev Cert.WUpRefIdeal.nD → PrngReg), Pre_WUpIdeal m →
    (∀ c : Dev Cert.WUpIdeal.nD,
      m' ((c.tc : Thread Cert.WUpRefIdeal.nD Cert.WUpRefIdeal.τ).loc Cert.WUpRefIdeal.main_arg0) = m ((c.tc : Thread Cert.WUpIdeal.nD Cert.WUpIdeal.τ).loc Cert.WUpIdeal.main_arg0)
      ∧ m' ((c.tc : Thread Cert.WUpRefIdeal.nD Cert.WUpRefIdeal.τ).loc Cert.WUpRefIdeal.main_arg1) = m ((c.tc : Thread Cert.WUpIdeal.nD Cert.WUpIdeal.τ).loc Cert.WUpIdeal.main_arg1)) →
    ∃ (v0 : (c : Dev Cert.WUpIdeal.nD) → Buf (Elt Ideal) ((c.tc : Thread Cert.WUpIdeal.nD Cert.WUpIdeal.τ).loc Cert.WUpIdeal.main_v0)),
      θ_run (Cert.WUpIdeal.defs (F := Ideal)) (onTc (τ := Cert.WUpIdeal.τ) (Cert.WUpIdeal.main (F := Ideal))) ⟨m, fun _ => 0, g⟩ (fun r => ∀ c : Dev Cert.WUpIdeal.nD,
          r.2.mem ((c.tc : Thread Cert.WUpIdeal.nD Cert.WUpIdeal.τ).loc Cert.WUpIdeal.main_v0) = v0 c
          ∧ r.2.mem ((c.tc : Thread Cert.WUpIdeal.nD Cert.WUpIdeal.τ).loc Cert.WUpIdeal.main_arg0) = m ((c.tc : Thread Cert.WUpIdeal.nD Cert.WUpIdeal.τ).loc Cert.WUpIdeal.main_arg0)
          ∧ r.2.mem ((c.tc : Thread Cert.WUpIdeal.nD Cert.WUpIdeal.τ).loc Cert.WUpIdeal.main_arg1) = m ((c.tc : Thread Cert.WUpIdeal.nD Cert.WUpIdeal.τ).loc Cert.WUpIdeal.main_arg1))
      ∧ θ_run (Cert.WUpRefIdeal.defs (F := Ideal)) (onTc (τ := Cert.WUpRefIdeal.τ) (Cert.WUpRefIdeal.main (F := Ideal))) ⟨m', fun _ => 0, g'⟩ (fun r => ∀ c : Dev Cert.WUpRefIdeal.nD,
          r.2.mem ((c.tc : Thread Cert.WUpRefIdeal.nD Cert.WUpRefIdeal.τ).loc Cert.WUpRefIdeal.main_v6) = v0 c
          ∧ r.2.mem ((c.tc : Thread Cert.WUpRefIdeal.nD Cert.WUpRefIdeal.τ).loc Cert.WUpRefIdeal.main_arg0) = m' ((c.tc : Thread Cert.WUpRefIdeal.nD Cert.WUpRefIdeal.τ).loc Cert.WUpRefIdeal.main_arg0)
          ∧ r.2.mem ((c.tc : Thread Cert.WUpRefIdeal.nD Cert.WUpRefIdeal.τ).loc Cert.WUpRefIdeal.main_arg1) = m' ((c.tc : Thread Cert.WUpRefIdeal.nD Cert.WUpRefIdeal.τ).loc Cert.WUpRefIdeal.main_arg1))

def preserves_WBranch_WBranchIdeal : Prop :=
  True

def algebraic_WBranchIdeal_WBranchRefIdeal [hWBranchIdeal : Cert.WBranchIdeal.Facts] [hWBranchRefIdeal : Cert.WBranchRefIdeal.Facts] : Prop :=
  ∀ (m : (ℓ : Loc Cert.WBranchIdeal.nD Cert.WBranchIdeal.τ Cert.WBranchIdeal.sig) → Buf (Elt Ideal) ℓ) (g : Dev Cert.WBranchIdeal.nD → PrngReg)
    (m' : (ℓ : Loc Cert.WBranchRefIdeal.nD Cert.WBranchRefIdeal.τ Cert.WBranchRefIdeal.sig) → Buf (Elt Ideal) ℓ) (g' : Dev Cert.WBranchRefIdeal.nD → PrngReg), Pre_WBranchIdeal m →
    (∀ c : Dev Cert.WBranchIdeal.nD,
      m' ((c.tc : Thread Cert.WBranchRefIdeal.nD Cert.WBranchRefIdeal.τ).loc Cert.WBranchRefIdeal.main_arg0) = m ((c.tc : Thread Cert.WBranchIdeal.nD Cert.WBranchIdeal.τ).loc Cert.WBranchIdeal.main_arg0)
      ∧ m' ((c.tc : Thread Cert.WBranchRefIdeal.nD Cert.WBranchRefIdeal.τ).loc Cert.WBranchRefIdeal.main_arg1) = m ((c.tc : Thread Cert.WBranchIdeal.nD Cert.WBranchIdeal.τ).loc Cert.WBranchIdeal.main_arg1)) →
    ∃ (v0 : (c : Dev Cert.WBranchIdeal.nD) → Buf (Elt Ideal) ((c.tc : Thread Cert.WBranchIdeal.nD Cert.WBranchIdeal.τ).loc Cert.WBranchIdeal.main_v0)),
      θ_run (Cert.WBranchIdeal.defs (F := Ideal)) (onTc (τ := Cert.WBranchIdeal.τ) (Cert.WBranchIdeal.main (F := Ideal))) ⟨m, fun _ => 0, g⟩ (fun r => ∀ c : Dev Cert.WBranchIdeal.nD,
          r.2.mem ((c.tc : Thread Cert.WBranchIdeal.nD Cert.WBranchIdeal.τ).loc Cert.WBranchIdeal.main_v0) = v0 c
          ∧ r.2.mem ((c.tc : Thread Cert.WBranchIdeal.nD Cert.WBranchIdeal.τ).loc Cert.WBranchIdeal.main_arg0) = m ((c.tc : Thread Cert.WBranchIdeal.nD Cert.WBranchIdeal.τ).loc Cert.WBranchIdeal.main_arg0)
          ∧ r.2.mem ((c.tc : Thread Cert.WBranchIdeal.nD Cert.WBranchIdeal.τ).loc Cert.WBranchIdeal.main_arg1) = m ((c.tc : Thread Cert.WBranchIdeal.nD Cert.WBranchIdeal.τ).loc Cert.WBranchIdeal.main_arg1))
      ∧ θ_run (Cert.WBranchRefIdeal.defs (F := Ideal)) (onTc (τ := Cert.WBranchRefIdeal.τ) (Cert.WBranchRefIdeal.main (F := Ideal))) ⟨m', fun _ => 0, g'⟩ (fun r => ∀ c : Dev Cert.WBranchRefIdeal.nD,
          r.2.mem ((c.tc : Thread Cert.WBranchRefIdeal.nD Cert.WBranchRefIdeal.τ).loc Cert.WBranchRefIdeal.main_v6) = v0 c
          ∧ r.2.mem ((c.tc : Thread Cert.WBranchRefIdeal.nD Cert.WBranchRefIdeal.τ).loc Cert.WBranchRefIdeal.main_arg0) = m' ((c.tc : Thread Cert.WBranchRefIdeal.nD Cert.WBranchRefIdeal.τ).loc Cert.WBranchRefIdeal.main_arg0)
          ∧ r.2.mem ((c.tc : Thread Cert.WBranchRefIdeal.nD Cert.WBranchRefIdeal.τ).loc Cert.WBranchRefIdeal.main_arg1) = m' ((c.tc : Thread Cert.WBranchRefIdeal.nD Cert.WBranchRefIdeal.τ).loc Cert.WBranchRefIdeal.main_arg1))

def preserves_WQkv_WQkvIdeal : Prop :=
  True

def algebraic_WQkvIdeal_WQkvRefIdeal [hWQkvIdeal : Cert.WQkvIdeal.Facts] [hWQkvRefIdeal : Cert.WQkvRefIdeal.Facts] : Prop :=
  ∀ (m : (ℓ : Loc Cert.WQkvIdeal.nD Cert.WQkvIdeal.τ Cert.WQkvIdeal.sig) → Buf (Elt Ideal) ℓ) (g : Dev Cert.WQkvIdeal.nD → PrngReg)
    (m' : (ℓ : Loc Cert.WQkvRefIdeal.nD Cert.WQkvRefIdeal.τ Cert.WQkvRefIdeal.sig) → Buf (Elt Ideal) ℓ) (g' : Dev Cert.WQkvRefIdeal.nD → PrngReg), Pre_WQkvIdeal m →
    (∀ c : Dev Cert.WQkvIdeal.nD,
      m' ((c.tc : Thread Cert.WQkvRefIdeal.nD Cert.WQkvRefIdeal.τ).loc Cert.WQkvRefIdeal.main_arg0) = m ((c.tc : Thread Cert.WQkvIdeal.nD Cert.WQkvIdeal.τ).loc Cert.WQkvIdeal.main_arg0)
      ∧ m' ((c.tc : Thread Cert.WQkvRefIdeal.nD Cert.WQkvRefIdeal.τ).loc Cert.WQkvRefIdeal.main_arg1) = m ((c.tc : Thread Cert.WQkvIdeal.nD Cert.WQkvIdeal.τ).loc Cert.WQkvIdeal.main_arg1)) →
    ∃ (v0 : (c : Dev Cert.WQkvIdeal.nD) → Buf (Elt Ideal) ((c.tc : Thread Cert.WQkvIdeal.nD Cert.WQkvIdeal.τ).loc Cert.WQkvIdeal.main_v0)),
      θ_run (Cert.WQkvIdeal.defs (F := Ideal)) (onTc (τ := Cert.WQkvIdeal.τ) (Cert.WQkvIdeal.main (F := Ideal))) ⟨m, fun _ => 0, g⟩ (fun r => ∀ c : Dev Cert.WQkvIdeal.nD,
          r.2.mem ((c.tc : Thread Cert.WQkvIdeal.nD Cert.WQkvIdeal.τ).loc Cert.WQkvIdeal.main_v0) = v0 c
          ∧ r.2.mem ((c.tc : Thread Cert.WQkvIdeal.nD Cert.WQkvIdeal.τ).loc Cert.WQkvIdeal.main_arg0) = m ((c.tc : Thread Cert.WQkvIdeal.nD Cert.WQkvIdeal.τ).loc Cert.WQkvIdeal.main_arg0)
          ∧ r.2.mem ((c.tc : Thread Cert.WQkvIdeal.nD Cert.WQkvIdeal.τ).loc Cert.WQkvIdeal.main_arg1) = m ((c.tc : Thread Cert.WQkvIdeal.nD Cert.WQkvIdeal.τ).loc Cert.WQkvIdeal.main_arg1))
      ∧ θ_run (Cert.WQkvRefIdeal.defs (F := Ideal)) (onTc (τ := Cert.WQkvRefIdeal.τ) (Cert.WQkvRefIdeal.main (F := Ideal))) ⟨m', fun _ => 0, g'⟩ (fun r => ∀ c : Dev Cert.WQkvRefIdeal.nD,
          r.2.mem ((c.tc : Thread Cert.WQkvRefIdeal.nD Cert.WQkvRefIdeal.τ).loc Cert.WQkvRefIdeal.main_v6) = v0 c
          ∧ r.2.mem ((c.tc : Thread Cert.WQkvRefIdeal.nD Cert.WQkvRefIdeal.τ).loc Cert.WQkvRefIdeal.main_arg0) = m' ((c.tc : Thread Cert.WQkvRefIdeal.nD Cert.WQkvRefIdeal.τ).loc Cert.WQkvRefIdeal.main_arg0)
          ∧ r.2.mem ((c.tc : Thread Cert.WQkvRefIdeal.nD Cert.WQkvRefIdeal.τ).loc Cert.WQkvRefIdeal.main_arg1) = m' ((c.tc : Thread Cert.WQkvRefIdeal.nD Cert.WQkvRefIdeal.τ).loc Cert.WQkvRefIdeal.main_arg1))

def preserves_WRest_WRestIdeal : Prop :=
  True

def algebraic_WRestIdeal_WRestRefIdeal [hWRestIdeal : Cert.WRestIdeal.Facts] [hWRestRefIdeal : Cert.WRestRefIdeal.Facts] : Prop :=
  ∀ (m : (ℓ : Loc Cert.WRestIdeal.nD Cert.WRestIdeal.τ Cert.WRestIdeal.sig) → Buf (Elt Ideal) ℓ) (g : Dev Cert.WRestIdeal.nD → PrngReg)
    (m' : (ℓ : Loc Cert.WRestRefIdeal.nD Cert.WRestRefIdeal.τ Cert.WRestRefIdeal.sig) → Buf (Elt Ideal) ℓ) (g' : Dev Cert.WRestRefIdeal.nD → PrngReg), Pre_WRestIdeal m →
    (∀ c : Dev Cert.WRestIdeal.nD,
      m' ((c.tc : Thread Cert.WRestRefIdeal.nD Cert.WRestRefIdeal.τ).loc Cert.WRestRefIdeal.main_arg0) = m ((c.tc : Thread Cert.WRestIdeal.nD Cert.WRestIdeal.τ).loc Cert.WRestIdeal.main_arg0)
      ∧ m' ((c.tc : Thread Cert.WRestRefIdeal.nD Cert.WRestRefIdeal.τ).loc Cert.WRestRefIdeal.main_arg1) = m ((c.tc : Thread Cert.WRestIdeal.nD Cert.WRestIdeal.τ).loc Cert.WRestIdeal.main_arg1)) →
    ∃ (v0 : (c : Dev Cert.WRestIdeal.nD) → Buf (Elt Ideal) ((c.tc : Thread Cert.WRestIdeal.nD Cert.WRestIdeal.τ).loc Cert.WRestIdeal.main_v0)),
      θ_run (Cert.WRestIdeal.defs (F := Ideal)) (onTc (τ := Cert.WRestIdeal.τ) (Cert.WRestIdeal.main (F := Ideal))) ⟨m, fun _ => 0, g⟩ (fun r => ∀ c : Dev Cert.WRestIdeal.nD,
          r.2.mem ((c.tc : Thread Cert.WRestIdeal.nD Cert.WRestIdeal.τ).loc Cert.WRestIdeal.main_v0) = v0 c
          ∧ r.2.mem ((c.tc : Thread Cert.WRestIdeal.nD Cert.WRestIdeal.τ).loc Cert.WRestIdeal.main_arg0) = m ((c.tc : Thread Cert.WRestIdeal.nD Cert.WRestIdeal.τ).loc Cert.WRestIdeal.main_arg0)
          ∧ r.2.mem ((c.tc : Thread Cert.WRestIdeal.nD Cert.WRestIdeal.τ).loc Cert.WRestIdeal.main_arg1) = m ((c.tc : Thread Cert.WRestIdeal.nD Cert.WRestIdeal.τ).loc Cert.WRestIdeal.main_arg1))
      ∧ θ_run (Cert.WRestRefIdeal.defs (F := Ideal)) (onTc (τ := Cert.WRestRefIdeal.τ) (Cert.WRestRefIdeal.main (F := Ideal))) ⟨m', fun _ => 0, g'⟩ (fun r => ∀ c : Dev Cert.WRestRefIdeal.nD,
          r.2.mem ((c.tc : Thread Cert.WRestRefIdeal.nD Cert.WRestRefIdeal.τ).loc Cert.WRestRefIdeal.main_v7) = v0 c
          ∧ r.2.mem ((c.tc : Thread Cert.WRestRefIdeal.nD Cert.WRestRefIdeal.τ).loc Cert.WRestRefIdeal.main_arg0) = m' ((c.tc : Thread Cert.WRestRefIdeal.nD Cert.WRestRefIdeal.τ).loc Cert.WRestRefIdeal.main_arg0)
          ∧ r.2.mem ((c.tc : Thread Cert.WRestRefIdeal.nD Cert.WRestRefIdeal.τ).loc Cert.WRestRefIdeal.main_arg1) = m' ((c.tc : Thread Cert.WRestRefIdeal.nD Cert.WRestRefIdeal.τ).loc Cert.WRestRefIdeal.main_arg1))

def preserves_WInGate_WInGateIdeal : Prop :=
  True

def algebraic_WInGateIdeal_WInGateRefIdeal [hWInGateIdeal : Cert.WInGateIdeal.Facts] [hWInGateRefIdeal : Cert.WInGateRefIdeal.Facts] : Prop :=
  ∀ (m : (ℓ : Loc Cert.WInGateIdeal.nD Cert.WInGateIdeal.τ Cert.WInGateIdeal.sig) → Buf (Elt Ideal) ℓ) (g : Dev Cert.WInGateIdeal.nD → PrngReg)
    (m' : (ℓ : Loc Cert.WInGateRefIdeal.nD Cert.WInGateRefIdeal.τ Cert.WInGateRefIdeal.sig) → Buf (Elt Ideal) ℓ) (g' : Dev Cert.WInGateRefIdeal.nD → PrngReg), Pre_WInGateIdeal m →
    (∀ c : Dev Cert.WInGateIdeal.nD,
      m' ((c.tc : Thread Cert.WInGateRefIdeal.nD Cert.WInGateRefIdeal.τ).loc Cert.WInGateRefIdeal.main_arg0) = m ((c.tc : Thread Cert.WInGateIdeal.nD Cert.WInGateIdeal.τ).loc Cert.WInGateIdeal.main_arg0)
      ∧ m' ((c.tc : Thread Cert.WInGateRefIdeal.nD Cert.WInGateRefIdeal.τ).loc Cert.WInGateRefIdeal.main_arg1) = m ((c.tc : Thread Cert.WInGateIdeal.nD Cert.WInGateIdeal.τ).loc Cert.WInGateIdeal.main_arg1)) →
    ∃ (v0 : (c : Dev Cert.WInGateIdeal.nD) → Buf (Elt Ideal) ((c.tc : Thread Cert.WInGateIdeal.nD Cert.WInGateIdeal.τ).loc Cert.WInGateIdeal.main_v0)),
      θ_run (Cert.WInGateIdeal.defs (F := Ideal)) (onTc (τ := Cert.WInGateIdeal.τ) (Cert.WInGateIdeal.main (F := Ideal))) ⟨m, fun _ => 0, g⟩ (fun r => ∀ c : Dev Cert.WInGateIdeal.nD,
          r.2.mem ((c.tc : Thread Cert.WInGateIdeal.nD Cert.WInGateIdeal.τ).loc Cert.WInGateIdeal.main_v0) = v0 c
          ∧ r.2.mem ((c.tc : Thread Cert.WInGateIdeal.nD Cert.WInGateIdeal.τ).loc Cert.WInGateIdeal.main_arg0) = m ((c.tc : Thread Cert.WInGateIdeal.nD Cert.WInGateIdeal.τ).loc Cert.WInGateIdeal.main_arg0)
          ∧ r.2.mem ((c.tc : Thread Cert.WInGateIdeal.nD Cert.WInGateIdeal.τ).loc Cert.WInGateIdeal.main_arg1) = m ((c.tc : Thread Cert.WInGateIdeal.nD Cert.WInGateIdeal.τ).loc Cert.WInGateIdeal.main_arg1))
      ∧ θ_run (Cert.WInGateRefIdeal.defs (F := Ideal)) (onTc (τ := Cert.WInGateRefIdeal.τ) (Cert.WInGateRefIdeal.main (F := Ideal))) ⟨m', fun _ => 0, g'⟩ (fun r => ∀ c : Dev Cert.WInGateRefIdeal.nD,
          r.2.mem ((c.tc : Thread Cert.WInGateRefIdeal.nD Cert.WInGateRefIdeal.τ).loc Cert.WInGateRefIdeal.main_v6) = v0 c
          ∧ r.2.mem ((c.tc : Thread Cert.WInGateRefIdeal.nD Cert.WInGateRefIdeal.τ).loc Cert.WInGateRefIdeal.main_arg0) = m' ((c.tc : Thread Cert.WInGateRefIdeal.nD Cert.WInGateRefIdeal.τ).loc Cert.WInGateRefIdeal.main_arg0)
          ∧ r.2.mem ((c.tc : Thread Cert.WInGateRefIdeal.nD Cert.WInGateRefIdeal.τ).loc Cert.WInGateRefIdeal.main_arg1) = m' ((c.tc : Thread Cert.WInGateRefIdeal.nD Cert.WInGateRefIdeal.τ).loc Cert.WInGateRefIdeal.main_arg1))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v2) = v0 c
          ∧ r.2.mem ((c.tc : Thread Cert.AdamUpRefIdeal.nD Cert.AdamUpRefIdeal.τ).loc Cert.AdamUpRefIdeal.main_v26) = v1 c
          ∧ r.2.mem ((c.tc : Thread Cert.AdamUpRefIdeal.nD Cert.AdamUpRefIdeal.τ).loc Cert.AdamUpRefIdeal.main_v7) = v2 c
          ∧ r.2.mem ((c.tc : Thread Cert.AdamUpRefIdeal.nD Cert.AdamUpRefIdeal.τ).loc Cert.AdamUpRefIdeal.main_v13) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)
      ∧ m' ((c.tc : Thread Cert.AdamSquareRefIdeal.nD Cert.AdamSquareRefIdeal.τ).loc Cert.AdamSquareRefIdeal.main_arg4) = m ((c.tc : Thread Cert.AdamSquareIdeal.nD Cert.AdamSquareIdeal.τ).loc Cert.AdamSquareIdeal.main_arg4)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v2) = v0 c
          ∧ r.2.mem ((c.tc : Thread Cert.AdamSquareRefIdeal.nD Cert.AdamSquareRefIdeal.τ).loc Cert.AdamSquareRefIdeal.main_v26) = v1 c
          ∧ r.2.mem ((c.tc : Thread Cert.AdamSquareRefIdeal.nD Cert.AdamSquareRefIdeal.τ).loc Cert.AdamSquareRefIdeal.main_v7) = v2 c
          ∧ r.2.mem ((c.tc : Thread Cert.AdamSquareRefIdeal.nD Cert.AdamSquareRefIdeal.τ).loc Cert.AdamSquareRefIdeal.main_v13) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3)
          ∧ r.2.mem ((c.tc : Thread Cert.AdamSquareRefIdeal.nD Cert.AdamSquareRefIdeal.τ).loc Cert.AdamSquareRefIdeal.main_arg4) = m' ((c.tc : Thread Cert.AdamSquareRefIdeal.nD Cert.AdamSquareRefIdeal.τ).loc Cert.AdamSquareRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v2) = v0 c
          ∧ r.2.mem ((c.tc : Thread Cert.AdamDownRefIdeal.nD Cert.AdamDownRefIdeal.τ).loc Cert.AdamDownRefIdeal.main_v26) = v1 c
          ∧ r.2.mem ((c.tc : Thread Cert.AdamDownRefIdeal.nD Cert.AdamDownRefIdeal.τ).loc Cert.AdamDownRefIdeal.main_v7) = v2 c
          ∧ r.2.mem ((c.tc : Thread Cert.AdamDownRefIdeal.nD Cert.AdamDownRefIdeal.τ).loc Cert.AdamDownRefIdeal.main_v13) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v2) = v0 c
          ∧ r.2.mem ((c.tc : Thread Cert.AdamInRefIdeal.nD Cert.AdamInRefIdeal.τ).loc Cert.AdamInRefIdeal.main_v26) = v1 c
          ∧ r.2.mem ((c.tc : Thread Cert.AdamInRefIdeal.nD Cert.AdamInRefIdeal.τ).loc Cert.AdamInRefIdeal.main_v7) = v2 c
          ∧ r.2.mem ((c.tc : Thread Cert.AdamInRefIdeal.nD Cert.AdamInRefIdeal.τ).loc Cert.AdamInRefIdeal.main_v13) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamMod_AdamModIdeal : Prop :=
  True

def algebraic_AdamModIdeal_AdamModRefIdeal [hAdamModIdeal : Cert.AdamModIdeal.Facts] [hAdamModRefIdeal : Cert.AdamModRefIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.AdamModRefIdeal.nD Cert.AdamModRefIdeal.τ Cert.AdamModRefIdeal.sig) → Buf (Elt Ideal) ℓ) (g' : Dev Cert.AdamModRefIdeal.nD → PrngReg), Pre_AdamModIdeal m →
    (∀ c : Dev Cert.AdamModIdeal.nD,
      m' ((c.tc : Thread Cert.AdamModRefIdeal.nD Cert.AdamModRefIdeal.τ).loc Cert.AdamModRefIdeal.main_arg0) = m ((c.tc : Thread Cert.AdamModIdeal.nD Cert.AdamModIdeal.τ).loc Cert.AdamModIdeal.main_arg0)
      ∧ m' ((c.tc : Thread Cert.AdamModRefIdeal.nD Cert.AdamModRefIdeal.τ).loc Cert.AdamModRefIdeal.main_arg1) = m ((c.tc : Thread Cert.AdamModIdeal.nD Cert.AdamModIdeal.τ).loc Cert.AdamModIdeal.main_arg1)
      ∧ m' ((c.tc : Thread Cert.AdamModRefIdeal.nD Cert.AdamModRefIdeal.τ).loc Cert.AdamModRefIdeal.main_arg2) = m ((c.tc : Thread Cert.AdamModIdeal.nD Cert.AdamModIdeal.τ).loc Cert.AdamModIdeal.main_arg2)
      ∧ m' ((c.tc : Thread Cert.AdamModRefIdeal.nD Cert.AdamModRefIdeal.τ).loc Cert.AdamModRefIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)) (v3 : (c : Dev Cert.AdamModIdeal.nD) → Buf (Elt Ideal) ((c.tc : Thread Cert.AdamModIdeal.nD Cert.AdamModIdeal.τ).loc Cert.AdamModIdeal.main_v0_3)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_v0_3) = v3 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.AdamModRefIdeal.defs (F := Ideal)) (onTc (τ := Cert.AdamModRefIdeal.τ) (Cert.AdamModRefIdeal.main (F := Ideal))) ⟨m', fun _ => 0, g'⟩ (fun r => ∀ c : Dev Cert.AdamModRefIdeal.nD,
          r.2.mem ((c.tc : Thread Cert.AdamModRefIdeal.nD Cert.AdamModRefIdeal.τ).loc Cert.AdamModRefIdeal.main_v1) = v0 c
          ∧ r.2.mem ((c.tc : Thread Cert.AdamModRefIdeal.nD Cert.AdamModRefIdeal.τ).loc Cert.AdamModRefIdeal.main_v25) = v1 c
          ∧ r.2.mem ((c.tc : Thread Cert.AdamModRefIdeal.nD Cert.AdamModRefIdeal.τ).loc Cert.AdamModRefIdeal.main_v6) = v2 c
          ∧ r.2.mem ((c.tc : Thread Cert.AdamModRefIdeal.nD Cert.AdamModRefIdeal.τ).loc Cert.AdamModRefIdeal.main_v12) = v3 c
          ∧ r.2.mem ((c.tc : Thread Cert.AdamModRefIdeal.nD Cert.AdamModRefIdeal.τ).loc Cert.AdamModRefIdeal.main_arg0) = m' ((c.tc : Thread Cert.AdamModRefIdeal.nD Cert.AdamModRefIdeal.τ).loc Cert.AdamModRefIdeal.main_arg0)
          ∧ r.2.mem ((c.tc : Thread Cert.AdamModRefIdeal.nD Cert.AdamModRefIdeal.τ).loc Cert.AdamModRefIdeal.main_arg1) = m' ((c.tc : Thread Cert.AdamModRefIdeal.nD Cert.AdamModRefIdeal.τ).loc Cert.AdamModRefIdeal.main_arg1)
          ∧ r.2.mem ((c.tc : Thread Cert.AdamModRefIdeal.nD Cert.AdamModRefIdeal.τ).loc Cert.AdamModRefIdeal.main_arg2) = m' ((c.tc : Thread Cert.AdamModRefIdeal.nD Cert.AdamModRefIdeal.τ).loc Cert.AdamModRefIdeal.main_arg2)
          ∧ r.2.mem ((c.tc : Thread Cert.AdamModRefIdeal.nD Cert.AdamModRefIdeal.τ).loc Cert.AdamModRefIdeal.main_arg3) = m' ((c.tc : Thread Cert.AdamModRefIdeal.nD Cert.AdamModRefIdeal.τ).loc Cert.AdamModRefIdeal.main_arg3))

def preserves_AdamRep_AdamRepIdeal : Prop :=
  True

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)) (v3 : (c : Dev Cert.AdamRepIdeal.nD) → Buf (Elt Ideal) ((c.tc : Thread Cert.AdamRepIdeal.nD Cert.AdamRepIdeal.τ).loc Cert.AdamRepIdeal.main_v0_3)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_v0_3) = v3 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v0) = v0 c
          ∧ r.2.mem ((c.tc : Thread Cert.AdamRepRefIdeal.nD Cert.AdamRepRefIdeal.τ).loc Cert.AdamRepRefIdeal.main_v24) = v1 c
          ∧ r.2.mem ((c.tc : Thread Cert.AdamRepRefIdeal.nD Cert.AdamRepRefIdeal.τ).loc Cert.AdamRepRefIdeal.main_v5) = v2 c
          ∧ r.2.mem ((c.tc : Thread Cert.AdamRepRefIdeal.nD Cert.AdamRepRefIdeal.τ).loc Cert.AdamRepRefIdeal.main_v11) = v3 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v2) = v0 c
          ∧ r.2.mem ((c.tc : Thread Cert.AdamConvRefIdeal.nD Cert.AdamConvRefIdeal.τ).loc Cert.AdamConvRefIdeal.main_v26) = v1 c
          ∧ r.2.mem ((c.tc : Thread Cert.AdamConvRefIdeal.nD Cert.AdamConvRefIdeal.τ).loc Cert.AdamConvRefIdeal.main_v7) = v2 c
          ∧ r.2.mem ((c.tc : Thread Cert.AdamConvRefIdeal.nD Cert.AdamConvRefIdeal.τ).loc Cert.AdamConvRefIdeal.main_v13) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)
      ∧ m' ((c.tc : Thread Cert.AdamFfnRefIdeal.nD Cert.AdamFfnRefIdeal.τ).loc Cert.AdamFfnRefIdeal.main_arg4) = m ((c.tc : Thread Cert.AdamFfnIdeal.nD Cert.AdamFfnIdeal.τ).loc Cert.AdamFfnIdeal.main_arg4)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v1) = v0 c
          ∧ r.2.mem ((c.tc : Thread Cert.AdamFfnRefIdeal.nD Cert.AdamFfnRefIdeal.τ).loc Cert.AdamFfnRefIdeal.main_v25) = v1 c
          ∧ r.2.mem ((c.tc : Thread Cert.AdamFfnRefIdeal.nD Cert.AdamFfnRefIdeal.τ).loc Cert.AdamFfnRefIdeal.main_v6) = v2 c
          ∧ r.2.mem ((c.tc : Thread Cert.AdamFfnRefIdeal.nD Cert.AdamFfnRefIdeal.τ).loc Cert.AdamFfnRefIdeal.main_v12) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3)
          ∧ r.2.mem ((c.tc : Thread Cert.AdamFfnRefIdeal.nD Cert.AdamFfnRefIdeal.τ).loc Cert.AdamFfnRefIdeal.main_arg4) = m' ((c.tc : Thread Cert.AdamFfnRefIdeal.nD Cert.AdamFfnRefIdeal.τ).loc Cert.AdamFfnRefIdeal.main_arg4))

def Claim : Prop :=
  ∃ (hGate : Cert.Gate.Facts) (hGateIdeal : Cert.GateIdeal.Facts) (hGateRefIdeal : Cert.GateRefIdeal.Facts) (hInProj : Cert.InProj.Facts) (hInProjIdeal : Cert.InProjIdeal.Facts) (hInProjRefIdeal : Cert.InProjRefIdeal.Facts) (hUpFwd : Cert.UpFwd.Facts) (hUpFwdIdeal : Cert.UpFwdIdeal.Facts) (hUpFwdRefIdeal : Cert.UpFwdRefIdeal.Facts) (hInFwd : Cert.InFwd.Facts) (hInFwdIdeal : Cert.InFwdIdeal.Facts) (hInFwdRefIdeal : Cert.InFwdRefIdeal.Facts) (hMixFwd : Cert.MixFwd.Facts) (hMixFwdIdeal : Cert.MixFwdIdeal.Facts) (hMixFwdRefIdeal : Cert.MixFwdRefIdeal.Facts) (hUpProj : Cert.UpProj.Facts) (hUpProjIdeal : Cert.UpProjIdeal.Facts) (hUpProjRefIdeal : Cert.UpProjRefIdeal.Facts) (hWDown : Cert.WDown.Facts) (hWDownIdeal : Cert.WDownIdeal.Facts) (hWDownRefIdeal : Cert.WDownRefIdeal.Facts) (hWUp : Cert.WUp.Facts) (hWUpIdeal : Cert.WUpIdeal.Facts) (hWUpRefIdeal : Cert.WUpRefIdeal.Facts) (hWBranch : Cert.WBranch.Facts) (hWBranchIdeal : Cert.WBranchIdeal.Facts) (hWBranchRefIdeal : Cert.WBranchRefIdeal.Facts) (hWQkv : Cert.WQkv.Facts) (hWQkvIdeal : Cert.WQkvIdeal.Facts) (hWQkvRefIdeal : Cert.WQkvRefIdeal.Facts) (hWRest : Cert.WRest.Facts) (hWRestIdeal : Cert.WRestIdeal.Facts) (hWRestRefIdeal : Cert.WRestRefIdeal.Facts) (hWInGate : Cert.WInGate.Facts) (hWInGateIdeal : Cert.WInGateIdeal.Facts) (hWInGateRefIdeal : Cert.WInGateRefIdeal.Facts) (hAdamUp : Cert.AdamUp.Facts) (hAdamUpIdeal : Cert.AdamUpIdeal.Facts) (hAdamUpRefIdeal : Cert.AdamUpRefIdeal.Facts) (hAdamSquare : Cert.AdamSquare.Facts) (hAdamSquareIdeal : Cert.AdamSquareIdeal.Facts) (hAdamSquareRefIdeal : Cert.AdamSquareRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamMod : Cert.AdamMod.Facts) (hAdamModIdeal : Cert.AdamModIdeal.Facts) (hAdamModRefIdeal : Cert.AdamModRefIdeal.Facts) (hAdamRep : Cert.AdamRep.Facts) (hAdamRepIdeal : Cert.AdamRepIdeal.Facts) (hAdamRepRefIdeal : Cert.AdamRepRefIdeal.Facts) (hAdamConv : Cert.AdamConv.Facts) (hAdamConvIdeal : Cert.AdamConvIdeal.Facts) (hAdamConvRefIdeal : Cert.AdamConvRefIdeal.Facts) (hAdamFfn : Cert.AdamFfn.Facts) (hAdamFfnIdeal : Cert.AdamFfnIdeal.Facts) (hAdamFfnRefIdeal : Cert.AdamFfnRefIdeal.Facts) (hPre_gate_finite : Cert.Pre_gate_finite.Facts) (hPre_in_finite : Cert.Pre_in_finite.Facts) (hPre_up_finite : Cert.Pre_up_finite.Facts),
    quiescent_Gate (hGate := hGate)
    ∧ quiescent_GateIdeal (hGateIdeal := hGateIdeal)
    ∧ quiescent_GateIdeal_pre_gate_finite (hGateIdeal := hGateIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_InProj (hInProj := hInProj)
    ∧ quiescent_InProjIdeal (hInProjIdeal := hInProjIdeal)
    ∧ quiescent_InProjIdeal_pre_in_finite (hInProjIdeal := hInProjIdeal) (hPre_in_finite := hPre_in_finite)
    ∧ quiescent_InProjRefIdeal (hInProjRefIdeal := hInProjRefIdeal)
    ∧ quiescent_InProjRefIdeal_pre_in_finite (hInProjRefIdeal := hInProjRefIdeal) (hPre_in_finite := hPre_in_finite)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_UpProj (hUpProj := hUpProj)
    ∧ quiescent_UpProjIdeal (hUpProjIdeal := hUpProjIdeal)
    ∧ quiescent_UpProjIdeal_pre_up_finite (hUpProjIdeal := hUpProjIdeal) (hPre_up_finite := hPre_up_finite)
    ∧ quiescent_UpProjRefIdeal (hUpProjRefIdeal := hUpProjRefIdeal)
    ∧ quiescent_UpProjRefIdeal_pre_up_finite (hUpProjRefIdeal := hUpProjRefIdeal) (hPre_up_finite := hPre_up_finite)
    ∧ quiescent_WDown (hWDown := hWDown)
    ∧ quiescent_WDownIdeal (hWDownIdeal := hWDownIdeal)
    ∧ quiescent_WDownRefIdeal (hWDownRefIdeal := hWDownRefIdeal)
    ∧ quiescent_WUp (hWUp := hWUp)
    ∧ quiescent_WUpIdeal (hWUpIdeal := hWUpIdeal)
    ∧ quiescent_WUpRefIdeal (hWUpRefIdeal := hWUpRefIdeal)
    ∧ quiescent_WBranch (hWBranch := hWBranch)
    ∧ quiescent_WBranchIdeal (hWBranchIdeal := hWBranchIdeal)
    ∧ quiescent_WBranchRefIdeal (hWBranchRefIdeal := hWBranchRefIdeal)
    ∧ quiescent_WQkv (hWQkv := hWQkv)
    ∧ quiescent_WQkvIdeal (hWQkvIdeal := hWQkvIdeal)
    ∧ quiescent_WQkvRefIdeal (hWQkvRefIdeal := hWQkvRefIdeal)
    ∧ quiescent_WRest (hWRest := hWRest)
    ∧ quiescent_WRestIdeal (hWRestIdeal := hWRestIdeal)
    ∧ quiescent_WRestRefIdeal (hWRestRefIdeal := hWRestRefIdeal)
    ∧ quiescent_WInGate (hWInGate := hWInGate)
    ∧ quiescent_WInGateIdeal (hWInGateIdeal := hWInGateIdeal)
    ∧ quiescent_WInGateRefIdeal (hWInGateRefIdeal := hWInGateRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamMod (hAdamMod := hAdamMod)
    ∧ quiescent_AdamModIdeal (hAdamModIdeal := hAdamModIdeal)
    ∧ quiescent_AdamModRefIdeal (hAdamModRefIdeal := hAdamModRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ preserves_Gate_GateIdeal
    ∧ algebraic_GateIdeal_GateRefIdeal_pre_gate_finite (hGateIdeal := hGateIdeal) (hGateRefIdeal := hGateRefIdeal) (hPre_gate_finite := hPre_gate_finite)
    ∧ preserves_InProj_InProjIdeal
    ∧ algebraic_InProjIdeal_InProjRefIdeal_pre_in_finite (hInProjIdeal := hInProjIdeal) (hInProjRefIdeal := hInProjRefIdeal) (hPre_in_finite := hPre_in_finite)
    ∧ preserves_UpFwd_UpFwdIdeal
    ∧ algebraic_UpFwdIdeal_UpFwdRefIdeal (hUpFwdIdeal := hUpFwdIdeal) (hUpFwdRefIdeal := hUpFwdRefIdeal)
    ∧ preserves_InFwd_InFwdIdeal
    ∧ algebraic_InFwdIdeal_InFwdRefIdeal (hInFwdIdeal := hInFwdIdeal) (hInFwdRefIdeal := hInFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_UpProj_UpProjIdeal
    ∧ algebraic_UpProjIdeal_UpProjRefIdeal_pre_up_finite (hUpProjIdeal := hUpProjIdeal) (hUpProjRefIdeal := hUpProjRefIdeal) (hPre_up_finite := hPre_up_finite)
    ∧ preserves_WDown_WDownIdeal
    ∧ algebraic_WDownIdeal_WDownRefIdeal (hWDownIdeal := hWDownIdeal) (hWDownRefIdeal := hWDownRefIdeal)
    ∧ preserves_WUp_WUpIdeal
    ∧ algebraic_WUpIdeal_WUpRefIdeal (hWUpIdeal := hWUpIdeal) (hWUpRefIdeal := hWUpRefIdeal)
    ∧ preserves_WBranch_WBranchIdeal
    ∧ algebraic_WBranchIdeal_WBranchRefIdeal (hWBranchIdeal := hWBranchIdeal) (hWBranchRefIdeal := hWBranchRefIdeal)
    ∧ preserves_WQkv_WQkvIdeal
    ∧ algebraic_WQkvIdeal_WQkvRefIdeal (hWQkvIdeal := hWQkvIdeal) (hWQkvRefIdeal := hWQkvRefIdeal)
    ∧ preserves_WRest_WRestIdeal
    ∧ algebraic_WRestIdeal_WRestRefIdeal (hWRestIdeal := hWRestIdeal) (hWRestRefIdeal := hWRestRefIdeal)
    ∧ preserves_WInGate_WInGateIdeal
    ∧ algebraic_WInGateIdeal_WInGateRefIdeal (hWInGateIdeal := hWInGateIdeal) (hWInGateRefIdeal := hWInGateRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamMod_AdamModIdeal
    ∧ algebraic_AdamModIdeal_AdamModRefIdeal (hAdamModIdeal := hAdamModIdeal) (hAdamModRefIdeal := hAdamModRefIdeal)
    ∧ preserves_AdamRep_AdamRepIdeal
    ∧ algebraic_AdamRepIdeal_AdamRepRefIdeal (hAdamRepIdeal := hAdamRepIdeal) (hAdamRepRefIdeal := hAdamRepRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamFfn_AdamFfnIdeal
    ∧ algebraic_AdamFfnIdeal_AdamFfnRefIdeal (hAdamFfnIdeal := hAdamFfnIdeal) (hAdamFfnRefIdeal := hAdamFfnRefIdeal)
-- ==== Pre_gate_finite.lean ====
abbrev S16384x1024 : Shape := ⟨2, ![16384, 1024]⟩
abbrev S2816x1024 : Shape := ⟨2, ![2816, 1024]⟩
abbrev S16384x2816 : Shape := ⟨2, ![16384, 2816]⟩
abbrev S16384x5632 : Shape := ⟨2, ![16384, 5632]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S2816x1024 : S_.BroadcastsInDim S2816x1024 (![] : Fin 0 → Fin S2816x1024.rank)
  bcast_S_S16384x2816 : S_.BroadcastsInDim S16384x2816 (![] : Fin 0 → Fin S16384x2816.rank)
  bcast_S_S16384x5632 : S_.BroadcastsInDim S16384x5632 (![] : Fin 0 → Fin S16384x5632.rank)

variable [Facts]

def fn {F : FTy → Type} [FloatOps F] (main_arg0 : FVec F S16384x1024 .bf16) (main_arg1 : FVec F S2816x1024 .bf16) (main_arg2 : FVec F S16384x2816 .bf16) (main_arg3 : FVec F S16384x5632 .bf16) : IVec S16384x1024 1 × IVec S2816x1024 1 × IVec S16384x2816 1 × IVec S16384x5632 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S16384x2816 .f32 := (extf .f32 · bitsLt_bf16_f32) main_arg2
  let main_v9 : FVec F S16384x2816 .f32 := Host.absf main_v8
  let main_cst_1 : FVec F S_ .f32 := constant S_ .f32 0x7F800000#32
  let main_v10 : FVec F S16384x2816 .f32 := broadcastInDim S16384x2816 ![] bcast_S_S16384x2816 main_cst_1
  let main_v11 : IVec S16384x2816 1 := cmpf .olt main_v9 main_v10
  let main_v12 : FVec F S16384x5632 .f32 := (extf .f32 · bitsLt_bf16_f32) main_arg3
  let main_v13 : FVec F S16384x5632 .f32 := Host.absf main_v12
  let main_cst_2 : FVec F S_ .f32 := constant S_ .f32 0x7F800000#32
  let main_v14 : FVec F S16384x5632 .f32 := broadcastInDim S16384x5632 ![] bcast_S_S16384x5632 main_cst_2
  let main_v15 : IVec S16384x5632 1 := cmpf .olt main_v13 main_v14
  (main_v3, main_v7, main_v11, main_v15)
-- ==== Pre_in_finite.lean ====
abbrev S16640x3072 : Shape := ⟨2, ![16640, 3072]⟩
abbrev S16384x5120 : Shape := ⟨2, ![16384, 5120]⟩
abbrev S16640x128 : Shape := ⟨2, ![16640, 128]⟩
abbrev S1024x8192 : Shape := ⟨2, ![1024, 8192]⟩
abbrev S1024x128 : Shape := ⟨2, ![1024, 128]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16640x3072 : S_.BroadcastsInDim S16640x3072 (![] : Fin 0 → Fin S16640x3072.rank)
  bcast_S_S16384x5120 : S_.BroadcastsInDim S16384x5120 (![] : Fin 0 → Fin S16384x5120.rank)
  bcast_S_S16640x128 : S_.BroadcastsInDim S16640x128 (![] : Fin 0 → Fin S16640x128.rank)
  bcast_S_S1024x8192 : S_.BroadcastsInDim S1024x8192 (![] : Fin 0 → Fin S1024x8192.rank)
  bcast_S_S1024x128 : S_.BroadcastsInDim S1024x128 (![] : Fin 0 → Fin S1024x128.rank)
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn_part1 {F : FTy → Type} [FloatOps F] (main_arg5 : FVec F S16384x1024 .f32) (main_arg6 : FVec F S1x1024 .f32) (main_arg7 : FVec F S1x1024 .f32) (main_v3 : IVec S16640x3072 1) (main_v7 : IVec S16384x5120 1) (main_v11 : IVec S16640x128 1) (main_v15 : IVec S1024x8192 1) (main_v17 : FVec F S1024x128 .f32) (main_v18 : FVec F S1024x128 .f32) : IVec S16640x3072 1 × IVec S16384x5120 1 × IVec S16640x128 1 × IVec S1024x8192 1 × IVec S1024x128 1 × IVec S16384x1024 1 × IVec S1x1024 1 × IVec S1x1024 1 :=
  let main_v19 : IVec S1024x128 1 := cmpf .olt main_v17 main_v18
  let main_v20 : FVec F S16384x1024 .f32 := Host.absf main_arg5
  let main_cst_4 : FVec F S_ .f32 := constant S_ .f32 0x7F800000#32
  let main_v21 : FVec F S16384x1024 .f32 := broadcastInDim S16384x1024 ![] bcast_S_S16384x1024 main_cst_4
  let main_v22 : IVec S16384x1024 1 := cmpf .olt main_v20 main_v21
  let main_v23 : FVec F S1x1024 .f32 := Host.absf main_arg6
  let main_cst_5 : FVec F S_ .f32 := constant S_ .f32 0x7F800000#32
  let main_v24 : FVec F S1x1024 .f32 := broadcastInDim S1x1024 ![] bcast_S_S1x1024 main_cst_5
  let main_v25 : IVec S1x1024 1 := cmpf .olt main_v23 main_v24
  let main_v26 : FVec F S1x1024 .f32 := Host.absf main_arg7
  let main_cst_6 : FVec F S_ .f32 := constant S_ .f32 0x7F800000#32
  let main_v27 : FVec F S1x1024 .f32 := broadcastInDim S1x1024 ![] bcast_S_S1x1024 main_cst_6
  let main_v28 : IVec S1x1024 1 := cmpf .olt main_v26 main_v27
  (main_v3, main_v7, main_v11, main_v15, main_v19, main_v22, main_v25, main_v28)

def fn {F : FTy → Type} [FloatOps F] (main_arg0 : FVec F S16640x3072 .bf16) (main_arg1 : FVec F S16384x5120 .bf16) (main_arg2 : FVec F S16640x128 .bf16) (main_arg3 : FVec F S1024x8192 .bf16) (main_arg4 : FVec F S1024x128 .bf16) (main_arg5 : FVec F S16384x1024 .f32) (main_arg6 : FVec F S1x1024 .f32) (main_arg7 : FVec F S1x1024 .f32) (main_arg8 : FVec F S16384x1024 .f32) : IVec S16640x3072 1 × IVec S16384x5120 1 × IVec S16640x128 1 × IVec S1024x8192 1 × IVec S1024x128 1 × IVec S16384x1024 1 × IVec S1x1024 1 × IVec S1x1024 1 :=
  let main_v0 : FVec F S16640x3072 .f32 := (extf .f32 · bitsLt_bf16_f32) main_arg0
  let main_v1 : FVec F S16640x3072 .f32 := Host.absf main_v0
  let main_cst : FVec F S_ .f32 := constant S_ .f32 0x7F800000#32
  let main_v2 : FVec F S16640x3072 .f32 := broadcastInDim S16640x3072 ![] bcast_S_S16640x3072 main_cst
  let main_v3 : IVec S16640x3072 1 := cmpf .olt main_v1 main_v2
  let main_v4 : FVec F S16384x5120 .f32 := (extf .f32 · bitsLt_bf16_f32) main_arg1
  let main_v5 : FVec F S16384x5120 .f32 := Host.absf main_v4
  let main_cst_0 : FVec F S_ .f32 := constant S_ .f32 0x7F800000#32
  let main_v6 : FVec F S16384x5120 .f32 := broadcastInDim S16384x5120 ![] bcast_S_S16384x5120 main_cst_0
  let main_v7 : IVec S16384x5120 1 := cmpf .olt main_v5 main_v6
  let main_v8 : FVec F S16640x128 .f32 := (extf .f32 · bitsLt_bf16_f32) main_arg2
  let main_v9 : FVec F S16640x128 .f32 := Host.absf main_v8
  let main_cst_1 : FVec F S_ .f32 := constant S_ .f32 0x7F800000#32
  let main_v10 : FVec F S16640x128 .f32 := broadcastInDim S16640x128 ![] bcast_S_S16640x128 main_cst_1
  let main_v11 : IVec S16640x128 1 := cmpf .olt main_v9 main_v10
  let main_v12 : FVec F S1024x8192 .f32 := (extf .f32 · bitsLt_bf16_f32) main_arg3
  let main_v13 : FVec F S1024x8192 .f32 := Host.absf main_v12
  let main_cst_2 : FVec F S_ .f32 := constant S_ .f32 0x7F800000#32
  let main_v14 : FVec F S1024x8192 .f32 := broadcastInDim S1024x8192 ![] bcast_S_S1024x8192 main_cst_2
  let main_v15 : IVec S1024x8192 1 := cmpf .olt main_v13 main_v14
  let main_v16 : FVec F S1024x128 .f32 := (extf .f32 · bitsLt_bf16_f32) main_arg4
  let main_v17 : FVec F S1024x128 .f32 := Host.absf main_v16
  let main_cst_3 : FVec F S_ .f32 := constant S_ .f32 0x7F800000#32
  let main_v18 : FVec F S1024x128 .f32 := broadcastInDim S1024x128 ![] bcast_S_S1024x128 main_cst_3
  fn_part1 (F := F) main_arg5 main_arg6 main_arg7 main_v3 main_v7 main_v11 main_v15 main_v17 main_v18
-- ==== Pre_up_finite.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  bcast_S_S1024x5632 : S_.BroadcastsInDim S1024x5632 (![] : Fin 0 → Fin S1024x5632.rank)
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn_part1 {F : FTy → Type} [FloatOps F] (main_v3 : IVec S16384x2816 1) (main_v7 : IVec S16384x2816 1) (main_v11 : IVec S1024x5632 1) (main_v14 : IVec S16384x1024 1) (main_v17 : IVec S1x1024 1) (main_v18 : FVec F S1x1024 .f32) : IVec S16384x2816 1 × IVec S16384x2816 1 × IVec S1024x5632 1 × IVec S16384x1024 1 × IVec S1x1024 1 × IVec S1x1024 1 :=
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  (main_v3, main_v7, main_v11, main_v14, main_v17, main_v20)

def fn {F : FTy → Type} [FloatOps F] (main_arg0 : FVec F S16384x2816 .bf16) (main_arg1 : FVec F S16384x2816 .bf16) (main_arg2 : FVec F S1024x5632 .bf16) (main_arg3 : FVec F S16384x1024 .f32) (main_arg4 : FVec F S1x1024 .f32) (main_arg5 : FVec F S1x1024 .f32) (main_arg6 : FVec F S16384x1024 .f32) : IVec S16384x2816 1 × IVec S16384x2816 1 × IVec S1024x5632 1 × IVec S16384x1024 1 × IVec S1x1024 1 × IVec S1x1024 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_v4 : FVec F S16384x2816 .f32 := (extf .f32 · bitsLt_bf16_f32) main_arg1
  let main_v5 : FVec F S16384x2816 .f32 := Host.absf main_v4
  let main_cst_0 : FVec F S_ .f32 := constant S_ .f32 0x7F800000#32
  let main_v6 : FVec F S16384x2816 .f32 := broadcastInDim S16384x2816 ![] bcast_S_S16384x2816 main_cst_0
  let main_v7 : IVec S16384x2816 1 := cmpf .olt main_v5 main_v6
  let main_v8 : FVec F S1024x5632 .f32 := (extf .f32 · bitsLt_bf16_f32) main_arg2
  let main_v9 : FVec F S1024x5632 .f32 := Host.absf main_v8
  let main_cst_1 : FVec F S_ .f32 := constant S_ .f32 0x7F800000#32
  let main_v10 : FVec F S1024x5632 .f32 := broadcastInDim S1024x5632 ![] bcast_S_S1024x5632 main_cst_1
  let main_v11 : IVec S1024x5632 1 := cmpf .olt main_v9 main_v10
  let main_v12 : FVec F S16384x1024 .f32 := Host.absf main_arg3
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_v15 : FVec F S1x1024 .f32 := Host.absf main_arg4
  let main_cst_3 : FVec F S_ .f32 := constant S_ .f32 0x7F800000#32
  let main_v16 : FVec F S1x1024 .f32 := broadcastInDim S1x1024 ![] bcast_S_S1x1024 main_cst_3
  let main_v17 : IVec S1x1024 1 := cmpf .olt main_v15 main_v16
  let main_v18 : FVec F S1x1024 .f32 := Host.absf main_arg5
  fn_part1 (F := F) main_v3 main_v7 main_v11 main_v14 main_v17 main_v18
-- ==== Gate.lean ====
abbrev S16384x1024 : Shape := ⟨2, ![16384, 1024]⟩
abbrev S2816x1024 : Shape := ⟨2, ![2816, 1024]⟩
abbrev S16384x2816 : Shape := ⟨2, ![16384, 2816]⟩
abbrev S16384x5632 : Shape := ⟨2, ![16384, 5632]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .hbm, ⟨3, _⟩ => ⟨S16384x5632, .bf16⟩
  | .hbm, ⟨4, _⟩ => ⟨S16384x2816, .bf16⟩
  | .hbm, ⟨5, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c1408_i32 : BitVec 32 := 1408#32
  let v1 : BitVec 32 := Scalar.muli arg1 c1408_i32
  v1
def k0_off1 (i : grid0.Coords) : Fin 2 → Nat :=
  let arg1 : BitVec 32 := BitVec.ofNat 32 (i 1).val
  let c1408_i32 : BitVec 32 := 1408#32
  let v1 : BitVec 32 := Scalar.muli arg1 c1408_i32
  let v2 : BitVec 32 := v1
  let v3 : Index := Scalar.indexCast v2
  let c0_1 : Index := 0#32
  ![v3.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateRefIdeal.lean ====
abbrev S16384x1024 : Shape := ⟨2, ![16384, 1024]⟩
abbrev S2816x1024 : Shape := ⟨2, ![2816, 1024]⟩
abbrev S16384x2816 : Shape := ⟨2, ![16384, 2816]⟩
abbrev S16384x5632 : Shape := ⟨2, ![16384, 5632]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .hbm, ⟨3, _⟩ => ⟨S16384x5632, .bf16⟩
  | .hbm, ⟨4, _⟩ => ⟨S16384x2816, .bf16⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x1024, .f32⟩
  | .hbm, ⟨23, _⟩ => ⟨S16384x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .bf16⟩
  | .hbm, ⟨32, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== InProj.lean ====
abbrev S16640x3072 : Shape := ⟨2, ![16640, 3072]⟩
abbrev S16384x5120 : Shape := ⟨2, ![16384, 5120]⟩
abbrev S16640x128 : Shape := ⟨2, ![16640, 128]⟩
abbrev S1024x8192 : Shape := ⟨2, ![1024, 8192]⟩
abbrev S1024x128 : Shape := ⟨2, ![1024, 128]⟩
abbrev S16384x1024 : Shape := ⟨2, ![16384, 1024]⟩
abbrev S1x1024 : Shape := ⟨2, ![1, 1024]⟩
abbrev S8x1024 : Shape := ⟨2, ![8, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S5x1024 : Shape := ⟨2, ![5, 1024]⟩

abbrev nBuf : Space → Nat
  | .hbm => 11
  | .vmem => 21
  | .smem => 0
  | _ => 0

abbrev bufTy : (tb : Table) → Fin (tcTables nBuf tb) → BufTy
  | .hbm, ⟨0, _⟩ => ⟨S16640x3072, .bf16⟩
  | .hbm, ⟨1, _⟩ => ⟨S16384x5120, .bf16⟩
  | .hbm, ⟨2, _⟩ => ⟨S16640x128, .bf16⟩
  | .hbm, ⟨3, _⟩ => ⟨S1024x8192, .bf16⟩
  | .hbm, ⟨4, _⟩ => ⟨S1024x128, .bf16⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S8x1024, .f32⟩
  | .local _ .vmem, ⟨20, _⟩ => ⟨S1024x1024, .f32⟩
  | _, _ => ⟨S16640x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨2, ![16, 9], ![false, false]⟩

def k0_cond6 (i : grid0.Coords) : BitVec 1 :=
  let arg1 : BitVec 32 := BitVec.ofNat 32 (i 1).val
  let c8_i32_10 : BitVec 32 := 8#32
  let v23 : BitVec 1 := Scalar.cmpi .eq arg1 c8_i32_10
  let v24 : BitVec 32 := Scalar.extui v23
  let c0_i32_11 : BitVec 32 := 0#32
  let v25 : BitVec 1 := Scalar.cmpi .ne v24 c0_i32_11
  v25

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.subi arg1 c0_i32_0
  let c0_i32_1 : BitVec 32 := 0#32
  let c2_i32 : BitVec 32 := 2#32
  let v2 : BitVec 32 := Scalar.maxsi c0_i32_1 v1
  let v3 : BitVec 32 := Scalar.minsi c2_i32 v2
  let c0_i32_2 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let v3 : BitVec 32 := Scalar.addi c0_i32_1 v2
  let c0_i32_2 : BitVec 32 := 0#32
  let c0_i32_3 : BitVec 32 := 0#32
  ![c0_i32_2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.subi arg1 c3_i32
  let c0_i32_0 : BitVec 32 := 0#32
  let c4_i32 : BitVec 32 := 4#32
  let v2 : BitVec 32 := Scalar.maxsi c0_i32_0 v1
  let v3 : BitVec 32 := Scalar.minsi c4_i32 v2
  let c0_i32_1 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c4_i32 : BitVec 32 := 4#32
  let v1 : BitVec 32 := Scalar.maxsi c0_i32 v0
  let v2 : BitVec 32 := Scalar.minsi c4_i32 v1
  let c3_i32_0 : BitVec 32 := 3#32
  let v3 : BitVec 32 := Scalar.addi c3_i32_0 v2
  let c0_i32_1 : BitVec 32 := 0#32
  let c0_i32_2 : BitVec 32 := 0#32
  ![c0_i32_1.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.subi arg1 c8_i32
  let c0_i32_0 : BitVec 32 := 0#32
  let c0_i32_1 : BitVec 32 := 0#32
  let v2 : BitVec 32 := Scalar.maxsi c0_i32_0 v1
  let v3 : BitVec 32 := Scalar.minsi c0_i32_1 v2
  let c0_i32_2 : BitVec 32 := 0#32
  ![v0.toNat, v3.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 v2
  let c0_i32_2 : BitVec 32 := 0#32
  let c0_i32_3 : BitVec 32 := 0#32
  ![c0_i32_2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== InProjRefIdeal.lean ====
abbrev S16640x3072 : Shape := ⟨2, ![16640, 3072]⟩
abbrev S16384x5120 : Shape := ⟨2, ![16384, 5120]⟩
abbrev S16640x128 : Shape := ⟨2, ![16640, 128]⟩
abbrev S1024x8192 : Shape := ⟨2, ![1024, 8192]⟩
abbrev S1024x128 : Shape := ⟨2, ![1024, 128]⟩
abbrev S16384x1024 : Shape := ⟨2, ![16384, 1024]⟩
abbrev S1x1024 : Shape := ⟨2, ![1, 1024]⟩
abbrev S16384x3072 : Shape := ⟨2, ![16384, 3072]⟩
abbrev S16384x128 : Shape := ⟨2, ![16384, 128]⟩
abbrev S_ : Shape := ⟨0, ![]⟩
abbrev S16384 : Shape := ⟨1, ![16384]⟩
abbrev S16384x1 : Shape := ⟨2, ![16384, 1]⟩
abbrev S1024x3072 : Shape := ⟨2, ![1024, 3072]⟩
abbrev S1024x5120 : Shape := ⟨2, ![1024, 5120]⟩
abbrev S1024 : Shape := ⟨1, ![1024]⟩
abbrev S5x1024 : Shape := ⟨2, ![5, 1024]⟩
abbrev S8x1024 : Shape := ⟨2, ![8, 1024]⟩

abbrev nBuf : Space → Nat
  | .hbm => 91
  | .vmem => 0
  | .smem => 0
  | _ => 0

abbrev bufTy : (tb : Table) → Fin (tcTables nBuf tb) → BufTy
  | .hbm, ⟨0, _⟩ => ⟨S16640x3072, .bf16⟩
  | .hbm, ⟨1, _⟩ => ⟨S16384x5120, .bf16⟩
  | .hbm, ⟨2, _⟩ => ⟨S16640x128, .bf16⟩
  | .hbm, ⟨3, _⟩ => ⟨S1024x8192, .bf16⟩
  | .hbm, ⟨4, _⟩ => ⟨S1024x128, .bf16⟩
  | .hbm, ⟨5, _⟩ => ⟨S16384x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x3072, .bf16⟩
  | .hbm, ⟨10, _⟩ => ⟨S16384x3072, .f32⟩
  | .hbm, ⟨11, _⟩ => ⟨S16384x5120, .f32⟩
  | .hbm, ⟨12, _⟩ => ⟨S16384x128, .bf16⟩
  | .hbm, ⟨13, _⟩ => ⟨S16384x128, .f32⟩
  | .hbm, ⟨14, _⟩ => ⟨S_, .f32⟩
  | .hbm, ⟨15, _⟩ => ⟨S1x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S1024x3072, .bf16⟩
  | .hbm, ⟨43, _⟩ => ⟨S1024x3072, .f32⟩
  | .hbm, ⟨44, _⟩ => ⟨S16384x3072, .f32⟩
  | .hbm, ⟨45, _⟩ => ⟨S1024x5120, .bf16⟩
  | .hbm, ⟨46, _⟩ => ⟨S1024x5120, .f32⟩
  | .hbm, ⟨47, _⟩ => ⟨S16384x5120, .f32⟩
  | .hbm, ⟨48, _⟩ => ⟨S1024x128, .f32⟩
  | .hbm, ⟨49, _⟩ => ⟨S16384x128, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S5x1024, .f32⟩
  | .hbm, ⟨90, _⟩ => ⟨S8x1024, .f32⟩
  | _, _ => ⟨S16640x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== UpFwd.lean ====
abbrev S16384x1024 : Shape := ⟨2, ![16384, 1024]⟩
abbrev S1x1024 : Shape := ⟨2, ![1, 1024]⟩
abbrev S2x1024 : Shape := ⟨2, ![2, 1024]⟩
abbrev S1024x5632 : Shape := ⟨2, ![1024, 5632]⟩
abbrev S16384x5632 : Shape := ⟨2, ![16384, 5632]⟩
abbrev S1024x1024 : Shape := ⟨2, ![1024, 1024]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1024, .f32⟩
  | .hbm, ⟨3, _⟩ => ⟨S1024x5632, .bf16⟩
  | .hbm, ⟨4, _⟩ => ⟨S16384x1024, .bf16⟩
  | .hbm, ⟨5, _⟩ => ⟨S16384x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1024, .f32⟩
  | .local _ .vmem, ⟨4, _⟩ => ⟨S1024x5632, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1408_i32 : BitVec 32 := 1408#32
  let v4 : BitVec 32 := Scalar.muli arg1 c1408_i32
  v4
def k0_off1 (i : grid0.Coords) : Fin 2 → Nat :=
  let c0_2 : Index := 0#32
  let arg1 : BitVec 32 := BitVec.ofNat 32 (i 1).val
  let c1408_i32 : BitVec 32 := 1408#32
  let v4 : BitVec 32 := Scalar.muli arg1 c1408_i32
  let v5 : BitVec 32 := v4
  let v6 : Index := Scalar.indexCast v5
  ![0, v6.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpFwdRefIdeal.lean ====
abbrev S16384x1024 : Shape := ⟨2, ![16384, 1024]⟩
abbrev S1x1024 : Shape := ⟨2, ![1, 1024]⟩
abbrev S2x1024 : Shape := ⟨2, ![2, 1024]⟩
abbrev S1024x5632 : Shape := ⟨2, ![1024, 5632]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1024, .f32⟩
  | .hbm, ⟨3, _⟩ => ⟨S1024x5632, .bf16⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .bf16⟩
  | .hbm, ⟨29, _⟩ => ⟨S1024x5632, .f32⟩
  | .hbm, ⟨30, _⟩ => ⟨S16384x5632, .f32⟩
  | .hbm, ⟨31, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== InFwd.lean ====
abbrev S16384x1024 : Shape := ⟨2, ![16384, 1024]⟩
abbrev S1x1024 : Shape := ⟨2, ![1, 1024]⟩
abbrev S2x1024 : Shape := ⟨2, ![2, 1024]⟩
abbrev S1024x8192 : Shape := ⟨2, ![1024, 8192]⟩
abbrev S1024x128 : Shape := ⟨2, ![1024, 128]⟩
abbrev S16640x1024 : Shape := ⟨2, ![16640, 1024]⟩
abbrev S16640x8192 : Shape := ⟨2, ![16640, 8192]⟩
abbrev S16640x128 : Shape := ⟨2, ![16640, 128]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩
abbrev S16384x8192 : Shape := ⟨2, ![16384, 8192]⟩
abbrev S16384x128 : Shape := ⟨2, ![16384, 128]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1024, .f32⟩
  | .hbm, ⟨3, _⟩ => ⟨S1024x8192, .bf16⟩
  | .hbm, ⟨4, _⟩ => ⟨S1024x128, .bf16⟩
  | .hbm, ⟨5, _⟩ => ⟨S16640x1024, .bf16⟩
  | .hbm, ⟨6, _⟩ => ⟨S16640x8192, .bf16⟩
  | .hbm, ⟨7, _⟩ => ⟨S16640x128, .f32⟩
  | .hbm, ⟨8, _⟩ => ⟨S16384x1024, .bf16⟩
  | .hbm, ⟨9, _⟩ => ⟨S16384x8192, .bf16⟩
  | .hbm, ⟨10, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1024, .f32⟩
  | .local _ .vmem, ⟨4, _⟩ => ⟨S1024x8192, .bf16⟩
  | .local _ .vmem, ⟨5, _⟩ => ⟨S1024x128, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x128, .f32⟩
  | .local _ .vmem, ⟨11, _⟩ => ⟨S1024x128, .f32⟩
  | .local _ .vmem, ⟨12, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v4 : BitVec 32 := Scalar.muli arg1 c2048_i32
  v4
def k0_off1 (i : grid0.Coords) : Fin 2 → Nat :=
  let c0_2 : Index := 0#32
  let arg1 : BitVec 32 := BitVec.ofNat 32 (i 1).val
  let c2048_i32 : BitVec 32 := 2048#32
  let v4 : BitVec 32 := Scalar.muli arg1 c2048_i32
  let v5 : BitVec 32 := v4
  let v6 : Index := Scalar.indexCast v5
  ![0, v6.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InFwdRefIdeal.lean ====
abbrev S16384x1024 : Shape := ⟨2, ![16384, 1024]⟩
abbrev S1x1024 : Shape := ⟨2, ![1, 1024]⟩
abbrev S2x1024 : Shape := ⟨2, ![2, 1024]⟩
abbrev S1024x8192 : Shape := ⟨2, ![1024, 8192]⟩
abbrev S1024x128 : Shape := ⟨2, ![1024, 128]⟩
abbrev S_ : Shape := ⟨0, ![]⟩
abbrev S16384 : Shape := ⟨1, ![16384]⟩
abbrev S16384x1 : Shape := ⟨2, ![16384, 1]⟩
abbrev S16384x8192 : Shape := ⟨2, ![16384, 8192]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S2x1024, .f32⟩
  | .hbm, ⟨3, _⟩ => ⟨S1024x8192, .bf16⟩
  | .hbm, ⟨4, _⟩ => ⟨S1024x128, .bf16⟩
  | .hbm, ⟨5, _⟩ => ⟨S1x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .bf16⟩
  | .hbm, ⟨30, _⟩ => ⟨S1024x8192, .f32⟩
  | .hbm, ⟨31, _⟩ => ⟨S16384x8192, .f32⟩
  | .hbm, ⟨32, _⟩ => ⟨S16384x8192, .bf16⟩
  | .hbm, ⟨33, _⟩ => ⟨S1024x128, .f32⟩
  | .hbm, ⟨34, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== MixFwd.lean ====
abbrev S16640x1024 : Shape := ⟨2, ![16640, 1024]⟩
abbrev S16640x8192 : Shape := ⟨2, ![16640, 8192]⟩
abbrev S16384x1024 : Shape := ⟨2, ![16384, 1024]⟩
abbrev S1x1024 : Shape := ⟨2, ![1, 1024]⟩
abbrev S4x128x128 : Shape := ⟨3, ![4, 128, 128]⟩
abbrev S128x128 : Shape := ⟨2, ![128, 128]⟩
abbrev S1024x1024 : Shape := ⟨2, ![1024, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S128x256 : Shape := ⟨2, ![128, 256]⟩
abbrev S1x128x128 : Shape := ⟨3, ![1, 128, 128]⟩
abbrev S128x1 : Shape := ⟨2, ![128, 1]⟩
abbrev S128x1024 : Shape := ⟨2, ![128, 1024]⟩

abbrev nBuf : Space → Nat
  | .hbm => 20
  | .vmem => 39
  | .smem => 0
  | _ => 0

abbrev bufTy : (tb : Table) → Fin (tcTables nBuf tb) → BufTy
  | .hbm, ⟨0, _⟩ => ⟨S16640x1024, .bf16⟩
  | .hbm, ⟨1, _⟩ => ⟨S16640x1024, .bf16⟩
  | .hbm, ⟨2, _⟩ => ⟨S16640x8192, .bf16⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4x128x128, .f32⟩
  | .hbm, ⟨8, _⟩ => ⟨S128x128, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S16384x1024, .f32⟩
  | .hbm, ⟨14, _⟩ => ⟨S16384x1024, .bf16⟩
  | .hbm, ⟨15, _⟩ => ⟨S16384x1024, .bf16⟩
  | .hbm, ⟨16, _⟩ => ⟨S16384x1024, .bf16⟩
  | .hbm, ⟨17, _⟩ => ⟨S16384x1024, .bf16⟩
  | .hbm, ⟨18, _⟩ => ⟨S16384x1024, .bf16⟩
  | .hbm, ⟨19, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S4x128x128, .f32⟩
  | .local _ .vmem, ⟨20, _⟩ => ⟨S128x128, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_stg23_0 : Ref sig .tc := ⟨.vmem, 37, rfl⟩
abbrev cc0_stg23_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== MixFwdRefIdeal.lean ====
abbrev S16640x1024 : Shape := ⟨2, ![16640, 1024]⟩
abbrev S16640x8192 : Shape := ⟨2, ![16640, 8192]⟩
abbrev S16384x1024 : Shape := ⟨2, ![16384, 1024]⟩
abbrev S1x1024 : Shape := ⟨2, ![1, 1024]⟩
abbrev S4x128x128 : Shape := ⟨3, ![4, 128, 128]⟩
abbrev S128x128 : Shape := ⟨2, ![128, 128]⟩
abbrev S1024x1024 : Shape := ⟨2, ![1024, 1024]⟩
abbrev S16384x4x256 : Shape := ⟨3, ![16384, 4, 256]⟩
abbrev S_ : Shape := ⟨0, ![]⟩
abbrev S16384x4 : Shape := ⟨2, ![16384, 4]⟩
abbrev S16384x4x1 : Shape := ⟨3, ![16384, 4, 1]⟩
abbrev S4x256 : Shape := ⟨2, ![4, 256]⟩
abbrev S1x4x256 : Shape := ⟨3, ![1, 4, 256]⟩
abbrev S16384 : Shape := ⟨1, ![16384]⟩
abbrev S16384x1 : Shape := ⟨2, ![16384, 1]⟩
abbrev S128x128x4x256 : Shape := ⟨4, ![128, 128, 4, 256]⟩
abbrev S4x128x256x128 : Shape := ⟨4, ![4, 128, 256, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 159
  | .vmem => 0
  | .smem => 0
  | _ => 0

abbrev hbmTy0_0 (i : Nat) : BufTy := match i % 128 with
  | 0 => ⟨S16640x1024, .bf16⟩
  | 1 => ⟨S16640x1024, .bf16⟩
  | 2 => ⟨S16640x8192, .bf16⟩
  | 3 => ⟨S16384x1024, .f32⟩
  | 4 => ⟨S1x1024, .f32⟩
  | 5 => ⟨S1x1024, .f32⟩
  | 6 => ⟨S1x1024, .f32⟩
  | 7 => ⟨S4x128x128, .f32⟩
  | 8 => ⟨S128x128, .f32⟩
  | 9 => ⟨S1024x1024, .bf16⟩
  | 10 => ⟨S1024x1024, .bf16⟩
  | 11 => ⟨S1024x1024, .bf16⟩
  | 12 => ⟨S1x1024, .f32⟩
  | 13 => ⟨S16384x1024, .bf16⟩
  | 14 => ⟨S16384x1024, .f32⟩
  | 15 => ⟨S16384x1024, .bf16⟩
  | 16 => ⟨S16384x1024, .f32⟩
  | 17 => ⟨S16384x1024, .bf16⟩
  | 18 => ⟨S16384x1024, .f32⟩
  | 19 => ⟨S16384x1024, .bf16⟩
  | 20 => ⟨S16384x1024, .f32⟩
  | 21 => ⟨S16384x1024, .bf16⟩
  | 22 => ⟨S16384x1024, .f32⟩
  | 23 => ⟨S16384x1024, .bf16⟩
  | 24 => ⟨S16384x1024, .f32⟩
  | 25 => ⟨S16384x1024, .bf16⟩
  | 26 => ⟨S16384x1024, .f32⟩
  | 27 => ⟨S16384x1024, .f32⟩
  | 28 => ⟨S16384x4x256, .f32⟩
  | 29 => ⟨S16384x4x256, .f32⟩
  | 30 => ⟨S_, .f32⟩
  | 31 => ⟨S16384x4, .f32⟩
  | 32 => ⟨S16384x4x1, .f32⟩
  | 33 => ⟨S_, .f32⟩
  | 34 => ⟨S16384x4x1, .f32⟩
  | 35 => ⟨S16384x4x1, .f32⟩
  | 36 => ⟨S_, .f32⟩
  | 37 => ⟨S16384x4x1, .f32⟩
  | 38 => ⟨S16384x4x1, .f32⟩
  | 39 => ⟨S16384x4x1, .f32⟩
  | 40 => ⟨S16384x4x256, .f32⟩
  | 41 => ⟨S16384x4x256, .f32⟩
  | 42 => ⟨S4x256, .f32⟩
  | 43 => ⟨S1x4x256, .f32⟩
  | 44 => ⟨S16384x4x256, .f32⟩
  | 45 => ⟨S16384x4x256, .f32⟩
  | 46 => ⟨S16384x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S16384x1024, .f32⟩
  | 66 => ⟨S_, .f32⟩
  | 67 => ⟨S16384x1024, .f32⟩
  | 68 => ⟨S16384x1024, .f32⟩
  | 69 => ⟨S_, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S_, .f32⟩
  | 76 => ⟨S16384x1024, .f32⟩
  | 77 => ⟨S16384x1024, .f32⟩
  | 78 => ⟨S16384x1024, .f32⟩
  | 79 => ⟨S_, .f32⟩
  | 80 => ⟨S16384x1024, .f32⟩
  | 81 => ⟨S16384x1024, .f32⟩
  | 82 => ⟨S16384x1024, .f32⟩
  | 83 => ⟨S_, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S16384x1024, .f32⟩
  | 90 => ⟨S_, .f32⟩
  | 91 => ⟨S16384, .f32⟩
  | 92 => ⟨S16384x1, .f32⟩
  | 93 => ⟨S_, .f32⟩
  | 94 => ⟨S16384x1, .f32⟩
  | 95 => ⟨S16384x1, .f32⟩
  | 96 => ⟨S16384x1024, .f32⟩
  | 97 => ⟨S16384x1024, .f32⟩
  | 98 => ⟨S16384x1024, .f32⟩
  | 99 => ⟨S_, .f32⟩
  | 100 => ⟨S16384, .f32⟩
  | 101 => ⟨S16384x1, .f32⟩
  | 102 => ⟨S_, .f32⟩
  | 103 => ⟨S16384x1, .f32⟩
  | 104 => ⟨S16384x1, .f32⟩
  | 105 => ⟨S_, .f32⟩
  | 106 => ⟨S16384x1, .f32⟩
  | 107 => ⟨S16384x1, .f32⟩
  | 108 => ⟨S16384x1, .f32⟩
  | 109 => ⟨S16384x1024, .f32⟩
  | 110 => ⟨S16384x1024, .f32⟩
  | 111 => ⟨S16384x1024, .f32⟩
  | 112 => ⟨S16384x1024, .f32⟩
  | 113 => ⟨S16384x1024, .f32⟩
  | 114 => ⟨S16384x1024, .f32⟩
  | 115 => ⟨S128x128x4x256, .f32⟩
  | 116 => ⟨S4x128x256x128, .f32⟩
  | 117 => ⟨S128x128x4x256, .f32⟩
  | 118 => ⟨S128x4, .f32⟩
  | 119 => ⟨S128x4x1, .f32⟩
  | 120 => ⟨S1x128x4x1, .f32⟩
  | 121 => ⟨S128x128x4x256, .f32⟩
  | 122 => ⟨S128x128x4x256, .f32⟩
  | 123 => ⟨S16384x1024, .f32⟩
  | 124 => ⟨S16384x1024, .f32⟩
  | 125 => ⟨S1024x1024, .f32⟩
  | 126 => ⟨S16384x1024, .f32⟩
  | 127 => ⟨S1024x1024, .f32⟩
  | _ => ⟨S16640x1024, .bf16⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S16384x1024, .f32⟩
  | 5 => ⟨S16384x1024, .f32⟩
  | 6 => ⟨S_, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S_, .f32⟩
  | 13 => ⟨S16384x1024, .f32⟩
  | 14 => ⟨S16384x1024, .f32⟩
  | 15 => ⟨S_, .f32⟩
  | 16 => ⟨S16384x1024, .f32⟩
  | 17 => ⟨S16384x1024, .f32⟩
  | 18 => ⟨S16384x1024, .f32⟩
  | 19 => ⟨S16384x1024, .f32⟩
  | 20 => ⟨S1024x1024, .f32⟩
  | 21 => ⟨S16384x1024, .f32⟩
  | 22 => ⟨S16384x1024, .f32⟩
  | 23 => ⟨S16384x1024, .f32⟩
  | 24 => ⟨S16384x1024, .f32⟩
  | 25 => ⟨S16384x1024, .bf16⟩
  | 26 => ⟨S16384x1024, .bf16⟩
  | 27 => ⟨S16384x1024, .bf16⟩
  | 28 => ⟨S16384x1024, .bf16⟩
  | 29 => ⟨S16384x1024, .bf16⟩
  | 30 => ⟨S16384x1024, .bf16⟩
  | _ => ⟨S16640x1024, .bf16⟩

abbrev hbmTy (i : Nat) : BufTy := match i / 128 with
  | 0 => hbmTy0_0 i
  | 1 => hbmTy0_1 i
  | _ => ⟨S16640x1024, .bf16⟩

abbrev bufTy : (tb : Table) → Fin (tcTables nBuf tb) → BufTy
  | .hbm, ⟨i, _⟩ => hbmTy i
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_17 : Ref sig .tc := ⟨.hbm, 131, rfl⟩
abbrev main_v100 : Ref sig .tc := ⟨.hbm, 132, rfl⟩
abbrev main_v101 : Ref sig .tc := ⟨.hbm, 133, rfl⟩
abbrev main_cst_18 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_19 : Ref sig .tc := ⟨.hbm, 140, rfl⟩
abbrev main_v107 : Ref sig .tc := ⟨.hbm, 141, rfl⟩
abbrev main_v108 : Ref sig .tc := ⟨.hbm, 142, rfl⟩
abbrev main_cst_20 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩

abbrev nD : Nat := 1
abbrev τ : Topo := Topo.v7x

variable {F : FTy → Type} [FloatOps F]
-- ==== UpProj.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S8x1024 : Shape := ⟨2, ![8, 1024]⟩
abbrev S512x2816 : Shape := ⟨2, ![512, 2816]⟩
abbrev S1024x2816 : Shape := ⟨2, ![1024, 2816]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S5x1024 : Shape := ⟨2, ![5, 1024]⟩

abbrev nBuf : Space → Nat
  | .hbm => 9
  | .vmem => 16
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S512x2816, .bf16⟩
  | .local _ .vmem, ⟨4, _⟩ => ⟨S512x2816, .bf16⟩
  | .local _ .vmem, ⟨5, _⟩ => ⟨S1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x1024, .f32⟩
  | .local _ .vmem, ⟨15, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨2, ![32, 2], ![false, false]⟩

def k0_cond5 (i : grid0.Coords) : BitVec 1 :=
  let arg1 : BitVec 32 := BitVec.ofNat 32 (i 1).val
  let c1_i32_8 : BitVec 32 := 1#32
  let v18 : BitVec 1 := Scalar.cmpi .eq arg1 c1_i32_8
  let v19 : BitVec 32 := Scalar.extui v18
  let c0_i32_9 : BitVec 32 := 0#32
  let v20 : BitVec 1 := Scalar.cmpi .ne v19 c0_i32_9
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.subi arg1 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  ![v0.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let c0_i32_4 : BitVec 32 := 0#32
  ![c0_i32_3.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.subi arg1 c1_i32
  let c0_i32_0 : BitVec 32 := 0#32
  let c0_i32_1 : BitVec 32 := 0#32
  let v2 : BitVec 32 := Scalar.maxsi c0_i32_0 v1
  let v3 : BitVec 32 := Scalar.minsi c0_i32_1 v2
  let c0_i32_2 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c1_i32_1 : BitVec 32 := 1#32
  let v3 : BitVec 32 := Scalar.addi c1_i32_1 v2
  let c0_i32_2 : BitVec 32 := 0#32
  let c0_i32_3 : BitVec 32 := 0#32
  ![c0_i32_2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== UpProjRefIdeal.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S1024 : Shape := ⟨1, ![1024]⟩
abbrev S5x1024 : Shape := ⟨2, ![5, 1024]⟩
abbrev S8x1024 : Shape := ⟨2, ![8, 1024]⟩

abbrev nBuf : Space → Nat
  | .hbm => 82
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S16384x1024, .f32⟩
  | .hbm, ⟨7, _⟩ => ⟨S_, .f32⟩
  | .hbm, ⟨8, _⟩ => ⟨S1x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S1024x2816, .bf16⟩
  | .hbm, ⟨36, _⟩ => ⟨S1024x2816, .f32⟩
  | .hbm, ⟨37, _⟩ => ⟨S16384x2816, .f32⟩
  | .hbm, ⟨38, _⟩ => ⟨S1024x2816, .bf16⟩
  | .hbm, ⟨39, _⟩ => ⟨S1024x2816, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S5x1024, .f32⟩
  | .hbm, ⟨81, _⟩ => ⟨S8x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== WDown.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WDownRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WUp.lean ====
abbrev S16384x1024 : Shape := ⟨2, ![16384, 1024]⟩
abbrev S16384x2816 : Shape := ⟨2, ![16384, 2816]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S1024x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WUpRefIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WBranch.lean ====
abbrev S16384x1024 : Shape := ⟨2, ![16384, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WBranchRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WQkv.lean ====
abbrev S16640x1024 : Shape := ⟨2, ![16640, 1024]⟩
abbrev S16640x3072 : Shape := ⟨2, ![16640, 3072]⟩
abbrev S1024x3072 : Shape := ⟨2, ![1024, 3072]⟩
abbrev S1280x1024 : Shape := ⟨2, ![1280, 1024]⟩
abbrev S1280x3072 : Shape := ⟨2, ![1280, 3072]⟩

abbrev nBuf : Space → Nat
  | .hbm => 3
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S16640x3072, .bf16⟩
  | .hbm, ⟨2, _⟩ => ⟨S1024x3072, .bf16⟩
  | .local _ .vmem, ⟨0, _⟩ => ⟨S1280x1024, .bf16⟩
  | .local _ .vmem, ⟨1, _⟩ => ⟨S1280x1024, .bf16⟩
  | .local _ .vmem, ⟨2, _⟩ => ⟨S1280x3072, .bf16⟩
  | .local _ .vmem, ⟨3, _⟩ => ⟨S1280x3072, .bf16⟩
  | .local _ .vmem, ⟨4, _⟩ => ⟨S1024x3072, .bf16⟩
  | .local _ .vmem, ⟨5, _⟩ => ⟨S1024x3072, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def k0_cond2 (i : grid0.Coords) : BitVec 1 :=
  let arg2 : BitVec 32 := BitVec.ofNat 32 (i 2).val
  let c12_i32 : BitVec 32 := 12#32
  let v11 : BitVec 1 := Scalar.cmpi .eq arg2 c12_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WQkvRefIdeal.lean ====
abbrev S16640x1024 : Shape := ⟨2, ![16640, 1024]⟩
abbrev S16640x3072 : Shape := ⟨2, ![16640, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x3072, .bf16⟩
  | .hbm, ⟨2, _⟩ => ⟨S_, .f32⟩
  | .hbm, ⟨3, _⟩ => ⟨S1024x3072, .f32⟩
  | .hbm, ⟨4, _⟩ => ⟨S16640x1024, .f32⟩
  | .hbm, ⟨5, _⟩ => ⟨S16640x3072, .f32⟩
  | .hbm, ⟨6, _⟩ => ⟨S16640x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WRest.lean ====
abbrev S16640x1024 : Shape := ⟨2, ![16640, 1024]⟩
abbrev S16384x5120 : Shape := ⟨2, ![16384, 5120]⟩
abbrev S1024x5120 : Shape := ⟨2, ![1024, 5120]⟩
abbrev S1024x1024 : Shape := ⟨2, ![1024, 1024]⟩
abbrev S1024x2560 : Shape := ⟨2, ![1024, 2560]⟩

abbrev nBuf : Space → Nat
  | .hbm => 3
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S16384x5120, .bf16⟩
  | .hbm, ⟨2, _⟩ => ⟨S1024x5120, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1024x2560, .bf16⟩
  | .local _ .vmem, ⟨5, _⟩ => ⟨S1024x2560, .bf16⟩
  | .local _ .vmem, ⟨6, _⟩ => ⟨S1024x2560, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WRestRefIdeal.lean ====
abbrev S16640x1024 : Shape := ⟨2, ![16640, 1024]⟩
abbrev S16384x5120 : Shape := ⟨2, ![16384, 5120]⟩
abbrev S_ : Shape := ⟨0, ![]⟩
abbrev S1024x5120 : Shape := ⟨2, ![1024, 5120]⟩
abbrev S16384x1024 : Shape := ⟨2, ![16384, 1024]⟩
abbrev S5120x1024 : Shape := ⟨2, ![5120, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16384x5120, .bf16⟩
  | .hbm, ⟨2, _⟩ => ⟨S_, .f32⟩
  | .hbm, ⟨3, _⟩ => ⟨S1024x5120, .f32⟩
  | .hbm, ⟨4, _⟩ => ⟨S16384x1024, .bf16⟩
  | .hbm, ⟨5, _⟩ => ⟨S16384x1024, .f32⟩
  | .hbm, ⟨6, _⟩ => ⟨S16384x5120, .f32⟩
  | .hbm, ⟨7, _⟩ => ⟨S16384x5120, .f32⟩
  | .hbm, ⟨8, _⟩ => ⟨S5120x1024, .f32⟩
  | .hbm, ⟨9, _⟩ => ⟨S1024x5120, .f32⟩
  | .hbm, ⟨10, _⟩ => ⟨S1024x5120, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WInGate.lean ====
abbrev S16640x1024 : Shape := ⟨2, ![16640, 1024]⟩
abbrev S16640x128 : Shape := ⟨2, ![16640, 128]⟩
abbrev S1024x128 : Shape := ⟨2, ![1024, 128]⟩
abbrev S1280x1024 : Shape := ⟨2, ![1280, 1024]⟩
abbrev S1280x128 : Shape := ⟨2, ![1280, 128]⟩

abbrev nBuf : Space → Nat
  | .hbm => 3
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S16640x128, .bf16⟩
  | .hbm, ⟨2, _⟩ => ⟨S1024x128, .bf16⟩
  | .local _ .vmem, ⟨0, _⟩ => ⟨S1280x1024, .bf16⟩
  | .local _ .vmem, ⟨1, _⟩ => ⟨S1280x1024, .bf16⟩
  | .local _ .vmem, ⟨2, _⟩ => ⟨S1280x128, .bf16⟩
  | .local _ .vmem, ⟨3, _⟩ => ⟨S1280x128, .bf16⟩
  | .local _ .vmem, ⟨4, _⟩ => ⟨S1024x128, .bf16⟩
  | .local _ .vmem, ⟨5, _⟩ => ⟨S1024x128, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 13], ![false, false, false]⟩

def k0_cond2 (i : grid0.Coords) : BitVec 1 :=
  let arg2 : BitVec 32 := BitVec.ofNat 32 (i 2).val
  let c12_i32 : BitVec 32 := 12#32
  let v11 : BitVec 1 := Scalar.cmpi .eq arg2 c12_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WInGateRefIdeal.lean ====
abbrev S16640x1024 : Shape := ⟨2, ![16640, 1024]⟩
abbrev S16640x128 : Shape := ⟨2, ![16640, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x128, .bf16⟩
  | .hbm, ⟨2, _⟩ => ⟨S_, .f32⟩
  | .hbm, ⟨3, _⟩ => ⟨S1024x128, .f32⟩
  | .hbm, ⟨4, _⟩ => ⟨S16640x1024, .f32⟩
  | .hbm, ⟨5, _⟩ => ⟨S16640x128, .f32⟩
  | .hbm, ⟨6, _⟩ => ⟨S16640x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamUp.lean ====
abbrev S1x1024x704 : Shape := ⟨3, ![1, 1024, 704]⟩
abbrev S8x1024x704 : Shape := ⟨3, ![8, 1024, 704]⟩
abbrev S8x128 : Shape := ⟨2, ![8, 128]⟩
abbrev S1x128x704 : Shape := ⟨3, ![1, 128, 704]⟩
abbrev S8x128x704 : Shape := ⟨3, ![8, 128, 704]⟩
abbrev S128x704 : Shape := ⟨2, ![128, 704]⟩

abbrev nBuf : Space → Nat
  | .hbm => 9
  | .vmem => 17
  | .smem => 0
  | _ => 0

abbrev bufTy : (tb : Table) → Fin (tcTables nBuf tb) → BufTy
  | .hbm, ⟨0, _⟩ => ⟨S1x1024x704, .f32⟩
  | .hbm, ⟨1, _⟩ => ⟨S8x1024x704, .bf16⟩
  | .hbm, ⟨2, _⟩ => ⟨S1x1024x704, .f32⟩
  | .hbm, ⟨3, _⟩ => ⟨S1x1024x704, .f32⟩
  | .hbm, ⟨4, _⟩ => ⟨S8x128, .f32⟩
  | .hbm, ⟨5, _⟩ => ⟨S1x1024x704, .f32⟩
  | .hbm, ⟨6, _⟩ => ⟨S1x1024x704, .f32⟩
  | .hbm, ⟨7, _⟩ => ⟨S1x1024x704, .f32⟩
  | .hbm, ⟨8, _⟩ => ⟨S1x1024x704, .f32⟩
  | .local _ .vmem, ⟨0, _⟩ => ⟨S1x128x704, .f32⟩
  | .local _ .vmem, ⟨1, _⟩ => ⟨S1x128x704, .f32⟩
  | .local _ .vmem, ⟨2, _⟩ => ⟨S8x128x704, .bf16⟩
  | .local _ .vmem, ⟨3, _⟩ => ⟨S8x128x704, .bf16⟩
  | .local _ .vmem, ⟨4, _⟩ => ⟨S1x128x704, .f32⟩
  | .local _ .vmem, ⟨5, _⟩ => ⟨S1x128x704, .f32⟩
  | .local _ .vmem, ⟨6, _⟩ => ⟨S1x128x704, .f32⟩
  | .local _ .vmem, ⟨7, _⟩ => ⟨S1x128x704, .f32⟩
  | .local _ .vmem, ⟨8, _⟩ => ⟨S8x128, .f32⟩
  | .local _ .vmem, ⟨9, _⟩ => ⟨S1x128x704, .f32⟩
  | .local _ .vmem, ⟨10, _⟩ => ⟨S1x128x704, .f32⟩
  | .local _ .vmem, ⟨11, _⟩ => ⟨S1x128x704, .f32⟩
  | .local _ .vmem, ⟨12, _⟩ => ⟨S1x128x704, .f32⟩
  | .local _ .vmem, ⟨13, _⟩ => ⟨S1x128x704, .f32⟩
  | .local _ .vmem, ⟨14, _⟩ => ⟨S1x128x704, .f32⟩
  | .local _ .vmem, ⟨15, _⟩ => ⟨S1x128x704, .f32⟩
  | .local _ .vmem, ⟨16, _⟩ => ⟨S1x128x704, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S1x1024x704 : Shape := ⟨3, ![1, 1024, 704]⟩
abbrev S8x1024x704 : Shape := ⟨3, ![8, 1024, 704]⟩
abbrev S8x128 : Shape := ⟨2, ![8, 128]⟩
abbrev S_ : Shape := ⟨0, ![]⟩
abbrev S1024x704 : Shape := ⟨2, ![1024, 704]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S8x1024x704, .bf16⟩
  | .hbm, ⟨2, _⟩ => ⟨S1x1024x704, .f32⟩
  | .hbm, ⟨3, _⟩ => ⟨S1x1024x704, .f32⟩
  | .hbm, ⟨4, _⟩ => ⟨S8x128, .f32⟩
  | .hbm, ⟨5, _⟩ => ⟨S8x1024x704, .f32⟩
  | .hbm, ⟨6, _⟩ => ⟨S_, .f32⟩
  | .hbm, ⟨7, _⟩ => ⟨S1024x704, .f32⟩
  | .hbm, ⟨8, _⟩ => ⟨S1x1024x704, .f32⟩
  | .hbm, ⟨9, _⟩ => ⟨S_, .f32⟩
  | .hbm, ⟨10, _⟩ => ⟨S1x1024x704, .f32⟩
  | .hbm, ⟨11, _⟩ => ⟨S1x1024x704, .f32⟩
  | .hbm, ⟨12, _⟩ => ⟨S_, .f32⟩
  | .hbm, ⟨13, _⟩ => ⟨S1x1024x704, .f32⟩
  | .hbm, ⟨14, _⟩ => ⟨S1x1024x704, .f32⟩
  | .hbm, ⟨15, _⟩ => ⟨S1x1024x704, .f32⟩
  | .hbm, ⟨16, _⟩ => ⟨S_, .f32⟩
  | .hbm, ⟨17, _⟩ => ⟨S1x1024x704, .f32⟩
  | .hbm, ⟨18, _⟩ => ⟨S1x1024x704, .f32⟩
  | .hbm, ⟨19, _⟩ => ⟨S1x1024x704, .f32⟩
  | .hbm, ⟨20, _⟩ => ⟨S_, .f32⟩
  | .hbm, ⟨21, _⟩ => ⟨S1x1024x704, .f32⟩
  | .hbm, ⟨22, _⟩ => ⟨S1x1024x704, .f32⟩
  | .hbm, ⟨23, _⟩ => ⟨S1x1024x704, .f32⟩
  | .hbm, ⟨24, _⟩ => ⟨S_, .f32⟩
  | .hbm, ⟨25, _⟩ => ⟨S1x1024x704, .f32⟩
  | .hbm, ⟨26, _⟩ => ⟨S1x1024x704, .f32⟩
  | .hbm, ⟨27, _⟩ => ⟨S_, .f32⟩
  | .hbm, ⟨28, _⟩ => ⟨S1x1024x704, .f32⟩
  | .hbm, ⟨29, _⟩ => ⟨S1x1024x704, .f32⟩
  | .hbm, ⟨30, _⟩ => ⟨S1x1024x704, .f32⟩
  | .hbm, ⟨31, _⟩ => ⟨S_, .f32⟩
  | .hbm, ⟨32, _⟩ => ⟨S1x1024x704, .f32⟩
  | .hbm, ⟨33, _⟩ => ⟨S1x1024x704, .f32⟩
  | .hbm, ⟨34, _⟩ => ⟨S1x1024x704, .f32⟩
  | .hbm, ⟨35, _⟩ => ⟨S_, .f32⟩
  | .hbm, ⟨36, _⟩ => ⟨S1x1024x704, .f32⟩
  | .hbm, ⟨37, _⟩ => ⟨S1x1024x704, .f32⟩
  | .hbm, ⟨38, _⟩ => ⟨S1x1024x704, .f32⟩
  | .hbm, ⟨39, _⟩ => ⟨S_, .f32⟩
  | .hbm, ⟨40, _⟩ => ⟨S1x1024x704, .f32⟩
  | .hbm, ⟨41, _⟩ => ⟨S1x1024x704, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamSquare.lean ====
abbrev S1x128x1024 : Shape := ⟨3, ![1, 128, 1024]⟩
abbrev S8x128x1024 : Shape := ⟨3, ![8, 128, 1024]⟩
abbrev S8x128 : Shape := ⟨2, ![8, 128]⟩
abbrev S128x1024 : Shape := ⟨2, ![128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S8x128, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S1x128x1024, .f32⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S8x128, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamSquareRefIdeal.lean ====
abbrev S1x128x1024 : Shape := ⟨3, ![1, 128, 1024]⟩
abbrev S8x128x1024 : Shape := ⟨3, ![8, 128, 1024]⟩
abbrev S8x128 : Shape := ⟨2, ![8, 128]⟩
abbrev S_ : Shape := ⟨0, ![]⟩
abbrev S128x1024 : Shape := ⟨2, ![128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S8x128x1024, .bf16⟩
  | .hbm, ⟨2, _⟩ => ⟨S1x128x1024, .f32⟩
  | .hbm, ⟨3, _⟩ => ⟨S1x128x1024, .f32⟩
  | .hbm, ⟨4, _⟩ => ⟨S8x128, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S1x128x1024, .f32⟩
  | .hbm, ⟨9, _⟩ => ⟨S_, .f32⟩
  | .hbm, ⟨10, _⟩ => ⟨S1x128x1024, .f32⟩
  | .hbm, ⟨11, _⟩ => ⟨S1x128x1024, .f32⟩
  | .hbm, ⟨12, _⟩ => ⟨S_, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S_, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S_, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .hbm, ⟨24, _⟩ => ⟨S_, .f32⟩
  | .hbm, ⟨25, _⟩ => ⟨S1x128x1024, .f32⟩
  | .hbm, ⟨26, _⟩ => ⟨S1x128x1024, .f32⟩
  | .hbm, ⟨27, _⟩ => ⟨S_, .f32⟩
  | .hbm, ⟨28, _⟩ => ⟨S1x128x1024, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | .hbm, ⟨38, _⟩ => ⟨S1x128x1024, .f32⟩
  | .hbm, ⟨39, _⟩ => ⟨S_, .f32⟩
  | .hbm, ⟨40, _⟩ => ⟨S1x128x1024, .f32⟩
  | .hbm, ⟨41, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamDown.lean ====
abbrev S1x352x1024 : Shape := ⟨3, ![1, 352, 1024]⟩
abbrev S8x352x1024 : Shape := ⟨3, ![8, 352, 1024]⟩
abbrev S8x128 : Shape := ⟨2, ![8, 128]⟩
abbrev S1x32x1024 : Shape := ⟨3, ![1, 32, 1024]⟩
abbrev S8x32x1024 : Shape := ⟨3, ![8, 32, 1024]⟩
abbrev S32x1024 : Shape := ⟨2, ![32, 1024]⟩

abbrev nBuf : Space → Nat
  | .hbm => 9
  | .vmem => 17
  | .smem => 0
  | _ => 0

abbrev bufTy : (tb : Table) → Fin (tcTables nBuf tb) → BufTy
  | .hbm, ⟨0, _⟩ => ⟨S1x352x1024, .f32⟩
  | .hbm, ⟨1, _⟩ => ⟨S8x352x1024, .bf16⟩
  | .hbm, ⟨2, _⟩ => ⟨S1x352x1024, .f32⟩
  | .hbm, ⟨3, _⟩ => ⟨S1x352x1024, .f32⟩
  | .hbm, ⟨4, _⟩ => ⟨S8x128, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .hbm, ⟨8, _⟩ => ⟨S1x352x1024, .f32⟩
  | .local _ .vmem, ⟨0, _⟩ => ⟨S1x32x1024, .f32⟩
  | .local _ .vmem, ⟨1, _⟩ => ⟨S1x32x1024, .f32⟩
  | .local _ .vmem, ⟨2, _⟩ => ⟨S8x32x1024, .bf16⟩
  | .local _ .vmem, ⟨3, _⟩ => ⟨S8x32x1024, .bf16⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S8x128, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownRefIdeal.lean ====
abbrev S1x352x1024 : Shape := ⟨3, ![1, 352, 1024]⟩
abbrev S8x352x1024 : Shape := ⟨3, ![8, 352, 1024]⟩
abbrev S8x128 : Shape := ⟨2, ![8, 128]⟩
abbrev S_ : Shape := ⟨0, ![]⟩
abbrev S352x1024 : Shape := ⟨2, ![352, 1024]⟩

abbrev nBuf : Space → Nat
  | .hbm => 42
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S8x352x1024, .bf16⟩
  | .hbm, ⟨2, _⟩ => ⟨S1x352x1024, .f32⟩
  | .hbm, ⟨3, _⟩ => ⟨S1x352x1024, .f32⟩
  | .hbm, ⟨4, _⟩ => ⟨S8x128, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S1x352x1024, .f32⟩
  | .hbm, ⟨9, _⟩ => ⟨S_, .f32⟩
  | .hbm, ⟨10, _⟩ => ⟨S1x352x1024, .f32⟩
  | .hbm, ⟨11, _⟩ => ⟨S1x352x1024, .f32⟩
  | .hbm, ⟨12, _⟩ => ⟨S_, .f32⟩
  | .hbm, ⟨13, _⟩ => ⟨S1x352x1024, .f32⟩
  | .hbm, ⟨14, _⟩ => ⟨S1x352x1024, .f32⟩
  | .hbm, ⟨15, _⟩ => ⟨S1x352x1024, .f32⟩
  | .hbm, ⟨16, _⟩ => ⟨S_, .f32⟩
  | .hbm, ⟨17, _⟩ => ⟨S1x352x1024, .f32⟩
  | .hbm, ⟨18, _⟩ => ⟨S1x352x1024, .f32⟩
  | .hbm, ⟨19, _⟩ => ⟨S1x352x1024, .f32⟩
  | .hbm, ⟨20, _⟩ => ⟨S_, .f32⟩
  | .hbm, ⟨21, _⟩ => ⟨S1x352x1024, .f32⟩
  | .hbm, ⟨22, _⟩ => ⟨S1x352x1024, .f32⟩
  | .hbm, ⟨23, _⟩ => ⟨S1x352x1024, .f32⟩
  | .hbm, ⟨24, _⟩ => ⟨S_, .f32⟩
  | .hbm, ⟨25, _⟩ => ⟨S1x352x1024, .f32⟩
  | .hbm, ⟨26, _⟩ => ⟨S1x352x1024, .f32⟩
  | .hbm, ⟨27, _⟩ => ⟨S_, .f32⟩
  | .hbm, ⟨28, _⟩ => ⟨S1x352x1024, .f32⟩
  | .hbm, ⟨29, _⟩ => ⟨S1x352x1024, .f32⟩
  | .hbm, ⟨30, _⟩ => ⟨S1x352x1024, .f32⟩
  | .hbm, ⟨31, _⟩ => ⟨S_, .f32⟩
  | .hbm, ⟨32, _⟩ => ⟨S1x352x1024, .f32⟩
  | .hbm, ⟨33, _⟩ => ⟨S1x352x1024, .f32⟩
  | .hbm, ⟨34, _⟩ => ⟨S1x352x1024, .f32⟩
  | .hbm, ⟨35, _⟩ => ⟨S_, .f32⟩
  | .hbm, ⟨36, _⟩ => ⟨S1x352x1024, .f32⟩
  | .hbm, ⟨37, _⟩ => ⟨S1x352x1024, .f32⟩
  | .hbm, ⟨38, _⟩ => ⟨S1x352x1024, .f32⟩
  | .hbm, ⟨39, _⟩ => ⟨S_, .f32⟩
  | .hbm, ⟨40, _⟩ => ⟨S1x352x1024, .f32⟩
  | .hbm, ⟨41, _⟩ => ⟨S1x352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamIn.lean ====
abbrev S1x1024x1026 : Shape := ⟨3, ![1, 1024, 1026]⟩
abbrev S8x1024x1026 : Shape := ⟨3, ![8, 1024, 1026]⟩
abbrev S8x128 : Shape := ⟨2, ![8, 128]⟩
abbrev S1x128x1026 : Shape := ⟨3, ![1, 128, 1026]⟩
abbrev S8x128x1026 : Shape := ⟨3, ![8, 128, 1026]⟩
abbrev S128x1026 : Shape := ⟨2, ![128, 1026]⟩

abbrev nBuf : Space → Nat
  | .hbm => 9
  | .vmem => 17
  | .smem => 0
  | _ => 0

abbrev bufTy : (tb : Table) → Fin (tcTables nBuf tb) → BufTy
  | .hbm, ⟨0, _⟩ => ⟨S1x1024x1026, .f32⟩
  | .hbm, ⟨1, _⟩ => ⟨S8x1024x1026, .bf16⟩
  | .hbm, ⟨2, _⟩ => ⟨S1x1024x1026, .f32⟩
  | .hbm, ⟨3, _⟩ => ⟨S1x1024x1026, .f32⟩
  | .hbm, ⟨4, _⟩ => ⟨S8x128, .f32⟩
  | .hbm, ⟨5, _⟩ => ⟨S1x1024x1026, .f32⟩
  | .hbm, ⟨6, _⟩ => ⟨S1x1024x1026, .f32⟩
  | .hbm, ⟨7, _⟩ => ⟨S1x1024x1026, .f32⟩
  | .hbm, ⟨8, _⟩ => ⟨S1x1024x1026, .f32⟩
  | .local _ .vmem, ⟨0, _⟩ => ⟨S1x128x1026, .f32⟩
  | .local _ .vmem, ⟨1, _⟩ => ⟨S1x128x1026, .f32⟩
  | .local _ .vmem, ⟨2, _⟩ => ⟨S8x128x1026, .bf16⟩
  | .local _ .vmem, ⟨3, _⟩ => ⟨S8x128x1026, .bf16⟩
  | .local _ .vmem, ⟨4, _⟩ => ⟨S1x128x1026, .f32⟩
  | .local _ .vmem, ⟨5, _⟩ => ⟨S1x128x1026, .f32⟩
  | .local _ .vmem, ⟨6, _⟩ => ⟨S1x128x1026, .f32⟩
  | .local _ .vmem, ⟨7, _⟩ => ⟨S1x128x1026, .f32⟩
  | .local _ .vmem, ⟨8, _⟩ => ⟨S8x128, .f32⟩
  | .local _ .vmem, ⟨9, _⟩ => ⟨S1x128x1026, .f32⟩
  | .local _ .vmem, ⟨10, _⟩ => ⟨S1x128x1026, .f32⟩
  | .local _ .vmem, ⟨11, _⟩ => ⟨S1x128x1026, .f32⟩
  | .local _ .vmem, ⟨12, _⟩ => ⟨S1x128x1026, .f32⟩
  | .local _ .vmem, ⟨13, _⟩ => ⟨S1x128x1026, .f32⟩
  | .local _ .vmem, ⟨14, _⟩ => ⟨S1x128x1026, .f32⟩
  | .local _ .vmem, ⟨15, _⟩ => ⟨S1x128x1026, .f32⟩
  | .local _ .vmem, ⟨16, _⟩ => ⟨S1x128x1026, .f32⟩
  | _, _ => ⟨S1x1024x1026, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1026 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1026 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1026 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1026 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x1026 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1026 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1026 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1026 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1x1024x1026 : Shape := ⟨3, ![1, 1024, 1026]⟩
abbrev S8x1024x1026 : Shape := ⟨3, ![8, 1024, 1026]⟩
abbrev S8x128 : Shape := ⟨2, ![8, 128]⟩
abbrev S_ : Shape := ⟨0, ![]⟩
abbrev S1024x1026 : Shape := ⟨2, ![1024, 1026]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x1026, .f32⟩
  | .hbm, ⟨1, _⟩ => ⟨S8x1024x1026, .bf16⟩
  | .hbm, ⟨2, _⟩ => ⟨S1x1024x1026, .f32⟩
  | .hbm, ⟨3, _⟩ => ⟨S1x1024x1026, .f32⟩
  | .hbm, ⟨4, _⟩ => ⟨S8x128, .f32⟩
  | .hbm, ⟨5, _⟩ => ⟨S8x1024x1026, .f32⟩
  | .hbm, ⟨6, _⟩ => ⟨S_, .f32⟩
  | .hbm, ⟨7, _⟩ => ⟨S1024x1026, .f32⟩
  | .hbm, ⟨8, _⟩ => ⟨S1x1024x1026, .f32⟩
  | .hbm, ⟨9, _⟩ => ⟨S_, .f32⟩
  | .hbm, ⟨10, _⟩ => ⟨S1x1024x1026, .f32⟩
  | .hbm, ⟨11, _⟩ => ⟨S1x1024x1026, .f32⟩
  | .hbm, ⟨12, _⟩ => ⟨S_, .f32⟩
  | .hbm, ⟨13, _⟩ => ⟨S1x1024x1026, .f32⟩
  | .hbm, ⟨14, _⟩ => ⟨S1x1024x1026, .f32⟩
  | .hbm, ⟨15, _⟩ => ⟨S1x1024x1026, .f32⟩
  | .hbm, ⟨16, _⟩ => ⟨S_, .f32⟩
  | .hbm, ⟨17, _⟩ => ⟨S1x1024x1026, .f32⟩
  | .hbm, ⟨18, _⟩ => ⟨S1x1024x1026, .f32⟩
  | .hbm, ⟨19, _⟩ => ⟨S1x1024x1026, .f32⟩
  | .hbm, ⟨20, _⟩ => ⟨S_, .f32⟩
  | .hbm, ⟨21, _⟩ => ⟨S1x1024x1026, .f32⟩
  | .hbm, ⟨22, _⟩ => ⟨S1x1024x1026, .f32⟩
  | .hbm, ⟨23, _⟩ => ⟨S1x1024x1026, .f32⟩
  | .hbm, ⟨24, _⟩ => ⟨S_, .f32⟩
  | .hbm, ⟨25, _⟩ => ⟨S1x1024x1026, .f32⟩
  | .hbm, ⟨26, _⟩ => ⟨S1x1024x1026, .f32⟩
  | .hbm, ⟨27, _⟩ => ⟨S_, .f32⟩
  | .hbm, ⟨28, _⟩ => ⟨S1x1024x1026, .f32⟩
  | .hbm, ⟨29, _⟩ => ⟨S1x1024x1026, .f32⟩
  | .hbm, ⟨30, _⟩ => ⟨S1x1024x1026, .f32⟩
  | .hbm, ⟨31, _⟩ => ⟨S_, .f32⟩
  | .hbm, ⟨32, _⟩ => ⟨S1x1024x1026, .f32⟩
  | .hbm, ⟨33, _⟩ => ⟨S1x1024x1026, .f32⟩
  | .hbm, ⟨34, _⟩ => ⟨S1x1024x1026, .f32⟩
  | .hbm, ⟨35, _⟩ => ⟨S_, .f32⟩
  | .hbm, ⟨36, _⟩ => ⟨S1x1024x1026, .f32⟩
  | .hbm, ⟨37, _⟩ => ⟨S1x1024x1026, .f32⟩
  | .hbm, ⟨38, _⟩ => ⟨S1x1024x1026, .f32⟩
  | .hbm, ⟨39, _⟩ => ⟨S_, .f32⟩
  | .hbm, ⟨40, _⟩ => ⟨S1x1024x1026, .f32⟩
  | .hbm, ⟨41, _⟩ => ⟨S1x1024x1026, .f32⟩
  | _, _ => ⟨S1x1024x1026, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamMod.lean ====
abbrev S1x1024x768 : Shape := ⟨3, ![1, 1024, 768]⟩
abbrev S1x128x768 : Shape := ⟨3, ![1, 128, 768]⟩
abbrev S128x768 : Shape := ⟨2, ![128, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x128x768, .f32⟩
  | .local _ .vmem, ⟨1, _⟩ => ⟨S1x128x768, .f32⟩
  | .local _ .vmem, ⟨2, _⟩ => ⟨S1x128x768, .f32⟩
  | .local _ .vmem, ⟨3, _⟩ => ⟨S1x128x768, .f32⟩
  | .local _ .vmem, ⟨4, _⟩ => ⟨S1x128x768, .f32⟩
  | .local _ .vmem, ⟨5, _⟩ => ⟨S1x128x768, .f32⟩
  | .local _ .vmem, ⟨6, _⟩ => ⟨S1x128x768, .f32⟩
  | .local _ .vmem, ⟨7, _⟩ => ⟨S1x128x768, .f32⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | .local _ .vmem, ⟨14, _⟩ => ⟨S1x128x768, .f32⟩
  | .local _ .vmem, ⟨15, _⟩ => ⟨S1x128x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamModRefIdeal.lean ====
abbrev S1x1024x768 : Shape := ⟨3, ![1, 1024, 768]⟩
abbrev S_ : Shape := ⟨0, ![]⟩
abbrev S1024x768 : Shape := ⟨2, ![1024, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S_, .f32⟩
  | .hbm, ⟨11, _⟩ => ⟨S1x1024x768, .f32⟩
  | .hbm, ⟨12, _⟩ => ⟨S1x1024x768, .f32⟩
  | .hbm, ⟨13, _⟩ => ⟨S1x1024x768, .f32⟩
  | .hbm, ⟨14, _⟩ => ⟨S_, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S_, .f32⟩
  | .hbm, ⟨19, _⟩ => ⟨S1x1024x768, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S_, .f32⟩
  | .hbm, ⟨26, _⟩ => ⟨S1x1024x768, .f32⟩
  | .hbm, ⟨27, _⟩ => ⟨S1x1024x768, .f32⟩
  | .hbm, ⟨28, _⟩ => ⟨S1x1024x768, .f32⟩
  | .hbm, ⟨29, _⟩ => ⟨S_, .f32⟩
  | .hbm, ⟨30, _⟩ => ⟨S1x1024x768, .f32⟩
  | .hbm, ⟨31, _⟩ => ⟨S1x1024x768, .f32⟩
  | .hbm, ⟨32, _⟩ => ⟨S1x1024x768, .f32⟩
  | .hbm, ⟨33, _⟩ => ⟨S_, .f32⟩
  | .hbm, ⟨34, _⟩ => ⟨S1x1024x768, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamRep.lean ====
abbrev S640x128 : Shape := ⟨2, ![640, 128]⟩
abbrev S1x640x128 : Shape := ⟨3, ![1, 640, 128]⟩
abbrev S128x128 : Shape := ⟨2, ![128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S640x128, .f32⟩
  | .hbm, ⟨1, _⟩ => ⟨S1x640x128, .f32⟩
  | .hbm, ⟨2, _⟩ => ⟨S640x128, .f32⟩
  | .hbm, ⟨3, _⟩ => ⟨S640x128, .f32⟩
  | .hbm, ⟨4, _⟩ => ⟨S640x128, .f32⟩
  | .hbm, ⟨5, _⟩ => ⟨S640x128, .f32⟩
  | .hbm, ⟨6, _⟩ => ⟨S640x128, .f32⟩
  | .hbm, ⟨7, _⟩ => ⟨S640x128, .f32⟩
  | .local _ .vmem, ⟨0, _⟩ => ⟨S128x128, .f32⟩
  | .local _ .vmem, ⟨1, _⟩ => ⟨S128x128, .f32⟩
  | .local _ .vmem, ⟨2, _⟩ => ⟨S1x128x128, .f32⟩
  | .local _ .vmem, ⟨3, _⟩ => ⟨S1x128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S640x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRepRefIdeal.lean ====
abbrev S640x128 : Shape := ⟨2, ![640, 128]⟩
abbrev S1x640x128 : Shape := ⟨3, ![1, 640, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S640x128, .f32⟩
  | .hbm, ⟨1, _⟩ => ⟨S1x640x128, .f32⟩
  | .hbm, ⟨2, _⟩ => ⟨S640x128, .f32⟩
  | .hbm, ⟨3, _⟩ => ⟨S640x128, .f32⟩
  | .hbm, ⟨4, _⟩ => ⟨S_, .f32⟩
  | .hbm, ⟨5, _⟩ => ⟨S640x128, .f32⟩
  | .hbm, ⟨6, _⟩ => ⟨S_, .f32⟩
  | .hbm, ⟨7, _⟩ => ⟨S640x128, .f32⟩
  | .hbm, ⟨8, _⟩ => ⟨S640x128, .f32⟩
  | .hbm, ⟨9, _⟩ => ⟨S_, .f32⟩
  | .hbm, ⟨10, _⟩ => ⟨S640x128, .f32⟩
  | .hbm, ⟨11, _⟩ => ⟨S640x128, .f32⟩
  | .hbm, ⟨12, _⟩ => ⟨S640x128, .f32⟩
  | .hbm, ⟨13, _⟩ => ⟨S_, .f32⟩
  | .hbm, ⟨14, _⟩ => ⟨S640x128, .f32⟩
  | .hbm, ⟨15, _⟩ => ⟨S640x128, .f32⟩
  | .hbm, ⟨16, _⟩ => ⟨S640x128, .f32⟩
  | .hbm, ⟨17, _⟩ => ⟨S_, .f32⟩
  | .hbm, ⟨18, _⟩ => ⟨S640x128, .f32⟩
  | .hbm, ⟨19, _⟩ => ⟨S640x128, .f32⟩
  | .hbm, ⟨20, _⟩ => ⟨S640x128, .f32⟩
  | .hbm, ⟨21, _⟩ => ⟨S_, .f32⟩
  | .hbm, ⟨22, _⟩ => ⟨S640x128, .f32⟩
  | .hbm, ⟨23, _⟩ => ⟨S640x128, .f32⟩
  | .hbm, ⟨24, _⟩ => ⟨S_, .f32⟩
  | .hbm, ⟨25, _⟩ => ⟨S640x128, .f32⟩
  | .hbm, ⟨26, _⟩ => ⟨S640x128, .f32⟩
  | .hbm, ⟨27, _⟩ => ⟨S640x128, .f32⟩
  | .hbm, ⟨28, _⟩ => ⟨S_, .f32⟩
  | .hbm, ⟨29, _⟩ => ⟨S640x128, .f32⟩
  | .hbm, ⟨30, _⟩ => ⟨S640x128, .f32⟩
  | .hbm, ⟨31, _⟩ => ⟨S640x128, .f32⟩
  | .hbm, ⟨32, _⟩ => ⟨S_, .f32⟩
  | .hbm, ⟨33, _⟩ => ⟨S640x128, .f32⟩
  | .hbm, ⟨34, _⟩ => ⟨S640x128, .f32⟩
  | .hbm, ⟨35, _⟩ => ⟨S640x128, .f32⟩
  | .hbm, ⟨36, _⟩ => ⟨S_, .f32⟩
  | .hbm, ⟨37, _⟩ => ⟨S640x128, .f32⟩
  | .hbm, ⟨38, _⟩ => ⟨S640x128, .f32⟩
  | _, _ => ⟨S640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamConv.lean ====
abbrev S1x3x256 : Shape := ⟨3, ![1, 3, 256]⟩
abbrev S8x8x256 : Shape := ⟨3, ![8, 8, 256]⟩
abbrev S8x128 : Shape := ⟨2, ![8, 128]⟩
abbrev S3x256 : Shape := ⟨2, ![3, 256]⟩

abbrev nBuf : Space → Nat
  | .hbm => 9
  | .vmem => 9
  | .smem => 0
  | _ => 0

abbrev bufTy : (tb : Table) → Fin (tcTables nBuf tb) → BufTy
  | .hbm, ⟨0, _⟩ => ⟨S1x3x256, .f32⟩
  | .hbm, ⟨1, _⟩ => ⟨S8x8x256, .f32⟩
  | .hbm, ⟨2, _⟩ => ⟨S1x3x256, .f32⟩
  | .hbm, ⟨3, _⟩ => ⟨S1x3x256, .f32⟩
  | .hbm, ⟨4, _⟩ => ⟨S8x128, .f32⟩
  | .hbm, ⟨5, _⟩ => ⟨S1x3x256, .f32⟩
  | .hbm, ⟨6, _⟩ => ⟨S1x3x256, .f32⟩
  | .hbm, ⟨7, _⟩ => ⟨S1x3x256, .f32⟩
  | .hbm, ⟨8, _⟩ => ⟨S1x3x256, .f32⟩
  | .local _ .vmem, ⟨0, _⟩ => ⟨S1x3x256, .f32⟩
  | .local _ .vmem, ⟨1, _⟩ => ⟨S8x8x256, .f32⟩
  | .local _ .vmem, ⟨2, _⟩ => ⟨S1x3x256, .f32⟩
  | .local _ .vmem, ⟨3, _⟩ => ⟨S1x3x256, .f32⟩
  | .local _ .vmem, ⟨4, _⟩ => ⟨S8x128, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | _, _ => ⟨S1x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvRefIdeal.lean ====
abbrev S1x3x256 : Shape := ⟨3, ![1, 3, 256]⟩
abbrev S8x8x256 : Shape := ⟨3, ![8, 8, 256]⟩
abbrev S8x128 : Shape := ⟨2, ![8, 128]⟩
abbrev S8x3x256 : Shape := ⟨3, ![8, 3, 256]⟩
abbrev S_ : Shape := ⟨0, ![]⟩
abbrev S3x256 : Shape := ⟨2, ![3, 256]⟩

abbrev nBuf : Space → Nat
  | .hbm => 42
  | .vmem => 0
  | .smem => 0
  | _ => 0

abbrev bufTy : (tb : Table) → Fin (tcTables nBuf tb) → BufTy
  | .hbm, ⟨0, _⟩ => ⟨S1x3x256, .f32⟩
  | .hbm, ⟨1, _⟩ => ⟨S8x8x256, .f32⟩
  | .hbm, ⟨2, _⟩ => ⟨S1x3x256, .f32⟩
  | .hbm, ⟨3, _⟩ => ⟨S1x3x256, .f32⟩
  | .hbm, ⟨4, _⟩ => ⟨S8x128, .f32⟩
  | .hbm, ⟨5, _⟩ => ⟨S8x3x256, .f32⟩
  | .hbm, ⟨6, _⟩ => ⟨S_, .f32⟩
  | .hbm, ⟨7, _⟩ => ⟨S3x256, .f32⟩
  | .hbm, ⟨8, _⟩ => ⟨S1x3x256, .f32⟩
  | .hbm, ⟨9, _⟩ => ⟨S_, .f32⟩
  | .hbm, ⟨10, _⟩ => ⟨S1x3x256, .f32⟩
  | .hbm, ⟨11, _⟩ => ⟨S1x3x256, .f32⟩
  | .hbm, ⟨12, _⟩ => ⟨S_, .f32⟩
  | .hbm, ⟨13, _⟩ => ⟨S1x3x256, .f32⟩
  | .hbm, ⟨14, _⟩ => ⟨S1x3x256, .f32⟩
  | .hbm, ⟨15, _⟩ => ⟨S1x3x256, .f32⟩
  | .hbm, ⟨16, _⟩ => ⟨S_, .f32⟩
  | .hbm, ⟨17, _⟩ => ⟨S1x3x256, .f32⟩
  | .hbm, ⟨18, _⟩ => ⟨S1x3x256, .f32⟩
  | .hbm, ⟨19, _⟩ => ⟨S1x3x256, .f32⟩
  | .hbm, ⟨20, _⟩ => ⟨S_, .f32⟩
  | .hbm, ⟨21, _⟩ => ⟨S1x3x256, .f32⟩
  | .hbm, ⟨22, _⟩ => ⟨S1x3x256, .f32⟩
  | .hbm, ⟨23, _⟩ => ⟨S1x3x256, .f32⟩
  | .hbm, ⟨24, _⟩ => ⟨S_, .f32⟩
  | .hbm, ⟨25, _⟩ => ⟨S1x3x256, .f32⟩
  | .hbm, ⟨26, _⟩ => ⟨S1x3x256, .f32⟩
  | .hbm, ⟨27, _⟩ => ⟨S_, .f32⟩
  | .hbm, ⟨28, _⟩ => ⟨S1x3x256, .f32⟩
  | .hbm, ⟨29, _⟩ => ⟨S1x3x256, .f32⟩
  | .hbm, ⟨30, _⟩ => ⟨S1x3x256, .f32⟩
  | .hbm, ⟨31, _⟩ => ⟨S_, .f32⟩
  | .hbm, ⟨32, _⟩ => ⟨S1x3x256, .f32⟩
  | .hbm, ⟨33, _⟩ => ⟨S1x3x256, .f32⟩
  | .hbm, ⟨34, _⟩ => ⟨S1x3x256, .f32⟩
  | .hbm, ⟨35, _⟩ => ⟨S_, .f32⟩
  | .hbm, ⟨36, _⟩ => ⟨S1x3x256, .f32⟩
  | .hbm, ⟨37, _⟩ => ⟨S1x3x256, .f32⟩
  | .hbm, ⟨38, _⟩ => ⟨S1x3x256, .f32⟩
  | .hbm, ⟨39, _⟩ => ⟨S_, .f32⟩
  | .hbm, ⟨40, _⟩ => ⟨S1x3x256, .f32⟩
  | .hbm, ⟨41, _⟩ => ⟨S1x3x256, .f32⟩
  | _, _ => ⟨S1x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamFfn.lean ====
abbrev S9x352 : Shape := ⟨2, ![9, 352]⟩
abbrev S8x16x352 : Shape := ⟨3, ![8, 16, 352]⟩
abbrev S8x128 : Shape := ⟨2, ![8, 128]⟩
abbrev S1x9x352 : Shape := ⟨3, ![1, 9, 352]⟩

abbrev nBuf : Space → Nat
  | .hbm => 9
  | .vmem => 9
  | .smem => 0
  | _ => 0

abbrev bufTy : (tb : Table) → Fin (tcTables nBuf tb) → BufTy
  | .hbm, ⟨0, _⟩ => ⟨S9x352, .f32⟩
  | .hbm, ⟨1, _⟩ => ⟨S8x16x352, .f32⟩
  | .hbm, ⟨2, _⟩ => ⟨S9x352, .f32⟩
  | .hbm, ⟨3, _⟩ => ⟨S9x352, .f32⟩
  | .hbm, ⟨4, _⟩ => ⟨S8x128, .f32⟩
  | .hbm, ⟨5, _⟩ => ⟨S9x352, .f32⟩
  | .hbm, ⟨6, _⟩ => ⟨S9x352, .f32⟩
  | .hbm, ⟨7, _⟩ => ⟨S9x352, .f32⟩
  | .hbm, ⟨8, _⟩ => ⟨S9x352, .f32⟩
  | .local _ .vmem, ⟨0, _⟩ => ⟨S9x352, .f32⟩
  | .local _ .vmem, ⟨1, _⟩ => ⟨S8x16x352, .f32⟩
  | .local _ .vmem, ⟨2, _⟩ => ⟨S9x352, .f32⟩
  | .local _ .vmem, ⟨3, _⟩ => ⟨S9x352, .f32⟩
  | .local _ .vmem, ⟨4, _⟩ => ⟨S8x128, .f32⟩
  | .local _ .vmem, ⟨5, _⟩ => ⟨S9x352, .f32⟩
  | .local _ .vmem, ⟨6, _⟩ => ⟨S9x352, .f32⟩
  | .local _ .vmem, ⟨7, _⟩ => ⟨S9x352, .f32⟩
  | .local _ .vmem, ⟨8, _⟩ => ⟨S9x352, .f32⟩
  | _, _ => ⟨S9x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S9x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x16x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S9x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S9x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S9x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S9x352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S9x352 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamFfnRefIdeal.lean ====
abbrev S9x352 : Shape := ⟨2, ![9, 352]⟩
abbrev S8x16x352 : Shape := ⟨3, ![8, 16, 352]⟩
abbrev S8x128 : Shape := ⟨2, ![8, 128]⟩
abbrev S8x9x352 : Shape := ⟨3, ![8, 9, 352]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S9x352, .f32⟩
  | .hbm, ⟨1, _⟩ => ⟨S8x16x352, .f32⟩
  | .hbm, ⟨2, _⟩ => ⟨S9x352, .f32⟩
  | .hbm, ⟨3, _⟩ => ⟨S9x352, .f32⟩
  | .hbm, ⟨4, _⟩ => ⟨S8x128, .f32⟩
  | .hbm, ⟨5, _⟩ => ⟨S8x9x352, .f32⟩
  | .hbm, ⟨6, _⟩ => ⟨S_, .f32⟩
  | .hbm, ⟨7, _⟩ => ⟨S9x352, .f32⟩
  | .hbm, ⟨8, _⟩ => ⟨S_, .f32⟩
  | .hbm, ⟨9, _⟩ => ⟨S9x352, .f32⟩
  | .hbm, ⟨10, _⟩ => ⟨S9x352, .f32⟩
  | .hbm, ⟨11, _⟩ => ⟨S_, .f32⟩
  | .hbm, ⟨12, _⟩ => ⟨S9x352, .f32⟩
  | .hbm, ⟨13, _⟩ => ⟨S9x352, .f32⟩
  | .hbm, ⟨14, _⟩ => ⟨S9x352, .f32⟩
  | .hbm, ⟨15, _⟩ => ⟨S_, .f32⟩
  | .hbm, ⟨16, _⟩ => ⟨S9x352, .f32⟩
  | .hbm, ⟨17, _⟩ => ⟨S9x352, .f32⟩
  | .hbm, ⟨18, _⟩ => ⟨S9x352, .f32⟩
  | .hbm, ⟨19, _⟩ => ⟨S_, .f32⟩
  | .hbm, ⟨20, _⟩ => ⟨S9x352, .f32⟩
  | .hbm, ⟨21, _⟩ => ⟨S9x352, .f32⟩
  | .hbm, ⟨22, _⟩ => ⟨S9x352, .f32⟩
  | .hbm, ⟨23, _⟩ => ⟨S_, .f32⟩
  | .hbm, ⟨24, _⟩ => ⟨S9x352, .f32⟩
  | .hbm, ⟨25, _⟩ => ⟨S9x352, .f32⟩
  | .hbm, ⟨26, _⟩ => ⟨S_, .f32⟩
  | .hbm, ⟨27, _⟩ => ⟨S9x352, .f32⟩
  | .hbm, ⟨28, _⟩ => ⟨S9x352, .f32⟩
  | .hbm, ⟨29, _⟩ => ⟨S9x352, .f32⟩
  | .hbm, ⟨30, _⟩ => ⟨S_, .f32⟩
  | .hbm, ⟨31, _⟩ => ⟨S9x352, .f32⟩
  | .hbm, ⟨32, _⟩ => ⟨S9x352, .f32⟩
  | .hbm, ⟨33, _⟩ => ⟨S9x352, .f32⟩
  | .hbm, ⟨34, _⟩ => ⟨S_, .f32⟩
  | .hbm, ⟨35, _⟩ => ⟨S9x352, .f32⟩
  | .hbm, ⟨36, _⟩ => ⟨S9x352, .f32⟩
  | .hbm, ⟨37, _⟩ => ⟨S9x352, .f32⟩
  | .hbm, ⟨38, _⟩ => ⟨S_, .f32⟩
  | .hbm, ⟨39, _⟩ => ⟨S9x352, .f32⟩
  | .hbm, ⟨40, _⟩ => ⟨S9x352, .f32⟩
  | _, _ => ⟨S9x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Proof.Buffers.lean ====
/- Reading buffers: a buffer after one store over the whole of it, and a load through a rectangle of a whole buffer. -/
module

public import Idealize.ShloMosaic.Lib.Claim
public import Idealize.ShloMosaic.Lib.Pipeline.ValueKit

@[expose] public section

set_option maxRecDepth 16384

noncomputable section

namespace Cert.Buffers

open Idealize.ShloMosaic Idealize.ShloMosaic.TcCoe

variable {sig : RefSig} {F : FTy → Type} [FloatOps F]

/-- Reading a buffer after one store over the whole of it gives what was stored. -/
theorem read_store {sp : Space} {e : EltTy} {S : Shape} (v : View sig .tc sp S e) (f : v.ty.Contents (Elt F)) {o : Fin S.rank → ℕ} (h : o = fun _ => 0)
    (inb : ∀ a, o a + S.size a ≤ S.size a) (X : S.Idx → Elt F e) :
    v.read (Elt F) (v.writes (Elt F) f [(⟨Rect.unit o S.size inb, X⟩ : View.Piece (Elt F) S e)]) = X :=
  (View.read_writes_eq_canon v f _ fun y => ⟨_, List.mem_singleton_self _, View.mem_set_unit_zero h inb y⟩).trans (View.canon_unit_zero h inb X)

/-- A load through a rectangle of a whole buffer that holds `X` reads `X` there. -/
theorem load_of {sp : Space} {e : EltTy} {S : Shape} {a : Memref sig .tc sp S e} (h : a.IsWhole) (X : S.Idx → Elt F e) (r : Rect S) :
    View.readAt (Elt F) a.view r.toLoadRect (h.unread X) = View.ld X r := by
  rw [View.readAt_eq_ld, h.read_unread]

/-- The corner of a matrix. -/
theorem corner : (![0, 0] : Fin 2 → ℕ) = fun _ => 0 := by funext a; fin_cases a <;> rfl

end Cert.Buffers

end
-- ==== Proof.UpFwdRun.lean ====
/- The run of the forward up-projection call: what its body leaves at every grid point, and the whole run from it. -/
module

public import proofs.«01_k».proof.Proof.Gen.UpFwdIdeal.Frame
public import proofs.«01_k».proof.Proof.Gen.UpFwdIdeal.Skeleton
public import proofs.«01_k».proof.Proof.Buffers
public import Idealize.ShloMosaic.Lib.Claim
public import Idealize.ShloMosaic.Lib.Pipeline.ValueKit
public import Idealize.ShloMosaic.Lib.Pointwise

@[expose] public section

set_option maxRecDepth 16384

noncomputable section

namespace Cert.UpFwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.UpFwdIdeal Cert.UpFwdIdeal.Gen Cert.Buffers

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The modulated norm of a block of rows: the block, the gain, and the rows of scale and of shift. -/
def normed (x : Vec F S1024x1024 .f32) (g : Vec F S1x1024 .f32) (s : Vec F S2x1024 .f32) : Vec F S1024x1024 .bf16 :=
  k0_pay1 x g (View.ld s (Rect.unit ![1, 0] S1x1024.size inb_S2x1024_S1x1024_1_0)) (View.ld s (Rect.unit ![0, 0] S1x1024.size inb_S2x1024_S1x1024_0_0))

/-- Its product with the tile of the weight's columns that the point reads. -/
def proj (i : grid0.Coords) (h : Vec F S1024x1024 .bf16) (w : Vec F S1024x5632 .bf16) : Vec F S1024x1408 .bf16 :=
  k0_pay3 h (View.ld w (Rect.unit (k0_off1 i) S1024x1408.size (k0_off1_inb i)))

set_option maxHeartbeats 1000000 in
/-- What a row tile's first point leaves, on any buffers: the normed rows in the first result's buffer and in the scratch, their product in the second's. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x5632 .bf16) (harg5 : arg5.IsWhole) (arg6 : Memref sig .tc .vmem S1024x1024 .bf16) (harg6 : arg6.IsWhole) (arg7 : Memref sig .tc .vmem S1024x1408 .bf16) (harg7 : arg7.IsWhole) (arg8 : Memref sig .tc .vmem S1024x1024 .bf16) (harg8 : arg8.IsWhole) (hc : k0_cond1 i = 1#1)
    (x : Vec F S1024x1024 .f32) (g : Vec F S1x1024 .f32) (s : Vec F S2x1024 .f32) (w : Vec F S1024x5632 .bf16) (E : Set ℕ) (K : PUnit → sProp 𝕄) :
    iprop(owns (c : Thread nD τ) arg2 fullShare x ∗ owns (c : Thread nD τ) arg3 fullShare g ∗ owns (c : Thread nD τ) arg4 fullShare s ∗ owns (c : Thread nD τ) arg5 fullShare w
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x ∗ owns (c : Thread nD τ) arg3 fullShare g ∗ owns (c : Thread nD τ) arg4 fullShare s ∗ owns (c : Thread nD τ) arg5 fullShare w
            ∗ owns (c : Thread nD τ) arg6 fullShare (normed x g s) ∗ owns (c : Thread nD τ) arg7 fullShare (proj i (normed x g s) w) ∗ owns (c : Thread nD τ) arg8 fullShare (normed x g s)) -∗ K ⟨⟩))
      ⊢ wp frame (wpE (defs₀ (F := F)) Variants.none c none) E (cc0_up_proj i arg2 harg2 arg3 harg3 arg4 harg4 arg5 harg5 arg6 harg6 arg7 harg7 arg8 harg8) K := by
  simp only [cc0_up_proj_eq_skeleton]; unfold cc0_up_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    rw [read_store _ _ corner, load_of, load_of, load_of, load_of, View.ld_unit_zero corner, View.ld_unit_zero corner]
    rfl
  isplitl [H5]
  · iexists _; isplitr; swap; · iexact H5
    ipureintro
    unfold run_first.sl.v3 run_first.sl.HS0_1
    rw [read_store _ _ corner, View.readCov_unit_zero _ corner, load_of, load_of, load_of, load_of, load_of, View.ld_unit_zero corner, View.ld_unit_zero corner]
    unfold k0_pay2; rw [shapeCast_id]
    rfl
  iexists _; isplitr; swap; · iexact HS0
  ipureintro
  unfold run_first.sl.HS0_1
  rw [read_store _ _ corner, load_of, load_of, load_of, load_of, View.ld_unit_zero corner, View.ld_unit_zero corner]
  unfold k0_pay2; rw [shapeCast_id]
  rfl

set_option maxHeartbeats 1000000 in
/-- What every other point leaves: the product of the rows that the scratch holds, and the rest as it was. -/
theorem run_next (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x5632 .bf16) (harg5 : arg5.IsWhole) (arg6 : Memref sig .tc .vmem S1024x1024 .bf16) (harg6 : arg6.IsWhole) (arg7 : Memref sig .tc .vmem S1024x1408 .bf16) (harg7 : arg7.IsWhole) (arg8 : Memref sig .tc .vmem S1024x1024 .bf16) (harg8 : arg8.IsWhole) (hc : ¬k0_cond1 i = 1#1)
    (x : Vec F S1024x1024 .f32) (g : Vec F S1x1024 .f32) (s : Vec F S2x1024 .f32) (w : Vec F S1024x5632 .bf16) (h : Vec F S1024x1024 .bf16) (d : Vec F S1024x1024 .bf16) (E : Set ℕ) (K : PUnit → sProp 𝕄) :
    iprop(owns (c : Thread nD τ) arg2 fullShare x ∗ owns (c : Thread nD τ) arg3 fullShare g ∗ owns (c : Thread nD τ) arg4 fullShare s ∗ owns (c : Thread nD τ) arg5 fullShare w
        ∗ owns (c : Thread nD τ) arg6 fullShare d ∗ (∃ d, owns (c : Thread nD τ) arg7 fullShare d) ∗ owns (c : Thread nD τ) arg8 fullShare h
        ∗ (iprop(owns (c : Thread nD τ) arg2 fullShare x ∗ owns (c : Thread nD τ) arg3 fullShare g ∗ owns (c : Thread nD τ) arg4 fullShare s ∗ owns (c : Thread nD τ) arg5 fullShare w
            ∗ owns (c : Thread nD τ) arg6 fullShare d ∗ owns (c : Thread nD τ) arg7 fullShare (proj i h w) ∗ owns (c : Thread nD τ) arg8 fullShare h) -∗ K ⟨⟩))
      ⊢ wp frame (wpE (defs₀ (F := F)) Variants.none c none) E (cc0_up_proj i arg2 harg2 arg3 harg3 arg4 harg4 arg5 harg5 arg6 harg6 arg7 harg7 arg8 harg8) K := by
  simp only [cc0_up_proj_eq_skeleton]; unfold cc0_up_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg5.eq_unread hf3
  obtain rfl := harg6.eq_unread hf4; obtain rfl := harg8.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_store _ _ corner, load_of, load_of, View.ld_unit_zero corner]
    rfl
  iexists _; isplitr; · ipureintro; exact harg8.read_unread _
  iexact HS0

/-- The body's condition holds at a row tile's first point. -/
theorem first_iff : ∀ t : Fin cfg0.N, k0_cond1 (grid0.coords t) = 1#1 ↔ t.val % 4 = 0 :=
  (by decide +kernel : ∀ t : Fin grid0.N, _)

/-- The first result's window is left alone at the others. -/
theorem idle4 : ∀ t : Fin cfg0.N, cfg0.idle 4 (grid0.coords t) = !decide (t.val % 4 = 0) :=
  (by decide +kernel : ∀ t : Fin grid0.N, _)

/-- Every window's block index at a grid point: the row tile, and the column tile for the product. -/
theorem idx : ∀ t : Fin cfg0.N, win0_0.index t = ![t.val / 4, 0] ∧ win0_1.index t = ![0, 0] ∧ win0_2.index t = ![0, 0] ∧ win0_3.index t = ![0, 0]
    ∧ win0_4.index t = ![t.val / 4, 0] ∧ win0_5.index t = ![t.val / 4, t.val % 4] :=
  (by decide +kernel : ∀ t : Fin grid0.N, _)

/-- The rows that the scratch holds at a grid point: the normed rows of its row tile. -/
def rows (c : Dev nD) (t : Fin cfg0.N) : Vec F S1024x1024 .bf16 := normed (iblk m c 0 t) (iblk m c 1 t) (iblk m c 2 t)

/-- The point before. -/
abbrev prev (t : Fin cfg0.N) : Fin cfg0.N := ⟨t.val - 1, Nat.lt_of_le_of_lt (Nat.sub_le _ _) t.isLt⟩

/-- The proof data: inputs at their blocks, the first result's buffer and the scratch at the row tile's normed rows, the second result's at their product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows m c t
    | ⟨5, _⟩ => proj (grid0.coords t) (rows m c t) (iblk m c 3 t)
  Φ t := match t.val, Nat.le_of_lt_succ t.isLt with
    | 0, _ => Pipeline.ΦA spec0 c
    | n + 1, h => iprop(owns (c : Thread nD τ) (Memref.whole cc0_scratch0 : Memref sig .tc .vmem S1024x1024 .bf16) fullShare (rows m c ⟨n, h⟩) ∗ (∃ r, prngReg c r))
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = rows m c t := by dsimp only [dats]
theorem after5 (c : Dev nD) (t : Fin cfg0.N) : (dats m 0 c).after 5 t = proj (grid0.coords t) (rows m c t) (iblk m c 3 t) := by dsimp only [dats]

/-- Every input's buffer holds its block. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d

/-- The block of rows stays the same inside a row tile. -/
theorem iblk_step (c : Dev nD) (t : Fin cfg0.N) (h : t.val % 4 ≠ 0) : iblk m c 0 (prev t) = iblk m c 0 t := by
  have e : (t.val - 1) / 4 = t.val / 4 := by omega
  funext y
  blk_point [iblk, V, idx t, idx (prev t), e]

theorem iblk1_step (c : Dev nD) (t : Fin cfg0.N) : iblk m c 1 (prev t) = iblk m c 1 t := by
  funext y
  blk_point [iblk, V, idx t, idx (prev t)]

theorem iblk2_step (c : Dev nD) (t : Fin cfg0.N) : iblk m c 2 (prev t) = iblk m c 2 t := by
  funext y
  blk_point [iblk, V, idx t, idx (prev t)]

/-- So do their normed rows. -/
theorem rows_step (c : Dev nD) (t : Fin cfg0.N) (h : t.val % 4 ≠ 0) : rows m c (prev t) = rows m c t := by
  unfold rows; rw [iblk_step m c t h, iblk1_step, iblk2_step]

/-- Inside a row tile the first result's buffer still holds the normed rows. -/
theorem before4 (c : Dev nD) (t : Fin cfg0.N) (h : t.val % 4 ≠ 0) (d) : (dats m 0 c).before 4 t d = rows m c t := by
  obtain ⟨n, hn⟩ := t
  induction n with
  | zero => exact absurd rfl h
  | succ n ih =>
    have hf : (cfg0.win 4).flush (prev ⟨n + 1, hn⟩) = false := Bool.eq_false_iff.mpr fun e => by have := (flush0_4 _).mp e; dsimp only at this h; omega
    rw [(dats m 0 c).before_of_pos 4 ⟨n + 1, hn⟩ (Nat.succ_ne_zero n) rfl d, if_neg (by rw [hf]; exact Bool.false_ne_true)]
    rw [← rows_step m c ⟨n + 1, hn⟩ h]
    unfold Dat.left
    have hi := idle4 (prev ⟨n + 1, hn⟩)
    by_cases h0 : n % 4 = 0
    · rw [show cfg0.idle 4 (cfg0.grid.coords (prev ⟨n + 1, hn⟩)) = false from hi.trans (by simp [h0])]
      rfl
    · rw [show cfg0.idle 4 (cfg0.grid.coords (prev ⟨n + 1, hn⟩)) = true from hi.trans (by simp [h0])]
      exact ih _ h0

/-! ## The body at a point -/

/-- The staging buffers at a point. -/
abbrev st (w : Fin cfg0.W) (t : Fin cfg0.N) := (cfg0.win w).stage (cfg0.slots t w)

/-- What the body finds at a point, window by window, -/
def pre (c : Dev nD) (t : Fin cfg0.N) : sProp 𝕄 :=
  iprop((dats m 0 c).Φ t.castSucc ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d))
    ∗ (∃ d, owns (c : Thread nD τ) (st 5 t) fullShare ((dats m 0 c).before 5 t d)))

/-- and what it leaves. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t)

/-- A live window's buffer is left at its contents. -/
theorem leaves_live (c : Dev nD) (w : Fin cfg0.W) (t : Fin cfg0.N) (h : cfg0.idle w (cfg0.grid.coords t) = false) :
    (dats m 0 c).leavesExact w t = owns (c : Thread nD τ) (st w t) fullShare ((dats m 0 c).after w t) := by
  unfold Dat.leavesExact; rw [h]

/-- Inside a row tile the first result's buffer, holding the normed rows, may be handed back as it is. -/
theorem leaves4 (c : Dev nD) (t : Fin cfg0.N) (h : t.val % 4 ≠ 0) :
    owns (c : Thread nD τ) (st 4 t) fullShare (rows m c t) ⊢ (dats m 0 c).leavesExact 4 t := by
  have hi : cfg0.idle 4 (cfg0.grid.coords t) = true := (idle4 t).trans (by simp [h])
  cases hf : (cfg0.win 4).flush t with
  | false =>
    rw [Dat.leavesExact_idle _ 4 t hi hf]
    simp only [before4 m c t h]
    iintro H
    iexists (rows m c t); iexact H
  | true =>
    unfold Dat.leavesExact; rw [hi, hf]
    exact Idealize.SL.BI.Entails.refl _

/-- The scratch and the generator as the region hands them over. -/
theorem region_eq (c : Dev nD) :
    (Pipeline.ΦA spec0 c : sProp 𝕄)
      = iprop(iprop((∃ d, owns (c : Thread nD τ) (Memref.whole cc0_scratch0 : Memref sig .tc .vmem S1024x1024 .bf16) fullShare d)) ∗ (∃ r, prngReg c r)) := by
  unfold Pipeline.ΦA; rw [scopedRest0_eq]; simp only [owns_whole]; try rfl

/-- After a point the scratch holds its row tile's normed rows. -/
theorem held_succ (c : Dev nD) (t : Fin cfg0.N) :
    (dats m 0 c).Φ t.succ = iprop(owns (c : Thread nD τ) (Memref.whole cc0_scratch0 : Memref sig .tc .vmem S1024x1024 .bf16) fullShare (rows m c t) ∗ (∃ r, prngReg c r)) := rfl

/-- So before a point inside a row tile it holds them already. -/
theorem held_next (c : Dev nD) (t : Fin cfg0.N) (h : t.val % 4 ≠ 0) :
    (dats m 0 c).Φ t.castSucc = iprop(owns (c : Thread nD τ) (Memref.whole cc0_scratch0 : Memref sig .tc .vmem S1024x1024 .bf16) fullShare (rows m c t) ∗ (∃ r, prngReg c r)) := by
  rw [← rows_step m c t h]
  obtain ⟨n, hn⟩ := t
  cases n with
  | zero => exact absurd rfl h
  | succ n => rfl

/-- Before any point the scratch holds something. -/
theorem held_some (c : Dev nD) (t : Fin (cfg0.N + 1)) : (dats m 0 c).Φ t ⊢ Pipeline.ΦA spec0 c := by
  obtain ⟨n, hn⟩ := t
  cases n with
  | zero => exact Idealize.SL.BI.Entails.refl _
  | succ n =>
    rw [region_eq, show (dats m 0 c).Φ ⟨n + 1, hn⟩ = iprop(owns (c : Thread nD τ) (Memref.whole cc0_scratch0 : Memref sig .tc .vmem S1024x1024 .bf16) fullShare (rows m c ⟨n, Nat.lt_of_succ_lt_succ hn⟩) ∗ (∃ r, prngReg c r)) from rfl]
    iintro ⟨H, Hg⟩
    isplitl [H]
    · iexists _; iexact H
    iexact Hg

set_option maxHeartbeats 1600000 in
/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before0, before1, before2, before3]
  rw [show (dats m 0 c).owesAt () t.succ = (dats m 0 c).owesAt () t.castSucc from rfl, held_succ,
    leaves_live m c 0 t rfl, leaves_live m c 1 t rfl, leaves_live m c 2 t rfl, leaves_live m c 3 t rfl, leaves_live m c 5 t rfl, after0, after1, after2, after3, after5]
  by_cases h : t.val % 4 = 0
  · rw [leaves_live m c 4 t ((idle4 t).trans (by simp [h])), after4]
    iintro ⟨HΦ, Ho, ⟨%d0, H0⟩, ⟨%d1, H1⟩, ⟨%d2, H2⟩, ⟨%d3, H3⟩, ⟨%d4, H4⟩, ⟨%d5, H5⟩⟩
    ihave HA := ((held_some m c t.castSucc).trans (Entails.of_eq (region_eq c))) $$ HΦ
    icases HA with ⟨HS0, Hg⟩
    iapply (run_first c (grid0.coords t) _ _ _ _ _ _ _ _ _ _ _ _ _ _ ((first_iff t).mpr h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [held_next m c t h]
    simp only [before4 m c t h]
    iintro ⟨⟨HS0, Hg⟩, Ho, ⟨%d0, H0⟩, ⟨%d1, H1⟩, ⟨%d2, H2⟩, ⟨%d3, H3⟩, ⟨%d4, H4⟩, ⟨%d5, H5⟩⟩
    iapply (run_next c (grid0.coords t) _ _ _ _ _ _ _ _ _ _ _ _ _ _ (fun e => h ((first_iff t).mp e)) (iblk m c 0 t) (iblk m c 1 t) (iblk m c 2 t) (iblk m c 3 t) (rows m c t) (rows m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iapply (leaves4 m c t h); iexact H4
    iexact H5

/-- The pipeline's call at a point is the body. -/
theorem call_eq (t : Fin cfg0.N) : defs₀ (F := F) .tc cfg0.body (cfg0.bodyArgs t (cfg0.slots t)) = bodyAt0 t := by
  unfold defs₀; rw [Defs.onTc_tc]

/-- The body keeps the proof data. -/
theorem keeps (c : Dev nD) : BodyObligation (dats (F := F) m 0 c) (defs₀ (F := F)) Variants.none () Set.univ := fun t => by
  rw [bigSep_W0, bigSep_W0, call_eq]
  exact triple_restated (body_at m c t) rfl .rfl fun _ => .rfl

-- the statement's implicit arguments are found by unfolding plain definitions in a metavariable's type
set_option backward.isDefEq.respectTransparency.types false in
/-- The run: every array of the pipeline ends at what the proof data says, every other as it was, every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (keeps m c).loose) (hshare := fun c => (dats m 0 c).share_full fun _ => rfl)
    (howed := fun _ _ => rfl) (V := V m) (hmain := hmain m Variants.none) (hA := A_eq m)
    (hin := fun c => Idealize.SL.BI.Entails.refl _) (hout := fun c => held_some m c (Fin.last cfg0.N))

/-- The run without the counters. -/
theorem run_main : θ_run defs (onTc (τ := τ) (main (F := F))) (s₀ m ρ) (Pipeline.FramePost cfgs (dats m) 0 (V m)) :=
  (θ_run defs _ _).mono (fun _ h => h.1) (run_all m ρ)

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_all m ρ))

end Cert.UpFwdRun

end
-- ==== Proof.UpFwdBits.lean ====
/- The forward call of the up projection over bits: its text is the idealization's, so its frame is the run's there. -/
module

public import proofs.«01_k».proof.Defs
public import proofs.«01_k».proof.Proof.UpFwdRun
public import proofs.«01_k».proof.Proof.Gen.UpFwd

@[expose] public section

set_option maxRecDepth 16384

noncomputable section

namespace Cert.UpFwdBits

open Idealize.ShloMosaic Idealize.SL.Sem

/-- The two programs' bodies are one. -/
theorem bodies : Cert.UpFwd.defs₀ (F := Bits) = Cert.UpFwdIdeal.defs₀ (F := Bits) := by
  unfold Cert.UpFwd.defs₀ Cert.UpFwdIdeal.defs₀
  refine congrArg Defs.onTc ?_
  funext l ts
  match l, ts with
  | 0, (t, s) => rfl

theorem tables : Cert.UpFwd.defs (F := Bits) = Cert.UpFwdIdeal.defs (F := Bits) :=
  congrArg (Pipeline.defs (Cert.UpFwdIdeal.pcfgs (F := Bits))) bodies

/-- The frame over bits. -/
theorem frame : Cert.quiescent_UpFwd := by
  intro m g _
  rw [tables]
  exact Cert.UpFwdRun.frame_main (F := Bits) m g

end Cert.UpFwdBits

end
-- ==== Proof.InFwdRun.lean ====
/- The run of the forward input-projection call: what its body leaves at every grid point, and the whole run from it. -/
module

public import proofs.«01_k».proof.Proof.Gen.InFwdIdeal.Frame
public import proofs.«01_k».proof.Proof.Gen.InFwdIdeal.Skeleton
public import proofs.«01_k».proof.Proof.Buffers
public import Idealize.ShloMosaic.Lib.Claim
public import Idealize.ShloMosaic.Lib.Pipeline.ValueKit
public import Idealize.ShloMosaic.Lib.Pointwise

@[expose] public section

set_option maxRecDepth 16384

noncomputable section

namespace Cert.InFwdRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InFwdIdeal Cert.InFwdIdeal.Gen Cert.Buffers

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The modulated norm of a block of rows: the block, the gain, and the rows of scale and of shift. -/
def normed (x : Vec F S1024x1024 .f32) (g : Vec F S1x1024 .f32) (s : Vec F S2x1024 .f32) : Vec F S1024x1024 .bf16 :=
  k0_pay1 x g (View.ld s (Rect.unit ![1, 0] S1x1024.size inb_S2x1024_S1x1024_1_0)) (View.ld s (Rect.unit ![0, 0] S1x1024.size inb_S2x1024_S1x1024_0_0))

/-- Its product with the tile of the weight's columns that the point reads. -/
def proj (i : grid0.Coords) (h : Vec F S1024x1024 .bf16) (w : Vec F S1024x8192 .bf16) : Vec F S1024x2048 .bf16 :=
  k0_pay4 h (View.ld w (Rect.unit (k0_off1 i) S1024x2048.size (k0_off1_inb i)))

/-- And with the gates' columns. -/
def gated (x : Vec F S1024x1024 .f32) (g : Vec F S1x1024 .f32) (s : Vec F S2x1024 .f32) (v : Vec F S1024x128 .bf16) : Vec F S1024x128 .f32 :=
  k0_pay3 x g (View.ld s (Rect.unit ![1, 0] S1x1024.size inb_S2x1024_S1x1024_1_0)) (View.ld s (Rect.unit ![0, 0] S1x1024.size inb_S2x1024_S1x1024_0_0)) v

set_option maxHeartbeats 1600000 in
/-- What a row tile's first point leaves, on any buffers: the normed rows in the first result's buffer and in the scratch, their products in the others'. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x8192 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x1024 .bf16) (harg10 : arg10.IsWhole) (hc : k0_cond1 i = 1#1)
    (x : Vec F S1024x1024 .f32) (g : Vec F S1x1024 .f32) (s : Vec F S2x1024 .f32) (w : Vec F S1024x8192 .bf16) (v : Vec F S1024x128 .bf16) (E : Set ℕ) (K : PUnit → sProp 𝕄) :
    iprop(owns (c : Thread nD τ) arg2 fullShare x ∗ owns (c : Thread nD τ) arg3 fullShare g ∗ owns (c : Thread nD τ) arg4 fullShare s ∗ owns (c : Thread nD τ) arg5 fullShare w ∗ owns (c : Thread nD τ) arg6 fullShare v
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x ∗ owns (c : Thread nD τ) arg3 fullShare g ∗ owns (c : Thread nD τ) arg4 fullShare s ∗ owns (c : Thread nD τ) arg5 fullShare w ∗ owns (c : Thread nD τ) arg6 fullShare v
            ∗ owns (c : Thread nD τ) arg7 fullShare (normed x g s) ∗ owns (c : Thread nD τ) arg8 fullShare (proj i (normed x g s) w) ∗ owns (c : Thread nD τ) arg9 fullShare (gated x g s v) ∗ owns (c : Thread nD τ) arg10 fullShare (normed x g s)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    rw [read_store _ _ corner, load_of, load_of, load_of, load_of, View.ld_unit_zero corner, View.ld_unit_zero corner]
    rfl
  isplitl [H6]
  · iexists _; isplitr; swap; · iexact H6
    ipureintro
    unfold run_first.sl.v3 run_first.sl.HS0_1
    rw [read_store _ _ corner, View.readCov_unit_zero _ corner, load_of, load_of, load_of, load_of, load_of, View.ld_unit_zero corner, View.ld_unit_zero corner]
    unfold k0_pay2; rw [shapeCast_id]
    rfl
  isplitl [H7]
  · iexists _; isplitr; swap; · iexact H7
    ipureintro
    rw [read_store _ _ corner, load_of, load_of, load_of, load_of, load_of, View.ld_unit_zero corner, View.ld_unit_zero corner, View.ld_unit_zero corner]
    rfl
  iexists _; isplitr; swap; · iexact HS0
  ipureintro
  unfold run_first.sl.HS0_1
  rw [read_store _ _ corner, load_of, load_of, load_of, load_of, View.ld_unit_zero corner, View.ld_unit_zero corner]
  unfold k0_pay2; rw [shapeCast_id]
  rfl

set_option maxHeartbeats 1600000 in
/-- What every other point leaves: the product of the rows that the scratch holds, and the rest as it was. -/
theorem run_next (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S2x1024 .f32) (harg4 : arg4.IsWhole) (arg5 : Memref sig .tc .vmem S1024x8192 .bf16) (harg5 : arg5.IsWhole) (arg6 : Memref sig .tc .vmem S1024x128 .bf16) (harg6 : arg6.IsWhole) (arg7 : Memref sig .tc .vmem S1024x1024 .bf16) (harg7 : arg7.IsWhole) (arg8 : Memref sig .tc .vmem S1024x2048 .bf16) (harg8 : arg8.IsWhole) (arg9 : Memref sig .tc .vmem S1024x128 .f32) (harg9 : arg9.IsWhole) (arg10 : Memref sig .tc .vmem S1024x1024 .bf16) (harg10 : arg10.IsWhole) (hc : ¬k0_cond1 i = 1#1)
    (x : Vec F S1024x1024 .f32) (g : Vec F S1x1024 .f32) (s : Vec F S2x1024 .f32) (w : Vec F S1024x8192 .bf16) (v : Vec F S1024x128 .bf16) (h : Vec F S1024x1024 .bf16) (d : Vec F S1024x1024 .bf16) (e : Vec F S1024x128 .f32) (E : Set ℕ) (K : PUnit → sProp 𝕄) :
    iprop(owns (c : Thread nD τ) arg2 fullShare x ∗ owns (c : Thread nD τ) arg3 fullShare g ∗ owns (c : Thread nD τ) arg4 fullShare s ∗ owns (c : Thread nD τ) arg5 fullShare w ∗ owns (c : Thread nD τ) arg6 fullShare v
        ∗ owns (c : Thread nD τ) arg7 fullShare d ∗ (∃ d, owns (c : Thread nD τ) arg8 fullShare d) ∗ owns (c : Thread nD τ) arg9 fullShare e ∗ owns (c : Thread nD τ) arg10 fullShare h
        ∗ (iprop(owns (c : Thread nD τ) arg2 fullShare x ∗ owns (c : Thread nD τ) arg3 fullShare g ∗ owns (c : Thread nD τ) arg4 fullShare s ∗ owns (c : Thread nD τ) arg5 fullShare w ∗ owns (c : Thread nD τ) arg6 fullShare v
            ∗ owns (c : Thread nD τ) arg7 fullShare d ∗ owns (c : Thread nD τ) arg8 fullShare (proj i h w) ∗ owns (c : Thread nD τ) arg9 fullShare e ∗ owns (c : Thread nD τ) arg10 fullShare h) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4
  obtain rfl := harg7.eq_unread hf5; obtain rfl := harg9.eq_unread hf7; obtain rfl := harg10.eq_unread hfs0
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [read_store _ _ corner, load_of, load_of, View.ld_unit_zero corner]
    rfl
  isplitl [H7]
  · iexists _; isplitr; · ipureintro; exact harg9.read_unread _
    iexact H7
  iexists _; isplitr; · ipureintro; exact harg10.read_unread _
  iexact HS0

/-- The body's condition holds at a row tile's first point. -/
theorem first_iff : ∀ t : Fin cfg0.N, k0_cond1 (grid0.coords t) = 1#1 ↔ t.val % 4 = 0 :=
  (by decide +kernel : ∀ t : Fin grid0.N, _)

/-- The first result's window and the gates' are left alone at the others. -/
theorem idle5 : ∀ t : Fin cfg0.N, cfg0.idle 5 (grid0.coords t) = !decide (t.val % 4 = 0) :=
  (by decide +kernel : ∀ t : Fin grid0.N, _)
theorem idle7 : ∀ t : Fin cfg0.N, cfg0.idle 7 (grid0.coords t) = !decide (t.val % 4 = 0) :=
  (by decide +kernel : ∀ t : Fin grid0.N, _)

/-- No point's block of theirs overhangs its array. -/
theorem full5 : ∀ (t : Fin cfg0.N) a, (cfg0.win 5).clip (cfg0.grid.coords t) a = none :=
  (by decide +kernel : ∀ (t : Fin grid0.N) a, win0_5.clip (grid0.coords t) a = none)
theorem full7 : ∀ (t : Fin cfg0.N) a, (cfg0.win 7).clip (cfg0.grid.coords t) a = none :=
  (by decide +kernel : ∀ (t : Fin grid0.N) a, win0_7.clip (grid0.coords t) a = none)

/-- Every window's block index at a grid point: the row tile, and the column tile for the product. -/
theorem idx : ∀ t : Fin cfg0.N, win0_0.index t = ![t.val / 4, 0] ∧ win0_1.index t = ![0, 0] ∧ win0_2.index t = ![0, 0] ∧ win0_3.index t = ![0, 0] ∧ win0_4.index t = ![0, 0]
    ∧ win0_5.index t = ![t.val / 4, 0] ∧ win0_6.index t = ![t.val / 4, t.val % 4] ∧ win0_7.index t = ![t.val / 4, 0] :=
  (by decide +kernel : ∀ t : Fin grid0.N, _)

/-- The rows that the scratch holds at a grid point: the normed rows of its row tile. -/
def rows (c : Dev nD) (t : Fin cfg0.N) : Vec F S1024x1024 .bf16 := normed (iblk m c 0 t) (iblk m c 1 t) (iblk m c 2 t)

/-- The gates' product of its row tile. -/
def gates (c : Dev nD) (t : Fin cfg0.N) : Vec F S1024x128 .f32 := gated (iblk m c 0 t) (iblk m c 1 t) (iblk m c 2 t) (iblk m c 4 t)

/-- The point before. -/
abbrev prev (t : Fin cfg0.N) : Fin cfg0.N := ⟨t.val - 1, Nat.lt_of_le_of_lt (Nat.sub_le _ _) t.isLt⟩

/-- The proof data: inputs at their blocks, the first result's buffer and the scratch at the row tile's normed rows, the other results' at their products. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rows m c t
    | ⟨6, _⟩ => proj (grid0.coords t) (rows m c t) (iblk m c 3 t)
    | ⟨7, _⟩ => gates m c t
  Φ t := match t.val, Nat.le_of_lt_succ t.isLt with
    | 0, _ => Pipeline.ΦA spec0 c
    | n + 1, h => iprop(owns (c : Thread nD τ) (Memref.whole cc0_scratch0 : Memref sig .tc .vmem S1024x1024 .bf16) fullShare (rows m c ⟨n, h⟩) ∗ (∃ r, prngReg c r))
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = rows m c t := by dsimp only [dats]
theorem after6 (c : Dev nD) (t : Fin cfg0.N) : (dats m 0 c).after 6 t = proj (grid0.coords t) (rows m c t) (iblk m c 3 t) := by dsimp only [dats]
theorem after7 (c : Dev nD) (t : Fin cfg0.N) : (dats m 0 c).after 7 t = gates m c t := by dsimp only [dats]

/-- Every input's buffer holds its block. -/
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d

/-- The blocks of rows, gain, scale and shift and the gates' columns stay the same inside a row tile. -/
theorem iblk_step (c : Dev nD) (t : Fin cfg0.N) (h : t.val % 4 ≠ 0) : iblk m c 0 (prev t) = iblk m c 0 t := by
  have e : (t.val - 1) / 4 = t.val / 4 := by omega
  funext y
  blk_point [iblk, V, idx t, idx (prev t), e]

theorem iblk1_step (c : Dev nD) (t : Fin cfg0.N) : iblk m c 1 (prev t) = iblk m c 1 t := by
  funext y
  blk_point [iblk, V, idx t, idx (prev t)]

theorem iblk2_step (c : Dev nD) (t : Fin cfg0.N) : iblk m c 2 (prev t) = iblk m c 2 t := by
  funext y
  blk_point [iblk, V, idx t, idx (prev t)]

theorem iblk4_step (c : Dev nD) (t : Fin cfg0.N) : iblk m c 4 (prev t) = iblk m c 4 t := by
  funext y
  blk_point [iblk, V, idx t, idx (prev t)]

/-- So do the normed rows and the gates' product. -/
theorem rows_step (c : Dev nD) (t : Fin cfg0.N) (h : t.val % 4 ≠ 0) : rows m c (prev t) = rows m c t := by
  unfold rows; rw [iblk_step m c t h, iblk1_step, iblk2_step]

theorem gates_step (c : Dev nD) (t : Fin cfg0.N) (h : t.val % 4 ≠ 0) : gates m c (prev t) = gates m c t := by
  unfold gates; rw [iblk_step m c t h, iblk1_step, iblk2_step, iblk4_step]

/-- Inside a row tile the first result's buffer still holds the normed rows, -/
theorem before5 (c : Dev nD) (t : Fin cfg0.N) (h : t.val % 4 ≠ 0) (d) : (dats m 0 c).before 5 t d = rows m c t := by
  obtain ⟨n, hn⟩ := t
  induction n with
  | zero => exact absurd rfl h
  | succ n ih =>
    have hf : (cfg0.win 5).flush (prev ⟨n + 1, hn⟩) = false := Bool.eq_false_iff.mpr fun e => by have := (flush0_5 _).mp e; dsimp only at this h; omega
    rw [(dats m 0 c).before_of_pos 5 ⟨n + 1, hn⟩ (Nat.succ_ne_zero n) rfl d, if_neg (by rw [hf]; exact Bool.false_ne_true)]
    rw [← rows_step m c ⟨n + 1, hn⟩ h]
    unfold Dat.left
    have hi := idle5 (prev ⟨n + 1, hn⟩)
    by_cases h0 : n % 4 = 0
    · rw [show cfg0.idle 5 (cfg0.grid.coords (prev ⟨n + 1, hn⟩)) = false from hi.trans (by simp [h0])]
      show (dats m 0 c).kept 5 (prev ⟨n + 1, hn⟩) d = _
      unfold Dat.kept
      rw [Pipeline.fill_of_clip_none 5 _ (full5 _) d ((dats m 0 c).after 5 _), Window.fill_cut]
      rfl
    · rw [show cfg0.idle 5 (cfg0.grid.coords (prev ⟨n + 1, hn⟩)) = true from hi.trans (by simp [h0])]
      exact ih _ h0

/-- and the gates' still holds their product. -/
theorem before7 (c : Dev nD) (t : Fin cfg0.N) (h : t.val % 4 ≠ 0) (d) : (dats m 0 c).before 7 t d = gates m c t := by
  obtain ⟨n, hn⟩ := t
  induction n with
  | zero => exact absurd rfl h
  | succ n ih =>
    have hf : (cfg0.win 7).flush (prev ⟨n + 1, hn⟩) = false := Bool.eq_false_iff.mpr fun e => by have := (flush0_7 _).mp e; dsimp only at this h; omega
    rw [(dats m 0 c).before_of_pos 7 ⟨n + 1, hn⟩ (Nat.succ_ne_zero n) rfl d, if_neg (by rw [hf]; exact Bool.false_ne_true)]
    rw [← gates_step m c ⟨n + 1, hn⟩ h]
    unfold Dat.left
    have hi := idle7 (prev ⟨n + 1, hn⟩)
    by_cases h0 : n % 4 = 0
    · rw [show cfg0.idle 7 (cfg0.grid.coords (prev ⟨n + 1, hn⟩)) = false from hi.trans (by simp [h0])]
      show (dats m 0 c).kept 7 (prev ⟨n + 1, hn⟩) d = _
      unfold Dat.kept
      rw [Pipeline.fill_of_clip_none 7 _ (full7 _) d ((dats m 0 c).after 7 _), Window.fill_cut]
      rfl
    · rw [show cfg0.idle 7 (cfg0.grid.coords (prev ⟨n + 1, hn⟩)) = true from hi.trans (by simp [h0])]
      exact ih _ h0

/-! ## The body at a point -/

/-- The staging buffers at a point. -/
abbrev st (w : Fin cfg0.W) (t : Fin cfg0.N) := (cfg0.win w).stage (cfg0.slots t w)

/-- What the body finds at a point, window by window, -/
def pre (c : Dev nD) (t : Fin cfg0.N) : sProp 𝕄 :=
  iprop((dats m 0 c).Φ t.castSucc ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d))
    ∗ (∃ d, owns (c : Thread nD τ) (st 5 t) fullShare ((dats m 0 c).before 5 t d))
    ∗ (∃ d, owns (c : Thread nD τ) (st 6 t) fullShare ((dats m 0 c).before 6 t d))
    ∗ (∃ d, owns (c : Thread nD τ) (st 7 t) fullShare ((dats m 0 c).before 7 t d)))

/-- and what it leaves. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

/-- A live window's buffer is left at its contents. -/
theorem leaves_live (c : Dev nD) (w : Fin cfg0.W) (t : Fin cfg0.N) (h : cfg0.idle w (cfg0.grid.coords t) = false) :
    (dats m 0 c).leavesExact w t = owns (c : Thread nD τ) (st w t) fullShare ((dats m 0 c).after w t) := by
  unfold Dat.leavesExact; rw [h]

/-- Inside a row tile the first result's buffer, holding the normed rows, may be handed back as it is, -/
theorem leaves5 (c : Dev nD) (t : Fin cfg0.N) (h : t.val % 4 ≠ 0) :
    owns (c : Thread nD τ) (st 5 t) fullShare (rows m c t) ⊢ (dats m 0 c).leavesExact 5 t := by
  have hi : cfg0.idle 5 (cfg0.grid.coords t) = true := (idle5 t).trans (by simp [h])
  cases hf : (cfg0.win 5).flush t with
  | false =>
    rw [Dat.leavesExact_idle _ 5 t hi hf]
    simp only [before5 m c t h]
    iintro H
    iexists (rows m c t); iexact H
  | true =>
    unfold Dat.leavesExact; rw [hi, hf]
    exact Idealize.SL.BI.Entails.refl _

/-- and the gates', holding their product. -/
theorem leaves7 (c : Dev nD) (t : Fin cfg0.N) (h : t.val % 4 ≠ 0) :
    owns (c : Thread nD τ) (st 7 t) fullShare (gates m c t) ⊢ (dats m 0 c).leavesExact 7 t := by
  have hi : cfg0.idle 7 (cfg0.grid.coords t) = true := (idle7 t).trans (by simp [h])
  cases hf : (cfg0.win 7).flush t with
  | false =>
    rw [Dat.leavesExact_idle _ 7 t hi hf]
    simp only [before7 m c t h]
    iintro H
    iexists (gates m c t); iexact H
  | true =>
    unfold Dat.leavesExact; rw [hi, hf]
    exact Idealize.SL.BI.Entails.refl _

/-- The scratch and the generator as the region hands them over. -/
theorem region_eq (c : Dev nD) :
    (Pipeline.ΦA spec0 c : sProp 𝕄)
      = iprop(iprop((∃ d, owns (c : Thread nD τ) (Memref.whole cc0_scratch0 : Memref sig .tc .vmem S1024x1024 .bf16) fullShare d)) ∗ (∃ r, prngReg c r)) := by
  unfold Pipeline.ΦA; rw [scopedRest0_eq]; simp only [owns_whole]; try rfl

/-- After a point the scratch holds its row tile's normed rows. -/
theorem held_succ (c : Dev nD) (t : Fin cfg0.N) :
    (dats m 0 c).Φ t.succ = iprop(owns (c : Thread nD τ) (Memref.whole cc0_scratch0 : Memref sig .tc .vmem S1024x1024 .bf16) fullShare (rows m c t) ∗ (∃ r, prngReg c r)) := rfl

/-- So before a point inside a row tile it holds them already. -/
theorem held_next (c : Dev nD) (t : Fin cfg0.N) (h : t.val % 4 ≠ 0) :
    (dats m 0 c).Φ t.castSucc = iprop(owns (c : Thread nD τ) (Memref.whole cc0_scratch0 : Memref sig .tc .vmem S1024x1024 .bf16) fullShare (rows m c t) ∗ (∃ r, prngReg c r)) := by
  rw [← rows_step m c t h]
  obtain ⟨n, hn⟩ := t
  cases n with
  | zero => exact absurd rfl h
  | succ n => rfl

/-- Before any point the scratch holds something. -/
theorem held_some (c : Dev nD) (t : Fin (cfg0.N + 1)) : (dats m 0 c).Φ t ⊢ Pipeline.ΦA spec0 c := by
  obtain ⟨n, hn⟩ := t
  cases n with
  | zero => exact Idealize.SL.BI.Entails.refl _
  | succ n =>
    rw [region_eq, show (dats m 0 c).Φ ⟨n + 1, hn⟩ = iprop(owns (c : Thread nD τ) (Memref.whole cc0_scratch0 : Memref sig .tc .vmem S1024x1024 .bf16) fullShare (rows m c ⟨n, Nat.lt_of_succ_lt_succ hn⟩) ∗ (∃ r, prngReg c r)) from rfl]
    iintro ⟨H, Hg⟩
    isplitl [H]
    · iexists _; iexact H
    iexact Hg

set_option maxHeartbeats 1600000 in
/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4]
  rw [show (dats m 0 c).owesAt () t.succ = (dats m 0 c).owesAt () t.castSucc from rfl, held_succ,
    leaves_live m c 0 t rfl, leaves_live m c 1 t rfl, leaves_live m c 2 t rfl, leaves_live m c 3 t rfl, leaves_live m c 4 t rfl, leaves_live m c 6 t rfl, after0, after1, after2, after3, after4, after6]
  by_cases h : t.val % 4 = 0
  · rw [leaves_live m c 5 t ((idle5 t).trans (by simp [h])), after5, leaves_live m c 7 t ((idle7 t).trans (by simp [h])), after7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HA := ((held_some m c t.castSucc).trans (Entails.of_eq (region_eq c))) $$ HΦ
    icases HA with ⟨HS0, Hg⟩
    iapply (run_first c (grid0.coords t) _ _ _ _ _ _ _ _ _ _ _ _ _ _ _ _ _ _ ((first_iff t).mpr h) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [held_next m c t h]
    simp only [before5 m c t h, before7 m c t h]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_next c (grid0.coords t) _ _ _ _ _ _ _ _ _ _ _ _ _ _ _ _ _ _ (fun e => h ((first_iff t).mp e)) (iblk m c 0 t) (iblk m c 1 t) (iblk m c 2 t) (iblk m c 3 t) (iblk m c 4 t) (rows m c t) (rows m c t) (gates m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves5 m c t h); iexact H5
    isplitl [H6]; · iexact H6
    iapply (leaves7 m c t h); iexact H7

/-- The pipeline's call at a point is the body. -/
theorem call_eq (t : Fin cfg0.N) : defs₀ (F := F) .tc cfg0.body (cfg0.bodyArgs t (cfg0.slots t)) = bodyAt0 t := by
  unfold defs₀; rw [Defs.onTc_tc]

/-- The body keeps the proof data. -/
theorem keeps (c : Dev nD) : BodyObligation (dats (F := F) m 0 c) (defs₀ (F := F)) Variants.none () Set.univ := fun t => by
  rw [bigSep_W0, bigSep_W0, call_eq]
  exact triple_restated (body_at m c t) rfl .rfl fun _ => .rfl

-- the statement's implicit arguments are found by unfolding plain definitions in a metavariable's type
set_option backward.isDefEq.respectTransparency.types false in
set_option maxHeartbeats 800000 in
/-- The run: every array of the pipeline ends at what the proof data says, every other at what the slices after the call make of them, every counter at zero. -/
theorem run_all : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (keeps m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => Idealize.SL.BI.Entails.refl _) (hout := fun c => held_some m c (Fin.last cfg0.N))

/-- The frame: the arguments end unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ))) ((θ_run defs _ _).mono (fun _ h => h.2) (run_all m ρ))

/-- The contents at the call's end, before the slices. -/
abbrev ends (c : Dev nD) : Valuation τ sig (Elt F) := Pipeline.withArrays spec0 c (V0 m c) fun w => (dats m 0 c).arrAt w cfg0.N

/-- The three slices, of any contents. -/
theorem slice1 (X : Valuation τ sig (Elt F)) : StableHlo.after (List.flatten [hostOps1]) X (Proc.devRef .tc main_v1)
    = extractStridedSlice S16384x1024 ![0, 0] (X (Proc.devRef .tc main_v0_0)) slices_S16640x1024_S16384x1024_0_0 := by
  simp only [List.flatten_cons, List.flatten_nil, List.append_nil]; after_results
theorem slice2 (X : Valuation τ sig (Elt F)) : StableHlo.after (List.flatten [hostOps1]) X (Proc.devRef .tc main_v2)
    = extractStridedSlice S16384x8192 ![0, 0] (X (Proc.devRef .tc main_v0_1)) slices_S16640x8192_S16384x8192_0_0 := by
  simp only [List.flatten_cons, List.flatten_nil, List.append_nil]; after_results
theorem slice3 (X : Valuation τ sig (Elt F)) : StableHlo.after (List.flatten [hostOps1]) X (Proc.devRef .tc main_v3)
    = extractStridedSlice S16384x128 ![0, 0] (X (Proc.devRef .tc main_v0_2)) slices_S16640x128_S16384x128_0_0 := by
  simp only [List.flatten_cons, List.flatten_nil, List.append_nil]; after_results

/-- Each result's array at the call's end. -/
theorem ends5 (c : Dev nD) : ends m c (Proc.devRef .tc main_v0_0) = (dats m 0 c).arrAt 5 cfg0.N := Pipeline.withArrays_arr spec0 launch0.win.arr_inj c _ _ 5
theorem ends6 (c : Dev nD) : ends m c (Proc.devRef .tc main_v0_1) = (dats m 0 c).arrAt 6 cfg0.N := Pipeline.withArrays_arr spec0 launch0.win.arr_inj c _ _ 6
theorem ends7 (c : Dev nD) : ends m c (Proc.devRef .tc main_v0_2) = (dats m 0 c).arrAt 7 cfg0.N := Pipeline.withArrays_arr spec0 launch0.win.arr_inj c _ _ 7

/-- The run, each result at its slice and the arguments as they were. -/
theorem run_main : θ_run defs (onTc (τ := τ) (main (F := F))) ⟨m, fun _ => 0, ρ⟩ (fun r => ∀ c : Dev nD,
      r.2.mem ((c.tc : Thread nD τ).loc main_v1) = extractStridedSlice S16384x1024 ![0, 0] ((dats m 0 c).arrAt 5 cfg0.N) slices_S16640x1024_S16384x1024_0_0
      ∧ r.2.mem ((c.tc : Thread nD τ).loc main_v2) = extractStridedSlice S16384x8192 ![0, 0] ((dats m 0 c).arrAt 6 cfg0.N) slices_S16640x8192_S16384x8192_0_0
      ∧ r.2.mem ((c.tc : Thread nD τ).loc main_v3) = extractStridedSlice S16384x128 ![0, 0] ((dats m 0 c).arrAt 7 cfg0.N) slices_S16640x128_S16384x128_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h.1.1 c).2 main_v1 (Pipeline.mem_restRefs_of main_v1 (by decide) (by decide))).trans ((slice1 (ends m c)).trans (by rw [ends5])),
      ((h.1.1 c).2 main_v2 (Pipeline.mem_restRefs_of main_v2 (by decide) (by decide))).trans ((slice2 (ends m c)).trans (by rw [ends6])),
      ((h.1.1 c).2 main_v3 (Pipeline.mem_restRefs_of main_v3 (by decide) (by decide))).trans ((slice3 (ends m c)).trans (by rw [ends7])),
      h.2.1 c⟩)
    (θ_run_and (run_all m ρ) (frame_main m ρ))

end Cert.InFwdRun

end
-- ==== Proof.InFwdBits.lean ====
/- The forward call of the input projection over bits: its text is the idealization's, so its frame is the run's there. -/
module

public import proofs.«01_k».proof.Defs
public import proofs.«01_k».proof.Proof.InFwdRun
public import proofs.«01_k».proof.Proof.Gen.InFwd

@[expose] public section

set_option maxRecDepth 16384

noncomputable section

namespace Cert.InFwdBits

open Idealize.ShloMosaic Idealize.SL.Sem

/-- The two programs' bodies are one. -/
theorem bodies : Cert.InFwd.defs₀ (F := Bits) = Cert.InFwdIdeal.defs₀ (F := Bits) := by
  unfold Cert.InFwd.defs₀ Cert.InFwdIdeal.defs₀
  refine congrArg Defs.onTc ?_
  funext l ts
  match l, ts with
  | 0, (t, s) => rfl

theorem tables : Cert.InFwd.defs (F := Bits) = Cert.InFwdIdeal.defs (F := Bits) :=
  congrArg (Pipeline.defs (Cert.InFwdIdeal.pcfgs (F := Bits))) bodies

/-- The frame over bits. -/
theorem frame : Cert.quiescent_InFwd := by
  intro m g _
  rw [tables]
  exact Cert.InFwdRun.frame_main (F := Bits) m g

end Cert.InFwdBits

end
-- ==== Proof.Reals.lean ====
/- Real arithmetic inside the extended reals: what a finite array's entries are, and the few functions of the kernels at them. -/
module

public import Idealize.ShloMosaic.Lib.Pipeline.ValueKit
public import Idealize.ShloMosaic.Lib.Pointwise
public import Mathlib.Analysis.SpecialFunctions.Trigonometric.DerivHyp

@[expose] public section

set_option maxRecDepth 16384

noncomputable section

namespace Cert.Reals

open Idealize.ShloMosaic

/-- An array is finite: every entry is a real number. -/
def Finite {ι : Type*} (X : ι → EReal) : Prop := ∃ f : ι → ℝ, ∀ i, X i = ((f i : ℝ) : EReal)

/-- What lies strictly below plus infinity in absolute value is a real number. -/
theorem real_of_abs_lt (x : EReal) (h : max x (-x) < ⊤) : ∃ r : ℝ, x = (r : EReal) := by
  induction x with
  | bot => simp at h
  | top => simp at h
  | coe r => exact ⟨r, rfl⟩

/-- The 32-bit pattern of plus infinity. -/
theorem inf_f32 : Ideal.ofBits .f32 0x7F800000#32 = ⊤ := by simp [Ideal.ofBits, Ideal.ieee]

/-- The 32-bit pattern of one half. -/
theorem half_f32 : Ideal.ofBits .f32 0x3F000000#32 = (((1 / 2 : ℝ)) : EReal) := by
  simp [Ideal.ofBits, Ideal.ieee]
  rw [← EReal.coe_mul]
  norm_num

/-- An array that passes the test `|x| < ∞` everywhere is finite. -/
theorem finite_of_test {s : Shape} {φ : FTy} (X : FVec Ideal s φ) (Y : FVec Ideal s .f32) (Z : FVec Ideal s .f32)
    (hY : ∀ i, Y i = X i) (hZ : ∀ i, Z i = Ideal.ofBits .f32 0x7F800000#32) (h : cmpf .olt (Host.absf Y) Z = fun _ => 1#1) :
    Finite (fun i => X i) := by
  have h1 : ∀ i, ∃ r : ℝ, X i = (r : EReal) := by
    intro i
    apply real_of_abs_lt
    have h2 := congrFun h i
    change Ideal.cmp .olt (max (Y i) (-(Y i))) (Z i) = 1#1 at h2
    rw [hY, hZ, inf_f32] at h2
    by_contra h3
    simp [Ideal.cmp, h3] at h2
  exact ⟨fun i => (h1 i).choose, fun i => (h1 i).choose_spec⟩

/-- The test as a host function takes it of a 16-bit array: widened, its absolute value against infinity everywhere. -/
theorem finite_of_test16 {s : Shape} (X : FVec Ideal s .bf16) (Z : FVec Ideal s .f32)
    (h : cmpf .olt (Host.absf (extf .f32 X (by decide))) Z = fun _ => 1#1)
    (hZ : ∀ i, Z i = Ideal.ofBits .f32 0x7F800000#32 := by intro i; rfl) : Finite (fun i => X i) :=
  finite_of_test X _ Z (fun _ => rfl) hZ h

/-- The test of a 32-bit array. -/
theorem finite_of_test32 {s : Shape} (X : FVec Ideal s .f32) (Z : FVec Ideal s .f32)
    (h : cmpf .olt (Host.absf X) Z = fun _ => 1#1)
    (hZ : ∀ i, Z i = Ideal.ofBits .f32 0x7F800000#32 := by intro i; rfl) : Finite (fun i => X i) :=
  finite_of_test X _ Z (fun _ => rfl) hZ h

/-- A finite sum of reals, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The logistic function written with the hyperbolic tangent of half the argument. -/
theorem logistic_of_tanh (a : ℝ) : 1 / 2 * Real.tanh (1 / 2 * a) + 1 / 2 = 1 / (1 + Real.exp (-a)) := by
  have h : Real.exp (-a) = Real.exp (-(1 / 2 * a)) * Real.exp (-(1 / 2 * a)) := by rw [← Real.exp_add]; congr 1; ring
  have h1 : Real.exp (-(1 / 2 * a)) * Real.exp (1 / 2 * a) = 1 := by rw [← Real.exp_add]; simp
  rw [Real.tanh_eq_sinh_div_cosh, Real.sinh_eq, Real.cosh_eq, h]
  have p := Real.exp_pos (-(1 / 2 * a))
  have q := Real.exp_pos (1 / 2 * a)
  set u := Real.exp (-(1 / 2 * a))
  set v := Real.exp (1 / 2 * a)
  have : v = 1 / u := by field_simp; linarith
  rw [this]
  field_simp
  ring

/-- Division by a real that is not zero is the reals' division. -/
theorem div_real (a b : ℝ) (hb : b ≠ 0) : Ideal.div (a : EReal) (b : EReal) = ((a / b : ℝ) : EReal) := by
  rw [Ideal.div_coe hb, ← EReal.coe_mul]; congr 1; ring

end Cert.Reals

end
-- ==== Proof.GateValue.lean ====
/- The gate's backward call: its two result arrays are the reference's two terms. -/
module

public import proofs.«01_k».proof.Proof.Gen.GateIdeal.Value
public import proofs.«01_k».proof.Proof.Gen.GateRefIdeal.Run
public import proofs.«01_k».proof.Proof.Reals
public import Idealize.ShloMosaic.Lib.Pipeline.ValueKit
public import Idealize.ShloMosaic.Lib.Pointwise

@[expose] public section

set_option maxRecDepth 16384

noncomputable section

namespace Cert.GateValue

open Idealize.ShloMosaic Idealize.ShloMosaic.TcCoe Idealize.SL.Sem
open Idealize.ShloMosaic.Pipeline (Dat)
open Cert.GateIdeal Cert.GateIdeal.Gen

variable (m : (ℓ : Loc nD τ sig) → Buf (Elt Ideal) ℓ)

/-- The reference's logistic gate of the convolved half. -/
abbrev refGate (x2 : FVec Ideal Cert.GateRefIdeal.S16384x2816 .bf16) : FVec Ideal Cert.GateRefIdeal.S16384x2816 .f32 :=
  Host.divf (broadcastInDim Cert.GateRefIdeal.S16384x2816 ![] Cert.GateRefIdeal.Gen.bcast_S_S16384x2816 (constant Cert.GateRefIdeal.S_ .f32 0x3F800000#32))
    (addf (broadcastInDim Cert.GateRefIdeal.S16384x2816 ![] Cert.GateRefIdeal.Gen.bcast_S_S16384x2816 (constant Cert.GateRefIdeal.S_ .f32 0x3F800000#32))
      (Host.exp (Host.negf (extf .f32 x2 Cert.GateRefIdeal.Gen.bitsLt_bf16_f32))))

/-- The reference's gradient of the gated product: the cotangent times the transposed down projection. -/
abbrev refProd (x0 : FVec Ideal Cert.GateRefIdeal.S16384x1024 .bf16) (x1 : FVec Ideal Cert.GateRefIdeal.S2816x1024 .bf16) :
    FVec Ideal Cert.GateRefIdeal.S16384x2816 .f32 :=
  Host.dotGeneral Cert.GateRefIdeal.dot_S16384x1024_S2816x1024_S16384x2816_1_1_0_0_n_n none
    (extf .f32 x0 Cert.GateRefIdeal.Gen.bitsLt_bf16_f32) (extf .f32 x1 Cert.GateRefIdeal.Gen.bitsLt_bf16_f32)

/-- The reference's gradient of the linear half. -/
abbrev refLin (x0 : FVec Ideal Cert.GateRefIdeal.S16384x1024 .bf16) (x1 : FVec Ideal Cert.GateRefIdeal.S2816x1024 .bf16)
    (x2 : FVec Ideal Cert.GateRefIdeal.S16384x2816 .bf16) : FVec Ideal Cert.GateRefIdeal.S16384x2816 .bf16 :=
  truncf .bf16 (mulf (mulf (extf .f32 x2 Cert.GateRefIdeal.Gen.bitsLt_bf16_f32) (refGate x2)) (refProd x0 x1)) Cert.GateRefIdeal.Gen.bitsLt_bf16_f32

/-- The reference's gradient of the convolved half. -/
abbrev refConv (x0 : FVec Ideal Cert.GateRefIdeal.S16384x1024 .bf16) (x1 : FVec Ideal Cert.GateRefIdeal.S2816x1024 .bf16)
    (x2 : FVec Ideal Cert.GateRefIdeal.S16384x2816 .bf16) (x3 : FVec Ideal Cert.GateRefIdeal.S16384x5632 .bf16) :
    FVec Ideal Cert.GateRefIdeal.S16384x2816 .bf16 :=
  truncf .bf16 (addf
    (mulf (mulf (refProd x0 x1) (extf .f32 (extractStridedSlice Cert.GateRefIdeal.S16384x2816 ![0, 2816] x3 Cert.GateRefIdeal.Gen.slices_S16384x5632_S16384x2816_0_2816) Cert.GateRefIdeal.Gen.bitsLt_bf16_f32)) (refGate x2))
    (mulf (mulf (extf .f32 x2 Cert.GateRefIdeal.Gen.bitsLt_bf16_f32) (mulf (refProd x0 x1) (extf .f32 (extractStridedSlice Cert.GateRefIdeal.S16384x2816 ![0, 2816] x3 Cert.GateRefIdeal.Gen.slices_S16384x5632_S16384x2816_0_2816) Cert.GateRefIdeal.Gen.bitsLt_bf16_f32)))
      (mulf (refGate x2) (subf (broadcastInDim Cert.GateRefIdeal.S16384x2816 ![] Cert.GateRefIdeal.Gen.bcast_S_S16384x2816 (constant Cert.GateRefIdeal.S_ .f32 0x3F800000#32)) (refGate x2)))))
    Cert.GateRefIdeal.Gen.bitsLt_bf16_f32

/-- Every window's block index at grid point `t`. -/
theorem idx : ∀ t : Fin cfg0.N,
    win0_0.index t = ![t.val / 2, 0] ∧ win0_1.index t = ![0, 0] ∧ win0_2.index t = ![t.val / 2, t.val % 2]
    ∧ win0_3.index t = ![t.val / 2, 2 + t.val % 2] ∧ win0_4.index t = ![t.val / 2, t.val % 2] ∧ win0_5.index t = ![t.val / 2, t.val % 2] :=
  (by decide +kernel : ∀ t : Fin grid0.N, _)

/-- The row of the down projection at which grid point `t` starts to read. -/
theorem off : ∀ t : Fin cfg0.N, k0_off1 (grid0.coords t) = ![1408 * (t.val % 2), 0] :=
  (by decide +kernel : ∀ t : Fin grid0.N, _)

/-- The kernel's gate, one half of one plus the hyperbolic tangent of half the argument, is the logistic function. -/
theorem gate_eq (a : EReal) (ha : ∃ r : ℝ, a = r) :
    Ideal.ofBits FTy.f32 1056964608#32 * Ideal.tanh (Ideal.ofBits FTy.f32 1056964608#32 * a) + Ideal.ofBits FTy.f32 1056964608#32
      = ((1 / (1 + Real.exp (-ha.choose)) : ℝ) : EReal)
    ∧ Ideal.div 1 (1 + Ideal.exp (-a)) = ((1 / (1 + Real.exp (-ha.choose)) : ℝ) : EReal) := by
  have h := ha.choose_spec
  set r := ha.choose
  have e : Real.exp (-r) > 0 := Real.exp_pos _
  constructor
  · rw [h, Reals.half_f32, ← EReal.coe_mul, Ideal.tanh_coe, ← EReal.coe_mul, ← EReal.coe_add, Reals.logistic_of_tanh]
  · rw [h, ← EReal.coe_neg, Ideal.exp_coe, ← EReal.coe_one, ← EReal.coe_add, Reals.div_real _ _ (by positivity)]

/-- The linear half's gradient at one entry: the same product in the other order. -/
theorem lin_entry (d a : EReal) (ha : ∃ r : ℝ, a = r) :
    d * a * (Ideal.ofBits FTy.f32 1056964608#32 * Ideal.tanh (Ideal.ofBits FTy.f32 1056964608#32 * a) + Ideal.ofBits FTy.f32 1056964608#32)
      = a * Ideal.div 1 (1 + Ideal.exp (-a)) * d := by
  rw [(gate_eq a ha).1, (gate_eq a ha).2]; ac_rfl

/-- The convolved half's gradient at one entry: the derivative of the gate, factored and expanded. -/
theorem conv_entry (d b a : EReal) (hd : ∃ r : ℝ, d = r) (hb : ∃ r : ℝ, b = r) (ha : ∃ r : ℝ, a = r) :
    d * b * ((Ideal.ofBits FTy.f32 1056964608#32 * Ideal.tanh (Ideal.ofBits FTy.f32 1056964608#32 * a) + Ideal.ofBits FTy.f32 1056964608#32)
        * (1 + a * (1 - (Ideal.ofBits FTy.f32 1056964608#32 * Ideal.tanh (Ideal.ofBits FTy.f32 1056964608#32 * a) + Ideal.ofBits FTy.f32 1056964608#32))))
      = d * b * Ideal.div 1 (1 + Ideal.exp (-a)) + a * (d * b) * (Ideal.div 1 (1 + Ideal.exp (-a)) * (1 - Ideal.div 1 (1 + Ideal.exp (-a)))) := by
  rw [(gate_eq a ha).1, (gate_eq a ha).2]
  generalize 1 / (1 + Real.exp (-ha.choose)) = s
  obtain ⟨d, rfl⟩ := hd
  obtain ⟨b, rfl⟩ := hb
  obtain ⟨a, rfl⟩ := ha
  norm_cast
  ring

/-- A contraction of two finite arrays is a real number. -/
theorem sum_real {n : ℕ} (f g : Fin n → EReal) (hf : ∀ k, ∃ r : ℝ, f k = r) (hg : ∀ k, ∃ r : ℝ, g k = r) :
    ∃ r : ℝ, ∑ k, f k * g k = r := by
  choose f' hf' using hf
  choose g' hg' using hg
  exact ⟨∑ k, f' k * g' k, by simp only [hf', hg', ← EReal.coe_mul, Reals.coe_sum]⟩

/-- The linear half's gradient after the run is the reference's. -/
theorem final4 (c : Dev nD) (h2 : Reals.Finite (fun i => (m ((c : Thread nD τ).loc main_arg2) : FVec Ideal S16384x2816 .bf16) i)) :
    (dats m 0 c).arrAt 4 (cfgs 0).N
    = refLin (m ((c : Thread nD τ).loc main_arg0)) (m ((c : Thread nD τ).loc main_arg1)) (m ((c : Thread nD τ).loc main_arg2)) := by
  obtain ⟨f2, h2⟩ := h2
  refine (dats m 0 c).arrAt_eq_of_covers 4 _ (by decide +kernel) fun t _ y => ?_
  blk_simp
  rw [after0_4]; unfold outsAt0; frame_out
  pointwise [k0_pay1, k0_pay2, k0_pay3, k0_pay4, refLin]
  refine (lin_entry _ _ ⟨_, h2 (((cfg0.win 2).blk t).view.emb y)⟩).trans ?_
  blk_point [iblk, V, idx t, off t]

/-- The convolved half's gradient after the run is the reference's. -/
theorem final5 (c : Dev nD) (h0 : Reals.Finite (fun i => (m ((c : Thread nD τ).loc main_arg0) : FVec Ideal S16384x1024 .bf16) i))
    (h1 : Reals.Finite (fun i => (m ((c : Thread nD τ).loc main_arg1) : FVec Ideal S2816x1024 .bf16) i))
    (h2 : Reals.Finite (fun i => (m ((c : Thread nD τ).loc main_arg2) : FVec Ideal S16384x2816 .bf16) i))
    (h3 : Reals.Finite (fun i => (m ((c : Thread nD τ).loc main_arg3) : FVec Ideal S16384x5632 .bf16) i)) :
    (dats m 0 c).arrAt 5 (cfgs 0).N
    = refConv (m ((c : Thread nD τ).loc main_arg0)) (m ((c : Thread nD τ).loc main_arg1)) (m ((c : Thread nD τ).loc main_arg2)) (m ((c : Thread nD τ).loc main_arg3)) := by
  obtain ⟨f0, h0⟩ := h0
  obtain ⟨f1, h1⟩ := h1
  obtain ⟨f2, h2⟩ := h2
  obtain ⟨f3, h3⟩ := h3
  refine (dats m 0 c).arrAt_eq_of_covers 5 _ (by decide +kernel) fun t _ y => ?_
  blk_simp
  rw [after0_5]; unfold outsAt0; frame_out
  pointwise [k0_pay1, k0_pay2, k0_pay3, k0_pay5, refConv]
  refine (conv_entry _ _ _ (sum_real _ _ (fun k => ⟨_, h0 (((cfg0.win 0).blk t).view.emb _)⟩) (fun k => ⟨_, h1 (((cfg0.win 1).blk t).view.emb _)⟩))
    ⟨_, h3 (((cfg0.win 3).blk t).view.emb y)⟩ ⟨_, h2 (((cfg0.win 2).blk t).view.emb y)⟩).trans ?_
  blk_point [iblk, V, idx t, off t]

end Cert.GateValue

end
-- ==== Proof.GateClaim.lean ====
/- The gate's backward call: the value claim, from the two final arrays. -/
module

public import proofs.«01_k».proof.Defs
public import proofs.«01_k».proof.Proof.GateValue
public import proofs.«01_k».proof.Proof.Gen.GateIdeal
public import proofs.«01_k».proof.Proof.Gen.GateRefIdeal
public import proofs.«01_k».proof.Proof.Gen.Pre_gate_finite
public import Idealize.ShloMosaic.Lib.Claim

@[expose] public section

set_option maxRecDepth 16384

noncomputable section

namespace Cert.GateClaim

open Idealize.ShloMosaic Idealize.SL.Sem

variable (m : (ℓ : Loc Cert.GateIdeal.nD Cert.GateIdeal.τ Cert.GateIdeal.sig) → Buf (Elt Ideal) ℓ)

/-- The precondition says that the four argument arrays are finite. -/
theorem finite (h : Cert.Pre_GateIdeal_gate_finite m) (c : Dev Cert.GateIdeal.nD) :
    Reals.Finite (fun i => (m ((c.tc : Thread Cert.GateIdeal.nD Cert.GateIdeal.τ).loc Cert.GateIdeal.main_arg0) : FVec Ideal Cert.GateIdeal.S16384x1024 .bf16) i)
    ∧ Reals.Finite (fun i => (m ((c.tc : Thread Cert.GateIdeal.nD Cert.GateIdeal.τ).loc Cert.GateIdeal.main_arg1) : FVec Ideal Cert.GateIdeal.S2816x1024 .bf16) i)
    ∧ Reals.Finite (fun i => (m ((c.tc : Thread Cert.GateIdeal.nD Cert.GateIdeal.τ).loc Cert.GateIdeal.main_arg2) : FVec Ideal Cert.GateIdeal.S16384x2816 .bf16) i)
    ∧ Reals.Finite (fun i => (m ((c.tc : Thread Cert.GateIdeal.nD Cert.GateIdeal.τ).loc Cert.GateIdeal.main_arg3) : FVec Ideal Cert.GateIdeal.S16384x5632 .bf16) i) := by
  obtain ⟨h0, h1, h2, h3⟩ := h c
  exact ⟨Reals.finite_of_test16 _ _ h0, Reals.finite_of_test16 _ _ h1, Reals.finite_of_test16 _ _ h2, Reals.finite_of_test16 _ _ h3⟩

/-- The value claim of the gate's backward call. -/
theorem algebraic : Cert.algebraic_GateIdeal_GateRefIdeal_pre_gate_finite := by
  pair_intro
  · run_from Cert.GateIdeal.Gen.run_main m g
  · run_from Cert.GateRefIdeal.Value.run m' g'
    · exact (Cert.GateValue.final4 m c (finite m hpre c).2.2.1).symm
    · exact (Cert.GateValue.final5 m c (finite m hpre c).1 (finite m hpre c).2.1 (finite m hpre c).2.2.1 (finite m hpre c).2.2.2).symm

/-- The reference runs, keeps its arguments, and leaves every counter at zero. -/
theorem frame_ref : Cert.quiescent_GateRefIdeal := by
  intro m g _
  refine (θ_run_and (?_ : θ_run _ _ _ (fun r => ∀ c : Dev Cert.GateRefIdeal.nD, _)) (?_ : θ_run _ _ _ (fun r => r.2.sem = fun _ => 0)))
  · run_from Cert.GateRefIdeal.Value.run m g
  · exact (θ_run Cert.GateRefIdeal.defs _ _).mono (fun r _ => sem_eq_zero_of_no_sems (by decide) r.2) (Cert.GateRefIdeal.Value.run m g)

/-- The same under the value claim's precondition. -/
theorem frame_ref_finite : Cert.quiescent_GateRefIdeal_pre_gate_finite :=
  fun m g _ => frame_ref m g trivial

end Cert.GateClaim

end
-- ==== Proof.NormRow.lean ====
/- The backward of a modulated root-mean-square norm, one row at a time, in the extended reals: the kernel's form and the
   derivative's, equal on finite rows. -/
module

public import proofs.«01_k».proof.Proof.Reals

@[expose] public section

set_option maxRecDepth 16384

noncomputable section

namespace Cert.NormRow

open Idealize.ShloMosaic

/-- The 32-bit pattern of 1024. -/
theorem width_f32 : Ideal.ofBits .f32 0x44800000#32 = ((1024 : ℝ) : EReal) := by
  simp [Ideal.ofBits, Ideal.ieee]
  rw [← EReal.coe_mul]
  norm_num

/-- The 32-bit pattern of minus one half. -/
theorem neg_half_f32 : Ideal.ofBits .f32 0xBF000000#32 = ((-(1 / 2) : ℝ) : EReal) := by
  simp [Ideal.ofBits, Ideal.ieee]
  rw [← EReal.coe_mul]
  norm_num

/-- The norm's epsilon is a positive real. -/
theorem eps_f32 : ∃ e : ℝ, 0 < e ∧ Ideal.ofBits .f32 0x358637BD#32 = (e : EReal) := by
  simp [Ideal.ofBits, Ideal.ieee]
  refine ⟨_, ?_, (EReal.coe_mul _ _).symm⟩
  norm_num

/-- The reciprocal root of a row's mean square plus epsilon. -/
def inv (x : Fin 1024 → EReal) : EReal :=
  Ideal.rsqrt (Ideal.div (∑ k, x k * x k) (Ideal.ofBits .f32 0x44800000#32) + Ideal.ofBits .f32 0x358637BD#32)

/-- One entry of the modulated norm: the row times the reciprocal root, the gain and one plus the scale, plus the shift. -/
def fwd (x g s b : Fin 1024 → EReal) (j : Fin 1024) : EReal :=
  x j * inv x * g j * (1 + s j) + b j

/-- On a finite row it is a real, and over the mean square it is its cube. -/
theorem inv_real (x : Fin 1024 → EReal) (hx : ∀ k, ∃ r : ℝ, x k = r) :
    ∃ q : ℝ, 0 < q ∧ inv x = (((Real.sqrt q)⁻¹ : ℝ) : EReal)
      ∧ Ideal.div (∑ k, x k * x k) (Ideal.ofBits .f32 0x44800000#32) + Ideal.ofBits .f32 0x358637BD#32 = (q : EReal) := by
  choose f hf using hx
  obtain ⟨e, he, hE⟩ := eps_f32
  have h : Ideal.div (∑ k, x k * x k) (Ideal.ofBits .f32 0x44800000#32) + Ideal.ofBits .f32 0x358637BD#32
      = (((∑ k, f k * f k) / 1024 + e : ℝ) : EReal) := by
    rw [hE, width_f32]
    simp only [hf, ← EReal.coe_mul, Reals.coe_sum]
    rw [Reals.div_real _ _ (by norm_num), ← EReal.coe_add]
  have hq : 0 < (∑ k, f k * f k) / 1024 + e := by
    have : 0 ≤ ∑ k, f k * f k := Finset.sum_nonneg fun k _ => mul_self_nonneg _
    positivity
  refine ⟨_, hq, ?_, h⟩
  rw [inv, h, Ideal.rsqrt_coe, if_neg (by linarith), if_neg (by linarith)]

/-- One entry of the input's gradient, as the kernel forms it. -/
def dxKernel (d x s g : Fin 1024 → EReal) (res : EReal) (j : Fin 1024) : EReal :=
  inv x * (d j * (1 + s j) * g j - x j * inv x * Ideal.div (∑ k, d k * (1 + s k) * g k * (x k * inv x)) (Ideal.ofBits .f32 0x44800000#32)) + res

/-- The factor of the derivative through the mean square. -/
def corr (d x s g : Fin 1024 → EReal) : EReal :=
  Ideal.div ((∑ k, x k * (d k * (1 + s k) * g k)) * (Ideal.ofBits .f32 0xBF000000#32
    * Ideal.div (inv x) (Ideal.div (∑ k, x k * x k) (Ideal.ofBits .f32 0x44800000#32) + Ideal.ofBits .f32 0x358637BD#32)))
    (Ideal.ofBits .f32 0x44800000#32)

/-- One entry of the input's gradient, as the derivative's rules form it. -/
def dxRef (d x s g : Fin 1024 → EReal) (res : EReal) (j : Fin 1024) : EReal :=
  d j * (1 + s j) * g j * inv x + x j * corr d x s g + corr d x s g * x j + res

/-- The two forms are one on finite rows, whatever the residual's gradient is. -/
theorem dx_eq (d x s g : Fin 1024 → EReal) (res : EReal) (j : Fin 1024) (hd : ∀ k, ∃ r : ℝ, d k = r) (hx : ∀ k, ∃ r : ℝ, x k = r)
    (hs : ∀ k, ∃ r : ℝ, s k = r) (hg : ∀ k, ∃ r : ℝ, g k = r) : dxKernel d x s g res j = dxRef d x s g res j := by
  obtain ⟨q, hq, hi, hm⟩ := inv_real x hx
  choose x' hx' using hx
  choose d' hd' using hd
  choose s' hs' using hs
  choose g' hg' using hg
  have hr : Real.sqrt q * Real.sqrt q = q := Real.mul_self_sqrt hq.le
  have hr0 : Real.sqrt q ≠ 0 := (Real.sqrt_pos.mpr hq).ne'
  unfold dxKernel dxRef corr
  rw [hm, hi, neg_half_f32, width_f32]
  congr 1
  simp only [hx', hd', hs', hg']
  rw [Reals.div_real _ _ hq.ne']
  simp only [← EReal.coe_one, ← EReal.coe_add, ← EReal.coe_mul, Reals.coe_sum]
  rw [Reals.div_real _ _ (by norm_num), Reals.div_real _ _ (by norm_num)]
  norm_cast
  have e1 : ∑ k, d' k * (1 + s' k) * g' k * (x' k * (Real.sqrt q)⁻¹) = (∑ k, x' k * (d' k * (1 + s' k) * g' k)) * (Real.sqrt q)⁻¹ := by
    rw [Finset.sum_mul]; exact Finset.sum_congr rfl fun k _ => by ring
  rw [e1]
  generalize ∑ k, x' k * (d' k * (1 + s' k) * g' k) = T
  have e2 : (Real.sqrt q)⁻¹ / q = (Real.sqrt q)⁻¹ * (Real.sqrt q)⁻¹ * (Real.sqrt q)⁻¹ := by
    rw [div_eq_mul_inv]; nth_rewrite 2 [← hr]; rw [mul_inv]; ring
  rw [e2]
  ring

/-- One row's addend to the parameters' gradients: the weight's, the shift's and the scale's in the first three rows of the
    eight, nothing in the others. -/
def stat (n : ℕ) (d x s g : Fin 1024 → EReal) (j : Fin 1024) : EReal :=
  if n < 1 then d j * (1 + s j) * (x j * inv x) else if n - 1 < 1 then d j
  else if n - 1 - 1 < 1 then d j * (x j * inv x * g j) else 0

/-- A sum over 1024 rows, by its four quarters. -/
theorem sum_quarters (f : Fin 1024 → EReal) :
    ∑ i, f i = (∑ k : Fin 256, f ⟨0 + k, by omega⟩) + (∑ k : Fin 256, f ⟨256 + k, by omega⟩) + (∑ k : Fin 256, f ⟨512 + k, by omega⟩)
      + ∑ k : Fin 256, f ⟨768 + k, by omega⟩ := by
  rw [Fin.sum_univ_tiles 4 256 rfl, Fin.sum_univ_four]
  rfl

/-- A sum over 512 rows, by its two halves. -/
theorem sum_halves (f : Fin 512 → EReal) : ∑ i, f i = (∑ k : Fin 256, f ⟨0 + k, by omega⟩) + ∑ k : Fin 256, f ⟨256 + k, by omega⟩ := by
  rw [Fin.sum_univ_tiles 2 256 rfl, Fin.sum_univ_two]
  rfl

/-- A contraction of two finite arrays is a real number. -/
theorem sum_real {n : ℕ} (f g : Fin n → EReal) (hf : ∀ k, ∃ r : ℝ, f k = r) (hg : ∀ k, ∃ r : ℝ, g k = r) :
    ∃ r : ℝ, ∑ k, f k * g k = r := by
  choose f' hf' using hf
  choose g' hg' using hg
  exact ⟨∑ k, f' k * g' k, by simp only [hf', hg', ← EReal.coe_mul, Reals.coe_sum]⟩

/-- So is a sum of two reals. -/
theorem add_real {a b : EReal} (ha : ∃ r : ℝ, a = r) (hb : ∃ r : ℝ, b = r) : ∃ r : ℝ, a + b = r := by
  obtain ⟨a, rfl⟩ := ha
  obtain ⟨b, rfl⟩ := hb
  exact ⟨a + b, (EReal.coe_add a b).symm⟩

end Cert.NormRow

end
-- ==== Proof.InProjStep.lean ====
module

public import proofs.«01_k».proof.Proof.Gen.InProjIdeal.Frame
public import proofs.«01_k».proof.Proof.NormRow
public import Idealize.ShloMosaic.Lib.Pipeline.ValueKit
public import Idealize.ShloMosaic.Lib.Pointwise
public import Idealize.ShloMosaic.Lib.Pipeline.ReadBack

@[expose] public section

set_option maxRecDepth 16384

noncomputable section

namespace Cert.InProjStep

open Idealize.ShloMosaic Idealize.ShloMosaic.TcCoe Idealize.SL.Sem
open Idealize.ShloMosaic.Pipeline (Dat)
open Cert.InProjIdeal Cert.InProjIdeal.Gen

/-- The second strip of rows is the first's function. -/
theorem strip2 (d x : Vec Ideal S256x1024 .f32) (s g : Vec Ideal S1x1024 .f32) (r : Vec Ideal S256x1024 .f32) :
    k0_pay18 (k0_pay17 d x s g) r = k0_pay10 d x s g r := rfl

/-- So is the third. -/
theorem strip3 (d x : Vec Ideal S256x1024 .f32) (s g : Vec Ideal S1x1024 .f32) (r : Vec Ideal S256x1024 .f32) :
    k0_pay27 (k0_pay22 x) (k0_pay23 x) (k0_pay25 d s g) (k0_pay26 d x s g) r = k0_pay10 d x s g r := rfl

/-- So is the fourth. -/
theorem strip4 (d x : Vec Ideal S256x1024 .f32) (s g : Vec Ideal S1x1024 .f32) (r : Vec Ideal S256x1024 .f32) :
    k0_pay35 d (k0_pay31 x) (k0_pay32 x) (k0_pay33 s) g r = k0_pay10 d x s g r := rfl

/-- A strip's entry is the row form of the input's gradient. -/
theorem strip (d x : Vec Ideal S256x1024 .f32) (s g : Vec Ideal S1x1024 .f32) (r : Vec Ideal S256x1024 .f32) (y : S256x1024.Idx) :
    k0_pay10 (F := Ideal) d x s g r y = NormRow.dxKernel (fun k => d (ix2 (y 0) k)) (fun k => x (ix2 (y 0) k)) (fun k => s (ix2 0 k)) (fun k => g (ix2 0 k)) (r y) (y 1) := by
  pointwise [k0_pay10, k0_pay9, k0_pay8, k0_pay7, NormRow.dxKernel, NormRow.inv]

/-- The parameters' gradients after a row tile: what they were and the tile's four strips of rows. -/
theorem stats (d0 d1 d2 d3 x0 x1 x2 x3 : Vec Ideal S256x1024 .f32) (s g : Vec Ideal S1x1024 .f32) (st : Vec Ideal S8x1024 .f32) (y : S8x1024.Idx) :
    k0_pay36 (F := Ideal) (k0_pay28 (k0_pay19 (k0_pay11 d0 x0 s) (k0_pay15 x1) (k0_pay16 d1 s)) (k0_pay23 x2) (k0_pay24 d2 s))
      (k0_pay29 (k0_pay20 (k0_pay12 k0_pay6 d0) d1) d2)
      (k0_pay30 (k0_pay21 (k0_pay13 k0_pay6 d0 (k0_pay8 x0) g) d1 (k0_pay15 x1) g) d2 (k0_pay23 x2) g) d3 (k0_pay32 x3) (k0_pay33 s) g st y
    = st y + ((∑ i : Fin 256, NormRow.stat (y 0) (fun k => d0 (ix2 i k)) (fun k => x0 (ix2 i k)) (fun k => s (ix2 0 k)) (fun k => g (ix2 0 k)) (y 1))
      + (∑ i : Fin 256, NormRow.stat (y 0) (fun k => d1 (ix2 i k)) (fun k => x1 (ix2 i k)) (fun k => s (ix2 0 k)) (fun k => g (ix2 0 k)) (y 1))
      + (∑ i : Fin 256, NormRow.stat (y 0) (fun k => d2 (ix2 i k)) (fun k => x2 (ix2 i k)) (fun k => s (ix2 0 k)) (fun k => g (ix2 0 k)) (y 1))
      + ∑ i : Fin 256, NormRow.stat (y 0) (fun k => d3 (ix2 i k)) (fun k => x3 (ix2 i k)) (fun k => s (ix2 0 k)) (fun k => g (ix2 0 k)) (y 1)) := by
  unfold NormRow.stat NormRow.inv
  pointwise [k0_pay36, k0_pay33, k0_pay34, k0_pay32, k0_pay31, k0_pay28, k0_pay19, k0_pay11, k0_pay15, k0_pay16, k0_pay23, k0_pay24, k0_pay29, k0_pay20,
    k0_pay12, k0_pay6, k0_pay30, k0_pay21, k0_pay13, k0_pay8, k0_pay9, k0_pay7, k0_pay14, k0_pay22]
  split_ifs <;> simp [add_assoc]

variable (m : (ℓ : Loc nD τ sig) → Buf (Elt Ideal) ℓ)

/-- Every window's block index at grid point `t`. -/
theorem idx : ∀ t : Fin cfg0.N,
    win0_0.index t = ![t.val / 9, min (t.val % 9) 2] ∧ win0_1.index t = ![0, min (t.val % 9) 2]
    ∧ win0_2.index t = ![t.val / 9, min (t.val % 9 - 3) 4] ∧ win0_3.index t = ![0, 3 + min (t.val % 9 - 3) 4]
    ∧ win0_4.index t = ![t.val / 9, 0] ∧ win0_5.index t = ![0, 0] ∧ win0_6.index t = ![t.val / 9, 0] ∧ win0_7.index t = ![0, 0]
    ∧ win0_8.index t = ![0, 0] ∧ win0_9.index t = ![t.val / 9, 0] ∧ win0_10.index t = ![t.val / 9, 0] ∧ win0_11.index t = ![0, 0] :=
  (by decide +kernel : ∀ t : Fin grid0.N, _)

/-- The accumulator of the norm's output gradient after point `t`. -/
def acc (c : Dev nD) (n : ℕ) (h : n < cfg0.N) : Vec Ideal S1024x1024 .f32 := (outsAt0 m c n h).2.2

/-- The first operand of the three products, as the launch has them. -/
abbrev dzQkv (c : Dev nD) : FVec Ideal S16640x3072 .bf16 := m ((c : Thread nD τ).loc main_arg0)
abbrev dzRest (c : Dev nD) : FVec Ideal S16384x5120 .bf16 := m ((c : Thread nD τ).loc main_arg1)
abbrev dzGate (c : Dev nD) : FVec Ideal S16640x128 .bf16 := m ((c : Thread nD τ).loc main_arg2)
abbrev wMain (c : Dev nD) : FVec Ideal S1024x8192 .bf16 := m ((c : Thread nD τ).loc main_arg3)
abbrev wGate (c : Dev nD) : FVec Ideal S1024x128 .bf16 := m ((c : Thread nD τ).loc main_arg4)
abbrev xs (c : Dev nD) : FVec Ideal S16384x1024 .f32 := m ((c : Thread nD τ).loc main_arg5)
abbrev gs (c : Dev nD) : FVec Ideal S1x1024 .f32 := m ((c : Thread nD τ).loc main_arg6)
abbrev scs (c : Dev nD) : FVec Ideal S1x1024 .f32 := m ((c : Thread nD τ).loc main_arg7)
abbrev res (c : Dev nD) : FVec Ideal S16384x1024 .f32 := m ((c : Thread nD τ).loc main_arg8)

/-- The addend of the point at row tile `i` and step `s` to entry `(a, b)` of the accumulator: a block product of the launch's arrays. -/
def part (c : Dev nD) (i s : ℕ) (hi : i < 16) (hs : s < 9) (a b : Fin 1024) : EReal :=
  if h2 : s ≤ 2 then
    ∑ k : Fin 1024, dzQkv m c (ix2 (⟨i * 1024 + a, by omega⟩ : Fin 16640) (⟨s * 1024 + k, by omega⟩ : Fin 3072))
      * wMain m c (ix2 b (⟨s * 1024 + k, by omega⟩ : Fin 8192))
  else if h3 : s ≤ 7 then
    ∑ k : Fin 1024, dzRest m c (ix2 (⟨i * 1024 + a, by omega⟩ : Fin 16384) (⟨(s - 3) * 1024 + k, by omega⟩ : Fin 5120))
      * wMain m c (ix2 b (⟨3072 + ((s - 3) * 1024 + k), by omega⟩ : Fin 8192))
  else ∑ k : Fin 128, dzGate m c (ix2 (⟨i * 1024 + a, by omega⟩ : Fin 16640) k) * wGate m c (ix2 b k)

/-- A point's row tile is one of sixteen. -/
theorem tile_lt (t : Fin cfg0.N) : t.val / 9 < 16 := by have := lt_of_lt_of_eq t.isLt N_0; omega

/-- A point's step is one of nine. -/
theorem step_lt (t : Fin cfg0.N) : t.val % 9 < 9 := by omega

/-- The block of the first product's operand is wholly fetched at every point: an entry of it is the array's. -/
theorem qkv_at (c : Dev nD) (t : Fin cfg0.N) (h : t.val % 9 ≤ 2) (i k : Fin 1024) :
    X0_0 m c t (ix2 i k) = dzQkv m c (ix2 (⟨t.val / 9 * 1024 + i, by have := tile_lt t; omega⟩ : Fin 16640) (⟨t.val % 9 * 1024 + k, by omega⟩ : Fin 3072)) := by
  have hm : min (t.val % 9) 2 = t.val % 9 := by omega
  unfold X0_0 Pipeline.Window.fill
  rw [dif_pos (moved0_0 t _)]
  blk_point [iblk, V, idx t, hm]

/-- So is the third's. -/
theorem gate_at (c : Dev nD) (t : Fin cfg0.N) (i : Fin 1024) (k : Fin 128) :
    X0_4 m c t (ix2 i k) = dzGate m c (ix2 (⟨t.val / 9 * 1024 + i, by have := tile_lt t; omega⟩ : Fin 16640) k) := by
  unfold X0_4 Pipeline.Window.fill
  rw [dif_pos (moved0_4 t _)]
  blk_point [iblk, V, idx t]

/-- At a row tile's first point the accumulator is zero and the point's addend. -/
theorem acc_reset (c : Dev nD) (t : Fin cfg0.N) (h0 : t.val % 9 = 0) (y) :
    acc m c t.val t.isLt y = 0 + part m c (t.val / 9) (t.val % 9) (tile_lt t) (step_lt t) (y 0) (y 1) := by
  unfold acc part
  have hm : min (t.val % 9) 2 = t.val % 9 := by omega
  rw [dif_pos (by omega : t.val % 9 ≤ 2)]
  by_cases h1 : t.val % 144 = 0
  · rw [outsAt0_A m c t h0 h1 (by omega) (by omega) (by omega) (by omega)]
    frame_out
    pointwise [k0_pay3, k0_pay1]
    blk_point [iblk, V, idx t, hm]
    exact qkv_at m c t (by omega) _ _
  · rw [outsAt0_E m c t h0 h1 (by omega) (by omega) (by omega) (by omega)]
    frame_out
    pointwise [k0_pay3, k0_pay1]
    blk_point [iblk, V, idx t, hm]
    exact qkv_at m c t (by omega) _ _

/-- At every other point it is what it was and the point's addend. -/
theorem acc_step (c : Dev nD) (t : Fin cfg0.N) (h0 : ¬t.val % 9 = 0) (y) :
    acc m c t.val t.isLt y = acc m c (t.val - 1) (Nat.lt_of_le_of_lt (Nat.sub_le _ _) t.isLt) y
      + part m c (t.val / 9) (t.val % 9) (tile_lt t) (step_lt t) (y 0) (y 1) := by
  unfold acc part
  by_cases h2 : t.val % 9 ≤ 2
  · rw [outsAt0_B m c t h0 (by omega) h2 (by omega) (by omega) (by omega), dif_pos h2]
    frame_out
    rw [read_unread_whole]
    pointwise [k0_pay3]
    have hm : min (t.val % 9) 2 = t.val % 9 := by omega
    blk_point [iblk, V, idx t, hm]
    exact qkv_at m c t h2 _ _
  by_cases h3 : t.val % 9 ≤ 7
  · rw [outsAt0_C m c t h0 (by omega) h2 (by omega) (by omega) (by omega), dif_neg h2, dif_pos h3]
    frame_out
    rw [read_unread_whole]
    pointwise [k0_pay4]
    have hm : min (t.val % 9 - 3) 4 = t.val % 9 - 3 := by omega
    blk_point [iblk, V, idx t, hm]
  · rw [outsAt0_D m c t h0 (by omega) h2 (by omega) (by omega) (by omega), dif_neg h2, dif_neg h3]
    frame_out
    rw [read_unread_whole]
    pointwise [k0_pay5]
    blk_point [iblk, V, idx t]
    exact gate_at m c t _ _

/-- A load of what one store over the whole accumulator left is a load of the stored array. -/
theorem strip_read (A : Vec Ideal S1024x1024 .f32) (r : Rect S1024x1024) (inb : ∀ a, ![0, 0] a + ![1024, 1024] a ≤ S1024x1024.size a) :
    (View.whole cc0_scratch0).readCov (Val := Elt Ideal) [(⟨Rect.unit ![0, 0] ![1024, 1024] inb, A⟩ : View.Piece (Elt Ideal) S1024x1024 .f32)] r.toLoadRect
      = View.ld A r := by
  have hz : (![0, 0] : Fin S1024x1024.rank → ℕ) = fun _ => 0 := by funext a; fin_cases a <;> rfl
  refine (View.readCov_eq_canon_ld _ _ _ (fun y => ⟨_, List.mem_singleton_self _, View.mem_set_unit_zero hz inb y⟩)).trans ?_
  exact congrArg (fun Y => View.ld Y r) (View.canon_unit_zero (S := S1024x1024) hz inb A)

/-- A strip of 256 rows, read at an entry. -/
theorem strip_at (X : Vec Ideal S1024x1024 .f32) (o : ℕ) (inb : ∀ a, ![o, 0] a + ![256, 1024] a ≤ S1024x1024.size a) (i : Fin 256) (k : Fin 1024) :
    View.ld X (Rect.unit ![o, 0] ![256, 1024] inb) (ix2 i k) = X (ix2 (⟨o + i, by have := inb 0; simp at this; omega⟩ : Fin 1024) k) :=
  View.ld_unit_apply_of X _ _ inb _ _ (fun a => by fin_cases a <;> simp)

/-- A strip's entry of the input's gradient is the tile's row form. -/
theorem dx_tile (A X R : Vec Ideal S1024x1024 .f32) (s g : Vec Ideal S1x1024 .f32) (o : ℕ) (inb : ∀ a, ![o, 0] a + ![256, 1024] a ≤ S1024x1024.size a)
    (x : S256x1024.Idx) (y : S1024x1024.Idx) (h0 : (y 0).val = o + (x 0).val) (h1 : (y 1).val = (x 1).val) :
    k0_pay10 (F := Ideal) (View.ld A (Rect.unit ![o, 0] ![256, 1024] inb)) (View.ld X (Rect.unit ![o, 0] ![256, 1024] inb)) s g (View.ld R (Rect.unit ![o, 0] ![256, 1024] inb)) x
      = NormRow.dxKernel (fun k => A (ix2 (y 0) k)) (fun k => X (ix2 (y 0) k)) (fun k => s (ix2 0 k)) (fun k => g (ix2 0 k)) (R y) (y 1) := by
  have e : ∀ (Y : Vec Ideal S1024x1024 .f32) (k : Fin 1024), View.ld Y (Rect.unit ![o, 0] ![256, 1024] inb) (ix2 (x 0) k) = Y (ix2 (y 0) k) := fun Y k =>
    (strip_at Y o inb (x 0) k).trans (congrArg (fun i => Y (ix2 i k)) (Fin.ext h0.symm))
  have er : View.ld R (Rect.unit ![o, 0] ![256, 1024] inb) x = R y :=
    View.ld_unit_apply_of R _ _ inb _ _ (fun a => by fin_cases a; exacts [h0, h1.trans (Nat.zero_add _).symm])
  rw [strip, er, show x 1 = y 1 from Fin.ext h1.symm]
  congr 1 <;> funext k
  exacts [e A k, e X k]

/-- Four stored strips of the input's gradient are the tile's row forms. -/
theorem dx_strips (A X R : Vec Ideal S1024x1024 .f32) (s g : Vec Ideal S1x1024 .f32) (d0 d1 d2 d3 : Vec Ideal S256x1024 .f32)
    (e0 : d0 = View.ld A (Rect.unit ![0, 0] ![256, 1024] inb_S1024x1024_S256x1024_0_0))
    (e1 : d1 = View.ld A (Rect.unit ![256, 0] ![256, 1024] inb_S1024x1024_S256x1024_256_0))
    (e2 : d2 = View.ld A (Rect.unit ![512, 0] ![256, 1024] inb_S1024x1024_S256x1024_512_0))
    (e3 : d3 = View.ld A (Rect.unit ![768, 0] ![256, 1024] inb_S1024x1024_S256x1024_768_0)) (y : S1024x1024.Idx) :
    View.canon (Val := Elt Ideal) (e := .f32)
      [⟨Rect.unit ![768, 0] ![256, 1024] inb_S1024x1024_S256x1024_768_0, k0_pay10 (F := Ideal) d3 (View.ld X (Rect.unit ![768, 0] ![256, 1024] inb_S1024x1024_S256x1024_768_0)) s g (View.ld R (Rect.unit ![768, 0] ![256, 1024] inb_S1024x1024_S256x1024_768_0))⟩,
        ⟨Rect.unit ![512, 0] ![256, 1024] inb_S1024x1024_S256x1024_512_0, k0_pay10 (F := Ideal) d2 (View.ld X (Rect.unit ![512, 0] ![256, 1024] inb_S1024x1024_S256x1024_512_0)) s g (View.ld R (Rect.unit ![512, 0] ![256, 1024] inb_S1024x1024_S256x1024_512_0))⟩,
        ⟨Rect.unit ![256, 0] ![256, 1024] inb_S1024x1024_S256x1024_256_0, k0_pay10 (F := Ideal) d1 (View.ld X (Rect.unit ![256, 0] ![256, 1024] inb_S1024x1024_S256x1024_256_0)) s g (View.ld R (Rect.unit ![256, 0] ![256, 1024] inb_S1024x1024_S256x1024_256_0))⟩,
        ⟨Rect.unit ![0, 0] ![256, 1024] inb_S1024x1024_S256x1024_0_0, k0_pay10 (F := Ideal) d0 (View.ld X (Rect.unit ![0, 0] ![256, 1024] inb_S1024x1024_S256x1024_0_0)) s g (View.ld R (Rect.unit ![0, 0] ![256, 1024] inb_S1024x1024_S256x1024_0_0))⟩] y
      = NormRow.dxKernel (fun k => A (ix2 (y 0) k)) (fun k => X (ix2 (y 0) k)) (fun k => s (ix2 0 k)) (fun k => g (ix2 0 k)) (R y) (y 1) := by
  subst e0 e1 e2 e3
  canon_tiles x h
  all_goals exact dx_tile A X R s g _ _ x y (by omega) (by omega)

/-- The input's gradient that a row tile's last point stores. -/
theorem dx_last (c : Dev nD) (t : Fin cfg0.N) (h0 : t.val % 9 = 8) (y : S1024x1024.Idx) :
    (outsAt0 m c t.val t.isLt).1 y = NormRow.dxKernel (fun k => acc m c t.val t.isLt (ix2 (y 0) k)) (fun k => iblk m c 6 t (ix2 (y 0) k)) (fun k => iblk m c 8 t (ix2 0 k)) (fun k => iblk m c 7 t (ix2 0 k)) (iblk m c 9 t y) (y 1) := by
  unfold acc
  rw [outsAt0_D m c t (by omega) (by omega) (by omega) (by omega) h0 h0]
  frame_out
  generalize k0_pay5 (F := Ideal) _ _ _ = A
  simp only [strip2, strip3, strip4]
  exact dx_strips A (iblk m c 6 t) (iblk m c 9 t) (iblk m c 8 t) (iblk m c 7 t) _ _ _ _ (strip_read A _ _) (strip_read A _ _) (strip_read A _ _) (strip_read A _ _) y

/-- A strip's sum over its rows, read off the tile. -/
theorem st_tile (A X : Vec Ideal S1024x1024 .f32) (s g : Fin 1024 → EReal) (o : ℕ) (inb : ∀ a, ![o, 0] a + ![256, 1024] a ≤ S1024x1024.size a) (n : Fin 8) (j : Fin 1024)
    (d : Vec Ideal S256x1024 .f32) (e : d = View.ld A (Rect.unit ![o, 0] ![256, 1024] inb)) :
    (∑ i : Fin 256, NormRow.stat n (fun k => d (ix2 i k)) (fun k => View.ld X (Rect.unit ![o, 0] ![256, 1024] inb) (ix2 i k)) s g j)
      = ∑ i : Fin 256, NormRow.stat n (fun k => A (ix2 (⟨o + i, by have := inb 0; simp at this; omega⟩ : Fin 1024) k)) (fun k => X (ix2 (⟨o + i, by have := inb 0; simp at this; omega⟩ : Fin 1024) k)) s g j :=
  Fin.sum_fin_congr fun i => by
    subst e
    congr 1 <;> funext k
    exacts [strip_at A o inb i k, strip_at X o inb i k]

/-- The parameters' gradients after a row tile's last point: what they were and the tile's 1024 rows. -/
theorem st_last (c : Dev nD) (t : Fin cfg0.N) (h0 : t.val % 9 = 8) (y : S8x1024.Idx) :
    (outsAt0 m c t.val t.isLt).2.1 y = (outsAt0 m c (t.val - 1) (Nat.lt_of_le_of_lt (Nat.sub_le _ _) t.isLt)).2.1 y + ∑ i : Fin 1024, NormRow.stat (y 0) (fun k => acc m c t.val t.isLt (ix2 i k)) (fun k => iblk m c 6 t (ix2 i k)) (fun k => iblk m c 8 t (ix2 0 k)) (fun k => iblk m c 7 t (ix2 0 k)) (y 1) := by
  unfold acc
  rw [outsAt0_D m c t (by omega) (by omega) (by omega) (by omega) h0 h0]
  frame_out
  generalize k0_pay5 (F := Ideal) _ _ _ = A
  rw [NormRow.sum_quarters]
  refine (stats _ _ _ _ _ _ _ _ _ _ _ y).trans (congrArg (_ + ·) (congrArg₂ (· + ·) (congrArg₂ (· + ·) (congrArg₂ (· + ·) ?_ ?_) ?_) ?_))
  all_goals exact st_tile A (iblk m c 6 t) _ _ _ _ (y 0) (y 1) _ (strip_read A _ _)

/-- At the launch's first point they are zero. -/
theorem st_first (c : Dev nD) (t : Fin cfg0.N) (h0 : t.val % 144 = 0) (y : S8x1024.Idx) : (outsAt0 m c t.val t.isLt).2.1 y = 0 := by
  rw [outsAt0_A m c t (by omega) h0 (by omega) (by omega) (by omega) (by omega)]
  frame_out
  pointwise [k0_pay2]

/-- At every point but a row tile's last, and but the first, they stay. -/
theorem st_keep (c : Dev nD) (t : Fin cfg0.N) (h0 : ¬t.val % 144 = 0) (h8 : ¬t.val % 9 = 8) :
    (outsAt0 m c t.val t.isLt).2.1 = (outsAt0 m c (t.val - 1) (Nat.lt_of_le_of_lt (Nat.sub_le _ _) t.isLt)).2.1 := by
  by_cases h : t.val % 9 = 0
  · rw [outsAt0_E m c t h h0 (by omega) (by omega) h8 h8]
    rfl
  by_cases h2 : t.val % 9 ≤ 2
  · rw [outsAt0_B m c t h h0 h2 (by omega) h8 h8]
    rfl
  · rw [outsAt0_C m c t h h0 h2 (by omega) h8 h8]
    rfl

end Cert.InProjStep
-- ==== Proof.InProjRef.lean ====
/- The reference's gradient of the norm that follows the input projections, row by row. -/
module

public import proofs.«01_k».proof.Proof.Gen.InProjRefIdeal.Read
public import proofs.«01_k».proof.Proof.NormRow
public import Idealize.ShloMosaic.Lib.Pointwise

@[expose] public section

set_option maxRecDepth 16384

noncomputable section

namespace Cert.InProjRow

open Idealize.ShloMosaic
open Cert.InProjRefIdeal Cert.InProjRefIdeal.Gen Cert.InProjRefIdeal.Read

variable (x0 : Vec Ideal S16640x3072 .bf16) (x1 : Vec Ideal S16384x5120 .bf16) (x2 : Vec Ideal S16640x128 .bf16) (x3 : Vec Ideal S1024x8192 .bf16)
  (x4 : Vec Ideal S1024x128 .bf16) (x5 : Vec Ideal S16384x1024 .f32) (x6 x7 : Vec Ideal S1x1024 .f32) (x8 : Vec Ideal S16384x1024 .f32)

/-- The gradient of the norm's output at row `i`. -/
abbrev dh (i : Fin 16384) (k : Fin 1024) : EReal := val_main_v39 (F := Ideal) x0 x1 x2 x3 x4 (ix2 i k)

/-- It is the sum of the three products' gradients. -/
theorem dh_eq (i : Fin 16384) (j : Fin 1024) :
    dh x0 x1 x2 x3 x4 i j = (∑ k : Fin 128, x2 (ix2 (⟨i, by omega⟩ : Fin 16640) k) * x4 (ix2 j k)
      + ∑ k : Fin 5120, x1 (ix2 i k) * x3 (ix2 j (⟨3072 + k, by omega⟩ : Fin 8192)))
      + ∑ k : Fin 3072, x0 (ix2 (⟨i, by omega⟩ : Fin 16640) k) * x3 (ix2 j (⟨k, by omega⟩ : Fin 8192)) := by
  unfold dh
  pointwise [val_main_v39, val_main_v38, val_main_v37, val_main_v36, val_main_v35, val_main_v31, val_main_v30, val_main_v28, val_main_v27, val_main_v2, val_main_v1,
    val_main_v0, val_main_v4, val_main_v3, val_main_v34, val_main_v33, val_main_v32]

/-- The input's gradient in the derivative's row form. -/
theorem dx_eq (y : S16384x1024.Idx) :
    val_main_v66 (F := Ideal) x0 x1 x2 x3 x4 x5 x6 x7 x8 y
      = NormRow.dxRef (dh x0 x1 x2 x3 x4 (y 0)) (fun k => x5 (ix2 (y 0) k)) (fun k => x7 (ix2 0 k)) (fun k => x6 (ix2 0 k)) (x8 y) (y 1) := by
  unfold NormRow.dxRef NormRow.corr NormRow.inv dh
  pointwise [val_main_v66, val_main_v65, val_main_v64, val_main_v63, val_main_v62, val_main_v61, val_main_v60, val_main_v59, val_main_v58, val_main_v57,
    val_main_v56, val_main_v55, val_main_v54, val_main_v53, val_main_v52, val_main_v51, val_main_v50, val_main_v46, val_main_v45, val_main_v22, val_main_v21,
    val_main_v16, val_main_v15, val_main_v14, val_main_v13, val_main_v12, val_main_v11, val_main_v10, val_main_v9, val_main_v8, val_main_v7, val_main_v6,
    val_main_cst_0, val_main_cst_1, val_main_cst_2, val_main_cst_3, val_main_cst_4, val_main_cst_5, val_main_cst_6, val_main_cst_7, val_main_cst_8, val_main_cst_9,
    val_main_cst_10]
  simp only [Fin.sum_univ_one]

/-- The parameters' gradients, summed over the rows. -/
theorem st_eq (y : S8x1024.Idx) :
    val_main_v68 (F := Ideal) x0 x1 x2 x3 x4 x5 x6 x7 y
      = ∑ i : Fin 16384, NormRow.stat (y 0) (dh x0 x1 x2 x3 x4 i) (fun k => x5 (ix2 i k)) (fun k => x7 (ix2 0 k)) (fun k => x6 (ix2 0 k)) (y 1) := by
  unfold NormRow.stat NormRow.inv dh
  pointwise [val_main_v68, val_main_v67, val_main_v49, val_main_v48, val_main_v47, val_main_v46, val_main_v45, val_main_v44, val_main_v43, val_main_v42, val_main_v41,
    val_main_v40, val_main_v22, val_main_v21, val_main_v20, val_main_v19, val_main_v18, val_main_v17,
    val_main_v13, val_main_v12, val_main_v11, val_main_v10, val_main_v9, val_main_v8, val_main_v7, val_main_v6,
    val_main_cst_0, val_main_cst_1, val_main_cst_2, val_main_cst_3, val_main_cst_4, val_main_cst_5, val_main_cst_6, val_main_cst_7, val_main_cst_11]
  split_ifs
  · exact Finset.sum_congr rfl fun _ _ => mul_comm _ _
  · rfl
  · exact Finset.sum_congr rfl fun _ _ => mul_comm _ _
  · simp

end Cert.InProjRow

end
-- ==== Proof.InProjValue.lean ====
/- The input projections' backward call: its two result arrays are the reference's two terms. -/
module

public import proofs.«01_k».proof.Proof.InProjStep
public import proofs.«01_k».proof.Proof.InProjRef

@[expose] public section

set_option maxRecDepth 16384

noncomputable section

namespace Cert.InProjValue

open Idealize.ShloMosaic Idealize.ShloMosaic.TcCoe Idealize.SL.Sem
open Idealize.ShloMosaic.Pipeline (Dat)
open Cert.InProjIdeal Cert.InProjIdeal.Gen Cert.InProjStep

variable (m : (ℓ : Loc nD τ sig) → Buf (Elt Ideal) ℓ)

/-- The reference's gradient of the norm's output, at the launch's arrays. -/
abbrev dh (c : Dev nD) (i : Fin 16384) (k : Fin 1024) : EReal :=
  InProjRow.dh (dzQkv m c) (dzRest m c) (dzGate m c) (wMain m c) (wGate m c) i k

/-- Nine addends, in the reference's order: the last, the middle five, the first three. -/
theorem nine (p : Fin 9 → EReal) : ∑ s, p s = (p 8 + (p 3 + p 4 + p 5 + p 6 + p 7)) + (p 0 + p 1 + p 2) := by
  rw [Fin.sum_univ_castSucc, Fin.sum_univ_eight]
  show p 0 + p 1 + p 2 + p 3 + p 4 + p 5 + p 6 + p 7 + p 8 = _
  abel

/-- A point's addend depends on its row tile and its step alone. -/
theorem part_congr (c : Dev nD) {i i' s s' : ℕ} (hi : i < 16) (hi' : i' < 16) (hs : s < 9) (hs' : s' < 9) (a b : Fin 1024) (ei : i = i') (es : s = s') :
    part m c i s hi hs a b = part m c i' s' hi' hs' a b := by
  subst ei es; rfl

/-- The nine addends of a row tile are the three contractions. -/
theorem parts (c : Dev nD) (i : ℕ) (hi : i < 16) (a b : Fin 1024) :
    ∑ s : Fin 9, part m c i s hi s.isLt a b = dh m c ⟨i * 1024 + a, by omega⟩ b := by
  rw [nine, dh, InProjRow.dh_eq, Fin.sum_univ_tiles 5 1024 rfl, Fin.sum_univ_tiles 3 1024 rfl, Fin.sum_univ_five, Fin.sum_univ_three]
  rfl

/-- At a row tile's last point the accumulator is the gradient of the norm's output. -/
theorem acc_last (c : Dev nD) (t : Fin cfg0.N) (h : t.val % 9 = 8) (a b : Fin 1024) :
    acc m c t.val t.isLt (ix2 a b) = dh m c ⟨t.val / 9 * 1024 + a, by have := tile_lt t; omega⟩ b := by
  rw [Pipeline.eq_sum_fin_of_reset_step_apply_of_flush (acc m c) 9 (fun _ => 0)
    (fun t y => part m c (t.val / 9) (t.val % 9) (tile_lt t) (step_lt t) (y 0) (y 1)) (acc_reset m c) (acc_step m c) t h (ix2 a b), ← parts m c _ (tile_lt t)]
  refine (zero_add _).trans (Fin.sum_fin_congr fun s => part_congr m c _ _ _ _ _ _ ?_ ?_)
  · show (9 * (t.val / 9) + s.val) / 9 = _
    have := s.isLt; omega
  · show (9 * (t.val / 9) + s.val) % 9 = _
    have := s.isLt; omega

/-- A row tile's addend to the parameters' gradients. -/
def tile (c : Dev nD) (i : ℕ) (hi : i < 16) (y : S8x1024.Idx) : EReal :=
  ∑ a : Fin 1024, NormRow.stat (y 0) (dh m c ⟨i * 1024 + a, by omega⟩) (fun k => xs m c (ix2 (⟨i * 1024 + a, by omega⟩ : Fin 16384) k))
    (fun k => scs m c (ix2 0 k)) (fun k => gs m c (ix2 0 k)) (y 1)

/-- A point's addend to them: a row tile's at its last point, else nothing. -/
def term (c : Dev nD) (t : Fin cfg0.N) (y : S8x1024.Idx) : EReal := if t.val % 9 = 8 then tile m c (t.val / 9) (tile_lt t) y else 0

/-- The scale, the weight and a row of the input, as the row tile's windows hold them. -/
theorem sc_at (c : Dev nD) (t : Fin cfg0.N) (k : Fin 1024) : iblk m c 8 t (ix2 0 k) = scs m c (ix2 0 k) := by
  blk_point [iblk, V, idx t]

theorem g_at (c : Dev nD) (t : Fin cfg0.N) (k : Fin 1024) : iblk m c 7 t (ix2 0 k) = gs m c (ix2 0 k) := by
  blk_point [iblk, V, idx t]

theorem x_at (c : Dev nD) (t : Fin cfg0.N) (i k : Fin 1024) :
    iblk m c 6 t (ix2 i k) = xs m c (ix2 (⟨t.val / 9 * 1024 + i, by have := tile_lt t; omega⟩ : Fin 16384) k) := by
  blk_point [iblk, V, idx t]

/-- The parameters' gradients after the launch's first point. -/
theorem st_reset (c : Dev nD) (t : Fin cfg0.N) (h : t.val % 144 = 0) (y : S8x1024.Idx) :
    (outsAt0 m c t.val t.isLt).2.1 y = 0 + term m c t y := by
  rw [st_first m c t h, term, if_neg (by omega), add_zero]

/-- And after every other. -/
theorem st_step (c : Dev nD) (t : Fin cfg0.N) (h : ¬t.val % 144 = 0) (y : S8x1024.Idx) :
    (outsAt0 m c t.val t.isLt).2.1 y = (outsAt0 m c (t.val - 1) (Nat.lt_of_le_of_lt (Nat.sub_le _ _) t.isLt)).2.1 y + term m c t y := by
  unfold term
  by_cases h8 : t.val % 9 = 8
  · rw [st_last m c t h8, if_pos h8]
    refine congrArg (_ + ·) (Fin.sum_fin_congr fun i => ?_)
    congr 1
    · funext k; exact acc_last m c t h8 i k
    · funext k; exact x_at m c t i k
    · funext k; exact sc_at m c t k
    · funext k; exact g_at m c t k
  · rw [st_keep m c t h h8, if_neg h8]
    exact (add_zero _).symm

/-- After the last point they are the sums over all rows. -/
theorem st_total (c : Dev nD) (t : Fin cfg0.N) (ht : t.val + 1 = cfg0.N) (y : S8x1024.Idx) :
    (outsAt0 m c t.val t.isLt).2.1 y
      = ∑ i : Fin 16384, NormRow.stat (y 0) (dh m c i) (fun k => xs m c (ix2 i k)) (fun k => scs m c (ix2 0 k)) (fun k => gs m c (ix2 0 k)) (y 1) := by
  rw [Pipeline.eq_sum_fin_of_reset_step_apply_last (fun n h => (outsAt0 m c n h).2.1) 144 (fun _ => 0) (term m c) (st_reset m c) (st_step m c) (le_of_eq N_0) t ht y]
  refine (zero_add _).trans ?_
  refine (Fin.sum_divmod_congr (A := 16) (S := 9) (f := fun a s => if s = 8 then tile m c a a.isLt y else 0) (fun t ha hs => ?_) N_0).trans ?_
  · unfold term
    refine if_congr ?_ rfl rfl
    exact ⟨fun h => Fin.ext h, fun h => congrArg Fin.val h⟩
  · simp only [Finset.sum_ite_eq', Finset.mem_univ, if_true]
    rw [Fin.sum_univ_tiles 16 1024 rfl]
    rfl

/-- The three arrays that the row form multiplies are finite where the launch's are. -/
theorem dh_real (c : Dev nD) (h0 : Reals.Finite (fun i => dzQkv m c i)) (h1 : Reals.Finite (fun i => dzRest m c i)) (h2 : Reals.Finite (fun i => dzGate m c i))
    (h3 : Reals.Finite (fun i => wMain m c i)) (h4 : Reals.Finite (fun i => wGate m c i)) (i : Fin 16384) (k : Fin 1024) : ∃ r : ℝ, dh m c i k = r := by
  obtain ⟨f0, h0⟩ := h0
  obtain ⟨f1, h1⟩ := h1
  obtain ⟨f2, h2⟩ := h2
  obtain ⟨f3, h3⟩ := h3
  obtain ⟨f4, h4⟩ := h4
  rw [dh, InProjRow.dh_eq]
  exact NormRow.add_real (NormRow.add_real (NormRow.sum_real _ _ (fun _ => ⟨_, h2 _⟩) (fun _ => ⟨_, h4 _⟩))
    (NormRow.sum_real _ _ (fun _ => ⟨_, h1 _⟩) (fun _ => ⟨_, h3 _⟩))) (NormRow.sum_real _ _ (fun _ => ⟨_, h0 _⟩) (fun _ => ⟨_, h3 _⟩))

/-- The reference's gradient of the input, in the kernel's row form. -/
theorem dx_ref (c : Dev nD) (h0 : Reals.Finite (fun i => dzQkv m c i)) (h1 : Reals.Finite (fun i => dzRest m c i)) (h2 : Reals.Finite (fun i => dzGate m c i))
    (h3 : Reals.Finite (fun i => wMain m c i)) (h4 : Reals.Finite (fun i => wGate m c i)) (h5 : Reals.Finite (fun i => xs m c i))
    (h6 : Reals.Finite (fun i => gs m c i)) (h7 : Reals.Finite (fun i => scs m c i)) (z : S16384x1024.Idx) :
    NormRow.dxKernel (dh m c (z 0)) (fun k => xs m c (ix2 (z 0) k)) (fun k => scs m c (ix2 0 k)) (fun k => gs m c (ix2 0 k)) (res m c z) (z 1)
    = Cert.InProjRefIdeal.Read.val_main_v66 (F := Ideal) (dzQkv m c) (dzRest m c) (dzGate m c) (wMain m c) (wGate m c) (xs m c) (gs m c) (scs m c) (res m c) z := by
  obtain ⟨f5, h5⟩ := h5
  obtain ⟨f6, h6⟩ := h6
  obtain ⟨f7, h7⟩ := h7
  rw [InProjRow.dx_eq]
  exact NormRow.dx_eq _ _ _ _ _ _ (fun k => dh_real m c h0 h1 h2 h3 h4 _ k) (fun k => ⟨_, h5 _⟩) (fun k => ⟨_, h7 _⟩) (fun k => ⟨_, h6 _⟩)

/-- The input's gradient after the run is the reference's. -/
theorem final10 (c : Dev nD) (h0 : Reals.Finite (fun i => dzQkv m c i)) (h1 : Reals.Finite (fun i => dzRest m c i)) (h2 : Reals.Finite (fun i => dzGate m c i))
    (h3 : Reals.Finite (fun i => wMain m c i)) (h4 : Reals.Finite (fun i => wGate m c i)) (h5 : Reals.Finite (fun i => xs m c i))
    (h6 : Reals.Finite (fun i => gs m c i)) (h7 : Reals.Finite (fun i => scs m c i)) :
    (dats m 0 c).arrAt 10 (cfgs 0).N
    = Cert.InProjRefIdeal.Read.val_main_v66 (F := Ideal) (dzQkv m c) (dzRest m c) (dzGate m c) (wMain m c) (wGate m c) (xs m c) (gs m c) (scs m c) (res m c) := by
  refine (dats m 0 c).arrAt_eq_of_covers 10 _ (by decide +kernel) fun t hf y => ?_
  have h8 : t.val % 9 = 8 := (by decide +kernel : ∀ t : Fin cfg0.N, (cfg0.win 10).flush t = true → t.val % 9 = 8) t hf
  blk_simp
  rw [after0_10, dx_last m c t h8]
  refine Eq.trans ?_ (dx_ref m c h0 h1 h2 h3 h4 h5 h6 h7 ((win0_10.blk t).view.emb y))
  have e0 : (win0_10.blk t).view.emb y 0 = (⟨t.val / 9 * 1024 + (y 0).val, by have := tile_lt t; have : (y 0).val < 1024 := (y 0).isLt; omega⟩ : Fin 16384) :=
    Fin.ext (by blk_simp [idx t])
  have e1 : (win0_10.blk t).view.emb y 1 = y 1 := Fin.ext (by blk_simp [idx t])
  have er : iblk m c 9 t y = res m c ((win0_10.blk t).view.emb y) := by blk_point [iblk, V, idx t]
  rw [e1, er, e0]
  congr 1
  · funext k; exact acc_last m c t h8 (y 0) k
  · funext k; exact x_at m c t (y 0) k
  · funext k; exact sc_at m c t k
  · funext k; exact g_at m c t k

/-- The parameters' gradients after the run are the reference's. -/
theorem final11 (c : Dev nD) : (dats m 0 c).arrAt 11 (cfgs 0).N
    = Cert.InProjRefIdeal.Read.val_main_v68 (F := Ideal) (dzQkv m c) (dzRest m c) (dzGate m c) (wMain m c) (wGate m c) (xs m c) (gs m c) (scs m c) := by
  refine (dats m 0 c).arrAt_eq_of_covers 11 _ (by decide +kernel) fun t hf y => ?_
  have ht : t.val + 1 = cfg0.N := (by decide +kernel : ∀ t : Fin cfg0.N, (cfg0.win 11).flush t = true → t.val + 1 = cfg0.N) t hf
  blk_simp
  rw [after0_11, st_total m c t ht, InProjRow.st_eq]
  have e0 : ((win0_11.blk t).view.emb y 0).val = (y 0).val := by blk_simp [idx t]
  have e1 : (win0_11.blk t).view.emb y 1 = y 1 := Fin.ext (by blk_simp [idx t])
  rw [e0, e1]

end Cert.InProjValue

end
-- ==== Proof.InProjClaim.lean ====
/- The input projections' backward call: the value claim, from the two final arrays. -/
module

public import proofs.«01_k».proof.Defs
public import proofs.«01_k».proof.Proof.InProjValue
public import proofs.«01_k».proof.Proof.Gen.InProjIdeal
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.Pre_in_finite
public import Idealize.ShloMosaic.Lib.Claim

@[expose] public section

set_option maxRecDepth 16384

noncomputable section

namespace Cert.InProjClaim

open Idealize.ShloMosaic Idealize.SL.Sem Cert.InProjStep

variable (m : (ℓ : Loc Cert.InProjIdeal.nD Cert.InProjIdeal.τ Cert.InProjIdeal.sig) → Buf (Elt Ideal) ℓ)

/-- The precondition says that all argument arrays but the residual's gradient are finite. -/
theorem finite (h : Cert.Pre_InProjIdeal_in_finite m) (c : Dev Cert.InProjIdeal.nD) :
    Reals.Finite (fun i => dzQkv m c i) ∧ Reals.Finite (fun i => dzRest m c i) ∧ Reals.Finite (fun i => dzGate m c i) ∧ Reals.Finite (fun i => wMain m c i)
    ∧ Reals.Finite (fun i => wGate m c i) ∧ Reals.Finite (fun i => xs m c i) ∧ Reals.Finite (fun i => gs m c i) ∧ Reals.Finite (fun i => scs m c i) := by
  obtain ⟨h0, h1, h2, h3, h4, h5, h6, h7⟩ := h c
  exact ⟨Reals.finite_of_test16 _ _ h0, Reals.finite_of_test16 _ _ h1, Reals.finite_of_test16 _ _ h2, Reals.finite_of_test16 _ _ h3,
    Reals.finite_of_test16 _ _ h4, Reals.finite_of_test32 _ _ h5, Reals.finite_of_test32 _ _ h6, Reals.finite_of_test32 _ _ h7⟩

variable (m' : (ℓ : Loc Cert.InProjRefIdeal.nD Cert.InProjRefIdeal.τ Cert.InProjRefIdeal.sig) → Buf (Elt Ideal) ℓ)

/-- The two launches' arguments agree. -/
abbrev Agree (c : Dev Cert.InProjRefIdeal.nD) : Prop :=
  m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0) ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1) ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2) ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3) ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4) ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5) ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6) ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7) ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)

/-- The reference's first result is the first array. -/
theorem out10 (h : Cert.Pre_InProjIdeal_in_finite m) (c : Dev Cert.InProjRefIdeal.nD) (e : Agree m m' c) :
    Cert.InProjRefIdeal.Value.res_main_v66 m' c = (Cert.InProjIdeal.Gen.dats m 0 c).arrAt 10 (Cert.InProjIdeal.cfgs 0).N := by
  have h := finite m h c
  obtain ⟨e0, e1, e2, e3, e4, e5, e6, e7, e8⟩ := e
  refine (Cert.InProjRefIdeal.Read.val_main_v66_eq m' c).trans ?_
  rw [e0, e1, e2, e3, e4, e5, e6, e7, e8]
  exact (Cert.InProjValue.final10 m c h.1 h.2.1 h.2.2.1 h.2.2.2.1 h.2.2.2.2.1 h.2.2.2.2.2.1 h.2.2.2.2.2.2.1 h.2.2.2.2.2.2.2).symm

/-- Its second is the second. -/
theorem out11 (c : Dev Cert.InProjRefIdeal.nD) (e : Agree m m' c) :
    Cert.InProjRefIdeal.Value.res_main_v68 m' c = (Cert.InProjIdeal.Gen.dats m 0 c).arrAt 11 (Cert.InProjIdeal.cfgs 0).N := by
  obtain ⟨e0, e1, e2, e3, e4, e5, e6, e7, e8⟩ := e
  refine (Cert.InProjRefIdeal.Read.val_main_v68_eq m' c).trans ?_
  rw [e0, e1, e2, e3, e4, e5, e6, e7]
  exact (Cert.InProjValue.final11 m c).symm

set_option maxHeartbeats 800000 in
/-- The value claim of the input projections' backward call. -/
theorem algebraic : Cert.algebraic_InProjIdeal_InProjRefIdeal_pre_in_finite := by
  pair_intro
  · run_from Cert.InProjIdeal.Gen.run_main m g
  · run_from Cert.InProjRefIdeal.Value.run m' g'
    · exact out10 m m' hpre c (hagree c)
    · exact out11 m m' c (hagree c)

/-- The reference runs, keeps its arguments, and leaves every counter at zero. -/
theorem frame_ref : Cert.quiescent_InProjRefIdeal := by
  intro m g _
  refine (θ_run_and (?_ : θ_run _ _ _ (fun r => ∀ c : Dev Cert.InProjRefIdeal.nD, _)) (?_ : θ_run _ _ _ (fun r => r.2.sem = fun _ => 0)))
  · run_from Cert.InProjRefIdeal.Value.run m g
  · exact (θ_run Cert.InProjRefIdeal.defs _ _).mono (fun r _ => sem_eq_zero_of_no_sems (by decide) r.2) (Cert.InProjRefIdeal.Value.run m g)

/-- The same under the value claim's precondition. -/
theorem frame_ref_finite : Cert.quiescent_InProjRefIdeal_pre_in_finite :=
  fun m g _ => frame_ref m g trivial

end Cert.InProjClaim

end
-- ==== Proof.UpFwdClaim.lean ====
/- The up projection of the forward pass: the call's two arrays are the reference's modulated norm and its product. -/
module

public import proofs.«01_k».proof.Defs
public import proofs.«01_k».proof.Proof.UpFwdRun
public import proofs.«01_k».proof.Proof.NormRow
public import proofs.«01_k».proof.Proof.Gen.UpFwdRefIdeal.Run
public import proofs.«01_k».proof.Proof.Gen.UpFwdRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.UpFwdClaim

open Idealize.ShloMosaic Idealize.ShloMosaic.TcCoe Idealize.SL.Sem
open Idealize.ShloMosaic.Pipeline (Dat)

section Kernel

open Cert.UpFwdIdeal Cert.UpFwdIdeal.Gen Cert.UpFwdRun

/-- A row of the strip of scale and shift. -/
theorem strip_at (s : Vec Ideal S2x1024 .f32) (o : ℕ) (inb : ∀ a, ![o, 0] a + S1x1024.size a ≤ S2x1024.size a) (k : Fin 1024) :
    View.ld s (Rect.unit ![o, 0] S1x1024.size inb) (ix2 0 k) = s (ix2 (⟨o, by have := inb 0; simp [S2x1024, S1x1024] at this; omega⟩ : Fin 2) k) :=
  View.ld_unit_apply_of s _ _ inb _ _ (fun a => by fin_cases a <;> simp)

/-- A normed block's entry is the row form. -/
theorem normed_at (x : Vec Ideal S1024x1024 .f32) (g : Vec Ideal S1x1024 .f32) (s : Vec Ideal S2x1024 .f32) (y : S1024x1024.Idx) :
    normed (F := Ideal) x g s y
      = NormRow.fwd (fun k => x (ix2 (y 0) k)) (fun k => g (ix2 0 k)) (fun k => s (ix2 1 k)) (fun k => s (ix2 0 k)) (y 1) := by
  unfold normed
  rw [show (fun k => s (ix2 (1 : Fin 2) k)) = fun k => View.ld s (Rect.unit ![1, 0] S1x1024.size inb_S2x1024_S1x1024_1_0) (ix2 0 k) from
      funext fun k => (strip_at s 1 _ k).symm,
    show (fun k => s (ix2 (0 : Fin 2) k)) = fun k => View.ld s (Rect.unit ![0, 0] S1x1024.size inb_S2x1024_S1x1024_0_0) (ix2 0 k) from
      funext fun k => (strip_at s 0 _ k).symm]
  generalize View.ld s (Rect.unit ![1, 0] S1x1024.size inb_S2x1024_S1x1024_1_0) = a
  generalize View.ld s (Rect.unit ![0, 0] S1x1024.size inb_S2x1024_S1x1024_0_0) = b
  pointwise [k0_pay1, NormRow.fwd, NormRow.inv]

variable (m : (ℓ : Loc nD τ sig) → Buf (Elt Ideal) ℓ)

/-- The input, the gain, the rows of shift and scale, and the weight, as the launch has them. -/
abbrev xs (c : Dev nD) : FVec Ideal S16384x1024 .f32 := m ((c : Thread nD τ).loc main_arg0)
abbrev gs (c : Dev nD) : FVec Ideal S1x1024 .f32 := m ((c : Thread nD τ).loc main_arg1)
abbrev mods (c : Dev nD) : FVec Ideal S2x1024 .f32 := m ((c : Thread nD τ).loc main_arg2)
abbrev wUp (c : Dev nD) : FVec Ideal S1024x5632 .bf16 := m ((c : Thread nD τ).loc main_arg3)

/-- The modulated norm's entry at a row and a column. -/
def hn (c : Dev nD) (i : Fin 16384) (j : Fin 1024) : EReal :=
  NormRow.fwd (fun k => xs m c (ix2 i k)) (fun k => gs m c (ix2 0 k)) (fun k => mods m c (ix2 1 k)) (fun k => mods m c (ix2 0 k)) j

/-- A point's row tile is one of sixteen. -/
theorem tile_lt (t : Fin cfg0.N) : t.val / 4 < 16 := by have := lt_of_lt_of_eq t.isLt N_0; omega

/-- The scratch's rows at a point are the modulated norm's rows of its tile. -/
theorem rows_at (c : Dev nD) (t : Fin cfg0.N) (a : Fin 1024) (j : Fin 1024) :
    rows m c t (ix2 a j) = hn m c ⟨t.val / 4 * 1024 + a, by have := tile_lt t; omega⟩ j := by
  unfold rows hn
  rw [normed_at]
  congr 1 <;> funext k
  · blk_point [iblk, V, idx t]
  · blk_point [iblk, V, idx t]
  · blk_point [iblk, V, idx t]
  · blk_point [iblk, V, idx t]

/-- Where a point's tile of the weight's columns starts. -/
theorem off : ∀ t : Fin cfg0.N, k0_off1 (grid0.coords t) = ![0, t.val % 4 * 1408] :=
  (by decide +kernel : ∀ t : Fin grid0.N, _)

/-- A tile of the weight's columns, read at an entry. -/
theorem cols_at (t : Fin cfg0.N) (w : Vec Ideal S1024x5632 .bf16) (k : Fin 1024) (b : Fin 1408) :
    View.ld w (Rect.unit (k0_off1 (grid0.coords t)) S1024x1408.size (k0_off1_inb (grid0.coords t))) (ix2 k b)
      = w (ix2 k (⟨t.val % 4 * 1408 + b, by omega⟩ : Fin 5632)) :=
  View.ld_unit_apply_of w _ _ _ _ _ (fun a => by
    refine Eq.trans ?_ (congrArg (· + _) (congrFun (off t) a)).symm
    fin_cases a <;> simp)

/-- The product's entry at a point's tile. -/
theorem proj_at (c : Dev nD) (t : Fin cfg0.N) (a : Fin 1024) (b : Fin 1408) :
    proj (grid0.coords t) (rows m c t) (iblk m c 3 t) (ix2 a b)
      = ∑ k : Fin 1024, hn m c ⟨t.val / 4 * 1024 + a, by have := tile_lt t; omega⟩ k * wUp m c (ix2 k (⟨t.val % 4 * 1408 + b, by omega⟩ : Fin 5632)) := by
  have e : proj (grid0.coords t) (rows m c t) (iblk m c 3 t) (ix2 a b)
      = ∑ k : Fin 1024, rows m c t (ix2 a k) * View.ld (iblk m c 3 t) (Rect.unit (k0_off1 (grid0.coords t)) S1024x1408.size (k0_off1_inb (grid0.coords t))) (ix2 k b) := by
    unfold proj
    generalize rows m c t = r
    generalize View.ld (iblk m c 3 t) (Rect.unit (k0_off1 (grid0.coords t)) S1024x1408.size (k0_off1_inb (grid0.coords t))) = w
    pointwise [k0_pay3]
  rw [e]
  refine Finset.sum_congr rfl fun k _ => ?_
  rw [rows_at, cols_at]
  congr 1
  blk_point [iblk, V, idx t]

/-- The reference's modulated norm is the row form. -/
theorem ref_norm (c : Dev nD) (z : S16384x1024.Idx) :
    Cert.UpFwdRefIdeal.Read.val_main_v19 (F := Ideal) (xs m c) (gs m c) (mods m c) z = hn m c (z 0) (z 1) := by
  unfold hn
  open Cert.UpFwdRefIdeal Cert.UpFwdRefIdeal.Gen Cert.UpFwdRefIdeal.Read in pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, NormRow.fwd, NormRow.inv]

/-- The reference's product at an entry. -/
theorem ref_proj (c : Dev nD) (z : S16384x5632.Idx) :
    Cert.UpFwdRefIdeal.Read.val_main_v23 (F := Ideal) (xs m c) (gs m c) (mods m c) (wUp m c) z = ∑ k : Fin 1024, hn m c (z 0) k * wUp m c (ix2 k (z 1)) := by
  have e : Cert.UpFwdRefIdeal.Read.val_main_v23 (F := Ideal) (xs m c) (gs m c) (mods m c) (wUp m c) z
      = ∑ k : Fin 1024, Cert.UpFwdRefIdeal.Read.val_main_v19 (F := Ideal) (xs m c) (gs m c) (mods m c) (ix2 (z 0) k) * wUp m c (ix2 k (z 1)) := by
    open Cert.UpFwdRefIdeal Cert.UpFwdRefIdeal.Gen Cert.UpFwdRefIdeal.Read in pointwise [val_main_v23, val_main_v22, val_main_v21]
  rw [e]
  exact Finset.sum_congr rfl fun k _ => congrArg (· * _) (ref_norm m c _)

/-- The first array after the run is the reference's modulated norm. -/
theorem final4 (c : Dev nD) : (dats m 0 c).arrAt 4 (cfgs 0).N = Cert.UpFwdRefIdeal.Read.val_main_v20 (F := Ideal) (xs m c) (gs m c) (mods m c) := by
  refine (dats m 0 c).arrAt_eq_of_covers 4 _ (by decide +kernel) fun t hf y => ?_
  blk_simp
  rw [after4]
  refine (show rows m c t y = _ from (congrArg (rows m c t) (eq_ix2 y)).trans (rows_at m c t (y 0) (y 1))).trans ?_
  refine Eq.trans ?_ (ref_norm m c ((win0_4.blk t).view.emb y)).symm
  have e0 : (win0_4.blk t).view.emb y 0 = (⟨t.val / 4 * 1024 + (y 0).val, by have := tile_lt t; have : (y 0).val < 1024 := (y 0).isLt; omega⟩ : Fin 16384) := Fin.ext (by blk_simp [idx t])
  have e1 : (win0_4.blk t).view.emb y 1 = y 1 := Fin.ext (by blk_simp [idx t])
  rw [e0, e1]

/-- The second is its product. -/
theorem final5 (c : Dev nD) : (dats m 0 c).arrAt 5 (cfgs 0).N = Cert.UpFwdRefIdeal.Read.val_main_v23 (F := Ideal) (xs m c) (gs m c) (mods m c) (wUp m c) := by
  refine (dats m 0 c).arrAt_eq_of_covers 5 _ (by decide +kernel) fun t hf y => ?_
  blk_simp
  rw [after5]
  refine (show proj (grid0.coords t) (rows m c t) (iblk m c 3 t) y = _ from (congrArg (proj (grid0.coords t) (rows m c t) (iblk m c 3 t)) (eq_ix2 y)).trans (proj_at m c t (y 0) (y 1))).trans ?_
  refine Eq.trans ?_ (ref_proj m c ((win0_5.blk t).view.emb y)).symm
  have e0 : (win0_5.blk t).view.emb y 0 = (⟨t.val / 4 * 1024 + (y 0).val, by have := tile_lt t; have : (y 0).val < 1024 := (y 0).isLt; omega⟩ : Fin 16384) := Fin.ext (by blk_simp [idx t])
  have e1 : (win0_5.blk t).view.emb y 1 = (⟨t.val % 4 * 1408 + (y 1).val, by have : (y 1).val < 1408 := (y 1).isLt; omega⟩ : Fin 5632) := Fin.ext (by blk_simp [idx t])
  rw [e0, e1]

end Kernel

section Reference

open Cert.UpFwdRefIdeal

variable (m' : (ℓ : Loc nD τ sig) → Buf (Elt Ideal) ℓ)

/-- The reference's two results. -/
def res0 (c : Dev nD) : Buf (Elt Ideal) ((c.tc : Thread nD τ).loc main_v20) :=
  Read.val_main_v20 (F := Ideal) (m' ((c.tc : Thread nD τ).loc main_arg0)) (m' ((c.tc : Thread nD τ).loc main_arg1)) (m' ((c.tc : Thread nD τ).loc main_arg2))
def res1 (c : Dev nD) : Buf (Elt Ideal) ((c.tc : Thread nD τ).loc main_v23) :=
  Read.val_main_v23 (F := Ideal) (m' ((c.tc : Thread nD τ).loc main_arg0)) (m' ((c.tc : Thread nD τ).loc main_arg1)) (m' ((c.tc : Thread nD τ).loc main_arg2)) (m' ((c.tc : Thread nD τ).loc main_arg3))

/-- The reference's run ends with them. -/
theorem ref_run (g : Dev nD → PrngReg) :
    θ_run defs (onTc (τ := τ) (main (F := Ideal))) ⟨m', fun _ => 0, g⟩ (fun r => ∀ c : Dev nD,
      r.2.mem ((c.tc : Thread nD τ).loc main_v20) = res0 m' c
      ∧ r.2.mem ((c.tc : Thread nD τ).loc main_v23) = res1 m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run defs _ _).mono (fun _ h c => ⟨(h c).1.trans (Read.val_main_v20_eq _ _ _), (h c).2.1.trans (Read.val_main_v23_eq _ _ _ _), (h c).2.2⟩) (Value.run m' g)

/-- The reference runs, keeps its arguments, and leaves every counter at zero. -/
theorem frame_ref : Cert.quiescent_UpFwdRefIdeal := by
  intro m g _
  refine (θ_run_and (?_ : θ_run _ _ _ (fun r => ∀ c : Dev nD, _)) (?_ : θ_run _ _ _ (fun r => r.2.sem = fun _ => 0)))
  · run_from Value.run m g
  · exact (θ_run defs _ _).mono (fun r _ => sem_eq_zero_of_no_sems (by decide) r.2) (Value.run m g)

end Reference

section Pair

variable (m : (ℓ : Loc Cert.UpFwdIdeal.nD Cert.UpFwdIdeal.τ Cert.UpFwdIdeal.sig) → Buf (Elt Ideal) ℓ)
  (m' : (ℓ : Loc Cert.UpFwdRefIdeal.nD Cert.UpFwdRefIdeal.τ Cert.UpFwdRefIdeal.sig) → Buf (Elt Ideal) ℓ) (c : Dev Cert.UpFwdRefIdeal.nD)
  (h0 : m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0))
  (h1 : m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1))
  (h2 : m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2))
  (h3 : m' ((c.tc : Thread Cert.UpFwdRefIdeal.nD Cert.UpFwdRefIdeal.τ).loc Cert.UpFwdRefIdeal.main_arg3) = m ((c.tc : Thread Cert.UpFwdIdeal.nD Cert.UpFwdIdeal.τ).loc Cert.UpFwdIdeal.main_arg3))

include h0 h1 h2 in
/-- Where the arguments agree, the first is the kernel's first array, -/
theorem out0 : res0 m' c = (Cert.UpFwdRun.dats m 0 c).arrAt 4 (Cert.UpFwdIdeal.cfgs 0).N := by
  unfold res0
  rw [h0, h1, h2]
  exact (final4 m c).symm

include h0 h1 h2 h3 in
/-- and the second the second. -/
theorem out1 : res1 m' c = (Cert.UpFwdRun.dats m 0 c).arrAt 5 (Cert.UpFwdIdeal.cfgs 0).N := by
  unfold res1
  rw [h0, h1, h2, h3]
  exact (final5 m c).symm

end Pair

/-- The value claim. -/
theorem algebraic : Cert.algebraic_UpFwdIdeal_UpFwdRefIdeal := by
  pair_intro
  · run_from Cert.UpFwdRun.run_main m g
  · refine θ_run_mono (ref_run m' g') ?_
    intro r hr c
    exact ⟨(hr c).1.trans (out0 m m' c (hagree c).1 (hagree c).2.1 (hagree c).2.2.1),
      (hr c).2.1.trans (out1 m m' c (hagree c).1 (hagree c).2.1 (hagree c).2.2.1 (hagree c).2.2.2), (hr c).2.2⟩

end Cert.UpFwdClaim

end
-- ==== Proof.InFwdClaim.lean ====
/- The input projection of the forward pass: the call's three results are the reference's modulated norm and its two products. -/
module

public import proofs.«01_k».proof.Defs
public import proofs.«01_k».proof.Proof.InFwdRun
public import proofs.«01_k».proof.Proof.NormRow
public import proofs.«01_k».proof.Proof.Gen.InFwdRefIdeal.Run
public import proofs.«01_k».proof.Proof.Gen.InFwdRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.InFwdClaim

open Idealize.ShloMosaic Idealize.ShloMosaic.TcCoe Idealize.SL.Sem
open Idealize.ShloMosaic.Pipeline (Dat)

section Kernel

open Cert.InFwdIdeal Cert.InFwdIdeal.Gen Cert.InFwdRun

/-- A row of the strip of scale and shift. -/
theorem strip_at (s : Vec Ideal S2x1024 .f32) (o : ℕ) (inb : ∀ a, ![o, 0] a + S1x1024.size a ≤ S2x1024.size a) (k : Fin 1024) :
    View.ld s (Rect.unit ![o, 0] S1x1024.size inb) (ix2 0 k) = s (ix2 (⟨o, by have := inb 0; simp [S2x1024, S1x1024] at this; omega⟩ : Fin 2) k) :=
  View.ld_unit_apply_of s _ _ inb _ _ (fun a => by fin_cases a <;> simp)

/-- A normed block's entry is the row form. -/
theorem normed_at (x : Vec Ideal S1024x1024 .f32) (g : Vec Ideal S1x1024 .f32) (s : Vec Ideal S2x1024 .f32) (y : S1024x1024.Idx) :
    normed (F := Ideal) x g s y
      = NormRow.fwd (fun k => x (ix2 (y 0) k)) (fun k => g (ix2 0 k)) (fun k => s (ix2 1 k)) (fun k => s (ix2 0 k)) (y 1) := by
  unfold normed
  rw [show (fun k => s (ix2 (1 : Fin 2) k)) = fun k => View.ld s (Rect.unit ![1, 0] S1x1024.size inb_S2x1024_S1x1024_1_0) (ix2 0 k) from
      funext fun k => (strip_at s 1 _ k).symm,
    show (fun k => s (ix2 (0 : Fin 2) k)) = fun k => View.ld s (Rect.unit ![0, 0] S1x1024.size inb_S2x1024_S1x1024_0_0) (ix2 0 k) from
      funext fun k => (strip_at s 0 _ k).symm]
  generalize View.ld s (Rect.unit ![1, 0] S1x1024.size inb_S2x1024_S1x1024_1_0) = a
  generalize View.ld s (Rect.unit ![0, 0] S1x1024.size inb_S2x1024_S1x1024_0_0) = b
  pointwise [k0_pay1, NormRow.fwd, NormRow.inv]

variable (m : (ℓ : Loc nD τ sig) → Buf (Elt Ideal) ℓ)

/-- The input, the gain, the rows of shift and scale, the weight and the gates' columns, as the launch has them. -/
abbrev xs (c : Dev nD) : FVec Ideal S16384x1024 .f32 := m ((c : Thread nD τ).loc main_arg0)
abbrev gs (c : Dev nD) : FVec Ideal S1x1024 .f32 := m ((c : Thread nD τ).loc main_arg1)
abbrev mods (c : Dev nD) : FVec Ideal S2x1024 .f32 := m ((c : Thread nD τ).loc main_arg2)
abbrev wMain (c : Dev nD) : FVec Ideal S1024x8192 .bf16 := m ((c : Thread nD τ).loc main_arg3)
abbrev wGate (c : Dev nD) : FVec Ideal S1024x128 .bf16 := m ((c : Thread nD τ).loc main_arg4)

/-- The modulated norm's entry at a row and a column. -/
def hn (c : Dev nD) (i : Fin 16384) (j : Fin 1024) : EReal :=
  NormRow.fwd (fun k => xs m c (ix2 i k)) (fun k => gs m c (ix2 0 k)) (fun k => mods m c (ix2 1 k)) (fun k => mods m c (ix2 0 k)) j

/-- A point's row tile is one of sixteen. -/
theorem tile_lt (t : Fin cfg0.N) : t.val / 4 < 16 := by have := lt_of_lt_of_eq t.isLt N_0; omega

/-- The scratch's rows at a point are the modulated norm's rows of its tile. -/
theorem rows_at (c : Dev nD) (t : Fin cfg0.N) (a : Fin 1024) (j : Fin 1024) :
    rows m c t (ix2 a j) = hn m c ⟨t.val / 4 * 1024 + a, by have := tile_lt t; omega⟩ j := by
  unfold rows hn
  rw [normed_at]
  congr 1 <;> funext k
  · blk_point [iblk, V, idx t]
  · blk_point [iblk, V, idx t]
  · blk_point [iblk, V, idx t]
  · blk_point [iblk, V, idx t]

/-- Where a point's tile of the weight's columns starts. -/
theorem off : ∀ t : Fin cfg0.N, k0_off1 (grid0.coords t) = ![0, t.val % 4 * 2048] :=
  (by decide +kernel : ∀ t : Fin grid0.N, _)

/-- A tile of the weight's columns, read at an entry. -/
theorem cols_at (t : Fin cfg0.N) (w : Vec Ideal S1024x8192 .bf16) (k : Fin 1024) (b : Fin 2048) :
    View.ld w (Rect.unit (k0_off1 (grid0.coords t)) S1024x2048.size (k0_off1_inb (grid0.coords t))) (ix2 k b)
      = w (ix2 k (⟨t.val % 4 * 2048 + b, by omega⟩ : Fin 8192)) :=
  View.ld_unit_apply_of w _ _ _ _ _ (fun a => by
    refine Eq.trans ?_ (congrArg (· + _) (congrFun (off t) a)).symm
    fin_cases a <;> simp)

/-- The product's entry at a point's tile. -/
theorem proj_at (c : Dev nD) (t : Fin cfg0.N) (a : Fin 1024) (b : Fin 2048) :
    proj (grid0.coords t) (rows m c t) (iblk m c 3 t) (ix2 a b)
      = ∑ k : Fin 1024, hn m c ⟨t.val / 4 * 1024 + a, by have := tile_lt t; omega⟩ k * wMain m c (ix2 k (⟨t.val % 4 * 2048 + b, by omega⟩ : Fin 8192)) := by
  have e : proj (grid0.coords t) (rows m c t) (iblk m c 3 t) (ix2 a b)
      = ∑ k : Fin 1024, rows m c t (ix2 a k) * View.ld (iblk m c 3 t) (Rect.unit (k0_off1 (grid0.coords t)) S1024x2048.size (k0_off1_inb (grid0.coords t))) (ix2 k b) := by
    unfold proj
    generalize rows m c t = r
    generalize View.ld (iblk m c 3 t) (Rect.unit (k0_off1 (grid0.coords t)) S1024x2048.size (k0_off1_inb (grid0.coords t))) = w
    pointwise [k0_pay4]
  rw [e]
  refine Finset.sum_congr rfl fun k _ => ?_
  rw [rows_at, cols_at]
  congr 1
  blk_point [iblk, V, idx t]

/-- The gates' product's entry at a point's row tile. -/
theorem gates_at (c : Dev nD) (t : Fin cfg0.N) (a : Fin 1024) (b : Fin 128) :
    gates m c t (ix2 a b)
      = ∑ k : Fin 1024, hn m c ⟨t.val / 4 * 1024 + a, by have := tile_lt t; omega⟩ k * wGate m c (ix2 k b) := by
  have e : gates m c t (ix2 a b) = ∑ k : Fin 1024, rows m c t (ix2 a k) * iblk m c 4 t (ix2 k b) := by
    unfold gates gated rows normed k0_pay3
    dsimp only
    generalize k0_pay1 (iblk m c 0 t) (iblk m c 1 t) (View.ld (iblk m c 2 t) (Rect.unit ![1, 0] S1x1024.size inb_S2x1024_S1x1024_1_0)) (View.ld (iblk m c 2 t) (Rect.unit ![0, 0] S1x1024.size inb_S2x1024_S1x1024_0_0)) = r
    generalize iblk m c 4 t = w
    pointwise
  rw [e]
  refine Finset.sum_congr rfl fun k _ => ?_
  rw [rows_at]
  congr 1
  blk_point [iblk, V, idx t]

/-- The reference's modulated norm is the row form. -/
theorem ref_norm (c : Dev nD) (z : S16384x1024.Idx) :
    Cert.InFwdRefIdeal.Read.val_main_v19 (F := Ideal) (xs m c) (gs m c) (mods m c) z = hn m c (z 0) (z 1) := by
  unfold hn
  open Cert.InFwdRefIdeal Cert.InFwdRefIdeal.Gen Cert.InFwdRefIdeal.Read in pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, NormRow.fwd, NormRow.inv]

/-- The reference's product at an entry. -/
theorem ref_proj (c : Dev nD) (z : S16384x8192.Idx) :
    Cert.InFwdRefIdeal.Read.val_main_v23 (F := Ideal) (xs m c) (gs m c) (mods m c) (wMain m c) z = ∑ k : Fin 1024, hn m c (z 0) k * wMain m c (ix2 k (z 1)) := by
  have e : Cert.InFwdRefIdeal.Read.val_main_v23 (F := Ideal) (xs m c) (gs m c) (mods m c) (wMain m c) z
      = ∑ k : Fin 1024, Cert.InFwdRefIdeal.Read.val_main_v19 (F := Ideal) (xs m c) (gs m c) (mods m c) (ix2 (z 0) k) * wMain m c (ix2 k (z 1)) := by
    open Cert.InFwdRefIdeal Cert.InFwdRefIdeal.Gen Cert.InFwdRefIdeal.Read in pointwise [val_main_v23, val_main_v22, val_main_v21]
  rw [e]
  exact Finset.sum_congr rfl fun k _ => congrArg (· * _) (ref_norm m c _)

/-- The reference's gates' product at an entry. -/
theorem ref_gates (c : Dev nD) (z : S16384x128.Idx) :
    Cert.InFwdRefIdeal.Read.val_main_v25 (F := Ideal) (xs m c) (gs m c) (mods m c) (wGate m c) z = ∑ k : Fin 1024, hn m c (z 0) k * wGate m c (ix2 k (z 1)) := by
  have e : Cert.InFwdRefIdeal.Read.val_main_v25 (F := Ideal) (xs m c) (gs m c) (mods m c) (wGate m c) z
      = ∑ k : Fin 1024, Cert.InFwdRefIdeal.Read.val_main_v19 (F := Ideal) (xs m c) (gs m c) (mods m c) (ix2 (z 0) k) * wGate m c (ix2 k (z 1)) := by
    open Cert.InFwdRefIdeal Cert.InFwdRefIdeal.Gen Cert.InFwdRefIdeal.Read in pointwise [val_main_v25, val_main_v24]
  rw [e]
  exact Finset.sum_congr rfl fun k _ => congrArg (· * _) (ref_norm m c _)

/-- `G` on the rows that the call writes, and zero below. -/
def ext {n : ℕ} (G : Fin 16384 → Fin n → EReal) (i : Fin 16640) (j : Fin n) : EReal := if h : i.val < 16384 then G ⟨i.val, h⟩ j else 0

theorem ext_at {n : ℕ} (G : Fin 16384 → Fin n → EReal) (i : Fin 16640) (j : Fin n) (h : i.val < 16384) : ext G i j = G ⟨i.val, h⟩ j := dif_pos h

/-- What a point leaves of the normed rows. -/
theorem left5 (c : Dev nD) (t : Fin cfg0.N) (a : Fin 1024) (b : Fin 1024) :
    rows m c t (ix2 a b) = ext (hn m c) ⟨t.val / 4 * 1024 + a, by have := tile_lt t; omega⟩ (b) := by
  have ht := tile_lt t
  rw [ext_at _ _ _ (show t.val / 4 * 1024 + a.val < 16384 by omega)]
  exact rows_at m c t a b

set_option maxHeartbeats 800000 in
/-- The array of the normed rows: the rows of the call's tiles are written, the others are as they were. -/
theorem ends_as5 (c : Dev nD) (i : S16640x1024.Idx) : (dats m 0 c).arrAt 5 cfg0.N i
    = if (i 0).val / 1024 < 16 then ext (hn m c) (i 0) (i 1) else (dats m 0 c).A 5 i := by
  refine (dats m 0 c).arrAt_apply_of_coversWhere 5 (fun i => ext (hn m c) (i 0) (i 1)) (P := fun i => (i 0).val / 1024 < 16) (fun β => β (0 : Fin 2) < 16) (by decide +kernel) (fun t hf y => ?_) (fun j => Iff.rfl) i
  obtain ⟨y', hy⟩ : ∃ y' : S1024x1024.Idx, y' = (cfg0.win 5).xinj (cfg0.grid.coords t) y := ⟨_, rfl⟩
  have h0 : (y' 0).val = (y 0).val := by rw [hy]
  have h1 : (y' 1).val = (y 1).val := by rw [hy]
  have e0 : (win0_5.blk t).view.emb y 0 = (⟨t.val / 4 * 1024 + (y' 0).val, by have := tile_lt t; have : (y' 0).val < 1024 := (y' 0).isLt; omega⟩ : Fin 16640) :=
    Fin.ext (by blk_simp [idx t]; exact congrArg (t.val / 4 * 1024 + ·) h0.symm)
  have e1 : (win0_5.blk t).view.emb y 1 = (y' 1) := Fin.ext ((Pipeline.Window.rect_emb_val_of_index_zero win0_5 t 1 (congrFun (idx t).2.2.2.2.2.1 1) y).trans h1.symm)
  show (dats m 0 c).after 5 t ((cfg0.win 5).xinj (cfg0.grid.coords t) y) = _
  rw [after5, ← hy]
  refine Eq.trans ?_ (congrArg₂ (ext (hn m c)) e0 e1).symm
  exact (congrArg (rows m c t) (eq_ix2 y')).trans (left5 m c t (y' 0) (y' 1))

/-- The first result is the reference's modulated norm. -/
theorem final5 (c : Dev nD) : extractStridedSlice S16384x1024 ![0, 0] ((dats m 0 c).arrAt 5 cfg0.N) slices_S16640x1024_S16384x1024_0_0 = Cert.InFwdRefIdeal.Read.val_main_v20 (F := Ideal) (xs m c) (gs m c) (mods m c) := by
  funext z
  have hz : (z 0).val < 16384 := (z 0).isLt
  refine (show _ = (dats m 0 c).arrAt 5 cfg0.N (ix2 (⟨(z 0).val, by omega⟩ : Fin 16640) (z 1)) from ?_).trans ?_
  · generalize (dats m 0 c).arrAt 5 cfg0.N = A
    pointwise
  refine (ends_as5 m c _).trans ((if_pos (show (z 0).val / 1024 < 16 by omega)).trans ?_)
  exact (ext_at _ (⟨(z 0).val, by omega⟩ : Fin 16640) (z 1) hz).trans (ref_norm m c z).symm

/-- What a point leaves of the product. -/
theorem left6 (c : Dev nD) (t : Fin cfg0.N) (a : Fin 1024) (b : Fin 2048) :
    proj (grid0.coords t) (rows m c t) (iblk m c 3 t) (ix2 a b) = ext (fun i j => ∑ k : Fin 1024, hn m c i k * wMain m c (ix2 k j)) ⟨t.val / 4 * 1024 + a, by have := tile_lt t; omega⟩ (⟨t.val % 4 * 2048 + (b).val, by have : (b).val < 2048 := (b).isLt; omega⟩ : Fin 8192) := by
  have ht := tile_lt t
  rw [ext_at _ _ _ (show t.val / 4 * 1024 + a.val < 16384 by omega)]
  exact proj_at m c t a b

set_option maxHeartbeats 800000 in
/-- The array of the product: the rows of the call's tiles are written, the others are as they were. -/
theorem ends_as6 (c : Dev nD) (i : S16640x8192.Idx) : (dats m 0 c).arrAt 6 cfg0.N i
    = if (i 0).val / 1024 < 16 then ext (fun i j => ∑ k : Fin 1024, hn m c i k * wMain m c (ix2 k j)) (i 0) (i 1) else (dats m 0 c).A 6 i := by
  refine (dats m 0 c).arrAt_apply_of_coversWhere 6 (fun i => ext (fun i j => ∑ k : Fin 1024, hn m c i k * wMain m c (ix2 k j)) (i 0) (i 1)) (P := fun i => (i 0).val / 1024 < 16) (fun β => β (0 : Fin 2) < 16) (by decide +kernel) (fun t hf y => ?_) (fun j => Iff.rfl) i
  obtain ⟨y', hy⟩ : ∃ y' : S1024x2048.Idx, y' = (cfg0.win 6).xinj (cfg0.grid.coords t) y := ⟨_, rfl⟩
  have h0 : (y' 0).val = (y 0).val := by rw [hy]
  have h1 : (y' 1).val = (y 1).val := by rw [hy]
  have e0 : (win0_6.blk t).view.emb y 0 = (⟨t.val / 4 * 1024 + (y' 0).val, by have := tile_lt t; have : (y' 0).val < 1024 := (y' 0).isLt; omega⟩ : Fin 16640) :=
    Fin.ext (by blk_simp [idx t]; exact congrArg (t.val / 4 * 1024 + ·) h0.symm)
  have e1 : (win0_6.blk t).view.emb y 1 = (⟨t.val % 4 * 2048 + (y' 1).val, by have : (y' 1).val < 2048 := (y' 1).isLt; omega⟩ : Fin 8192) := Fin.ext (by blk_simp [idx t]; exact congrArg (t.val % 4 * 2048 + ·) h1.symm)
  show (dats m 0 c).after 6 t ((cfg0.win 6).xinj (cfg0.grid.coords t) y) = _
  rw [after6, ← hy]
  refine Eq.trans ?_ (congrArg₂ (ext (fun i j => ∑ k : Fin 1024, hn m c i k * wMain m c (ix2 k j))) e0 e1).symm
  exact (congrArg (proj (grid0.coords t) (rows m c t) (iblk m c 3 t)) (eq_ix2 y')).trans (left6 m c t (y' 0) (y' 1))

/-- The second is its product with the weight. -/
theorem final6 (c : Dev nD) : extractStridedSlice S16384x8192 ![0, 0] ((dats m 0 c).arrAt 6 cfg0.N) slices_S16640x8192_S16384x8192_0_0 = Cert.InFwdRefIdeal.Read.val_main_v23 (F := Ideal) (xs m c) (gs m c) (mods m c) (wMain m c) := by
  funext z
  have hz : (z 0).val < 16384 := (z 0).isLt
  refine (show _ = (dats m 0 c).arrAt 6 cfg0.N (ix2 (⟨(z 0).val, by omega⟩ : Fin 16640) (z 1)) from ?_).trans ?_
  · generalize (dats m 0 c).arrAt 6 cfg0.N = A
    pointwise
  refine (ends_as6 m c _).trans ((if_pos (show (z 0).val / 1024 < 16 by omega)).trans ?_)
  exact (ext_at _ (⟨(z 0).val, by omega⟩ : Fin 16640) (z 1) hz).trans (ref_proj m c z).symm

/-- What a point leaves of the gates' product. -/
theorem left7 (c : Dev nD) (t : Fin cfg0.N) (a : Fin 1024) (b : Fin 128) :
    gates m c t (ix2 a b) = ext (fun i j => ∑ k : Fin 1024, hn m c i k * wGate m c (ix2 k j)) ⟨t.val / 4 * 1024 + a, by have := tile_lt t; omega⟩ (b) := by
  have ht := tile_lt t
  rw [ext_at _ _ _ (show t.val / 4 * 1024 + a.val < 16384 by omega)]
  exact gates_at m c t a b

set_option maxHeartbeats 800000 in
/-- The array of the gates' product: the rows of the call's tiles are written, the others are as they were. -/
theorem ends_as7 (c : Dev nD) (i : S16640x128.Idx) : (dats m 0 c).arrAt 7 cfg0.N i
    = if (i 0).val / 1024 < 16 then ext (fun i j => ∑ k : Fin 1024, hn m c i k * wGate m c (ix2 k j)) (i 0) (i 1) else (dats m 0 c).A 7 i := by
  refine (dats m 0 c).arrAt_apply_of_coversWhere 7 (fun i => ext (fun i j => ∑ k : Fin 1024, hn m c i k * wGate m c (ix2 k j)) (i 0) (i 1)) (P := fun i => (i 0).val / 1024 < 16) (fun β => β (0 : Fin 2) < 16) (by decide +kernel) (fun t hf y => ?_) (fun j => Iff.rfl) i
  obtain ⟨y', hy⟩ : ∃ y' : S1024x128.Idx, y' = (cfg0.win 7).xinj (cfg0.grid.coords t) y := ⟨_, rfl⟩
  have h0 : (y' 0).val = (y 0).val := by rw [hy]
  have h1 : (y' 1).val = (y 1).val := by rw [hy]
  have e0 : (win0_7.blk t).view.emb y 0 = (⟨t.val / 4 * 1024 + (y' 0).val, by have := tile_lt t; have : (y' 0).val < 1024 := (y' 0).isLt; omega⟩ : Fin 16640) :=
    Fin.ext (by blk_simp [idx t]; exact congrArg (t.val / 4 * 1024 + ·) h0.symm)
  have e1 : (win0_7.blk t).view.emb y 1 = (y' 1) := Fin.ext (by blk_simp [idx t]; exact h1.symm)
  show (dats m 0 c).after 7 t ((cfg0.win 7).xinj (cfg0.grid.coords t) y) = _
  rw [after7, ← hy]
  refine Eq.trans ?_ (congrArg₂ (ext (fun i j => ∑ k : Fin 1024, hn m c i k * wGate m c (ix2 k j))) e0 e1).symm
  exact (congrArg (gates m c t) (eq_ix2 y')).trans (left7 m c t (y' 0) (y' 1))

/-- The third is its product with the gates' columns. -/
theorem final7 (c : Dev nD) : extractStridedSlice S16384x128 ![0, 0] ((dats m 0 c).arrAt 7 cfg0.N) slices_S16640x128_S16384x128_0_0 = Cert.InFwdRefIdeal.Read.val_main_v25 (F := Ideal) (xs m c) (gs m c) (mods m c) (wGate m c) := by
  funext z
  have hz : (z 0).val < 16384 := (z 0).isLt
  refine (show _ = (dats m 0 c).arrAt 7 cfg0.N (ix2 (⟨(z 0).val, by omega⟩ : Fin 16640) (z 1)) from ?_).trans ?_
  · generalize (dats m 0 c).arrAt 7 cfg0.N = A
    pointwise
  refine (ends_as7 m c _).trans ((if_pos (show (z 0).val / 1024 < 16 by omega)).trans ?_)
  exact (ext_at _ (⟨(z 0).val, by omega⟩ : Fin 16640) (z 1) hz).trans (ref_gates m c z).symm

end Kernel

section Reference

open Cert.InFwdRefIdeal

variable (m' : (ℓ : Loc nD τ sig) → Buf (Elt Ideal) ℓ)

/-- The reference's three results. -/
def res0 (c : Dev nD) : Buf (Elt Ideal) ((c.tc : Thread nD τ).loc main_v20) :=
  Read.val_main_v20 (F := Ideal) (m' ((c.tc : Thread nD τ).loc main_arg0)) (m' ((c.tc : Thread nD τ).loc main_arg1)) (m' ((c.tc : Thread nD τ).loc main_arg2))
def res1 (c : Dev nD) : Buf (Elt Ideal) ((c.tc : Thread nD τ).loc main_v23) :=
  Read.val_main_v23 (F := Ideal) (m' ((c.tc : Thread nD τ).loc main_arg0)) (m' ((c.tc : Thread nD τ).loc main_arg1)) (m' ((c.tc : Thread nD τ).loc main_arg2)) (m' ((c.tc : Thread nD τ).loc main_arg3))
def res2 (c : Dev nD) : Buf (Elt Ideal) ((c.tc : Thread nD τ).loc main_v25) :=
  Read.val_main_v25 (F := Ideal) (m' ((c.tc : Thread nD τ).loc main_arg0)) (m' ((c.tc : Thread nD τ).loc main_arg1)) (m' ((c.tc : Thread nD τ).loc main_arg2)) (m' ((c.tc : Thread nD τ).loc main_arg4))

/-- The reference's run ends with them. -/
theorem ref_run (g : Dev nD → PrngReg) :
    θ_run defs (onTc (τ := τ) (main (F := Ideal))) ⟨m', fun _ => 0, g⟩ (fun r => ∀ c : Dev nD,
      r.2.mem ((c.tc : Thread nD τ).loc main_v20) = res0 m' c
      ∧ r.2.mem ((c.tc : Thread nD τ).loc main_v23) = res1 m' c
      ∧ r.2.mem ((c.tc : Thread nD τ).loc main_v25) = res2 m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono (fun _ h c => ⟨(h c).1.trans (Read.val_main_v20_eq _ _ _), (h c).2.1.trans (Read.val_main_v23_eq _ _ _ _), (h c).2.2.1.trans (Read.val_main_v25_eq _ _ _ _), (h c).2.2.2⟩) (Value.run m' g)

/-- The reference runs, keeps its arguments, and leaves every counter at zero. -/
theorem frame_ref : Cert.quiescent_InFwdRefIdeal := by
  intro m g _
  refine (θ_run_and (?_ : θ_run _ _ _ (fun r => ∀ c : Dev nD, _)) (?_ : θ_run _ _ _ (fun r => r.2.sem = fun _ => 0)))
  · run_from Value.run m g
  · exact (θ_run defs _ _).mono (fun r _ => sem_eq_zero_of_no_sems (by decide) r.2) (Value.run m g)

end Reference

section Pair

variable (m : (ℓ : Loc Cert.InFwdIdeal.nD Cert.InFwdIdeal.τ Cert.InFwdIdeal.sig) → Buf (Elt Ideal) ℓ)
  (m' : (ℓ : Loc Cert.InFwdRefIdeal.nD Cert.InFwdRefIdeal.τ Cert.InFwdRefIdeal.sig) → Buf (Elt Ideal) ℓ) (c : Dev Cert.InFwdRefIdeal.nD)
  (h0 : m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0))
  (h1 : m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1))
  (h2 : m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2))
  (h3 : m' ((c.tc : Thread Cert.InFwdRefIdeal.nD Cert.InFwdRefIdeal.τ).loc Cert.InFwdRefIdeal.main_arg3) = m ((c.tc : Thread Cert.InFwdIdeal.nD Cert.InFwdIdeal.τ).loc Cert.InFwdIdeal.main_arg3))
  (h4 : m' ((c.tc : Thread Cert.InFwdRefIdeal.nD Cert.InFwdRefIdeal.τ).loc Cert.InFwdRefIdeal.main_arg4) = m ((c.tc : Thread Cert.InFwdIdeal.nD Cert.InFwdIdeal.τ).loc Cert.InFwdIdeal.main_arg4))

include h0 h1 h2 in
/-- Where the arguments agree, the first is the kernel's first result, -/
theorem out0 : res0 m' c = extractStridedSlice Cert.InFwdIdeal.S16384x1024 ![0, 0] ((Cert.InFwdRun.dats m 0 c).arrAt 5 Cert.InFwdIdeal.cfg0.N) Cert.InFwdIdeal.Gen.slices_S16640x1024_S16384x1024_0_0 := by
  unfold res0
  rw [h0, h1, h2]
  exact (final5 m c).symm

include h0 h1 h2 h3 in
/-- the second the second, -/
theorem out1 : res1 m' c = extractStridedSlice Cert.InFwdIdeal.S16384x8192 ![0, 0] ((Cert.InFwdRun.dats m 0 c).arrAt 6 Cert.InFwdIdeal.cfg0.N) Cert.InFwdIdeal.Gen.slices_S16640x8192_S16384x8192_0_0 := by
  unfold res1
  rw [h0, h1, h2, h3]
  exact (final6 m c).symm

include h0 h1 h2 h4 in
/-- and the third the third. -/
theorem out2 : res2 m' c = extractStridedSlice Cert.InFwdIdeal.S16384x128 ![0, 0] ((Cert.InFwdRun.dats m 0 c).arrAt 7 Cert.InFwdIdeal.cfg0.N) Cert.InFwdIdeal.Gen.slices_S16640x128_S16384x128_0_0 := by
  unfold res2
  rw [h0, h1, h2, h4]
  exact (final7 m c).symm

end Pair

/-- The value claim. -/
theorem algebraic : Cert.algebraic_InFwdIdeal_InFwdRefIdeal := by
  pair_intro
  · run_from Cert.InFwdRun.run_main m g
  · refine θ_run_mono (ref_run m' g') ?_
    intro r hr c
    exact ⟨(hr c).1.trans (out0 m m' c (hagree c).1 (hagree c).2.1 (hagree c).2.2.1),
      (hr c).2.1.trans (out1 m m' c (hagree c).1 (hagree c).2.1 (hagree c).2.2.1 (hagree c).2.2.2.1),
      (hr c).2.2.1.trans (out2 m m' c (hagree c).1 (hagree c).2.1 (hagree c).2.2.1 (hagree c).2.2.2.2), (hr c).2.2.2⟩

end Cert.InFwdClaim

end
-- ==== Proof.MixRow.lean ====
/- The mixer's row functions in the extended reals: the logistic gate, the gelu, the heads' norm and the layer norm. -/
module

public import proofs.«01_k».proof.Proof.Reals

@[expose] public section

set_option maxRecDepth 16384

noncomputable section

namespace Cert.MixRow

open Idealize.ShloMosaic

/-- The logistic function. -/
def gate (a : EReal) : EReal := Ideal.div 1 (1 + Ideal.exp (-a))

/-- Gelu in its hyperbolic tangent form, the cube inside. -/
def gelu (a : EReal) : EReal :=
  a * (Ideal.ofBits .f32 0x3F000000#32
    * (1 + Ideal.tanh (Ideal.ofBits .f32 0x3F4C422A#32 * (a + Ideal.ofBits .f32 0x3D372713#32 * (a * a * a)))))

/-- One entry of a head's norm: head `o` of the row, its column `b`, times the reciprocal root of the head's mean square plus epsilon. -/
def head (h : Fin 1024 → EReal) (o : Fin 4) (b : Fin 256) : EReal :=
  h ⟨o.val * 256 + b.val, by omega⟩
    * Ideal.rsqrt (Ideal.div (∑ k : Fin 256, h ⟨o.val * 256 + k.val, by omega⟩ * h ⟨o.val * 256 + k.val, by omega⟩)
      (Ideal.ofBits .f32 0x43800000#32) + Ideal.ofBits .f32 0x358637BD#32)

/-- An entry of a row less the row's mean. -/
def center (v : Fin 1024 → EReal) (j : Fin 1024) : EReal :=
  v j - Ideal.div (∑ k, v k) (Ideal.ofBits .f32 0x44800000#32)

/-- One entry of the layer norm of a row, with its gain and shift. -/
def layer (v g b : Fin 1024 → EReal) (j : Fin 1024) : EReal :=
  center v j * Ideal.rsqrt (Ideal.div (∑ k, center v k * center v k) (Ideal.ofBits .f32 0x44800000#32) + Ideal.ofBits .f32 0x358637BD#32)
    * g j + b j

/-- The gate written with the hyperbolic tangent of half the argument is the logistic function, at the infinities too. -/
theorem gate_eq (a : EReal) :
    Ideal.ofBits .f32 0x3F000000#32 * Ideal.tanh (Ideal.ofBits .f32 0x3F000000#32 * a) + Ideal.ofBits .f32 0x3F000000#32 = gate a := by
  unfold gate
  rw [Reals.half_f32]
  induction a with
  | bot =>
    have e : (((1 / 2 : ℝ)) : EReal) * (⊥ : EReal) = ⊥ := EReal.coe_mul_bot_of_pos (by norm_num)
    have t : Ideal.tanh (⊥ : EReal) = ((-1 : ℝ) : EReal) := (show Ideal.tanh (⊥ : EReal) = -1 from rfl).trans (by simp)
    have x : Ideal.exp (-(⊥ : EReal)) = ⊤ := by rw [EReal.neg_bot]; rfl
    have o : (1 : EReal) + ⊤ = ⊤ := by rw [← EReal.coe_one, EReal.coe_add_top]
    rw [e, t, x, o, ← EReal.coe_mul, ← EReal.coe_add, show Ideal.div 1 ⊤ = 0 by simp [Ideal.div]]
    norm_num
  | top =>
    have e : (((1 / 2 : ℝ)) : EReal) * (⊤ : EReal) = ⊤ := EReal.coe_mul_top_of_pos (by norm_num)
    have t : Ideal.tanh (⊤ : EReal) = ((1 : ℝ) : EReal) := (show Ideal.tanh (⊤ : EReal) = 1 from rfl).trans (by simp)
    have x : Ideal.exp (-(⊤ : EReal)) = 0 := by rw [EReal.neg_top]; rfl
    rw [e, t, x, add_zero, ← EReal.coe_mul, ← EReal.coe_add, ← EReal.coe_one, Reals.div_real _ _ one_ne_zero]
    norm_num
  | coe r =>
    have e : Real.exp (-r) > 0 := Real.exp_pos _
    rw [← EReal.coe_mul, Ideal.tanh_coe, ← EReal.coe_mul, ← EReal.coe_add, Reals.logistic_of_tanh, ← EReal.coe_neg, Ideal.exp_coe,
      ← EReal.coe_one, ← EReal.coe_add, Reals.div_real _ _ (by positivity)]

/-- The two constants of the gelu are positive reals. -/
theorem consts : (∃ c : ℝ, 0 < c ∧ Ideal.ofBits .f32 0x3F4C422A#32 = (c : EReal)) ∧ ∃ c : ℝ, 0 < c ∧ Ideal.ofBits .f32 0x3D372713#32 = (c : EReal) := by
  constructor
  · simp [Ideal.ofBits, Ideal.ieee]
    refine ⟨_, ?_, (EReal.coe_mul _ _).symm⟩
    norm_num
  · simp [Ideal.ofBits, Ideal.ieee]
    refine ⟨_, ?_, (EReal.coe_mul _ _).symm⟩
    norm_num

/-- The gelu with the argument factored out of the cube is the gelu, at the infinities too. -/
theorem gelu_eq (a : EReal) :
    a * (Ideal.ofBits .f32 0x3F000000#32
      * (1 + Ideal.tanh (Ideal.ofBits .f32 0x3F4C422A#32 * a * (1 + Ideal.ofBits .f32 0x3D372713#32 * (a * a))))) = gelu a := by
  unfold gelu
  obtain ⟨⟨c, hc, hC⟩, d, hd, hD⟩ := consts
  rw [hC, hD]
  congr 4
  induction a with
  | bot =>
    simp only [EReal.coe_mul_bot_of_pos hc, EReal.bot_mul_bot, EReal.coe_mul_top_of_pos hd, EReal.top_mul_bot, EReal.coe_mul_bot_of_pos hd]
    have e : (1 : EReal) + ⊤ = ⊤ := by rw [← EReal.coe_one, EReal.coe_add_top]
    rw [e]
    simp [EReal.bot_mul_top, EReal.coe_mul_bot_of_pos hc]
  | top =>
    simp only [EReal.coe_mul_top_of_pos hc, EReal.top_mul_top, EReal.coe_mul_top_of_pos hd]
    have e : (1 : EReal) + ⊤ = ⊤ := by rw [← EReal.coe_one, EReal.coe_add_top]
    rw [e]
    simp [EReal.coe_mul_top_of_pos hc]
  | coe r =>
    norm_cast
    ring

/-- The call's arguments as functions of their indices. -/
structure Args where
  hf : Fin 16640 → Fin 1024 → EReal
  hb : Fin 16640 → Fin 1024 → EReal
  z : Fin 16640 → Fin 8192 → EReal
  x : Fin 16384 → Fin 1024 → EReal
  hg : Fin 1024 → EReal
  lg : Fin 1024 → EReal
  lb : Fin 1024 → EReal
  ws : Fin 4 → Fin 128 → Fin 128 → EReal
  bs : Fin 128 → Fin 128 → EReal
  wm : Fin 1024 → Fin 1024 → EReal
  wg : Fin 1024 → Fin 1024 → EReal
  wo : Fin 1024 → Fin 1024 → EReal
  mx : Fin 1024 → EReal

/-- A token's row among the rows of the tokens and the context. -/
def up (i : Fin 16384) : Fin 16640 := ⟨i.val, by omega⟩

/-- The column `j` of the projection's part `p`. -/
def part (p : Fin 8) (j : Fin 1024) : Fin 8192 := ⟨p.val * 1024 + j.val, by omega⟩

/-- The head (or the group) of a column, and its place there. -/
def grp (j : Fin 1024) : Fin 4 := ⟨j.val / 256, by omega⟩
def off (j : Fin 1024) : Fin 256 := ⟨j.val % 256, by omega⟩

/-- A column is its head's first and its place there. -/
theorem back (j : Fin 1024) (h : (grp j).val * 256 + (off j).val < 1024) : (⟨(grp j).val * 256 + (off j).val, h⟩ : Fin 1024) = j :=
  Fin.ext (by unfold grp off; simp only; omega)

/-- A row's place in its chunk of 128 rows, and the chunk's row `q`. -/
def pos (i : Fin 16384) : Fin 128 := ⟨i.val % 128, by omega⟩
def near (i : Fin 16384) (q : Fin 128) : Fin 16384 := ⟨i.val / 128 * 128 + q.val, by omega⟩

variable (A : Args)

/-- The gated heads' norm of the two directions' sum. -/
def ym (i : Fin 16384) (j : Fin 1024) : EReal :=
  gate (A.z (up i) (part 3 j)) * (head (fun k => A.hf (up i) k + A.hb (up i) k) (grp j) (off j) * A.hg j)

/-- The spatial gating's normed half. -/
def vn (i : Fin 16384) (j : Fin 1024) : EReal := layer (fun k => gelu (A.z (up i) (part 5 k))) A.lg A.lb j

/-- The spatial gating: the other half times the normed half mixed over its chunk's rows. -/
def ys (i : Fin 16384) (j : Fin 1024) : EReal :=
  gelu (A.z (up i) (part 4 j)) * (∑ q : Fin 128, A.ws (grp j) (pos i) q * vn A (near i q) j + A.bs (pos i) ⟨(grp j).val, by omega⟩)

/-- The two branches' projections, their gated sum, the output projection, and the residual. -/
def pm (i : Fin 16384) (j : Fin 1024) : EReal := ∑ k : Fin 1024, ym A i k * A.wm k j
def ps (i : Fin 16384) (j : Fin 1024) : EReal := ∑ k : Fin 1024, ys A i k * A.wg k j
def merged (i : Fin 16384) (j : Fin 1024) : EReal := gate (A.z (up i) (part 6 j)) * pm A i j + gate (A.z (up i) (part 7 j)) * ps A i j
def out (i : Fin 16384) (j : Fin 1024) : EReal := ∑ k : Fin 1024, merged A i k * A.wo k j
def res (i : Fin 16384) (j : Fin 1024) : EReal := A.x i j + A.mx j * out A i j

end Cert.MixRow

end
-- ==== Proof.MixKernel.lean ====
/- The mixer's forward body, payload by payload, at an entry of a tile of 256 rows. -/
module

public import proofs.«01_k».proof.Proof.MixRow
public import proofs.«01_k».proof.Proof.Gen.MixFwdIdeal.Frame
public import Idealize.ShloMosaic.Lib.Pipeline.Value
public import Idealize.ShloMosaic.Lib.Pipeline.ValueKit
public import Idealize.ShloMosaic.Lib.Pointwise

@[expose] public section

set_option maxRecDepth 16384

noncomputable section

namespace Cert.MixKernel

open Idealize.ShloMosaic Idealize.ShloMosaic.TcCoe Idealize.SL.Sem
open Cert.MixFwdIdeal Cert.MixFwdIdeal.Gen

/-- Four heads side by side, read at an entry. -/
theorem heads_at (f : Fin 4 → Vec Ideal S256x256 .f32) (a : Fin 256) (j : Fin 1024) :
    concatenate S256x1024 1 [⟨S256x256, f 0⟩, ⟨S256x256, f 1⟩, ⟨S256x256, f 2⟩, ⟨S256x256, f 3⟩]
      concatenates_S256x256_S256x256_S256x256_S256x256_S256x1024_d1 (ix2 a j) = f (MixRow.grp j) (ix2 a (MixRow.off j)) := by
  show concatenate S256x1024 1 (List.ofFn fun n : Fin 4 => (⟨S256x256, f n⟩ : (s : Shape) × (s.Idx → _))) _ (ix2 a j) = _
  exact concatenate_ofFn_apply (t := S256x1024) (s₁ := S256x256) (1 : Fin 2) f _ rfl 256 rfl (ix2 a j) (MixRow.grp j) rfl
    (ix2 a (MixRow.off j)) rfl (fun b hb => by match b with | ⟨0, _⟩ => rfl | ⟨1, _⟩ => exact absurd rfl hb)

/-- Four groups side by side. -/
theorem groups_at (f : Fin 4 → Vec Ideal S128x256 .f32) (a : Fin 128) (j : Fin 1024) :
    concatenate S128x1024 1 [⟨S128x256, f 0⟩, ⟨S128x256, f 1⟩, ⟨S128x256, f 2⟩, ⟨S128x256, f 3⟩]
      concatenates_S128x256_S128x256_S128x256_S128x256_S128x1024_d1 (ix2 a j) = f (MixRow.grp j) (ix2 a (MixRow.off j)) := by
  show concatenate S128x1024 1 (List.ofFn fun n : Fin 4 => (⟨S128x256, f n⟩ : (s : Shape) × (s.Idx → _))) _ (ix2 a j) = _
  exact concatenate_ofFn_apply (t := S128x1024) (s₁ := S128x256) (1 : Fin 2) f _ rfl 256 rfl (ix2 a j) (MixRow.grp j) rfl
    (ix2 a (MixRow.off j)) rfl (fun b hb => by match b with | ⟨0, _⟩ => rfl | ⟨1, _⟩ => exact absurd rfl hb)

/-- A tile's row is in one of its two chunks, at a place there. -/
def chunk (a : Fin 256) : Fin 2 := ⟨a.val / 128, by omega⟩
def place (a : Fin 256) : Fin 128 := ⟨a.val % 128, by omega⟩

/-- Two chunks one under the other. -/
theorem chunks_at (f : Fin 2 → Vec Ideal S128x1024 .f32) (a : Fin 256) (j : Fin 1024) :
    concatenate S256x1024 0 [⟨S128x1024, f 0⟩, ⟨S128x1024, f 1⟩] concatenates_S128x1024_S128x1024_S256x1024_d0 (ix2 a j) = f (chunk a) (ix2 (place a) j) := by
  show concatenate S256x1024 0 (List.ofFn fun n : Fin 2 => (⟨S128x1024, f n⟩ : (s : Shape) × (s.Idx → _))) _ (ix2 a j) = _
  exact concatenate_ofFn_apply (t := S256x1024) (s₁ := S128x1024) (0 : Fin 2) f _ rfl 128 rfl (ix2 a j) (chunk a) rfl
    (ix2 (place a) j) rfl (fun b hb => by match b with | ⟨0, _⟩ => exact absurd rfl hb | ⟨1, _⟩ => rfl)

/-- A head's norm at an entry, for each of the four heads. -/
theorem head0 (x y : Vec Ideal S256x1024 .bf16) (a b : Fin 256) :
    k0_pay3 (F := Ideal) x y (ix2 a b) = MixRow.head (fun k => x (ix2 a k) + y (ix2 a k)) 0 b := by
  pointwise [k0_pay3, k0_pay2, MixRow.head]

theorem head1 (x y : Vec Ideal S256x1024 .bf16) (a b : Fin 256) :
    k0_pay4 (F := Ideal) x y (ix2 a b) = MixRow.head (fun k => x (ix2 a k) + y (ix2 a k)) 1 b := by
  pointwise [k0_pay4, k0_pay2, MixRow.head]

theorem head2 (x y : Vec Ideal S256x1024 .bf16) (a b : Fin 256) :
    k0_pay5 (F := Ideal) x y (ix2 a b) = MixRow.head (fun k => x (ix2 a k) + y (ix2 a k)) 2 b := by
  pointwise [k0_pay5, k0_pay2, MixRow.head]

/-- The first result's tile: the heads' norm under its gate. -/
def ymK (x0 x1 x2 : Vec Ideal S256x1024 .bf16) (x8 : Vec Ideal S1x1024 .f32) : Vec Ideal S256x1024 .bf16 :=
  k0_pay8 (k0_pay3 x0 x1) (k0_pay4 x0 x1) (k0_pay5 x0 x1) (k0_pay6 x0 x1) (k0_pay7 x0 x1) x2 x8

/-- The fourth head, normed where the heads are put side by side. -/
def last (v : FVec Ideal S256x256 .f32) (q : FVec Ideal S256x1 .f32) : Vec Ideal S256x256 .f32 :=
  mulf v (broadcastTo S256x256 (rsqrt (addf q (broadcast S256x1 (Scalar.ofBits .f32 0x358637BD#32)))) broadcasts_S256x1_S256x256)

theorem head3 (x y : Vec Ideal S256x1024 .bf16) (a b : Fin 256) :
    last (k0_pay6 (F := Ideal) x y) (k0_pay7 (F := Ideal) x y) (ix2 a b) = MixRow.head (fun k => x (ix2 a k) + y (ix2 a k)) 3 b := by
  pointwise [last, k0_pay6, k0_pay7, k0_pay2, MixRow.head]

/-- The four heads side by side under the gate. -/
theorem gated_at (u v w z : FVec Ideal S256x256 .f32) (q : FVec Ideal S256x1 .f32) (x2 : Vec Ideal S256x1024 .bf16) (x8 : Vec Ideal S1x1024 .f32)
    (a : Fin 256) (j : Fin 1024) :
    k0_pay8 u v w z q x2 x8 (ix2 a j)
      = MixRow.gate (x2 (ix2 a j)) * (concatenate S256x1024 1 [⟨S256x256, u⟩, ⟨S256x256, v⟩, ⟨S256x256, w⟩, ⟨S256x256, last z q⟩]
          concatenates_S256x256_S256x256_S256x256_S256x256_S256x1024_d1 (ix2 a j) * x8 (ix2 0 j)) := by
  rw [← MixRow.gate_eq]
  unfold k0_pay8 last
  generalize concatenate S256x1024 1 _ _ = d
  pointwise []

theorem ym_at (x0 x1 x2 : Vec Ideal S256x1024 .bf16) (x8 : Vec Ideal S1x1024 .f32) (a : Fin 256) (j : Fin 1024) :
    ymK x0 x1 x2 x8 (ix2 a j)
      = MixRow.gate (x2 (ix2 a j)) * (MixRow.head (fun k => x0 (ix2 a k) + x1 (ix2 a k)) (MixRow.grp j) (MixRow.off j) * x8 (ix2 0 j)) := by
  have c := heads_at ![k0_pay3 x0 x1, k0_pay4 x0 x1, k0_pay5 x0 x1, last (k0_pay6 x0 x1) (k0_pay7 x0 x1)] a j
  have h : ∀ o b, (![k0_pay3 x0 x1, k0_pay4 x0 x1, k0_pay5 x0 x1, last (k0_pay6 x0 x1) (k0_pay7 x0 x1)] : Fin 4 → Vec Ideal S256x256 .f32) o (ix2 a b)
      = MixRow.head (fun k => x0 (ix2 a k) + x1 (ix2 a k)) o b := by
    intro o b
    fin_cases o
    · exact head0 x0 x1 a b
    · exact head1 x0 x1 a b
    · exact head2 x0 x1 a b
    · exact head3 x0 x1 a b
  rw [h] at c
  exact (gated_at _ _ _ _ _ x2 x8 a j).trans (congrArg (fun e => MixRow.gate (x2 (ix2 a j)) * (e * x8 (ix2 0 j))) c)

/-- The gelu at an entry. -/
theorem gelu9 (x : Vec Ideal S256x1024 .bf16) (a : Fin 256) (j : Fin 1024) : k0_pay9 (F := Ideal) x (ix2 a j) = MixRow.gelu (x (ix2 a j)) := by
  rw [← MixRow.gelu_eq]
  pointwise [k0_pay9]

theorem gelu13 (x : Vec Ideal S256x1024 .bf16) (a : Fin 256) (j : Fin 1024) : k0_pay13 (F := Ideal) x (ix2 a j) = MixRow.gelu (x (ix2 a j)) := by
  rw [← MixRow.gelu_eq]
  pointwise [k0_pay13]

/-- The normed half's tile. -/
def vnK (x4 : Vec Ideal S256x1024 .bf16) (x9 x10 : Vec Ideal S1x1024 .f32) : Vec Ideal S256x1024 .bf16 :=
  k0_pay12 (k0_pay9 x4) (k0_pay10 x4) k0_pay11 x9 x10

theorem vn_at (x4 : Vec Ideal S256x1024 .bf16) (x9 x10 : Vec Ideal S1x1024 .f32) (a : Fin 256) (j : Fin 1024) :
    vnK x4 x9 x10 (ix2 a j)
      = MixRow.layer (fun k => MixRow.gelu (x4 (ix2 a k))) (fun k => x9 (ix2 0 k)) (fun k => x10 (ix2 0 k)) j := by
  rw [show (fun k => MixRow.gelu (x4 (ix2 a k))) = fun k => k0_pay9 (F := Ideal) x4 (ix2 a k) from funext fun k => (gelu9 x4 a k).symm]
  unfold vnK k0_pay10
  generalize k0_pay9 (F := Ideal) x4 = v
  pointwise [k0_pay12, k0_pay11, MixRow.layer, MixRow.center]

/-- One group of one chunk: the group's matrix times the chunk's rows, plus the places' shifts. -/
def cell (r c : ℕ) (h : S256x1024.Slices ![r, c] S128x256) (v : FVec Ideal S256x1024 .bf16) (w : Vec Ideal S1x128x128 .f32) (b : Vec Ideal S128x1 .f32) :
    FVec Ideal S128x256 .f32 :=
  addf (matmul dot_S128x128_S128x256_S128x256_1_0_0_1_n_n none
    (truncf .bf16 (shapeCast S128x128 w shapeCasts_S1x128x128_S128x128 : FVec Ideal S128x128 .f32) bitsLt_bf16_f32)
    (extractStridedSlice S128x256 ![r, c] v h) (constant S128x256 .f32 0x00000000#32)) (broadcastTo S128x256 b broadcasts_S128x1_S128x256)

theorem cell_at (r : Fin 2) (c : Fin 4) (r0 c0 : ℕ) (hr : r0 = r.val * 128) (hc : c0 = c.val * 256) (h : S256x1024.Slices ![r0, c0] S128x256)
    (v : FVec Ideal S256x1024 .bf16) (w : Vec Ideal S1x128x128 .f32) (b : Vec Ideal S128x1 .f32) (p : Fin 128) (d : Fin 256) :
    cell r0 c0 h v w b (ix2 p d)
      = ∑ q : Fin 128, w (ix3 0 p q) * v (ix2 (⟨r.val * 128 + q.val, by omega⟩ : Fin 256) (⟨c.val * 256 + d.val, by omega⟩ : Fin 1024)) + b (ix2 p 0) := by
  subst hr hc
  pointwise [cell]
  done

/-- The groups' matrices and shifts, read at an entry. -/
theorem mat_at (x : Vec Ideal S4x128x128 .f32) (g : Fin 4) (inb : ∀ a, ![g.val, 0, 0] a + S1x128x128.size a ≤ S4x128x128.size a) (p q : Fin 128) :
    View.ld x (Rect.unit ![g.val, 0, 0] S1x128x128.size inb) (ix3 0 p q) = x (ix3 g p q) :=
  View.ld_unit_apply_of x _ _ inb _ _ (fun a => by fin_cases a <;> simp)

theorem shift_at (x : Vec Ideal S128x128 .f32) (g : Fin 4) (inb : ∀ a, ![0, g.val] a + S128x1.size a ≤ S128x128.size a) (p : Fin 128) :
    View.ld x (Rect.unit ![0, g.val] S128x1.size inb) (ix2 p 0) = x (ix2 p (⟨g.val, by omega⟩ : Fin 128)) :=
  View.ld_unit_apply_of x _ _ inb _ _ (fun a => by fin_cases a <;> simp)

/-- The eight cells of a tile. -/
def cells (v : FVec Ideal S256x1024 .bf16) (x11 : Vec Ideal S4x128x128 .f32) (x12 : Vec Ideal S128x128 .f32) : Fin 2 → Fin 4 → Vec Ideal S128x256 .f32 :=
  ![![cell 0 0 slices_S256x1024_o0_0_S128x256 v (View.ld x11 r0_2) (View.ld x12 r0_3), cell 0 256 slices_S256x1024_o0_256_S128x256 v (View.ld x11 r0_4) (View.ld x12 r0_5), cell 0 512 slices_S256x1024_o0_512_S128x256 v (View.ld x11 r0_6) (View.ld x12 r0_7), cell 0 768 slices_S256x1024_o0_768_S128x256 v (View.ld x11 r0_8) (View.ld x12 r0_9)],
    ![cell 128 0 slices_S256x1024_o128_0_S128x256 v (View.ld x11 r0_2) (View.ld x12 r0_3), cell 128 256 slices_S256x1024_o128_256_S128x256 v (View.ld x11 r0_4) (View.ld x12 r0_5), cell 128 512 slices_S256x1024_o128_512_S128x256 v (View.ld x11 r0_6) (View.ld x12 r0_7), cell 128 768 slices_S256x1024_o128_768_S128x256 v (View.ld x11 r0_8) (View.ld x12 r0_9)]]

theorem cell_of (v : FVec Ideal S256x1024 .bf16) (x11 : Vec Ideal S4x128x128 .f32) (x12 : Vec Ideal S128x128 .f32) (r : Fin 2) (g : Fin 4)
    (r0 c0 : ℕ) (hr : r0 = r.val * 128) (hc : c0 = g.val * 256) (h : S256x1024.Slices ![r0, c0] S128x256)
    (inb : ∀ a, ![g.val, 0, 0] a + S1x128x128.size a ≤ S4x128x128.size a) (inb' : ∀ a, ![0, g.val] a + S128x1.size a ≤ S128x128.size a)
    (p : Fin 128) (d : Fin 256) :
    cell r0 c0 h v (View.ld x11 (Rect.unit ![g.val, 0, 0] S1x128x128.size inb)) (View.ld x12 (Rect.unit ![0, g.val] S128x1.size inb')) (ix2 p d)
      = ∑ q : Fin 128, x11 (ix3 g p q) * v (ix2 (⟨r.val * 128 + q.val, by omega⟩ : Fin 256) (⟨g.val * 256 + d.val, by omega⟩ : Fin 1024))
        + x12 (ix2 p (⟨g.val, by omega⟩ : Fin 128)) := by
  refine (cell_at r g r0 c0 hr hc h v _ _ p d).trans ?_
  exact congrArg₂ (· + ·) (Finset.sum_congr rfl fun q _ => congrArg (· * _) (mat_at x11 g inb p q)) (shift_at x12 g inb' p)

theorem cells_at (v : FVec Ideal S256x1024 .bf16) (x11 : Vec Ideal S4x128x128 .f32) (x12 : Vec Ideal S128x128 .f32) (r : Fin 2) (g : Fin 4)
    (p : Fin 128) (d : Fin 256) :
    cells v x11 x12 r g (ix2 p d)
      = ∑ q : Fin 128, x11 (ix3 g p q) * v (ix2 (⟨r.val * 128 + q.val, by omega⟩ : Fin 256) (⟨g.val * 256 + d.val, by omega⟩ : Fin 1024))
        + x12 (ix2 p (⟨g.val, by omega⟩ : Fin 128)) := by
  match r, g with
  | 0, 0 => exact cell_of v x11 x12 0 0 0 0 rfl rfl _ (by decide) (by decide) p d
  | 0, 1 => exact cell_of v x11 x12 0 1 0 256 rfl rfl _ (by decide) (by decide) p d
  | 0, 2 => exact cell_of v x11 x12 0 2 0 512 rfl rfl _ (by decide) (by decide) p d
  | 0, 3 => exact cell_of v x11 x12 0 3 0 768 rfl rfl _ (by decide) (by decide) p d
  | 1, 0 => exact cell_of v x11 x12 1 0 128 0 rfl rfl _ (by decide) (by decide) p d
  | 1, 1 => exact cell_of v x11 x12 1 1 128 256 rfl rfl _ (by decide) (by decide) p d
  | 1, 2 => exact cell_of v x11 x12 1 2 128 512 rfl rfl _ (by decide) (by decide) p d
  | 1, 3 => exact cell_of v x11 x12 1 3 128 768 rfl rfl _ (by decide) (by decide) p d

/-- The second result's tile: the gelu times the mixed rows. -/
def ysK (x3 x4 : Vec Ideal S256x1024 .bf16) (x9 x10 : Vec Ideal S1x1024 .f32) (x11 : Vec Ideal S4x128x128 .f32) (x12 : Vec Ideal S128x128 .f32) :
    Vec Ideal S256x1024 .bf16 :=
  k0_pay18 (vnK x4 x9 x10) (k0_pay13 x3)
    (k0_pay15 (vnK x4 x9 x10) (k0_pay14 (k0_pay9 x4) (k0_pay10 x4) k0_pay11 x9 x10 (View.ld x11 r0_2)) (View.ld x12 r0_3) (View.ld x11 r0_4)
      (View.ld x12 r0_5) (View.ld x11 r0_6) (View.ld x12 r0_7) (View.ld x11 r0_8) (View.ld x12 r0_9))
    (k0_pay16 (vnK x4 x9 x10) (View.ld x11 r0_2)) (k0_pay17 (View.ld x12 r0_3)) (View.ld x11 r0_4) (View.ld x12 r0_5) (View.ld x11 r0_6)
    (View.ld x12 r0_7) (View.ld x11 r0_8) (View.ld x12 r0_9)

/-- A chunk's four groups side by side. -/
abbrev side (f : Fin 4 → Vec Ideal S128x256 .f32) : Vec Ideal S128x1024 .f32 :=
  concatenate S128x1024 1 [⟨S128x256, f 0⟩, ⟨S128x256, f 1⟩, ⟨S128x256, f 2⟩, ⟨S128x256, f 3⟩]
    concatenates_S128x256_S128x256_S128x256_S128x256_S128x1024_d1

/-- It is the gelu times the cells put together. -/
theorem ys_form (x3 x4 : Vec Ideal S256x1024 .bf16) (x9 x10 : Vec Ideal S1x1024 .f32) (x11 : Vec Ideal S4x128x128 .f32) (x12 : Vec Ideal S128x128 .f32) :
    ysK x3 x4 x9 x10 x11 x12
      = truncf .bf16 (mulf (k0_pay13 x3) (concatenate S256x1024 0
          [⟨S128x1024, side (cells (vnK x4 x9 x10) x11 x12 0)⟩, ⟨S128x1024, side (cells (vnK x4 x9 x10) x11 x12 1)⟩]
          concatenates_S128x1024_S128x1024_S256x1024_d0 : FVec Ideal S256x1024 .f32)) bitsLt_bf16_f32 := by
  unfold ysK k0_pay18 k0_pay15 k0_pay14 k0_pay16 k0_pay17
  rfl

theorem ys_at (x3 x4 : Vec Ideal S256x1024 .bf16) (x9 x10 : Vec Ideal S1x1024 .f32) (x11 : Vec Ideal S4x128x128 .f32) (x12 : Vec Ideal S128x128 .f32)
    (a : Fin 256) (j : Fin 1024) :
    ysK x3 x4 x9 x10 x11 x12 (ix2 a j)
      = MixRow.gelu (x3 (ix2 a j))
        * (∑ q : Fin 128, x11 (ix3 (MixRow.grp j) (place a) q) * vnK x4 x9 x10 (ix2 (⟨(chunk a).val * 128 + q.val, by omega⟩ : Fin 256) j)
          + x12 (ix2 (place a) (⟨(MixRow.grp j).val, by omega⟩ : Fin 128))) := by
  rw [ys_form, ← gelu13]
  refine congrArg (k0_pay13 (F := Ideal) x3 (ix2 a j) * ·) ?_
  refine (chunks_at (fun r => side (cells (vnK x4 x9 x10) x11 x12 r)) a j).trans ?_
  refine (groups_at (cells (vnK x4 x9 x10) x11 x12 (chunk a)) (place a) j).trans ?_
  refine (cells_at _ x11 x12 (chunk a) (MixRow.grp j) (place a) (MixRow.off j)).trans ?_
  simp only [MixRow.back]

/-- A product with a square weight at an entry. -/
theorem pm_at (u : FVec Ideal S256x1024 .bf16) (w : Vec Ideal S1024x1024 .bf16) (a : Fin 256) (j : Fin 1024) :
    k0_pay19 u w (ix2 a j) = ∑ k : Fin 1024, u (ix2 a k) * w (ix2 k j) := by
  pointwise [k0_pay19]

theorem ps_at (u : FVec Ideal S256x1024 .bf16) (w : Vec Ideal S1024x1024 .bf16) (a : Fin 256) (j : Fin 1024) :
    k0_pay20 u w (constant S256x1024 .f32 0x00000000#32) (ix2 a j) = ∑ k : Fin 1024, u (ix2 a k) * w (ix2 k j) := by
  pointwise [k0_pay20]

/-- The merged branches at an entry. -/
theorem merged_at (u : FVec Ideal S256x1024 .bf16) (p : FVec Ideal S256x1024 .f32) (w : Vec Ideal S1024x1024 .bf16) (z z' : Vec Ideal S256x1024 .bf16)
    (a : Fin 256) (j : Fin 1024) :
    k0_pay23 u p w (constant S256x1024 .f32 0x00000000#32) z z' (ix2 a j)
      = MixRow.gate (z (ix2 a j)) * p (ix2 a j) + MixRow.gate (z' (ix2 a j)) * k0_pay20 u w (constant S256x1024 .f32 0x00000000#32) (ix2 a j) := by
  rw [← MixRow.gate_eq, ← MixRow.gate_eq]
  unfold k0_pay23
  generalize k0_pay20 u w (constant S256x1024 .f32 0x00000000#32) = d
  pointwise []

/-- The output projection and the residual at an entry. -/
theorem out_at (u : FVec Ideal S256x1024 .bf16) (p : FVec Ideal S256x1024 .f32) (w w' : Vec Ideal S1024x1024 .bf16) (z z' : Vec Ideal S256x1024 .bf16)
    (a : Fin 256) (j : Fin 1024) :
    k0_pay24 u p w (constant S256x1024 .f32 0x00000000#32) z z' w' (ix2 a j)
      = ∑ k : Fin 1024, k0_pay23 u p w (constant S256x1024 .f32 0x00000000#32) z z' (ix2 a k) * w' (ix2 k j) := by
  unfold k0_pay24
  generalize k0_pay23 u p w (constant S256x1024 .f32 0x00000000#32) z z' = d
  pointwise []

theorem res_at (v : FVec Ideal S256x1024 .f32) (x : Vec Ideal S256x1024 .f32) (g : Vec Ideal S1x1024 .f32) (a : Fin 256) (j : Fin 1024) :
    k0_pay1 v x g (ix2 a j) = x (ix2 a j) + g (ix2 0 j) * v (ix2 a j) := by
  pointwise [k0_pay1]

end Cert.MixKernel

end
-- ==== Proof.MixRef.lean ====
/- The mixer's reference, stage by stage, is the mixer's row functions. -/
module

public import proofs.«01_k».proof.Proof.MixRow
public import proofs.«01_k».proof.Proof.Gen.MixFwdRefIdeal.Run
public import proofs.«01_k».proof.Proof.Gen.MixFwdRefIdeal.Read
public import Idealize.ShloMosaic.Lib.Pipeline.ValueKit
public import Idealize.ShloMosaic.Lib.Pointwise

@[expose] public section

set_option maxRecDepth 16384

noncomputable section

namespace Cert.MixRef

open Idealize.ShloMosaic Idealize.ShloMosaic.TcCoe Idealize.SL.Sem
open Cert.MixFwdRefIdeal Cert.MixFwdRefIdeal.Gen Cert.MixFwdRefIdeal.Read

variable (x0 x1 : FVec Ideal S16640x1024 .bf16) (x2 : FVec Ideal S16640x8192 .bf16) (x3 : FVec Ideal S16384x1024 .f32)
  (x4 x5 x6 : FVec Ideal S1x1024 .f32) (x7 : FVec Ideal S4x128x128 .f32) (x8 : FVec Ideal S128x128 .f32)
  (x9 x10 x11 : FVec Ideal S1024x1024 .bf16) (x12 : FVec Ideal S1x1024 .f32)

/-- The argument arrays as functions of their indices. -/
def args : MixRow.Args where
  hf := fun a b => x0 (ix2 a b)
  hb := fun a b => x1 (ix2 a b)
  z := fun a b => x2 (ix2 a b)
  x := fun a b => x3 (ix2 a b)
  hg := fun b => x4 (ix2 0 b)
  lg := fun b => x5 (ix2 0 b)
  lb := fun b => x6 (ix2 0 b)
  ws := fun g p q => x7 (ix3 g p q)
  bs := fun p g => x8 (ix2 p g)
  wm := fun a b => x9 (ix2 a b)
  wg := fun a b => x10 (ix2 a b)
  wo := fun a b => x11 (ix2 a b)
  mx := fun b => x12 (ix2 0 b)

/-- The gelu of the half that is normed. -/
theorem gelu_v (i : Fin 16384) (j : Fin 1024) :
    val_main_v63 (F := Ideal) x2 (ix2 i j) = MixRow.gelu (x2 (ix2 (MixRow.up i) (MixRow.part 5 j))) := by
  pointwise [val_main_v63, val_main_v62, val_main_v61, val_main_v60, val_main_v59, val_main_v58, val_main_v57, val_main_v56, val_main_v55, val_main_v54, val_main_v53, val_main_v52, val_main_v51, val_main_v5, val_main_v4, val_main_cst_8, val_main_cst_9, val_main_cst_10, val_main_cst_11, MixRow.gelu]
  rfl

/-- The gelu of the half it gates. -/
theorem gelu_u (i : Fin 16384) (j : Fin 1024) :
    val_main_v50 (F := Ideal) x2 (ix2 i j) = MixRow.gelu (x2 (ix2 (MixRow.up i) (MixRow.part 4 j))) := by
  pointwise [val_main_v50, val_main_v49, val_main_v48, val_main_v47, val_main_v46, val_main_v45, val_main_v44, val_main_v43, val_main_v42, val_main_v41, val_main_v40, val_main_v39, val_main_v38, val_main_v3, val_main_v2, val_main_cst_4, val_main_cst_5, val_main_cst_6, val_main_cst_7, MixRow.gelu]
  rfl

/-- The normed half. -/
theorem vn_at (i : Fin 16384) (j : Fin 1024) :
    val_main_v83 (F := Ideal) x2 x5 x6 (ix2 i j) = MixRow.vn (args x0 x1 x2 x3 x4 x5 x6 x7 x8 x9 x10 x11 x12) i j := by
  unfold MixRow.vn
  pointwise [val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_cst_12, val_main_cst_13, val_main_cst_14, val_main_cst_15, val_main_cst_16, MixRow.layer, MixRow.center, args]
  simp only [gelu_v]

/-- The gated heads' norm. -/
theorem ym_at (i : Fin 16384) (j : Fin 1024) :
    val_main_v37 (F := Ideal) x0 x1 x2 x4 (ix2 i j) = MixRow.ym (args x0 x1 x2 x3 x4 x5 x6 x7 x8 x9 x10 x11 x12) i j := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v1, val_main_v0, val_main_cst, val_main_cst_0, val_main_cst_1, val_main_cst_2, val_main_cst_3, MixRow.ym, MixRow.head, MixRow.gate, args]
  simp only [MixRow.back]
  rfl

/-- The spatial gating, where the normed half is known. -/
theorem ys_at (i : Fin 16384) (j : Fin 1024) :
    val_main_v93 (F := Ideal) x2 x5 x6 x7 x8 (ix2 i j) = MixRow.ys (args x0 x1 x2 x3 x4 x5 x6 x7 x8 x9 x10 x11 x12) i j := by
  unfold MixRow.ys
  have e : val_main_v93 (F := Ideal) x2 x5 x6 x7 x8 (ix2 i j)
      = val_main_v50 (F := Ideal) x2 (ix2 i j)
        * (∑ q : Fin 128, val_main_v83 (F := Ideal) x2 x5 x6 (ix2 (MixRow.near i q) j) * x7 (ix3 (MixRow.grp j) (MixRow.pos i) q)
          + x8 (ix2 (MixRow.pos i) ⟨(MixRow.grp j).val, by omega⟩)) := by
    pointwise [val_main_v93, val_main_v92, val_main_v91, val_main_v90, val_main_v89, val_main_v88, val_main_v87, val_main_v86, val_main_v85, val_main_v84]
    rfl
  rw [e, gelu_u]
  congr 2
  exact Finset.sum_congr rfl fun q _ => by rw [vn_at x0 x1 x2 x3 x4 x5 x6 x7 x8 x9 x10 x11 x12, mul_comm]; rfl

/-- The first branch's projection. -/
theorem pm_at (i : Fin 16384) (j : Fin 1024) :
    val_main_v95 (F := Ideal) x0 x1 x2 x4 x9 (ix2 i j) = MixRow.pm (args x0 x1 x2 x3 x4 x5 x6 x7 x8 x9 x10 x11 x12) i j := by
  have e : val_main_v95 (F := Ideal) x0 x1 x2 x4 x9 (ix2 i j) = ∑ k : Fin 1024, val_main_v37 (F := Ideal) x0 x1 x2 x4 (ix2 i k) * x9 (ix2 k j) := by
    pointwise [val_main_v95, val_main_v94]
  rw [e]
  exact Finset.sum_congr rfl fun k _ => congrArg (· * _) (ym_at x0 x1 x2 x3 x4 x5 x6 x7 x8 x9 x10 x11 x12 i k)

/-- The second's. -/
theorem ps_at (i : Fin 16384) (j : Fin 1024) :
    val_main_v97 (F := Ideal) x2 x5 x6 x7 x8 x10 (ix2 i j) = MixRow.ps (args x0 x1 x2 x3 x4 x5 x6 x7 x8 x9 x10 x11 x12) i j := by
  have e : val_main_v97 (F := Ideal) x2 x5 x6 x7 x8 x10 (ix2 i j) = ∑ k : Fin 1024, val_main_v93 (F := Ideal) x2 x5 x6 x7 x8 (ix2 i k) * x10 (ix2 k j) := by
    pointwise [val_main_v97, val_main_v96]
  rw [e]
  exact Finset.sum_congr rfl fun k _ => congrArg (· * _) (ys_at x0 x1 x2 x3 x4 x5 x6 x7 x8 x9 x10 x11 x12 i k)

/-- Their gated sum. -/
theorem merged_at (i : Fin 16384) (j : Fin 1024) :
    val_main_v112 (F := Ideal) x0 x1 x2 x4 x5 x6 x7 x8 x9 x10 (ix2 i j) = MixRow.merged (args x0 x1 x2 x3 x4 x5 x6 x7 x8 x9 x10 x11 x12) i j := by
  unfold MixRow.merged
  rw [← pm_at x0 x1 x2 x3 x4 x5 x6 x7 x8 x9 x10 x11 x12 i j, ← ps_at x0 x1 x2 x3 x4 x5 x6 x7 x8 x9 x10 x11 x12 i j]
  unfold val_main_v112 val_main_v111 val_main_v104
  generalize val_main_v95 (F := Ideal) x0 x1 x2 x4 x9 = p
  generalize val_main_v97 (F := Ideal) x2 x5 x6 x7 x8 x10 = q
  pointwise [val_main_v110, val_main_v109, val_main_v108, val_main_v107, val_main_v106, val_main_v105, val_main_v103, val_main_v102, val_main_v101, val_main_v100, val_main_v99, val_main_v98, val_main_v9, val_main_v8, val_main_v7, val_main_v6, val_main_cst_17, val_main_cst_18, val_main_cst_19, val_main_cst_20, MixRow.gate, args]
  rfl

/-- The output projection. -/
theorem out_at (i : Fin 16384) (j : Fin 1024) :
    val_main_v114 (F := Ideal) x0 x1 x2 x4 x5 x6 x7 x8 x9 x10 x11 (ix2 i j) = MixRow.out (args x0 x1 x2 x3 x4 x5 x6 x7 x8 x9 x10 x11 x12) i j := by
  have e : val_main_v114 (F := Ideal) x0 x1 x2 x4 x5 x6 x7 x8 x9 x10 x11 (ix2 i j)
      = ∑ k : Fin 1024, val_main_v112 (F := Ideal) x0 x1 x2 x4 x5 x6 x7 x8 x9 x10 (ix2 i k) * x11 (ix2 k j) := by
    pointwise [val_main_v114, val_main_v113]
  rw [e]
  exact Finset.sum_congr rfl fun k _ => congrArg (· * _) (merged_at x0 x1 x2 x3 x4 x5 x6 x7 x8 x9 x10 x11 x12 i k)

/-- The residual. -/
theorem res_at (i : Fin 16384) (j : Fin 1024) :
    val_main_v117 (F := Ideal) x0 x1 x2 x3 x4 x5 x6 x7 x8 x9 x10 x11 x12 (ix2 i j) = MixRow.res (args x0 x1 x2 x3 x4 x5 x6 x7 x8 x9 x10 x11 x12) i j := by
  unfold MixRow.res
  rw [← out_at x0 x1 x2 x3 x4 x5 x6 x7 x8 x9 x10 x11 x12 i j]
  unfold val_main_v117 val_main_v116
  generalize val_main_v114 (F := Ideal) x0 x1 x2 x4 x5 x6 x7 x8 x9 x10 x11 = p
  pointwise [val_main_v115, args]

end Cert.MixRef

end
-- ==== Proof.MixTile.lean ====
/- The mixer's forward call: at every point, what each window's tile holds, as the row functions of the arguments. -/
module

public import proofs.«01_k».proof.Proof.MixKernel
public import proofs.«01_k».proof.Proof.MixRef

@[expose] public section

set_option maxRecDepth 16384

noncomputable section

namespace Cert.MixTile

open Idealize.ShloMosaic Idealize.ShloMosaic.TcCoe Idealize.SL.Sem
open Cert.MixFwdIdeal Cert.MixFwdIdeal.Gen Cert.MixKernel

section Tiles

variable (x0 x1 x2 x3 x4 x5 x6 : Vec Ideal S256x1024 .bf16) (x7 : Vec Ideal S256x1024 .f32) (x8 x9 x10 : Vec Ideal S1x1024 .f32)
  (x11 : Vec Ideal S4x128x128 .f32) (x12 : Vec Ideal S128x128 .f32) (x13 x14 x15 : Vec Ideal S1024x1024 .bf16) (x16 : Vec Ideal S1x1024 .f32)

/-- The tile of the gated heads' norm. -/
theorem out18 : out0_18 (F := Ideal) x0 x1 x2 x3 x4 x5 x6 x7 x8 x9 x10 x11 x12 x13 x14 x15 x16 = (ymK x0 x1 x2 x8) := by
  funext y
  unfold_out out0_18
  frame_out
  rfl

/-- The tile of the spatial gating. -/
theorem out19 : out0_19 (F := Ideal) x0 x1 x2 x3 x4 x5 x6 x7 x8 x9 x10 x11 x12 x13 x14 x15 x16 = (ysK x3 x4 x9 x10 x11 x12) := by
  funext y
  unfold_out out0_19
  frame_out
  rfl

/-- The tile of the first projection. -/
theorem out20 : out0_20 (F := Ideal) x0 x1 x2 x3 x4 x5 x6 x7 x8 x9 x10 x11 x12 x13 x14 x15 x16 = k0_pay21 (k0_pay19 (ymK x0 x1 x2 x8) x13) := by
  funext y
  unfold_out out0_20
  frame_out
  rfl

/-- The tile of the second projection. -/
theorem out21 : out0_21 (F := Ideal) x0 x1 x2 x3 x4 x5 x6 x7 x8 x9 x10 x11 x12 x13 x14 x15 x16 = k0_pay22 (ysK x3 x4 x9 x10 x11 x12) x14 (constant (F := Ideal) S256x1024 .f32 0x00000000#32) := by
  funext y
  unfold_out out0_21
  frame_out
  rfl

/-- The tile of the merged branches. -/
theorem out22 : out0_22 (F := Ideal) x0 x1 x2 x3 x4 x5 x6 x7 x8 x9 x10 x11 x12 x13 x14 x15 x16 = k0_pay23 (ysK x3 x4 x9 x10 x11 x12) (k0_pay19 (ymK x0 x1 x2 x8) x13) x14 (constant (F := Ideal) S256x1024 .f32 0x00000000#32) x5 x6 := by
  funext y
  unfold_out out0_22
  frame_out
  rfl

/-- The tile of the output projection. -/
theorem out23 : out0_23 (F := Ideal) x0 x1 x2 x3 x4 x5 x6 x7 x8 x9 x10 x11 x12 x13 x14 x15 x16 = k0_pay25 (ysK x3 x4 x9 x10 x11 x12) (k0_pay19 (ymK x0 x1 x2 x8) x13) x14 (constant (F := Ideal) S256x1024 .f32 0x00000000#32) x5 x6 x15 := by
  funext y
  unfold_out out0_23
  frame_out
  rfl

/-- The tile of the residual. -/
theorem out17 : out0_17 (F := Ideal) x0 x1 x2 x3 x4 x5 x6 x7 x8 x9 x10 x11 x12 x13 x14 x15 x16 = k0_pay1 (k0_pay24 (ysK x3 x4 x9 x10 x11 x12) (k0_pay19 (ymK x0 x1 x2 x8) x13) x14 (constant (F := Ideal) S256x1024 .f32 0x00000000#32) x5 x6 x15) x7 x16 := by
  funext y
  unfold_out out0_17
  frame_out
  rfl

end Tiles

variable (m : (ℓ : Loc nD τ sig) → Buf (Elt Ideal) ℓ)

/-- The arguments, as the launch has them. -/
def A (c : Dev nD) : MixRow.Args :=
  MixRef.args (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12))

/-- Every window's block index at a point. -/
theorem idx : ∀ t : Fin cfg0.N, win0_0.index t = ![t.val, 0] ∧ win0_1.index t = ![t.val, 0] ∧ win0_2.index t = ![t.val, 3] ∧ win0_3.index t = ![t.val, 4] ∧
    win0_4.index t = ![t.val, 5] ∧ win0_5.index t = ![t.val, 6] ∧ win0_6.index t = ![t.val, 7] ∧ win0_7.index t = ![t.val, 0] ∧
    win0_8.index t = ![0, 0] ∧ win0_9.index t = ![0, 0] ∧ win0_10.index t = ![0, 0] ∧ win0_11.index t = ![0, 0, 0] ∧
    win0_12.index t = ![0, 0] ∧ win0_13.index t = ![0, 0] ∧ win0_14.index t = ![0, 0] ∧ win0_15.index t = ![0, 0] ∧
    win0_16.index t = ![0, 0] ∧ win0_17.index t = ![t.val, 0] ∧ win0_18.index t = ![t.val, 0] ∧ win0_19.index t = ![t.val, 0] ∧
    win0_20.index t = ![t.val, 0] ∧ win0_21.index t = ![t.val, 0] ∧ win0_22.index t = ![t.val, 0] ∧ win0_23.index t = ![t.val, 0] :=
  (by decide +kernel : ∀ t : Fin grid0.N, _)

/-- The row of the arrays that a point's tile has at `a`. -/
def row (t : Fin cfg0.N) (a : Fin 256) : Fin 16384 :=
  ⟨t.val * 256 + a.val, by have := lt_of_lt_of_eq t.isLt N_0; omega⟩

theorem row_pos (t : Fin cfg0.N) (a : Fin 256) : MixRow.pos (row t a) = place a :=
  Fin.ext (by unfold MixRow.pos row place; simp only; omega)

theorem row_near (t : Fin cfg0.N) (a : Fin 256) (q : Fin 128) :
    MixRow.near (row t a) q = row t ⟨(chunk a).val * 128 + q.val, by omega⟩ :=
  Fin.ext (by unfold MixRow.near row chunk; simp only; omega)

variable (c : Dev nD) (t : Fin cfg0.N)

/-- The blocks, read at an entry. -/
theorem blk0 (a : Fin 256) (k : Fin 1024) : iblk m c 0 t (ix2 a k) = (A m c).hf (MixRow.up (row t a)) k := by
  unfold A MixRef.args
  blk_point [iblk, V, idx t] <;> rfl

theorem blk1 (a : Fin 256) (k : Fin 1024) : iblk m c 1 t (ix2 a k) = (A m c).hb (MixRow.up (row t a)) k := by
  unfold A MixRef.args
  blk_point [iblk, V, idx t] <;> rfl

theorem blk2 (a : Fin 256) (k : Fin 1024) : iblk m c 2 t (ix2 a k) = (A m c).z (MixRow.up (row t a)) (MixRow.part 3 k) := by
  unfold A MixRef.args
  blk_point [iblk, V, idx t] <;> rfl

theorem blk3 (a : Fin 256) (k : Fin 1024) : iblk m c 3 t (ix2 a k) = (A m c).z (MixRow.up (row t a)) (MixRow.part 4 k) := by
  unfold A MixRef.args
  blk_point [iblk, V, idx t] <;> rfl

theorem blk4 (a : Fin 256) (k : Fin 1024) : iblk m c 4 t (ix2 a k) = (A m c).z (MixRow.up (row t a)) (MixRow.part 5 k) := by
  unfold A MixRef.args
  blk_point [iblk, V, idx t] <;> rfl

theorem blk5 (a : Fin 256) (k : Fin 1024) : iblk m c 5 t (ix2 a k) = (A m c).z (MixRow.up (row t a)) (MixRow.part 6 k) := by
  unfold A MixRef.args
  blk_point [iblk, V, idx t] <;> rfl

theorem blk6 (a : Fin 256) (k : Fin 1024) : iblk m c 6 t (ix2 a k) = (A m c).z (MixRow.up (row t a)) (MixRow.part 7 k) := by
  unfold A MixRef.args
  blk_point [iblk, V, idx t] <;> rfl

theorem blk7 (a : Fin 256) (k : Fin 1024) : iblk m c 7 t (ix2 a k) = (A m c).x (row t a) k := by
  unfold A MixRef.args
  blk_point [iblk, V, idx t] <;> rfl

theorem blk8 (k : Fin 1024) : iblk m c 8 t (ix2 0 k) = (A m c).hg k := by
  unfold A MixRef.args
  blk_point [iblk, V, idx t] <;> rfl

theorem blk9 (k : Fin 1024) : iblk m c 9 t (ix2 0 k) = (A m c).lg k := by
  unfold A MixRef.args
  blk_point [iblk, V, idx t] <;> rfl

theorem blk10 (k : Fin 1024) : iblk m c 10 t (ix2 0 k) = (A m c).lb k := by
  unfold A MixRef.args
  blk_point [iblk, V, idx t] <;> rfl

theorem blk16 (k : Fin 1024) : iblk m c 16 t (ix2 0 k) = (A m c).mx k := by
  unfold A MixRef.args
  blk_point [iblk, V, idx t] <;> rfl

theorem blk11 (g : Fin 4) (p q : Fin 128) : iblk m c 11 t (ix3 g p q) = (A m c).ws g p q := by
  unfold A MixRef.args
  blk_point [iblk, V, idx t] <;> rfl

theorem blk12 (p q : Fin 128) : iblk m c 12 t (ix2 p q) = (A m c).bs p q := by
  unfold A MixRef.args
  blk_point [iblk, V, idx t] <;> rfl

theorem blk13 (k j : Fin 1024) : iblk m c 13 t (ix2 k j) = (A m c).wm k j := by
  unfold A MixRef.args
  blk_point [iblk, V, idx t] <;> rfl

theorem blk14 (k j : Fin 1024) : iblk m c 14 t (ix2 k j) = (A m c).wg k j := by
  unfold A MixRef.args
  blk_point [iblk, V, idx t] <;> rfl

theorem blk15 (k j : Fin 1024) : iblk m c 15 t (ix2 k j) = (A m c).wo k j := by
  unfold A MixRef.args
  blk_point [iblk, V, idx t] <;> rfl

/-- The gated heads' norm over a point's rows. -/
theorem ym_tile (a : Fin 256) (j : Fin 1024) : (ymK (iblk m c 0 t) (iblk m c 1 t) (iblk m c 2 t) (iblk m c 8 t)) (ix2 a j) = MixRow.ym (A m c) (row t a) j := by
  unfold MixRow.ym
  rw [ym_at, blk2, blk8]
  simp only [blk0, blk1]

/-- The normed half. -/
theorem vn_tile (a : Fin 256) (j : Fin 1024) : (vnK (iblk m c 4 t) (iblk m c 9 t) (iblk m c 10 t)) (ix2 a j) = MixRow.vn (A m c) (row t a) j := by
  unfold MixRow.vn
  rw [vn_at]
  simp only [blk4, blk9, blk10]

/-- The spatial gating. -/
theorem ys_tile (a : Fin 256) (j : Fin 1024) : (ysK (iblk m c 3 t) (iblk m c 4 t) (iblk m c 9 t) (iblk m c 10 t) (iblk m c 11 t) (iblk m c 12 t)) (ix2 a j) = MixRow.ys (A m c) (row t a) j := by
  unfold MixRow.ys
  rw [ys_at, blk3, row_pos, blk12]
  simp only [blk11, vn_tile, row_near]

/-- The two projections. -/
theorem pm_tile (a : Fin 256) (j : Fin 1024) : (k0_pay19 (ymK (iblk m c 0 t) (iblk m c 1 t) (iblk m c 2 t) (iblk m c 8 t)) (iblk m c 13 t)) (ix2 a j) = MixRow.pm (A m c) (row t a) j := by
  unfold MixRow.pm
  rw [pm_at]
  simp only [ym_tile, blk13]

theorem ps_tile (a : Fin 256) (j : Fin 1024) : k0_pay20 (ysK (iblk m c 3 t) (iblk m c 4 t) (iblk m c 9 t) (iblk m c 10 t) (iblk m c 11 t) (iblk m c 12 t)) (iblk m c 14 t) (constant (F := Ideal) S256x1024 .f32 0x00000000#32) (ix2 a j) = MixRow.ps (A m c) (row t a) j := by
  unfold MixRow.ps
  rw [ps_at]
  simp only [ys_tile, blk14]

/-- The merged branches, -/
theorem merged_tile (a : Fin 256) (j : Fin 1024) : (k0_pay23 (ysK (iblk m c 3 t) (iblk m c 4 t) (iblk m c 9 t) (iblk m c 10 t) (iblk m c 11 t) (iblk m c 12 t)) (k0_pay19 (ymK (iblk m c 0 t) (iblk m c 1 t) (iblk m c 2 t) (iblk m c 8 t)) (iblk m c 13 t)) (iblk m c 14 t) (constant (F := Ideal) S256x1024 .f32 0x00000000#32) (iblk m c 5 t) (iblk m c 6 t)) (ix2 a j) = MixRow.merged (A m c) (row t a) j := by
  unfold MixRow.merged
  rw [merged_at, pm_tile, ps_tile, blk5, blk6]

/-- the output projection, -/
theorem out_tile (a : Fin 256) (j : Fin 1024) : (k0_pay24 (ysK (iblk m c 3 t) (iblk m c 4 t) (iblk m c 9 t) (iblk m c 10 t) (iblk m c 11 t) (iblk m c 12 t)) (k0_pay19 (ymK (iblk m c 0 t) (iblk m c 1 t) (iblk m c 2 t) (iblk m c 8 t)) (iblk m c 13 t)) (iblk m c 14 t) (constant (F := Ideal) S256x1024 .f32 0x00000000#32) (iblk m c 5 t) (iblk m c 6 t) (iblk m c 15 t)) (ix2 a j) = MixRow.out (A m c) (row t a) j := by
  unfold MixRow.out
  rw [out_at]
  simp only [merged_tile, blk15]

/-- and the residual. -/
theorem res_tile (a : Fin 256) (j : Fin 1024) : k0_pay1 (k0_pay24 (ysK (iblk m c 3 t) (iblk m c 4 t) (iblk m c 9 t) (iblk m c 10 t) (iblk m c 11 t) (iblk m c 12 t)) (k0_pay19 (ymK (iblk m c 0 t) (iblk m c 1 t) (iblk m c 2 t) (iblk m c 8 t)) (iblk m c 13 t)) (iblk m c 14 t) (constant (F := Ideal) S256x1024 .f32 0x00000000#32) (iblk m c 5 t) (iblk m c 6 t) (iblk m c 15 t)) (iblk m c 7 t) (iblk m c 16 t) (ix2 a j) = MixRow.res (A m c) (row t a) j := by
  unfold MixRow.res
  rw [res_at, out_tile, blk7, blk16]

end Cert.MixTile

end
-- ==== Proof.MixFwdClaim.lean ====
/- The mixer's forward call: its seven arrays are the reference's seven results. -/
module

public import proofs.«01_k».proof.Defs
public import proofs.«01_k».proof.Proof.MixTile
public import Idealize.ShloMosaic.Lib.Pipeline.ReadBack
public import Idealize.ShloMosaic.Lib.Claim

@[expose] public section

set_option maxRecDepth 16384

noncomputable section

namespace Cert.MixFwdClaim

open Idealize.ShloMosaic Idealize.ShloMosaic.TcCoe Idealize.SL.Sem
open Idealize.ShloMosaic.Pipeline (Dat)

section Kernel

open Cert.MixFwdIdeal Cert.MixFwdIdeal.Gen Cert.MixKernel Cert.MixTile

variable (m : (ℓ : Loc nD τ sig) → Buf (Elt Ideal) ℓ)

/-- An array whose entries are known by row and column, read at an index. -/
theorem at_idx {n k : ℕ} {f : (⟨2, ![n, k]⟩ : Shape).Idx → EReal} {g : Fin n → Fin k → EReal} (h : ∀ a j, f (ix2 a j) = g a j) (y : (⟨2, ![n, k]⟩ : Shape).Idx) : f y = g (y 0) (y 1) :=
  (congrArg f (eq_ix2 y)).trans (h (y 0) (y 1))

/-- The payloads that only change the format. -/
theorem pay21_at (u : FVec Ideal S256x1024 .f32) (y) : k0_pay21 u y = u y := rfl
theorem pay22_at (u w z) (y) : k0_pay22 (F := Ideal) u w z y = k0_pay20 u w z y := rfl
theorem pay25_at (u p w z x x' w') (y) : k0_pay25 (F := Ideal) u p w z x x' w' y = k0_pay24 u p w z x x' w' y := rfl

/-- What a point leaves of each array, and each of the reference's results, as the row functions of the arguments. -/
theorem after17 (c : Dev nD) (t : Fin cfg0.N) (y : S256x1024.Idx) : (dats m 0 c).after 17 t y = MixRow.res (A m c) (row t (y 0)) (y 1) := by
  rw [after0_17, out17]
  exact at_idx (res_tile m c t) y

theorem ref17 (c : Dev nD) (z : S16384x1024.Idx) : Cert.MixFwdRefIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) z = MixRow.res (A m c) (z 0) (z 1) :=
  at_idx (f := Cert.MixFwdRefIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (MixRef.res_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) z

theorem after18 (c : Dev nD) (t : Fin cfg0.N) (y : S256x1024.Idx) : (dats m 0 c).after 18 t y = MixRow.ym (A m c) (row t (y 0)) (y 1) := by
  rw [after0_18, out18]
  exact at_idx (ym_tile m c t) y

theorem ref18 (c : Dev nD) (z : S16384x1024.Idx) : Cert.MixFwdRefIdeal.Read.val_main_v118 (F := Ideal) (m ((c : Thread nD τ).loc main_arg0)) (m ((c : Thread nD τ).loc main_arg1)) (m ((c : Thread nD τ).loc main_arg2)) (m ((c : Thread nD τ).loc main_arg4)) z = MixRow.ym (A m c) (z 0) (z 1) :=
  at_idx (f := Cert.MixFwdRefIdeal.Read.val_main_v118 (F := Ideal) (m ((c : Thread nD τ).loc main_arg0)) (m ((c : Thread nD τ).loc main_arg1)) (m ((c : Thread nD τ).loc main_arg2)) (m ((c : Thread nD τ).loc main_arg4))) (MixRef.ym_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) z

theorem after19 (c : Dev nD) (t : Fin cfg0.N) (y : S256x1024.Idx) : (dats m 0 c).after 19 t y = MixRow.ys (A m c) (row t (y 0)) (y 1) := by
  rw [after0_19, out19]
  exact at_idx (ys_tile m c t) y

theorem ref19 (c : Dev nD) (z : S16384x1024.Idx) : Cert.MixFwdRefIdeal.Read.val_main_v119 (F := Ideal) (m ((c : Thread nD τ).loc main_arg2)) (m ((c : Thread nD τ).loc main_arg5)) (m ((c : Thread nD τ).loc main_arg6)) (m ((c : Thread nD τ).loc main_arg7)) (m ((c : Thread nD τ).loc main_arg8)) z = MixRow.ys (A m c) (z 0) (z 1) :=
  at_idx (f := Cert.MixFwdRefIdeal.Read.val_main_v119 (F := Ideal) (m ((c : Thread nD τ).loc main_arg2)) (m ((c : Thread nD τ).loc main_arg5)) (m ((c : Thread nD τ).loc main_arg6)) (m ((c : Thread nD τ).loc main_arg7)) (m ((c : Thread nD τ).loc main_arg8))) (MixRef.ys_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) z

theorem after20 (c : Dev nD) (t : Fin cfg0.N) (y : S256x1024.Idx) : (dats m 0 c).after 20 t y = MixRow.pm (A m c) (row t (y 0)) (y 1) := by
  rw [after0_20, out20]
  rw [pay21_at]
  exact at_idx (pm_tile m c t) y

theorem ref20 (c : Dev nD) (z : S16384x1024.Idx) : Cert.MixFwdRefIdeal.Read.val_main_v120 (F := Ideal) (m ((c : Thread nD τ).loc main_arg0)) (m ((c : Thread nD τ).loc main_arg1)) (m ((c : Thread nD τ).loc main_arg2)) (m ((c : Thread nD τ).loc main_arg4)) (m ((c : Thread nD τ).loc main_arg9)) z = MixRow.pm (A m c) (z 0) (z 1) :=
  at_idx (f := Cert.MixFwdRefIdeal.Read.val_main_v120 (F := Ideal) (m ((c : Thread nD τ).loc main_arg0)) (m ((c : Thread nD τ).loc main_arg1)) (m ((c : Thread nD τ).loc main_arg2)) (m ((c : Thread nD τ).loc main_arg4)) (m ((c : Thread nD τ).loc main_arg9))) (MixRef.pm_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) z

theorem after21 (c : Dev nD) (t : Fin cfg0.N) (y : S256x1024.Idx) : (dats m 0 c).after 21 t y = MixRow.ps (A m c) (row t (y 0)) (y 1) := by
  rw [after0_21, out21]
  rw [pay22_at]
  exact at_idx (ps_tile m c t) y

theorem ref21 (c : Dev nD) (z : S16384x1024.Idx) : Cert.MixFwdRefIdeal.Read.val_main_v121 (F := Ideal) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg10)) z = MixRow.ps (A m c) (z 0) (z 1) :=
  at_idx (f := Cert.MixFwdRefIdeal.Read.val_main_v121 (F := Ideal) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg10))) (MixRef.ps_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) z

theorem after22 (c : Dev nD) (t : Fin cfg0.N) (y : S256x1024.Idx) : (dats m 0 c).after 22 t y = MixRow.merged (A m c) (row t (y 0)) (y 1) := by
  rw [after0_22, out22]
  exact at_idx (merged_tile m c t) y

theorem ref22 (c : Dev nD) (z : S16384x1024.Idx) : Cert.MixFwdRefIdeal.Read.val_main_v122 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) z = MixRow.merged (A m c) (z 0) (z 1) :=
  at_idx (f := Cert.MixFwdRefIdeal.Read.val_main_v122 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (MixRef.merged_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) z

theorem after23 (c : Dev nD) (t : Fin cfg0.N) (y : S256x1024.Idx) : (dats m 0 c).after 23 t y = MixRow.out (A m c) (row t (y 0)) (y 1) := by
  rw [after0_23, out23]
  rw [pay25_at]
  exact at_idx (out_tile m c t) y

theorem ref23 (c : Dev nD) (z : S16384x1024.Idx) : Cert.MixFwdRefIdeal.Read.val_main_v123 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) z = MixRow.out (A m c) (z 0) (z 1) :=
  at_idx (f := Cert.MixFwdRefIdeal.Read.val_main_v123 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (MixRef.out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) z

/-- The array of the residual after the run. -/
theorem final17 (c : Dev nD) : (dats m 0 c).arrAt 17 (cfgs 0).N = Cert.MixFwdRefIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 17 _ (by decide +kernel) fun t hf y => ?_
  blk_simp
  refine (after17 m c t y).trans ((ref17 m c _).trans ?_).symm
  exact congrArg₂ (MixRow.res (A m c)) (Fin.ext (by blk_simp [idx t]; rfl)) (Fin.ext (by blk_simp [idx t]))

/-- The array of the gated heads after the run. -/
theorem final18 (c : Dev nD) : (dats m 0 c).arrAt 18 (cfgs 0).N = Cert.MixFwdRefIdeal.Read.val_main_v118 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 18 _ (by decide +kernel) fun t hf y => ?_
  blk_simp
  refine (after18 m c t y).trans ((ref18 m c _).trans ?_).symm
  exact congrArg₂ (MixRow.ym (A m c)) (Fin.ext (by blk_simp [idx t]; rfl)) (Fin.ext (by blk_simp [idx t]))

/-- The array of the spatial gating after the run. -/
theorem final19 (c : Dev nD) : (dats m 0 c).arrAt 19 (cfgs 0).N = Cert.MixFwdRefIdeal.Read.val_main_v119 (F := Ideal) (m ((c : Thread nD τ).loc main_arg2)) (m ((c : Thread nD τ).loc main_arg5)) (m ((c : Thread nD τ).loc main_arg6)) (m ((c : Thread nD τ).loc main_arg7)) (m ((c : Thread nD τ).loc main_arg8)) := by
  refine (dats m 0 c).arrAt_eq_of_covers 19 _ (by decide +kernel) fun t hf y => ?_
  blk_simp
  refine (after19 m c t y).trans ((ref19 m c _).trans ?_).symm
  exact congrArg₂ (MixRow.ys (A m c)) (Fin.ext (by blk_simp [idx t]; rfl)) (Fin.ext (by blk_simp [idx t]))

/-- The array of the first projection after the run. -/
theorem final20 (c : Dev nD) : (dats m 0 c).arrAt 20 (cfgs 0).N = Cert.MixFwdRefIdeal.Read.val_main_v120 (F := Ideal) (m ((c : Thread nD τ).loc main_arg0)) (m ((c : Thread nD τ).loc main_arg1)) (m ((c : Thread nD τ).loc main_arg2)) (m ((c : Thread nD τ).loc main_arg4)) (m ((c : Thread nD τ).loc main_arg9)) := by
  refine (dats m 0 c).arrAt_eq_of_covers 20 _ (by decide +kernel) fun t hf y => ?_
  blk_simp
  refine (after20 m c t y).trans ((ref20 m c _).trans ?_).symm
  exact congrArg₂ (MixRow.pm (A m c)) (Fin.ext (by blk_simp [idx t]; rfl)) (Fin.ext (by blk_simp [idx t]))

/-- The array of the second projection after the run. -/
theorem final21 (c : Dev nD) : (dats m 0 c).arrAt 21 (cfgs 0).N = Cert.MixFwdRefIdeal.Read.val_main_v121 (F := Ideal) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg10)) := by
  refine (dats m 0 c).arrAt_eq_of_covers 21 _ (by decide +kernel) fun t hf y => ?_
  blk_simp
  refine (after21 m c t y).trans ((ref21 m c _).trans ?_).symm
  exact congrArg₂ (MixRow.ps (A m c)) (Fin.ext (by blk_simp [idx t]; rfl)) (Fin.ext (by blk_simp [idx t]))

/-- The array of the merged branches after the run. -/
theorem final22 (c : Dev nD) : (dats m 0 c).arrAt 22 (cfgs 0).N = Cert.MixFwdRefIdeal.Read.val_main_v122 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 22 _ (by decide +kernel) fun t hf y => ?_
  blk_simp
  refine (after22 m c t y).trans ((ref22 m c _).trans ?_).symm
  exact congrArg₂ (MixRow.merged (A m c)) (Fin.ext (by blk_simp [idx t]; rfl)) (Fin.ext (by blk_simp [idx t]))

/-- The array of the output projection after the run. -/
theorem final23 (c : Dev nD) : (dats m 0 c).arrAt 23 (cfgs 0).N = Cert.MixFwdRefIdeal.Read.val_main_v123 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 23 _ (by decide +kernel) fun t hf y => ?_
  blk_simp
  refine (after23 m c t y).trans ((ref23 m c _).trans ?_).symm
  exact congrArg₂ (MixRow.out (A m c)) (Fin.ext (by blk_simp [idx t]; rfl)) (Fin.ext (by blk_simp [idx t]))

set_option maxHeartbeats 1000000 in
/-- The run ends with the seven arrays and keeps the arguments. -/
theorem run_out (g : Dev nD → PrngReg) :
    θ_run defs (onTc (τ := τ) (main (F := Ideal))) ⟨m, fun _ => 0, g⟩ (fun r => ∀ c : Dev nD,
      r.2.mem ((c.tc : Thread nD τ).loc main_v0_0) = (dats m 0 c).arrAt 17 (cfgs 0).N
      ∧ r.2.mem ((c.tc : Thread nD τ).loc main_v0_1) = (dats m 0 c).arrAt 18 (cfgs 0).N
      ∧ r.2.mem ((c.tc : Thread nD τ).loc main_v0_2) = (dats m 0 c).arrAt 19 (cfgs 0).N
      ∧ r.2.mem ((c.tc : Thread nD τ).loc main_v0_3) = (dats m 0 c).arrAt 20 (cfgs 0).N
      ∧ r.2.mem ((c.tc : Thread nD τ).loc main_v0_4) = (dats m 0 c).arrAt 21 (cfgs 0).N
      ∧ r.2.mem ((c.tc : Thread nD τ).loc main_v0_5) = (dats m 0 c).arrAt 22 (cfgs 0).N
      ∧ r.2.mem ((c.tc : Thread nD τ).loc main_v0_6) = (dats m 0 c).arrAt 23 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h.1 c).1 17, (h.1 c).1 18, (h.1 c).1 19, (h.1 c).1 20, (h.1 c).1 21, (h.1 c).1 22, (h.1 c).1 23, h.2 c⟩)
    (θ_run_and (run_main m g) (unchanged m g))

end Kernel

section Reference

open Cert.MixFwdRefIdeal

variable (m' : (ℓ : Loc nD τ sig) → Buf (Elt Ideal) ℓ)

/-- The reference's seven results. -/
def res0 (c : Dev nD) : Buf (Elt Ideal) ((c.tc : Thread nD τ).loc main_v117) :=
  Read.val_main_v117 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))
def res1 (c : Dev nD) : Buf (Elt Ideal) ((c.tc : Thread nD τ).loc main_v118) :=
  Read.val_main_v118 (F := Ideal) (m' ((c.tc : Thread nD τ).loc main_arg0)) (m' ((c.tc : Thread nD τ).loc main_arg1)) (m' ((c.tc : Thread nD τ).loc main_arg2)) (m' ((c.tc : Thread nD τ).loc main_arg4))
def res2 (c : Dev nD) : Buf (Elt Ideal) ((c.tc : Thread nD τ).loc main_v119) :=
  Read.val_main_v119 (F := Ideal) (m' ((c.tc : Thread nD τ).loc main_arg2)) (m' ((c.tc : Thread nD τ).loc main_arg5)) (m' ((c.tc : Thread nD τ).loc main_arg6)) (m' ((c.tc : Thread nD τ).loc main_arg7)) (m' ((c.tc : Thread nD τ).loc main_arg8))
def res3 (c : Dev nD) : Buf (Elt Ideal) ((c.tc : Thread nD τ).loc main_v120) :=
  Read.val_main_v120 (F := Ideal) (m' ((c.tc : Thread nD τ).loc main_arg0)) (m' ((c.tc : Thread nD τ).loc main_arg1)) (m' ((c.tc : Thread nD τ).loc main_arg2)) (m' ((c.tc : Thread nD τ).loc main_arg4)) (m' ((c.tc : Thread nD τ).loc main_arg9))
def res4 (c : Dev nD) : Buf (Elt Ideal) ((c.tc : Thread nD τ).loc main_v121) :=
  Read.val_main_v121 (F := Ideal) (m' ((c.tc : Thread nD τ).loc main_arg2)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg10))
def res5 (c : Dev nD) : Buf (Elt Ideal) ((c.tc : Thread nD τ).loc main_v122) :=
  Read.val_main_v122 (F := Ideal) (m' ((c.tc : Thread nD τ).loc main_arg0)) (m' ((c.tc : Thread nD τ).loc main_arg1)) (m' ((c.tc : Thread nD τ).loc main_arg2)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10))
def res6 (c : Dev nD) : Buf (Elt Ideal) ((c.tc : Thread nD τ).loc main_v123) :=
  Read.val_main_v123 (F := Ideal) (m' ((c.tc : Thread nD τ).loc main_arg0)) (m' ((c.tc : Thread nD τ).loc main_arg1)) (m' ((c.tc : Thread nD τ).loc main_arg2)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11))

/-- The reference's run ends with them. -/
theorem ref_run (g : Dev nD → PrngReg) :
    θ_run defs (onTc (τ := τ) (main (F := Ideal))) ⟨m', fun _ => 0, g⟩ (fun r => ∀ c : Dev nD,
      r.2.mem ((c.tc : Thread nD τ).loc main_v117) = res0 m' c
      ∧ r.2.mem ((c.tc : Thread nD τ).loc main_v118) = res1 m' c
      ∧ r.2.mem ((c.tc : Thread nD τ).loc main_v119) = res2 m' c
      ∧ r.2.mem ((c.tc : Thread nD τ).loc main_v120) = res3 m' c
      ∧ r.2.mem ((c.tc : Thread nD τ).loc main_v121) = res4 m' c
      ∧ r.2.mem ((c.tc : Thread nD τ).loc main_v122) = res5 m' c
      ∧ r.2.mem ((c.tc : Thread nD τ).loc main_v123) = res6 m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)) :=
  (θ_run defs _ _).mono (fun _ h c => ⟨(h c).1.trans (Read.val_main_v117_eq m' c),
    (h c).2.1.trans (Read.val_main_v118_eq _ _ _ _),
    (h c).2.2.1.trans (Read.val_main_v119_eq m' c),
    (h c).2.2.2.1.trans (Read.val_main_v120_eq _ _ _ _ _),
    (h c).2.2.2.2.1.trans (Read.val_main_v121_eq m' c),
    (h c).2.2.2.2.2.1.trans (Read.val_main_v122_eq m' c),
    (h c).2.2.2.2.2.2.1.trans (Read.val_main_v123_eq m' c), (h c).2.2.2.2.2.2.2⟩) (Value.run m' g)

/-- The reference runs, keeps its arguments, and leaves every counter at zero. -/
theorem frame_ref : Cert.quiescent_MixFwdRefIdeal := by
  intro m g _
  refine (θ_run_and (?_ : θ_run _ _ _ (fun r => ∀ c : Dev nD, _)) (?_ : θ_run _ _ _ (fun r => r.2.sem = fun _ => 0)))
  · run_from Value.run m g
  · exact (θ_run defs _ _).mono (fun r _ => sem_eq_zero_of_no_sems (by decide) r.2) (Value.run m g)

end Reference

section Pair

variable (m : (ℓ : Loc Cert.MixFwdIdeal.nD Cert.MixFwdIdeal.τ Cert.MixFwdIdeal.sig) → Buf (Elt Ideal) ℓ)
  (m' : (ℓ : Loc Cert.MixFwdRefIdeal.nD Cert.MixFwdRefIdeal.τ Cert.MixFwdRefIdeal.sig) → Buf (Elt Ideal) ℓ) (c : Dev Cert.MixFwdRefIdeal.nD)
  (h0 : m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0))
  (h1 : m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1))
  (h2 : m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2))
  (h3 : m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3))
  (h4 : m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4))
  (h5 : m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5))
  (h6 : m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6))
  (h7 : m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7))
  (h8 : m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8))
  (h9 : m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9))
  (h10 : m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10))
  (h11 : m' ((c.tc : Thread Cert.MixFwdRefIdeal.nD Cert.MixFwdRefIdeal.τ).loc Cert.MixFwdRefIdeal.main_arg11) = m ((c.tc : Thread Cert.MixFwdIdeal.nD Cert.MixFwdIdeal.τ).loc Cert.MixFwdIdeal.main_arg11))
  (h12 : m' ((c.tc : Thread Cert.MixFwdRefIdeal.nD Cert.MixFwdRefIdeal.τ).loc Cert.MixFwdRefIdeal.main_arg12) = m ((c.tc : Thread Cert.MixFwdIdeal.nD Cert.MixFwdIdeal.τ).loc Cert.MixFwdIdeal.main_arg12))

include h0 h1 h2 h3 h4 h5 h6 h7 h8 h9 h10 h11 h12 in
/-- Where the arguments agree, the residual is the kernel's. -/
theorem pair0 : res0 m' c = (Cert.MixFwdIdeal.Gen.dats m 0 c).arrAt 17 (Cert.MixFwdIdeal.cfgs 0).N := by
  unfold res0
  rw [h0, h1, h2, h3, h4, h5, h6, h7, h8, h9, h10, h11, h12]
  exact (final17 m c).symm

include h0 h1 h2 h4 in
/-- Where the arguments agree, the gated heads is the kernel's. -/
theorem pair1 : res1 m' c = (Cert.MixFwdIdeal.Gen.dats m 0 c).arrAt 18 (Cert.MixFwdIdeal.cfgs 0).N := by
  unfold res1
  rw [h0, h1, h2, h4]
  exact (final18 m c).symm

include h2 h5 h6 h7 h8 in
/-- Where the arguments agree, the spatial gating is the kernel's. -/
theorem pair2 : res2 m' c = (Cert.MixFwdIdeal.Gen.dats m 0 c).arrAt 19 (Cert.MixFwdIdeal.cfgs 0).N := by
  unfold res2
  rw [h2, h5, h6, h7, h8]
  exact (final19 m c).symm

include h0 h1 h2 h4 h9 in
/-- Where the arguments agree, the first projection is the kernel's. -/
theorem pair3 : res3 m' c = (Cert.MixFwdIdeal.Gen.dats m 0 c).arrAt 20 (Cert.MixFwdIdeal.cfgs 0).N := by
  unfold res3
  rw [h0, h1, h2, h4, h9]
  exact (final20 m c).symm

include h2 h5 h6 h7 h8 h10 in
/-- Where the arguments agree, the second projection is the kernel's. -/
theorem pair4 : res4 m' c = (Cert.MixFwdIdeal.Gen.dats m 0 c).arrAt 21 (Cert.MixFwdIdeal.cfgs 0).N := by
  unfold res4
  rw [h2, h5, h6, h7, h8, h10]
  exact (final21 m c).symm

include h0 h1 h2 h4 h5 h6 h7 h8 h9 h10 in
/-- Where the arguments agree, the merged branches is the kernel's. -/
theorem pair5 : res5 m' c = (Cert.MixFwdIdeal.Gen.dats m 0 c).arrAt 22 (Cert.MixFwdIdeal.cfgs 0).N := by
  unfold res5
  rw [h0, h1, h2, h4, h5, h6, h7, h8, h9, h10]
  exact (final22 m c).symm

include h0 h1 h2 h4 h5 h6 h7 h8 h9 h10 h11 in
/-- Where the arguments agree, the output projection is the kernel's. -/
theorem pair6 : res6 m' c = (Cert.MixFwdIdeal.Gen.dats m 0 c).arrAt 23 (Cert.MixFwdIdeal.cfgs 0).N := by
  unfold res6
  rw [h0, h1, h2, h4, h5, h6, h7, h8, h9, h10, h11]
  exact (final23 m c).symm

end Pair

/-- The value claim. -/
theorem algebraic : Cert.algebraic_MixFwdIdeal_MixFwdRefIdeal := by
  pair_intro
  · exact run_out m g
  · refine θ_run_mono (ref_run m' g') ?_
    intro r hr c
    obtain ⟨h0, h1, h2, h3, h4, h5, h6, h7, h8, h9, h10, h11, h12⟩ := hagree c
    obtain ⟨o0, o1, o2, o3, o4, o5, o6, keep⟩ := hr c
    exact ⟨o0.trans (pair0 m m' c h0 h1 h2 h3 h4 h5 h6 h7 h8 h9 h10 h11 h12),
      o1.trans (pair1 m m' c h0 h1 h2 h4),
      o2.trans (pair2 m m' c h2 h5 h6 h7 h8),
      o3.trans (pair3 m m' c h0 h1 h2 h4 h9),
      o4.trans (pair4 m m' c h2 h5 h6 h7 h8 h10),
      o5.trans (pair5 m m' c h0 h1 h2 h4 h5 h6 h7 h8 h9 h10),
      o6.trans (pair6 m m' c h0 h1 h2 h4 h5 h6 h7 h8 h9 h10 h11), keep⟩

end Cert.MixFwdClaim

end
-- ==== Proof.UpProjStep.lean ====
module

public import proofs.«01_k».proof.Proof.Gen.UpProjIdeal.Frame
public import proofs.«01_k».proof.Proof.NormRow
public import Idealize.ShloMosaic.Lib.Pipeline.ValueKit
public import Idealize.ShloMosaic.Lib.Pointwise
public import Idealize.ShloMosaic.Lib.Pipeline.ReadBack

@[expose] public section

set_option maxRecDepth 16384

noncomputable section

namespace Cert.UpProjStep

open Idealize.ShloMosaic Idealize.ShloMosaic.TcCoe Idealize.SL.Sem
open Idealize.ShloMosaic.Pipeline (Dat)
open Cert.UpProjIdeal Cert.UpProjIdeal.Gen

/-- The second strip of rows is the first's function. -/
theorem strip2 (d x : Vec Ideal S256x1024 .f32) (s g : Vec Ideal S1x1024 .f32) (r : Vec Ideal S256x1024 .f32) :
    k0_pay5 (k0_pay18 d x s g) r = k0_pay11 d x s g r := rfl

/-- A strip's entry is the row form of the input's gradient. -/
theorem strip (d x : Vec Ideal S256x1024 .f32) (s g : Vec Ideal S1x1024 .f32) (r : Vec Ideal S256x1024 .f32) (y : S256x1024.Idx) :
    k0_pay11 (F := Ideal) d x s g r y = NormRow.dxKernel (fun k => d (ix2 (y 0) k)) (fun k => x (ix2 (y 0) k)) (fun k => s (ix2 0 k)) (fun k => g (ix2 0 k)) (r y) (y 1) := by
  pointwise [k0_pay11, k0_pay10, k0_pay9, k0_pay8, NormRow.dxKernel, NormRow.inv]

/-- The parameters' gradients after a row tile: what they were and the tile's two strips of rows. -/
theorem stats (d0 d1 x0 x1 : Vec Ideal S256x1024 .f32) (s g : Vec Ideal S1x1024 .f32) (st : Vec Ideal S8x1024 .f32) (y : S8x1024.Idx) :
    k0_pay6 (F := Ideal) (k0_pay12 d0 x0 s) (k0_pay13 k0_pay7 d0) (k0_pay14 k0_pay7 d0 (k0_pay9 x0) g) d1 (k0_pay16 x1) (k0_pay17 d1 s) g st y
    = st y + ((∑ i : Fin 256, NormRow.stat (y 0) (fun k => d0 (ix2 i k)) (fun k => x0 (ix2 i k)) (fun k => s (ix2 0 k)) (fun k => g (ix2 0 k)) (y 1))
      + ∑ i : Fin 256, NormRow.stat (y 0) (fun k => d1 (ix2 i k)) (fun k => x1 (ix2 i k)) (fun k => s (ix2 0 k)) (fun k => g (ix2 0 k)) (y 1)) := by
  unfold NormRow.stat NormRow.inv
  pointwise [k0_pay6, k0_pay12, k0_pay13, k0_pay7, k0_pay14, k0_pay9, k0_pay8, k0_pay16, k0_pay15, k0_pay17, k0_pay10]
  split_ifs <;> simp [add_assoc]

variable (m : (ℓ : Loc nD τ sig) → Buf (Elt Ideal) ℓ)

/-- Every window's block index at grid point `t`. -/
theorem idx : ∀ t : Fin cfg0.N,
    win0_0.index t = ![t.val / 2, 0] ∧ win0_1.index t = ![0, 0] ∧ win0_2.index t = ![t.val / 2, 0] ∧ win0_3.index t = ![0, 1]
    ∧ win0_4.index t = ![t.val / 2, 0] ∧ win0_5.index t = ![0, 0] ∧ win0_6.index t = ![0, 0]
    ∧ win0_7.index t = ![t.val / 2, 0] ∧ win0_8.index t = ![t.val / 2, 0] ∧ win0_9.index t = ![0, 0] :=
  (by decide +kernel : ∀ t : Fin grid0.N, _)

/-- The accumulator of the norm's output gradient after point `t`. -/
def acc (c : Dev nD) (n : ℕ) (h : n < cfg0.N) : Vec Ideal S512x1024 .f32 := (outsAt0 m c n h).2.2

/-- The launch's arrays: the two halves' gradients, the weight, the input, the norm's weight, the scale and the residual's gradient. -/
abbrev das (c : Dev nD) : FVec Ideal S16384x2816 .bf16 := m ((c : Thread nD τ).loc main_arg0)
abbrev dbs (c : Dev nD) : FVec Ideal S16384x2816 .bf16 := m ((c : Thread nD τ).loc main_arg1)
abbrev wUp (c : Dev nD) : FVec Ideal S1024x5632 .bf16 := m ((c : Thread nD τ).loc main_arg2)
abbrev xs (c : Dev nD) : FVec Ideal S16384x1024 .f32 := m ((c : Thread nD τ).loc main_arg3)
abbrev gs (c : Dev nD) : FVec Ideal S1x1024 .f32 := m ((c : Thread nD τ).loc main_arg4)
abbrev scs (c : Dev nD) : FVec Ideal S1x1024 .f32 := m ((c : Thread nD τ).loc main_arg5)
abbrev res (c : Dev nD) : FVec Ideal S16384x1024 .f32 := m ((c : Thread nD τ).loc main_arg6)

/-- The first half's product at row tile `i`, and the second half's. -/
def partA (c : Dev nD) (i : ℕ) (hi : i < 32) (a : Fin 512) (b : Fin 1024) : EReal :=
  ∑ k : Fin 2816, das m c (ix2 (⟨i * 512 + a, by omega⟩ : Fin 16384) k) * wUp m c (ix2 b (⟨k, by omega⟩ : Fin 5632))

def partB (c : Dev nD) (i : ℕ) (hi : i < 32) (a : Fin 512) (b : Fin 1024) : EReal :=
  ∑ k : Fin 2816, dbs m c (ix2 (⟨i * 512 + a, by omega⟩ : Fin 16384) k) * wUp m c (ix2 b (⟨2816 + k, by omega⟩ : Fin 5632))

/-- A point's row tile is one of thirty-two. -/
theorem tile_lt (t : Fin cfg0.N) : t.val / 2 < 32 := by have := lt_of_lt_of_eq t.isLt N_0; omega

/-- After a row tile's first point the accumulator is the first half's product. -/
theorem acc_first (c : Dev nD) (t : Fin cfg0.N) (h0 : t.val % 2 = 0) (y) :
    acc m c t.val t.isLt y = partA m c (t.val / 2) (tile_lt t) (y 0) (y 1) := by
  unfold acc partA
  by_cases h1 : t.val % 64 = 0
  · rw [outsAt0_A m c t h0 h1 h0 (by omega) (by omega)]
    frame_out
    pointwise [k0_pay3, k0_pay1]
    blk_point [iblk, V, idx t]
  · rw [outsAt0_C m c t h0 h1 h0 (by omega) (by omega)]
    frame_out
    pointwise [k0_pay3, k0_pay1]
    blk_point [iblk, V, idx t]

/-- After its last point it is what it was and the second half's product. -/
theorem acc_step (c : Dev nD) (t : Fin cfg0.N) (h0 : t.val % 2 = 1) (y) :
    acc m c t.val t.isLt y = acc m c (t.val - 1) (Nat.lt_of_le_of_lt (Nat.sub_le _ _) t.isLt) y + partB m c (t.val / 2) (tile_lt t) (y 0) (y 1) := by
  unfold acc partB
  rw [outsAt0_B m c t (by omega) (by omega) (by omega) h0 h0]
  frame_out
  rw [read_unread_whole]
  pointwise [k0_pay4]
  blk_point [iblk, V, idx t]

/-- At a row tile's last point the accumulator is both products. -/
theorem acc_last (c : Dev nD) (t : Fin cfg0.N) (h0 : t.val % 2 = 1) (y) :
    acc m c t.val t.isLt y = partA m c (t.val / 2) (tile_lt t) (y 0) (y 1) + partB m c (t.val / 2) (tile_lt t) (y 0) (y 1) := by
  have hd : (t.val - 1) / 2 = t.val / 2 := by omega
  have h := acc_first m c ⟨t.val - 1, Nat.lt_of_le_of_lt (Nat.sub_le _ _) t.isLt⟩ (by show (t.val - 1) % 2 = 0; omega) y
  rw [acc_step m c t h0]
  refine congrArg (· + _) (h.trans ?_)
  unfold partA
  exact Fin.sum_fin_congr fun k => congrArg (fun i => das m c (ix2 i k) * _) (Fin.ext (by show (t.val - 1) / 2 * 512 + _ = _; rw [hd]))

/-- A load of what one store over the whole accumulator left is a load of the stored array. -/
theorem strip_read (A : Vec Ideal S512x1024 .f32) (r : Rect S512x1024) (inb : ∀ a, ![0, 0] a + ![512, 1024] a ≤ S512x1024.size a) :
    (View.whole cc0_scratch0).readCov (Val := Elt Ideal) [(⟨Rect.unit ![0, 0] ![512, 1024] inb, A⟩ : View.Piece (Elt Ideal) S512x1024 .f32)] r.toLoadRect
      = View.ld A r := by
  have hz : (![0, 0] : Fin S512x1024.rank → ℕ) = fun _ => 0 := by funext a; fin_cases a <;> rfl
  refine (View.readCov_eq_canon_ld _ _ _ (fun y => ⟨_, List.mem_singleton_self _, View.mem_set_unit_zero hz inb y⟩)).trans ?_
  exact congrArg (fun Y => View.ld Y r) (View.canon_unit_zero (S := S512x1024) hz inb A)

/-- A strip of 256 rows, read at an entry. -/
theorem strip_at (X : Vec Ideal S512x1024 .f32) (o : ℕ) (inb : ∀ a, ![o, 0] a + ![256, 1024] a ≤ S512x1024.size a) (i : Fin 256) (k : Fin 1024) :
    View.ld X (Rect.unit ![o, 0] ![256, 1024] inb) (ix2 i k) = X (ix2 (⟨o + i, by have := inb 0; simp at this; omega⟩ : Fin 512) k) :=
  View.ld_unit_apply_of X _ _ inb _ _ (fun a => by fin_cases a <;> simp)

/-- A strip's entry of the input's gradient is the tile's row form. -/
theorem dx_tile (A X R : Vec Ideal S512x1024 .f32) (s g : Vec Ideal S1x1024 .f32) (o : ℕ) (inb : ∀ a, ![o, 0] a + ![256, 1024] a ≤ S512x1024.size a)
    (x : S256x1024.Idx) (y : S512x1024.Idx) (h0 : (y 0).val = o + (x 0).val) (h1 : (y 1).val = (x 1).val) :
    k0_pay11 (F := Ideal) (View.ld A (Rect.unit ![o, 0] ![256, 1024] inb)) (View.ld X (Rect.unit ![o, 0] ![256, 1024] inb)) s g (View.ld R (Rect.unit ![o, 0] ![256, 1024] inb)) x
      = NormRow.dxKernel (fun k => A (ix2 (y 0) k)) (fun k => X (ix2 (y 0) k)) (fun k => s (ix2 0 k)) (fun k => g (ix2 0 k)) (R y) (y 1) := by
  have e : ∀ (Y : Vec Ideal S512x1024 .f32) (k : Fin 1024), View.ld Y (Rect.unit ![o, 0] ![256, 1024] inb) (ix2 (x 0) k) = Y (ix2 (y 0) k) := fun Y k =>
    (strip_at Y o inb (x 0) k).trans (congrArg (fun i => Y (ix2 i k)) (Fin.ext h0.symm))
  have er : View.ld R (Rect.unit ![o, 0] ![256, 1024] inb) x = R y :=
    View.ld_unit_apply_of R _ _ inb _ _ (fun a => by fin_cases a; exacts [h0, h1.trans (Nat.zero_add _).symm])
  rw [strip, er, show x 1 = y 1 from Fin.ext h1.symm]
  congr 1 <;> funext k
  exacts [e A k, e X k]

/-- Two stored strips of the input's gradient are the tile's row forms. -/
theorem dx_strips (A X R : Vec Ideal S512x1024 .f32) (s g : Vec Ideal S1x1024 .f32) (d0 d1 : Vec Ideal S256x1024 .f32)
    (e0 : d0 = View.ld A (Rect.unit ![0, 0] ![256, 1024] inb_S512x1024_S256x1024_0_0))
    (e1 : d1 = View.ld A (Rect.unit ![256, 0] ![256, 1024] inb_S512x1024_S256x1024_256_0)) (y : S512x1024.Idx) :
    View.canon (Val := Elt Ideal) (e := .f32)
      [⟨Rect.unit ![256, 0] ![256, 1024] inb_S512x1024_S256x1024_256_0, k0_pay11 (F := Ideal) d1 (View.ld X (Rect.unit ![256, 0] ![256, 1024] inb_S512x1024_S256x1024_256_0)) s g (View.ld R (Rect.unit ![256, 0] ![256, 1024] inb_S512x1024_S256x1024_256_0))⟩,
        ⟨Rect.unit ![0, 0] ![256, 1024] inb_S512x1024_S256x1024_0_0, k0_pay11 (F := Ideal) d0 (View.ld X (Rect.unit ![0, 0] ![256, 1024] inb_S512x1024_S256x1024_0_0)) s g (View.ld R (Rect.unit ![0, 0] ![256, 1024] inb_S512x1024_S256x1024_0_0))⟩] y
      = NormRow.dxKernel (fun k => A (ix2 (y 0) k)) (fun k => X (ix2 (y 0) k)) (fun k => s (ix2 0 k)) (fun k => g (ix2 0 k)) (R y) (y 1) := by
  subst e0 e1
  canon_tiles x h
  all_goals exact dx_tile A X R s g _ _ x y (by omega) (by omega)

/-- The input's gradient that a row tile's last point stores. -/
theorem dx_last (c : Dev nD) (t : Fin cfg0.N) (h0 : t.val % 2 = 1) (y : S512x1024.Idx) :
    (outsAt0 m c t.val t.isLt).1 y = NormRow.dxKernel (fun k => acc m c t.val t.isLt (ix2 (y 0) k)) (fun k => iblk m c 4 t (ix2 (y 0) k)) (fun k => iblk m c 6 t (ix2 0 k)) (fun k => iblk m c 5 t (ix2 0 k)) (iblk m c 7 t y) (y 1) := by
  unfold acc
  rw [outsAt0_B m c t (by omega) (by omega) (by omega) h0 h0]
  frame_out
  generalize k0_pay4 (F := Ideal) _ _ _ = A
  simp only [strip2]
  exact dx_strips A (iblk m c 4 t) (iblk m c 7 t) (iblk m c 6 t) (iblk m c 5 t) _ _ (strip_read A _ _) (strip_read A _ _) y

/-- A strip's sum over its rows, read off the tile. -/
theorem st_tile (A X : Vec Ideal S512x1024 .f32) (s g : Fin 1024 → EReal) (o : ℕ) (inb : ∀ a, ![o, 0] a + ![256, 1024] a ≤ S512x1024.size a) (n : Fin 8) (j : Fin 1024)
    (d : Vec Ideal S256x1024 .f32) (e : d = View.ld A (Rect.unit ![o, 0] ![256, 1024] inb)) :
    (∑ i : Fin 256, NormRow.stat n (fun k => d (ix2 i k)) (fun k => View.ld X (Rect.unit ![o, 0] ![256, 1024] inb) (ix2 i k)) s g j)
      = ∑ i : Fin 256, NormRow.stat n (fun k => A (ix2 (⟨o + i, by have := inb 0; simp at this; omega⟩ : Fin 512) k)) (fun k => X (ix2 (⟨o + i, by have := inb 0; simp at this; omega⟩ : Fin 512) k)) s g j :=
  Fin.sum_fin_congr fun i => by
    subst e
    congr 1 <;> funext k
    exacts [strip_at A o inb i k, strip_at X o inb i k]

/-- The parameters' gradients after a row tile's last point: what they were and the tile's 512 rows. -/
theorem st_last (c : Dev nD) (t : Fin cfg0.N) (h0 : t.val % 2 = 1) (y : S8x1024.Idx) :
    (outsAt0 m c t.val t.isLt).2.1 y = (outsAt0 m c (t.val - 1) (Nat.lt_of_le_of_lt (Nat.sub_le _ _) t.isLt)).2.1 y + ∑ i : Fin 512, NormRow.stat (y 0) (fun k => acc m c t.val t.isLt (ix2 i k)) (fun k => iblk m c 4 t (ix2 i k)) (fun k => iblk m c 6 t (ix2 0 k)) (fun k => iblk m c 5 t (ix2 0 k)) (y 1) := by
  unfold acc
  rw [outsAt0_B m c t (by omega) (by omega) (by omega) h0 h0]
  frame_out
  generalize k0_pay4 (F := Ideal) _ _ _ = A
  rw [NormRow.sum_halves]
  refine (stats _ _ _ _ _ _ _ y).trans (congrArg (_ + ·) (congrArg₂ (· + ·) ?_ ?_))
  all_goals exact st_tile A (iblk m c 4 t) _ _ _ _ (y 0) (y 1) _ (strip_read A _ _)

/-- At the launch's first point they are zero. -/
theorem st_first (c : Dev nD) (t : Fin cfg0.N) (h0 : t.val % 64 = 0) (y : S8x1024.Idx) : (outsAt0 m c t.val t.isLt).2.1 y = 0 := by
  rw [outsAt0_A m c t (by omega) h0 (by omega) (by omega) (by omega)]
  frame_out
  pointwise [k0_pay2]

/-- At every row tile's first point but the launch's, they stay. -/
theorem st_keep (c : Dev nD) (t : Fin cfg0.N) (h0 : ¬t.val % 64 = 0) (h1 : ¬t.val % 2 = 1) :
    (outsAt0 m c t.val t.isLt).2.1 = (outsAt0 m c (t.val - 1) (Nat.lt_of_le_of_lt (Nat.sub_le _ _) t.isLt)).2.1 := by
  rw [outsAt0_C m c t (by omega) h0 (by omega) h1 h1]
  rfl

end Cert.UpProjStep

end
-- ==== Proof.UpProjRef.lean ====
/- The reference's gradient of the norm that follows the up projection, row by row. -/
module

public import proofs.«01_k».proof.Proof.Gen.UpProjRefIdeal.Read
public import proofs.«01_k».proof.Proof.NormRow
public import Idealize.ShloMosaic.Lib.Pointwise

@[expose] public section

set_option maxRecDepth 16384

noncomputable section

namespace Cert.UpProjRow

open Idealize.ShloMosaic
open Cert.UpProjRefIdeal Cert.UpProjRefIdeal.Gen Cert.UpProjRefIdeal.Read

variable (x0 x1 : Vec Ideal S16384x2816 .bf16) (x2 : Vec Ideal S1024x5632 .bf16) (x3 : Vec Ideal S16384x1024 .f32) (x4 x5 : Vec Ideal S1x1024 .f32)
  (x6 : Vec Ideal S16384x1024 .f32)

/-- The gradient of the norm's output at row `i`. -/
abbrev dh (i : Fin 16384) (k : Fin 1024) : EReal := val_main_v32 (F := Ideal) x0 x1 x2 (ix2 i k)

/-- It is the sum of the two products' gradients. -/
theorem dh_eq (i : Fin 16384) (j : Fin 1024) :
    dh x0 x1 x2 i j = (∑ k : Fin 2816, x1 (ix2 i k) * x2 (ix2 j (⟨2816 + k, by omega⟩ : Fin 5632)))
      + ∑ k : Fin 2816, x0 (ix2 i k) * x2 (ix2 j (⟨k, by omega⟩ : Fin 5632)) := by
  unfold dh
  pointwise [val_main_v32, val_main_v31, val_main_v30, val_main_v29, val_main_v28, val_main_v26, val_main_v25, val_main_v23, val_main_v22]

/-- The input's gradient in the derivative's row form. -/
theorem dx_eq (y : S16384x1024.Idx) :
    val_main_v59 (F := Ideal) x0 x1 x2 x3 x4 x5 x6 y
      = NormRow.dxRef (dh x0 x1 x2 (y 0)) (fun k => x3 (ix2 (y 0) k)) (fun k => x5 (ix2 0 k)) (fun k => x4 (ix2 0 k)) (x6 y) (y 1) := by
  unfold NormRow.dxRef NormRow.corr NormRow.inv dh
  pointwise [val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v39, val_main_v38, val_main_v17, val_main_v16,
    val_main_v11, val_main_v10, val_main_v9, val_main_v8, val_main_v7, val_main_v6, val_main_v5, val_main_v4, val_main_v3, val_main_v2, val_main_v1,
    val_main_cst_0, val_main_cst_1, val_main_cst_2, val_main_cst_3, val_main_cst_4, val_main_cst_8, val_main_cst_9, val_main_cst_10]
  simp only [Fin.sum_univ_one]

/-- The parameters' gradients, summed over the rows. -/
theorem st_eq (y : S8x1024.Idx) :
    val_main_v61 (F := Ideal) x0 x1 x2 x3 x4 x5 y
      = ∑ i : Fin 16384, NormRow.stat (y 0) (dh x0 x1 x2 i) (fun k => x3 (ix2 i k)) (fun k => x5 (ix2 0 k)) (fun k => x4 (ix2 0 k)) (y 1) := by
  unfold NormRow.stat NormRow.inv dh
  pointwise [val_main_v61, val_main_v60, val_main_v42, val_main_v41, val_main_v40, val_main_v39, val_main_v38, val_main_v37, val_main_v36, val_main_v35, val_main_v34,
    val_main_v33, val_main_v17, val_main_v16, val_main_v15, val_main_v14, val_main_v13, val_main_v12,
    val_main_v8, val_main_v7, val_main_v6, val_main_v5, val_main_v4, val_main_v3, val_main_v2, val_main_v1,
    val_main_cst_0, val_main_cst_1, val_main_cst_2, val_main_cst_4, val_main_cst_5, val_main_cst_6, val_main_cst_7, val_main_cst_11]
  split_ifs
  · exact Finset.sum_congr rfl fun _ _ => mul_comm _ _
  · rfl
  · exact Finset.sum_congr rfl fun _ _ => mul_comm _ _
  · simp

end Cert.UpProjRow

end
-- ==== Proof.UpProjValue.lean ====
/- The up projection's backward call: its two result arrays are the reference's two terms. -/
module

public import proofs.«01_k».proof.Proof.UpProjStep
public import proofs.«01_k».proof.Proof.UpProjRef

@[expose] public section

set_option maxRecDepth 16384

noncomputable section

namespace Cert.UpProjValue

open Idealize.ShloMosaic Idealize.ShloMosaic.TcCoe Idealize.SL.Sem
open Idealize.ShloMosaic.Pipeline (Dat)
open Cert.UpProjIdeal Cert.UpProjIdeal.Gen Cert.UpProjStep

variable (m : (ℓ : Loc nD τ sig) → Buf (Elt Ideal) ℓ)

/-- The reference's gradient of the norm's output, at the launch's arrays. -/
abbrev dh (c : Dev nD) (i : Fin 16384) (k : Fin 1024) : EReal := UpProjRow.dh (das m c) (dbs m c) (wUp m c) i k

/-- At a row tile's last point the accumulator is the gradient of the norm's output. -/
theorem acc_dh (c : Dev nD) (t : Fin cfg0.N) (h : t.val % 2 = 1) (a : Fin 512) (b : Fin 1024) :
    acc m c t.val t.isLt (ix2 a b) = dh m c ⟨t.val / 2 * 512 + a, by have := tile_lt t; omega⟩ b := by
  rw [acc_last m c t h, dh, UpProjRow.dh_eq]
  exact add_comm _ _

/-- A row tile's addend to the parameters' gradients. -/
def tile (c : Dev nD) (i : ℕ) (hi : i < 32) (y : S8x1024.Idx) : EReal :=
  ∑ a : Fin 512, NormRow.stat (y 0) (dh m c ⟨i * 512 + a, by omega⟩) (fun k => xs m c (ix2 (⟨i * 512 + a, by omega⟩ : Fin 16384) k))
    (fun k => scs m c (ix2 0 k)) (fun k => gs m c (ix2 0 k)) (y 1)

/-- A point's addend to them: a row tile's at its last point, else nothing. -/
def term (c : Dev nD) (t : Fin cfg0.N) (y : S8x1024.Idx) : EReal := if t.val % 2 = 1 then tile m c (t.val / 2) (tile_lt t) y else 0

/-- The scale, the weight and a row of the input, as the row tile's windows hold them. -/
theorem sc_at (c : Dev nD) (t : Fin cfg0.N) (k : Fin 1024) : iblk m c 6 t (ix2 0 k) = scs m c (ix2 0 k) := by
  blk_point [iblk, V, idx t]

theorem g_at (c : Dev nD) (t : Fin cfg0.N) (k : Fin 1024) : iblk m c 5 t (ix2 0 k) = gs m c (ix2 0 k) := by
  blk_point [iblk, V, idx t]

theorem x_at (c : Dev nD) (t : Fin cfg0.N) (i : Fin 512) (k : Fin 1024) :
    iblk m c 4 t (ix2 i k) = xs m c (ix2 (⟨t.val / 2 * 512 + i, by have := tile_lt t; omega⟩ : Fin 16384) k) := by
  blk_point [iblk, V, idx t]

/-- The parameters' gradients after the launch's first point. -/
theorem st_reset (c : Dev nD) (t : Fin cfg0.N) (h : t.val % 64 = 0) (y : S8x1024.Idx) :
    (outsAt0 m c t.val t.isLt).2.1 y = 0 + term m c t y := by
  rw [st_first m c t h, term, if_neg (by omega), add_zero]

/-- And after every other. -/
theorem st_step (c : Dev nD) (t : Fin cfg0.N) (h : ¬t.val % 64 = 0) (y : S8x1024.Idx) :
    (outsAt0 m c t.val t.isLt).2.1 y = (outsAt0 m c (t.val - 1) (Nat.lt_of_le_of_lt (Nat.sub_le _ _) t.isLt)).2.1 y + term m c t y := by
  unfold term
  by_cases h1 : t.val % 2 = 1
  · rw [st_last m c t h1, if_pos h1]
    refine congrArg (_ + ·) (Fin.sum_fin_congr fun i => ?_)
    congr 1
    · funext k; exact acc_dh m c t h1 i k
    · funext k; exact x_at m c t i k
    · funext k; exact sc_at m c t k
    · funext k; exact g_at m c t k
  · rw [st_keep m c t h h1, if_neg h1]
    exact (add_zero _).symm

/-- After the last point they are the sums over all rows. -/
theorem st_total (c : Dev nD) (t : Fin cfg0.N) (ht : t.val + 1 = cfg0.N) (y : S8x1024.Idx) :
    (outsAt0 m c t.val t.isLt).2.1 y
      = ∑ i : Fin 16384, NormRow.stat (y 0) (dh m c i) (fun k => xs m c (ix2 i k)) (fun k => scs m c (ix2 0 k)) (fun k => gs m c (ix2 0 k)) (y 1) := by
  rw [Pipeline.eq_sum_fin_of_reset_step_apply_last (fun n h => (outsAt0 m c n h).2.1) 64 (fun _ => 0) (term m c) (st_reset m c) (st_step m c) (le_of_eq N_0) t ht y]
  refine (zero_add _).trans ?_
  refine (Fin.sum_divmod_congr (A := 32) (S := 2) (f := fun a s => if s = 1 then tile m c a a.isLt y else 0) (fun t ha hs => ?_) N_0).trans ?_
  · unfold term
    refine if_congr ?_ rfl rfl
    exact ⟨fun h => Fin.ext h, fun h => congrArg Fin.val h⟩
  · simp only [Finset.sum_ite_eq', Finset.mem_univ, if_true]
    rw [Fin.sum_univ_tiles 32 512 rfl]
    rfl

/-- The norm's output has a finite gradient where the launch's arrays are finite. -/
theorem dh_real (c : Dev nD) (h0 : Reals.Finite (fun i => das m c i)) (h1 : Reals.Finite (fun i => dbs m c i)) (h2 : Reals.Finite (fun i => wUp m c i))
    (i : Fin 16384) (k : Fin 1024) : ∃ r : ℝ, dh m c i k = r := by
  obtain ⟨f0, h0⟩ := h0
  obtain ⟨f1, h1⟩ := h1
  obtain ⟨f2, h2⟩ := h2
  rw [dh, UpProjRow.dh_eq]
  exact NormRow.add_real (NormRow.sum_real _ _ (fun _ => ⟨_, h1 _⟩) (fun _ => ⟨_, h2 _⟩)) (NormRow.sum_real _ _ (fun _ => ⟨_, h0 _⟩) (fun _ => ⟨_, h2 _⟩))

/-- The reference's gradient of the input, in the kernel's row form. -/
theorem dx_ref (c : Dev nD) (h0 : Reals.Finite (fun i => das m c i)) (h1 : Reals.Finite (fun i => dbs m c i)) (h2 : Reals.Finite (fun i => wUp m c i))
    (h3 : Reals.Finite (fun i => xs m c i)) (h4 : Reals.Finite (fun i => gs m c i)) (h5 : Reals.Finite (fun i => scs m c i)) (z : S16384x1024.Idx) :
    NormRow.dxKernel (dh m c (z 0)) (fun k => xs m c (ix2 (z 0) k)) (fun k => scs m c (ix2 0 k)) (fun k => gs m c (ix2 0 k)) (res m c z) (z 1)
    = Cert.UpProjRefIdeal.Read.val_main_v59 (F := Ideal) (das m c) (dbs m c) (wUp m c) (xs m c) (gs m c) (scs m c) (res m c) z := by
  obtain ⟨f3, h3⟩ := h3
  obtain ⟨f4, h4⟩ := h4
  obtain ⟨f5, h5⟩ := h5
  rw [UpProjRow.dx_eq]
  exact NormRow.dx_eq _ _ _ _ _ _ (fun k => dh_real m c h0 h1 h2 _ k) (fun k => ⟨_, h3 _⟩) (fun k => ⟨_, h5 _⟩) (fun k => ⟨_, h4 _⟩)

/-- The input's gradient after the run is the reference's. -/
theorem final8 (c : Dev nD) (h0 : Reals.Finite (fun i => das m c i)) (h1 : Reals.Finite (fun i => dbs m c i)) (h2 : Reals.Finite (fun i => wUp m c i))
    (h3 : Reals.Finite (fun i => xs m c i)) (h4 : Reals.Finite (fun i => gs m c i)) (h5 : Reals.Finite (fun i => scs m c i)) :
    (dats m 0 c).arrAt 8 (cfgs 0).N
    = Cert.UpProjRefIdeal.Read.val_main_v59 (F := Ideal) (das m c) (dbs m c) (wUp m c) (xs m c) (gs m c) (scs m c) (res m c) := by
  refine (dats m 0 c).arrAt_eq_of_covers 8 _ (by decide +kernel) fun t hf y => ?_
  have h8 : t.val % 2 = 1 := (by decide +kernel : ∀ t : Fin cfg0.N, (cfg0.win 8).flush t = true → t.val % 2 = 1) t hf
  blk_simp
  rw [after0_8, dx_last m c t h8]
  refine Eq.trans ?_ (dx_ref m c h0 h1 h2 h3 h4 h5 ((win0_8.blk t).view.emb y))
  have e0 : (win0_8.blk t).view.emb y 0 = (⟨t.val / 2 * 512 + (y 0).val, by have := tile_lt t; have : (y 0).val < 512 := (y 0).isLt; omega⟩ : Fin 16384) :=
    Fin.ext (by blk_simp [idx t])
  have e1 : (win0_8.blk t).view.emb y 1 = y 1 := Fin.ext (by blk_simp [idx t])
  have er : iblk m c 7 t y = res m c ((win0_8.blk t).view.emb y) := by blk_point [iblk, V, idx t]
  rw [e1, er, e0]
  congr 1
  · funext k; exact acc_dh m c t h8 (y 0) k
  · funext k; exact x_at m c t (y 0) k
  · funext k; exact sc_at m c t k
  · funext k; exact g_at m c t k

/-- The parameters' gradients after the run are the reference's. -/
theorem final9 (c : Dev nD) : (dats m 0 c).arrAt 9 (cfgs 0).N
    = Cert.UpProjRefIdeal.Read.val_main_v61 (F := Ideal) (das m c) (dbs m c) (wUp m c) (xs m c) (gs m c) (scs m c) := by
  refine (dats m 0 c).arrAt_eq_of_covers 9 _ (by decide +kernel) fun t hf y => ?_
  have ht : t.val + 1 = cfg0.N := (by decide +kernel : ∀ t : Fin cfg0.N, (cfg0.win 9).flush t = true → t.val + 1 = cfg0.N) t hf
  blk_simp
  rw [after0_9, st_total m c t ht, UpProjRow.st_eq]
  have e0 : ((win0_9.blk t).view.emb y 0).val = (y 0).val := by blk_simp [idx t]
  have e1 : (win0_9.blk t).view.emb y 1 = y 1 := Fin.ext (by blk_simp [idx t])
  rw [e0, e1]

end Cert.UpProjValue

end
-- ==== Proof.UpProjClaim.lean ====
/- The up projection's backward call: the value claim, from the two final arrays. -/
module

public import proofs.«01_k».proof.Defs
public import proofs.«01_k».proof.Proof.UpProjValue
public import proofs.«01_k».proof.Proof.Gen.UpProjIdeal
public import proofs.«01_k».proof.Proof.Gen.UpProjRefIdeal
public import proofs.«01_k».proof.Proof.Gen.UpProjRefIdeal.Run
public import proofs.«01_k».proof.Proof.Gen.UpProjRefIdeal.Read
public import proofs.«01_k».proof.Proof.Gen.Pre_up_finite
public import Idealize.ShloMosaic.Lib.Claim

@[expose] public section

set_option maxRecDepth 16384

noncomputable section

namespace Cert.UpProjClaim

open Idealize.ShloMosaic Idealize.SL.Sem Cert.UpProjStep

variable (m : (ℓ : Loc Cert.UpProjIdeal.nD Cert.UpProjIdeal.τ Cert.UpProjIdeal.sig) → Buf (Elt Ideal) ℓ)

/-- The precondition says that all argument arrays but the residual's gradient are finite. -/
theorem finite (h : Cert.Pre_UpProjIdeal_up_finite m) (c : Dev Cert.UpProjIdeal.nD) :
    Reals.Finite (fun i => das m c i) ∧ Reals.Finite (fun i => dbs m c i) ∧ Reals.Finite (fun i => wUp m c i)
    ∧ Reals.Finite (fun i => xs m c i) ∧ Reals.Finite (fun i => gs m c i) ∧ Reals.Finite (fun i => scs m c i) := by
  obtain ⟨h0, h1, h2, h3, h4, h5⟩ := h c
  exact ⟨Reals.finite_of_test16 _ _ h0, Reals.finite_of_test16 _ _ h1, Reals.finite_of_test16 _ _ h2, Reals.finite_of_test32 _ _ h3,
    Reals.finite_of_test32 _ _ h4, Reals.finite_of_test32 _ _ h5⟩

variable (m' : (ℓ : Loc Cert.UpProjRefIdeal.nD Cert.UpProjRefIdeal.τ Cert.UpProjRefIdeal.sig) → Buf (Elt Ideal) ℓ)

/-- The two launches' arguments agree. -/
abbrev Agree (c : Dev Cert.UpProjRefIdeal.nD) : Prop :=
  m' ((c.tc : Thread Cert.UpProjRefIdeal.nD Cert.UpProjRefIdeal.τ).loc Cert.UpProjRefIdeal.main_arg0) = m ((c.tc : Thread Cert.UpProjIdeal.nD Cert.UpProjIdeal.τ).loc Cert.UpProjIdeal.main_arg0) ∧ m' ((c.tc : Thread Cert.UpProjRefIdeal.nD Cert.UpProjRefIdeal.τ).loc Cert.UpProjRefIdeal.main_arg1) = m ((c.tc : Thread Cert.UpProjIdeal.nD Cert.UpProjIdeal.τ).loc Cert.UpProjIdeal.main_arg1) ∧ m' ((c.tc : Thread Cert.UpProjRefIdeal.nD Cert.UpProjRefIdeal.τ).loc Cert.UpProjRefIdeal.main_arg2) = m ((c.tc : Thread Cert.UpProjIdeal.nD Cert.UpProjIdeal.τ).loc Cert.UpProjIdeal.main_arg2) ∧ m' ((c.tc : Thread Cert.UpProjRefIdeal.nD Cert.UpProjRefIdeal.τ).loc Cert.UpProjRefIdeal.main_arg3) = m ((c.tc : Thread Cert.UpProjIdeal.nD Cert.UpProjIdeal.τ).loc Cert.UpProjIdeal.main_arg3) ∧ m' ((c.tc : Thread Cert.UpProjRefIdeal.nD Cert.UpProjRefIdeal.τ).loc Cert.UpProjRefIdeal.main_arg4) = m ((c.tc : Thread Cert.UpProjIdeal.nD Cert.UpProjIdeal.τ).loc Cert.UpProjIdeal.main_arg4) ∧ m' ((c.tc : Thread Cert.UpProjRefIdeal.nD Cert.UpProjRefIdeal.τ).loc Cert.UpProjRefIdeal.main_arg5) = m ((c.tc : Thread Cert.UpProjIdeal.nD Cert.UpProjIdeal.τ).loc Cert.UpProjIdeal.main_arg5) ∧ m' ((c.tc : Thread Cert.UpProjRefIdeal.nD Cert.UpProjRefIdeal.τ).loc Cert.UpProjRefIdeal.main_arg6) = m ((c.tc : Thread Cert.UpProjIdeal.nD Cert.UpProjIdeal.τ).loc Cert.UpProjIdeal.main_arg6)

/-- The reference's first result is the first array. -/
theorem out8 (h : Cert.Pre_UpProjIdeal_up_finite m) (c : Dev Cert.UpProjRefIdeal.nD) (e : Agree m m' c) :
    Cert.UpProjRefIdeal.Value.res_main_v59 m' c = (Cert.UpProjIdeal.Gen.dats m 0 c).arrAt 8 (Cert.UpProjIdeal.cfgs 0).N := by
  have h := finite m h c
  obtain ⟨e0, e1, e2, e3, e4, e5, e6⟩ := e
  refine (Cert.UpProjRefIdeal.Read.val_main_v59_eq m' c).trans ?_
  rw [e0, e1, e2, e3, e4, e5, e6]
  exact (Cert.UpProjValue.final8 m c h.1 h.2.1 h.2.2.1 h.2.2.2.1 h.2.2.2.2.1 h.2.2.2.2.2).symm

/-- The reference's second result. -/
def res9 (c : Dev Cert.UpProjRefIdeal.nD) : Buf (Elt Ideal) ((c.tc : Thread Cert.UpProjRefIdeal.nD Cert.UpProjRefIdeal.τ).loc Cert.UpProjRefIdeal.main_v61) :=
  Cert.UpProjRefIdeal.Read.val_main_v61 (F := Ideal) (m' ((c.tc : Thread Cert.UpProjRefIdeal.nD Cert.UpProjRefIdeal.τ).loc Cert.UpProjRefIdeal.main_arg0)) (m' ((c.tc : Thread Cert.UpProjRefIdeal.nD Cert.UpProjRefIdeal.τ).loc Cert.UpProjRefIdeal.main_arg1))
    (m' ((c.tc : Thread Cert.UpProjRefIdeal.nD Cert.UpProjRefIdeal.τ).loc Cert.UpProjRefIdeal.main_arg2)) (m' ((c.tc : Thread Cert.UpProjRefIdeal.nD Cert.UpProjRefIdeal.τ).loc Cert.UpProjRefIdeal.main_arg3))
    (m' ((c.tc : Thread Cert.UpProjRefIdeal.nD Cert.UpProjRefIdeal.τ).loc Cert.UpProjRefIdeal.main_arg4)) (m' ((c.tc : Thread Cert.UpProjRefIdeal.nD Cert.UpProjRefIdeal.τ).loc Cert.UpProjRefIdeal.main_arg5))

/-- It is the second array. -/
theorem out9 (c : Dev Cert.UpProjRefIdeal.nD) (e : Agree m m' c) :
    res9 m' c = (Cert.UpProjIdeal.Gen.dats m 0 c).arrAt 9 (Cert.UpProjIdeal.cfgs 0).N := by
  obtain ⟨e0, e1, e2, e3, e4, e5, e6⟩ := e
  unfold res9
  rw [e0, e1, e2, e3, e4, e5]
  exact (Cert.UpProjValue.final9 m c).symm

set_option maxHeartbeats 800000 in
/-- The value claim of the up projection's backward call. -/
theorem algebraic : Cert.algebraic_UpProjIdeal_UpProjRefIdeal_pre_up_finite := by
  pair_intro
  · run_from Cert.UpProjIdeal.Gen.run_main m g
  · refine θ_run_mono (Cert.UpProjRefIdeal.Value.run m' g') ?_
    intro r hr c
    obtain ⟨h8, h9, hargs⟩ := hr c
    exact ⟨h8.trans (out8 m m' hpre c (hagree c)), (h9.trans (Cert.UpProjRefIdeal.Read.val_main_v61_eq _ _ _ _ _ _)).trans (out9 m m' c (hagree c)), hargs⟩

/-- The reference runs, keeps its arguments, and leaves every counter at zero. -/
theorem frame_ref : Cert.quiescent_UpProjRefIdeal := by
  intro m g _
  refine (θ_run_and (?_ : θ_run _ _ _ (fun r => ∀ c : Dev Cert.UpProjRefIdeal.nD, _)) (?_ : θ_run _ _ _ (fun r => r.2.sem = fun _ => 0)))
  · run_from Cert.UpProjRefIdeal.Value.run m g
  · exact (θ_run Cert.UpProjRefIdeal.defs _ _).mono (fun r _ => sem_eq_zero_of_no_sems (by decide) r.2) (Cert.UpProjRefIdeal.Value.run m g)

/-- The same under the value claim's precondition. -/
theorem frame_ref_finite : Cert.quiescent_UpProjRefIdeal_pre_up_finite :=
  fun m g _ => frame_ref m g trivial

end Cert.UpProjClaim

end
-- ==== Proof.WDownClaim.lean ====
/- The weight gradient of the down projection: the call's array is the reference's product over all rows. -/
module

public import proofs.«01_k».proof.Defs
public import proofs.«01_k».proof.Proof.Gen.WDownIdeal.Frame
public import proofs.«01_k».proof.Proof.Gen.WDownRefIdeal.Run
public import proofs.«01_k».proof.Proof.Gen.WDownRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WDownClaim

open Idealize.ShloMosaic Idealize.ShloMosaic.TcCoe Idealize.SL.Sem
open Idealize.ShloMosaic.Pipeline (Dat)

section Kernel

open Cert.WDownIdeal Cert.WDownIdeal.Gen

variable (m : (ℓ : Loc nD τ sig) → Buf (Elt Ideal) ℓ)

/-- Every window's block index at grid point `t`. -/
theorem idx : ∀ t : Fin cfg0.N,
    win0_0.index t = ![t.val % 16, t.val / 16] ∧ win0_1.index t = ![t.val % 16, 0] ∧ win0_2.index t = ![t.val / 16, 0] :=
  (by decide +kernel : ∀ t : Fin grid0.N, _)

/-- A point's block of the result is one of two. -/
theorem tile_lt (t : Fin cfg0.N) : t.val / 16 < 2 := by have := lt_of_lt_of_eq t.isLt N_0; omega

/-- The two factors, as the launch has them. -/
abbrev inp (c : Dev nD) : FVec Ideal S16384x2816 .bf16 := m ((c : Thread nD τ).loc main_arg0)
abbrev cts (c : Dev nD) : FVec Ideal S16384x1024 .bf16 := m ((c : Thread nD τ).loc main_arg1)

/-- The accumulator after point `n`. -/
def acc (c : Dev nD) (n : ℕ) (h : n < cfg0.N) : Vec Ideal S1408x1024 .f32 := (outsAt0 m c n h).2

/-- A point's addend to the accumulator: the product over its own rows. -/
def part (c : Dev nD) (t : Fin cfg0.N) (a : Fin 1408) (b : Fin 1024) : EReal :=
  ∑ k : Fin 1024, inp m c (ix2 (⟨t.val % 16 * 1024 + k, by omega⟩ : Fin 16384) (⟨t.val / 16 * 1408 + a, by have := tile_lt t; omega⟩ : Fin 2816)) * cts m c (ix2 (⟨t.val % 16 * 1024 + k, by omega⟩ : Fin 16384) b)

/-- At a block's first point the accumulator is the point's addend. -/
theorem acc_reset (c : Dev nD) (t : Fin cfg0.N) (h0 : t.val % 16 = 0) (y) : acc m c t.val t.isLt y = 0 + part m c t (y 0) (y 1) := by
  unfold acc part
  rw [outsAt0_A m c t h0 (by omega)]
  frame_out
  pointwise [k0_pay2, k0_pay1]
  blk_point [iblk, V, idx t]

/-- At every other it is what it was and the point's addend. -/
theorem acc_step (c : Dev nD) (t : Fin cfg0.N) (h0 : ¬t.val % 16 = 0) (y) :
    acc m c t.val t.isLt y = acc m c (t.val - 1) (Nat.lt_of_le_of_lt (Nat.sub_le _ _) t.isLt) y + part m c t (y 0) (y 1) := by
  unfold acc part
  by_cases h1 : t.val % 16 = 15
  · rw [outsAt0_C m c t h0 h1]
    frame_out
    rw [read_unread_whole]
    pointwise [k0_pay2]
    blk_point [iblk, V, idx t]
  · rw [outsAt0_B m c t h0 h1]
    frame_out
    rw [read_unread_whole]
    pointwise [k0_pay2]
    blk_point [iblk, V, idx t]

/-- A block's entry of the product over all rows. -/
def total (c : Dev nD) (t : Fin cfg0.N) (a : Fin 1408) (b : Fin 1024) : EReal :=
  ∑ i : Fin 16384, inp m c (ix2 i (⟨t.val / 16 * 1408 + a, by have := tile_lt t; omega⟩ : Fin 2816)) * cts m c (ix2 i b)

/-- At a block's last point the accumulator is it. -/
theorem acc_last (c : Dev nD) (t : Fin cfg0.N) (h : t.val % 16 = 15) (y) : acc m c t.val t.isLt y = total m c t (y 0) (y 1) := by
  unfold total
  rw [Pipeline.eq_sum_fin_of_reset_step_apply_of_flush (acc m c) 16 (fun _ => 0) (fun t y => part m c t (y 0) (y 1)) (acc_reset m c) (acc_step m c) t h y,
    Fin.sum_univ_tiles 16 1024 rfl]
  refine (zero_add _).trans (Fin.sum_fin_congr fun s => Fin.sum_fin_congr fun k => ?_)
  have hs := s.isLt
  have e : (16 * (t.val / 16) + s.val) % 16 = s.val := by omega
  have d : (16 * (t.val / 16) + s.val) / 16 = t.val / 16 := by omega
  congr 1
  · refine congrArg (inp m c) (congrArg₂ ix2 (Fin.ext ?_) (Fin.ext ?_))
    · show (16 * (t.val / 16) + s.val) % 16 * 1024 + k.val = s.val * 1024 + k.val
      rw [e]
    · show (16 * (t.val / 16) + s.val) / 16 * 1408 + (y 0).val = t.val / 16 * 1408 + (y 0).val
      rw [d]
  · refine congrArg (cts m c) (congrArg₂ ix2 (Fin.ext ?_) rfl)
    · show (16 * (t.val / 16) + s.val) % 16 * 1024 + k.val = s.val * 1024 + k.val
      rw [e]

/-- The block that its last point stores is the accumulator. -/
theorem out_last (c : Dev nD) (t : Fin cfg0.N) (h : t.val % 16 = 15) (y : S1408x1024.Idx) :
    (outsAt0 m c t.val t.isLt).1 y = acc m c t.val t.isLt y := by
  unfold acc
  rw [outsAt0_C m c t (by omega) h]
  frame_out
  pointwise [k0_pay3]

/-- The reference's entry is the product over all rows. -/
theorem ref_eq (c : Dev nD) (z : S2816x1024.Idx) :
    Cert.WDownRefIdeal.Read.val_main_v6 (F := Ideal) (inp m c) (cts m c) z = ∑ i : Fin 16384, inp m c (ix2 i (z 0)) * cts m c (ix2 i (z 1)) := by
  open Cert.WDownRefIdeal Cert.WDownRefIdeal.Gen Cert.WDownRefIdeal.Read in pointwise [val_main_v6, val_main_v5, val_main_v4, val_main_v3, val_main_v1]
  exact Finset.sum_congr rfl fun _ _ => mul_comm _ _

/-- The array after the run is the reference's. -/
theorem final (c : Dev nD) : (dats m 0 c).arrAt 2 (cfgs 0).N = Cert.WDownRefIdeal.Read.val_main_v6 (F := Ideal) (inp m c) (cts m c) := by
  refine (dats m 0 c).arrAt_eq_of_covers 2 _ (by decide +kernel) fun t hf y => ?_
  have h : t.val % 16 = 15 := (flush0_2 t).mp hf
  blk_simp
  rw [after0_2, out_last m c t h]
  refine (acc_last m c t h y).trans ?_
  refine Eq.trans ?_ (ref_eq m c ((win0_2.blk t).view.emb y)).symm
  have e0 : (win0_2.blk t).view.emb y 0 = (⟨t.val / 16 * 1408 + (y 0).val, by have := tile_lt t; have : (y 0).val < 1408 := (y 0).isLt; omega⟩ : Fin 2816) := Fin.ext (by blk_simp [idx t])
  have e1 : (win0_2.blk t).view.emb y 1 = y 1 := Fin.ext (by blk_simp [idx t])
  rw [e0, e1]
  rfl

end Kernel

/-- The reference's result. -/
def res (m' : (ℓ : Loc Cert.WDownRefIdeal.nD Cert.WDownRefIdeal.τ Cert.WDownRefIdeal.sig) → Buf (Elt Ideal) ℓ) (c : Dev Cert.WDownRefIdeal.nD) : Buf (Elt Ideal) ((c.tc : Thread Cert.WDownRefIdeal.nD Cert.WDownRefIdeal.τ).loc Cert.WDownRefIdeal.main_v6) :=
  Cert.WDownRefIdeal.Read.val_main_v6 (F := Ideal) (m' ((c.tc : Thread Cert.WDownRefIdeal.nD Cert.WDownRefIdeal.τ).loc Cert.WDownRefIdeal.main_arg0)) (m' ((c.tc : Thread Cert.WDownRefIdeal.nD Cert.WDownRefIdeal.τ).loc Cert.WDownRefIdeal.main_arg1))

/-- The reference's run ends with it. -/
theorem ref_run (m' : (ℓ : Loc Cert.WDownRefIdeal.nD Cert.WDownRefIdeal.τ Cert.WDownRefIdeal.sig) → Buf (Elt Ideal) ℓ) (g : Dev Cert.WDownRefIdeal.nD → PrngReg) :
    θ_run Cert.WDownRefIdeal.defs (onTc (τ := Cert.WDownRefIdeal.τ) (Cert.WDownRefIdeal.main (F := Ideal))) ⟨m', fun _ => 0, g⟩ (fun r => ∀ c : Dev Cert.WDownRefIdeal.nD,
      r.2.mem ((c.tc : Thread Cert.WDownRefIdeal.nD Cert.WDownRefIdeal.τ).loc Cert.WDownRefIdeal.main_v6) = res m' c
      ∧ r.2.mem ((c.tc : Thread Cert.WDownRefIdeal.nD Cert.WDownRefIdeal.τ).loc Cert.WDownRefIdeal.main_arg0) = m' ((c.tc : Thread Cert.WDownRefIdeal.nD Cert.WDownRefIdeal.τ).loc Cert.WDownRefIdeal.main_arg0)
      ∧ r.2.mem ((c.tc : Thread Cert.WDownRefIdeal.nD Cert.WDownRefIdeal.τ).loc Cert.WDownRefIdeal.main_arg1) = m' ((c.tc : Thread Cert.WDownRefIdeal.nD Cert.WDownRefIdeal.τ).loc Cert.WDownRefIdeal.main_arg1)) :=
  (θ_run Cert.WDownRefIdeal.defs _ _).mono (fun _ h c => ⟨(h c).1.trans (Cert.WDownRefIdeal.Read.val_main_v6_eq _ _), (h c).2⟩) (Cert.WDownRefIdeal.Value.run m' g)

/-- It is the kernel's array where the arguments agree. -/
theorem out (m : (ℓ : Loc Cert.WDownIdeal.nD Cert.WDownIdeal.τ Cert.WDownIdeal.sig) → Buf (Elt Ideal) ℓ) (m' : (ℓ : Loc Cert.WDownRefIdeal.nD Cert.WDownRefIdeal.τ Cert.WDownRefIdeal.sig) → Buf (Elt Ideal) ℓ) (c : Dev Cert.WDownRefIdeal.nD)
    (h0 : m' ((c.tc : Thread Cert.WDownRefIdeal.nD Cert.WDownRefIdeal.τ).loc Cert.WDownRefIdeal.main_arg0) = m ((c.tc : Thread Cert.WDownIdeal.nD Cert.WDownIdeal.τ).loc Cert.WDownIdeal.main_arg0))
    (h1 : m' ((c.tc : Thread Cert.WDownRefIdeal.nD Cert.WDownRefIdeal.τ).loc Cert.WDownRefIdeal.main_arg1) = m ((c.tc : Thread Cert.WDownIdeal.nD Cert.WDownIdeal.τ).loc Cert.WDownIdeal.main_arg1)) :
    res m' c = (Cert.WDownIdeal.Gen.dats m 0 c).arrAt 2 (Cert.WDownIdeal.cfgs 0).N := by
  unfold res
  rw [h0, h1]
  exact (final m c).symm

/-- The value claim. -/
theorem algebraic : Cert.algebraic_WDownIdeal_WDownRefIdeal := by
  pair_intro
  · run_from Cert.WDownIdeal.Gen.run_main m g
  · refine θ_run_mono (ref_run m' g') ?_
    intro r hr c
    exact ⟨(hr c).1.trans (out m m' c (hagree c).1 (hagree c).2), (hr c).2⟩

/-- The reference runs, keeps its arguments, and leaves every counter at zero. -/
theorem frame_ref : Cert.quiescent_WDownRefIdeal := by
  intro m g _
  refine (θ_run_and (?_ : θ_run _ _ _ (fun r => ∀ c : Dev Cert.WDownRefIdeal.nD, _)) (?_ : θ_run _ _ _ (fun r => r.2.sem = fun _ => 0)))
  · run_from Cert.WDownRefIdeal.Value.run m g
  · exact (θ_run Cert.WDownRefIdeal.defs _ _).mono (fun r _ => sem_eq_zero_of_no_sems (by decide) r.2) (Cert.WDownRefIdeal.Value.run m g)

end Cert.WDownClaim

end
-- ==== Proof.WUpClaim.lean ====
/- The weight gradient of the up projection's half: the call's array is the reference's product over all rows. -/
module

public import proofs.«01_k».proof.Defs
public import proofs.«01_k».proof.Proof.Gen.WUpIdeal.Frame
public import proofs.«01_k».proof.Proof.Gen.WUpRefIdeal.Run
public import proofs.«01_k».proof.Proof.Gen.WUpRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WUpClaim

open Idealize.ShloMosaic Idealize.ShloMosaic.TcCoe Idealize.SL.Sem
open Idealize.ShloMosaic.Pipeline (Dat)

section Kernel

open Cert.WUpIdeal Cert.WUpIdeal.Gen

variable (m : (ℓ : Loc nD τ sig) → Buf (Elt Ideal) ℓ)

/-- Every window's block index at grid point `t`. -/
theorem idx : ∀ t : Fin cfg0.N,
    win0_0.index t = ![t.val % 16, 0] ∧ win0_1.index t = ![t.val % 16, 0] ∧ win0_2.index t = ![0, 0] :=
  (by decide +kernel : ∀ t : Fin grid0.N, _)

/-- The two factors, as the launch has them. -/
abbrev inp (c : Dev nD) : FVec Ideal S16384x1024 .bf16 := m ((c : Thread nD τ).loc main_arg0)
abbrev cts (c : Dev nD) : FVec Ideal S16384x2816 .bf16 := m ((c : Thread nD τ).loc main_arg1)

/-- The accumulator after point `n`. -/
def acc (c : Dev nD) (n : ℕ) (h : n < cfg0.N) : Vec Ideal S1024x2816 .f32 := (outsAt0 m c n h).2

/-- A point's addend to the accumulator: the product over its own rows. -/
def part (c : Dev nD) (t : Fin cfg0.N) (a : Fin 1024) (b : Fin 2816) : EReal :=
  ∑ k : Fin 1024, inp m c (ix2 (⟨t.val % 16 * 1024 + k, by omega⟩ : Fin 16384) a) * cts m c (ix2 (⟨t.val % 16 * 1024 + k, by omega⟩ : Fin 16384) b)

/-- At a block's first point the accumulator is the point's addend. -/
theorem acc_reset (c : Dev nD) (t : Fin cfg0.N) (h0 : t.val % 16 = 0) (y) : acc m c t.val t.isLt y = 0 + part m c t (y 0) (y 1) := by
  unfold acc part
  rw [outsAt0_A m c t h0 (by omega)]
  frame_out
  pointwise [k0_pay2, k0_pay1]
  blk_point [iblk, V, idx t]

/-- At every other it is what it was and the point's addend. -/
theorem acc_step (c : Dev nD) (t : Fin cfg0.N) (h0 : ¬t.val % 16 = 0) (y) :
    acc m c t.val t.isLt y = acc m c (t.val - 1) (Nat.lt_of_le_of_lt (Nat.sub_le _ _) t.isLt) y + part m c t (y 0) (y 1) := by
  unfold acc part
  by_cases h1 : t.val % 16 = 15
  · rw [outsAt0_C m c t h0 h1]
    frame_out
    rw [read_unread_whole]
    pointwise [k0_pay2]
    blk_point [iblk, V, idx t]
  · rw [outsAt0_B m c t h0 h1]
    frame_out
    rw [read_unread_whole]
    pointwise [k0_pay2]
    blk_point [iblk, V, idx t]

/-- A block's entry of the product over all rows. -/
def total (c : Dev nD) (t : Fin cfg0.N) (a : Fin 1024) (b : Fin 2816) : EReal :=
  ∑ i : Fin 16384, inp m c (ix2 i a) * cts m c (ix2 i b)

/-- At a block's last point the accumulator is it. -/
theorem acc_last (c : Dev nD) (t : Fin cfg0.N) (h : t.val % 16 = 15) (y) : acc m c t.val t.isLt y = total m c t (y 0) (y 1) := by
  unfold total
  rw [Pipeline.eq_sum_fin_of_reset_step_apply_of_flush (acc m c) 16 (fun _ => 0) (fun t y => part m c t (y 0) (y 1)) (acc_reset m c) (acc_step m c) t h y,
    Fin.sum_univ_tiles 16 1024 rfl]
  refine (zero_add _).trans (Fin.sum_fin_congr fun s => Fin.sum_fin_congr fun k => ?_)
  have hs := s.isLt
  have e : (16 * (t.val / 16) + s.val) % 16 = s.val := by omega
  have d : (16 * (t.val / 16) + s.val) / 16 = t.val / 16 := by omega
  congr 1
  · refine congrArg (inp m c) (congrArg₂ ix2 (Fin.ext ?_) rfl)
    · show (16 * (t.val / 16) + s.val) % 16 * 1024 + k.val = s.val * 1024 + k.val
      rw [e]
  · refine congrArg (cts m c) (congrArg₂ ix2 (Fin.ext ?_) rfl)
    · show (16 * (t.val / 16) + s.val) % 16 * 1024 + k.val = s.val * 1024 + k.val
      rw [e]

/-- The block that its last point stores is the accumulator. -/
theorem out_last (c : Dev nD) (t : Fin cfg0.N) (h : t.val % 16 = 15) (y : S1024x2816.Idx) :
    (outsAt0 m c t.val t.isLt).1 y = acc m c t.val t.isLt y := by
  unfold acc
  rw [outsAt0_C m c t (by omega) h]
  frame_out
  pointwise [k0_pay3]

/-- The reference's entry is the product over all rows. -/
theorem ref_eq (c : Dev nD) (z : S1024x2816.Idx) :
    Cert.WUpRefIdeal.Read.val_main_v6 (F := Ideal) (inp m c) (cts m c) z = ∑ i : Fin 16384, inp m c (ix2 i (z 0)) * cts m c (ix2 i (z 1)) := by
  open Cert.WUpRefIdeal Cert.WUpRefIdeal.Gen Cert.WUpRefIdeal.Read in pointwise [val_main_v6, val_main_v5, val_main_v4, val_main_v3, val_main_v1]
  exact Finset.sum_congr rfl fun _ _ => mul_comm _ _

/-- The array after the run is the reference's. -/
theorem final (c : Dev nD) : (dats m 0 c).arrAt 2 (cfgs 0).N = Cert.WUpRefIdeal.Read.val_main_v6 (F := Ideal) (inp m c) (cts m c) := by
  refine (dats m 0 c).arrAt_eq_of_covers 2 _ (by decide +kernel) fun t hf y => ?_
  have h : t.val % 16 = 15 := (flush0_2 t).mp hf
  blk_simp
  rw [after0_2, out_last m c t h]
  refine (acc_last m c t h y).trans ?_
  refine Eq.trans ?_ (ref_eq m c ((win0_2.blk t).view.emb y)).symm
  have e0 : (win0_2.blk t).view.emb y 0 = y 0 := Fin.ext (by blk_simp [idx t])
  have e1 : (win0_2.blk t).view.emb y 1 = y 1 := Fin.ext (by blk_simp [idx t])
  rw [e0, e1]
  rfl

end Kernel

/-- The reference's result. -/
def res (m' : (ℓ : Loc Cert.WUpRefIdeal.nD Cert.WUpRefIdeal.τ Cert.WUpRefIdeal.sig) → Buf (Elt Ideal) ℓ) (c : Dev Cert.WUpRefIdeal.nD) : Buf (Elt Ideal) ((c.tc : Thread Cert.WUpRefIdeal.nD Cert.WUpRefIdeal.τ).loc Cert.WUpRefIdeal.main_v6) :=
  Cert.WUpRefIdeal.Read.val_main_v6 (F := Ideal) (m' ((c.tc : Thread Cert.WUpRefIdeal.nD Cert.WUpRefIdeal.τ).loc Cert.WUpRefIdeal.main_arg0)) (m' ((c.tc : Thread Cert.WUpRefIdeal.nD Cert.WUpRefIdeal.τ).loc Cert.WUpRefIdeal.main_arg1))

/-- The reference's run ends with it. -/
theorem ref_run (m' : (ℓ : Loc Cert.WUpRefIdeal.nD Cert.WUpRefIdeal.τ Cert.WUpRefIdeal.sig) → Buf (Elt Ideal) ℓ) (g : Dev Cert.WUpRefIdeal.nD → PrngReg) :
    θ_run Cert.WUpRefIdeal.defs (onTc (τ := Cert.WUpRefIdeal.τ) (Cert.WUpRefIdeal.main (F := Ideal))) ⟨m', fun _ => 0, g⟩ (fun r => ∀ c : Dev Cert.WUpRefIdeal.nD,
      r.2.mem ((c.tc : Thread Cert.WUpRefIdeal.nD Cert.WUpRefIdeal.τ).loc Cert.WUpRefIdeal.main_v6) = res m' c
      ∧ r.2.mem ((c.tc : Thread Cert.WUpRefIdeal.nD Cert.WUpRefIdeal.τ).loc Cert.WUpRefIdeal.main_arg0) = m' ((c.tc : Thread Cert.WUpRefIdeal.nD Cert.WUpRefIdeal.τ).loc Cert.WUpRefIdeal.main_arg0)
      ∧ r.2.mem ((c.tc : Thread Cert.WUpRefIdeal.nD Cert.WUpRefIdeal.τ).loc Cert.WUpRefIdeal.main_arg1) = m' ((c.tc : Thread Cert.WUpRefIdeal.nD Cert.WUpRefIdeal.τ).loc Cert.WUpRefIdeal.main_arg1)) :=
  (θ_run Cert.WUpRefIdeal.defs _ _).mono (fun _ h c => ⟨(h c).1.trans (Cert.WUpRefIdeal.Read.val_main_v6_eq _ _), (h c).2⟩) (Cert.WUpRefIdeal.Value.run m' g)

/-- It is the kernel's array where the arguments agree. -/
theorem out (m : (ℓ : Loc Cert.WUpIdeal.nD Cert.WUpIdeal.τ Cert.WUpIdeal.sig) → Buf (Elt Ideal) ℓ) (m' : (ℓ : Loc Cert.WUpRefIdeal.nD Cert.WUpRefIdeal.τ Cert.WUpRefIdeal.sig) → Buf (Elt Ideal) ℓ) (c : Dev Cert.WUpRefIdeal.nD)
    (h0 : m' ((c.tc : Thread Cert.WUpRefIdeal.nD Cert.WUpRefIdeal.τ).loc Cert.WUpRefIdeal.main_arg0) = m ((c.tc : Thread Cert.WUpIdeal.nD Cert.WUpIdeal.τ).loc Cert.WUpIdeal.main_arg0))
    (h1 : m' ((c.tc : Thread Cert.WUpRefIdeal.nD Cert.WUpRefIdeal.τ).loc Cert.WUpRefIdeal.main_arg1) = m ((c.tc : Thread Cert.WUpIdeal.nD Cert.WUpIdeal.τ).loc Cert.WUpIdeal.main_arg1)) :
    res m' c = (Cert.WUpIdeal.Gen.dats m 0 c).arrAt 2 (Cert.WUpIdeal.cfgs 0).N := by
  unfold res
  rw [h0, h1]
  exact (final m c).symm

/-- The value claim. -/
theorem algebraic : Cert.algebraic_WUpIdeal_WUpRefIdeal := by
  pair_intro
  · run_from Cert.WUpIdeal.Gen.run_main m g
  · refine θ_run_mono (ref_run m' g') ?_
    intro r hr c
    exact ⟨(hr c).1.trans (out m m' c (hagree c).1 (hagree c).2), (hr c).2⟩

/-- The reference runs, keeps its arguments, and leaves every counter at zero. -/
theorem frame_ref : Cert.quiescent_WUpRefIdeal := by
  intro m g _
  refine (θ_run_and (?_ : θ_run _ _ _ (fun r => ∀ c : Dev Cert.WUpRefIdeal.nD, _)) (?_ : θ_run _ _ _ (fun r => r.2.sem = fun _ => 0)))
  · run_from Cert.WUpRefIdeal.Value.run m g
  · exact (θ_run Cert.WUpRefIdeal.defs _ _).mono (fun r _ => sem_eq_zero_of_no_sems (by decide) r.2) (Cert.WUpRefIdeal.Value.run m g)

end Cert.WUpClaim

end
-- ==== Proof.WBranchClaim.lean ====
/- The weight gradient of the branch projection: the call's array is the reference's product over all rows. -/
module

public import proofs.«01_k».proof.Defs
public import proofs.«01_k».proof.Proof.Gen.WBranchIdeal.Frame
public import proofs.«01_k».proof.Proof.Gen.WBranchRefIdeal.Run
public import proofs.«01_k».proof.Proof.Gen.WBranchRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WBranchClaim

open Idealize.ShloMosaic Idealize.ShloMosaic.TcCoe Idealize.SL.Sem
open Idealize.ShloMosaic.Pipeline (Dat)

section Kernel

open Cert.WBranchIdeal Cert.WBranchIdeal.Gen

variable (m : (ℓ : Loc nD τ sig) → Buf (Elt Ideal) ℓ)

/-- Every window's block index at grid point `t`. -/
theorem idx : ∀ t : Fin cfg0.N,
    win0_0.index t = ![t.val % 16, 0] ∧ win0_1.index t = ![t.val % 16, 0] ∧ win0_2.index t = ![0, 0] :=
  (by decide +kernel : ∀ t : Fin grid0.N, _)

/-- The two factors, as the launch has them. -/
abbrev inp (c : Dev nD) : FVec Ideal S16384x1024 .bf16 := m ((c : Thread nD τ).loc main_arg0)
abbrev cts (c : Dev nD) : FVec Ideal S16384x1024 .bf16 := m ((c : Thread nD τ).loc main_arg1)

/-- The accumulator after point `n`. -/
def acc (c : Dev nD) (n : ℕ) (h : n < cfg0.N) : Vec Ideal S1024x1024 .f32 := (outsAt0 m c n h).2

/-- A point's addend to the accumulator: the product over its own rows. -/
def part (c : Dev nD) (t : Fin cfg0.N) (a : Fin 1024) (b : Fin 1024) : EReal :=
  ∑ k : Fin 1024, inp m c (ix2 (⟨t.val % 16 * 1024 + k, by omega⟩ : Fin 16384) a) * cts m c (ix2 (⟨t.val % 16 * 1024 + k, by omega⟩ : Fin 16384) b)

/-- At a block's first point the accumulator is the point's addend. -/
theorem acc_reset (c : Dev nD) (t : Fin cfg0.N) (h0 : t.val % 16 = 0) (y) : acc m c t.val t.isLt y = 0 + part m c t (y 0) (y 1) := by
  unfold acc part
  rw [outsAt0_A m c t h0 (by omega)]
  frame_out
  pointwise [k0_pay2, k0_pay1]
  blk_point [iblk, V, idx t]

/-- At every other it is what it was and the point's addend. -/
theorem acc_step (c : Dev nD) (t : Fin cfg0.N) (h0 : ¬t.val % 16 = 0) (y) :
    acc m c t.val t.isLt y = acc m c (t.val - 1) (Nat.lt_of_le_of_lt (Nat.sub_le _ _) t.isLt) y + part m c t (y 0) (y 1) := by
  unfold acc part
  by_cases h1 : t.val % 16 = 15
  · rw [outsAt0_C m c t h0 h1]
    frame_out
    rw [read_unread_whole]
    pointwise [k0_pay2]
    blk_point [iblk, V, idx t]
  · rw [outsAt0_B m c t h0 h1]
    frame_out
    rw [read_unread_whole]
    pointwise [k0_pay2]
    blk_point [iblk, V, idx t]

/-- A block's entry of the product over all rows. -/
def total (c : Dev nD) (t : Fin cfg0.N) (a : Fin 1024) (b : Fin 1024) : EReal :=
  ∑ i : Fin 16384, inp m c (ix2 i a) * cts m c (ix2 i b)

/-- At a block's last point the accumulator is it. -/
theorem acc_last (c : Dev nD) (t : Fin cfg0.N) (h : t.val % 16 = 15) (y) : acc m c t.val t.isLt y = total m c t (y 0) (y 1) := by
  unfold total
  rw [Pipeline.eq_sum_fin_of_reset_step_apply_of_flush (acc m c) 16 (fun _ => 0) (fun t y => part m c t (y 0) (y 1)) (acc_reset m c) (acc_step m c) t h y,
    Fin.sum_univ_tiles 16 1024 rfl]
  refine (zero_add _).trans (Fin.sum_fin_congr fun s => Fin.sum_fin_congr fun k => ?_)
  have hs := s.isLt
  have e : (16 * (t.val / 16) + s.val) % 16 = s.val := by omega
  have d : (16 * (t.val / 16) + s.val) / 16 = t.val / 16 := by omega
  congr 1
  · refine congrArg (inp m c) (congrArg₂ ix2 (Fin.ext ?_) rfl)
    · show (16 * (t.val / 16) + s.val) % 16 * 1024 + k.val = s.val * 1024 + k.val
      rw [e]
  · refine congrArg (cts m c) (congrArg₂ ix2 (Fin.ext ?_) rfl)
    · show (16 * (t.val / 16) + s.val) % 16 * 1024 + k.val = s.val * 1024 + k.val
      rw [e]

/-- The block that its last point stores is the accumulator. -/
theorem out_last (c : Dev nD) (t : Fin cfg0.N) (h : t.val % 16 = 15) (y : S1024x1024.Idx) :
    (outsAt0 m c t.val t.isLt).1 y = acc m c t.val t.isLt y := by
  unfold acc
  rw [outsAt0_C m c t (by omega) h]
  frame_out
  pointwise [k0_pay3]

/-- The reference's entry is the product over all rows. -/
theorem ref_eq (c : Dev nD) (z : S1024x1024.Idx) :
    Cert.WBranchRefIdeal.Read.val_main_v6 (F := Ideal) (inp m c) (cts m c) z = ∑ i : Fin 16384, inp m c (ix2 i (z 0)) * cts m c (ix2 i (z 1)) := by
  open Cert.WBranchRefIdeal Cert.WBranchRefIdeal.Gen Cert.WBranchRefIdeal.Read in pointwise [val_main_v6, val_main_v5, val_main_v4, val_main_v3, val_main_v1]
  exact Finset.sum_congr rfl fun _ _ => mul_comm _ _

/-- The array after the run is the reference's. -/
theorem final (c : Dev nD) : (dats m 0 c).arrAt 2 (cfgs 0).N = Cert.WBranchRefIdeal.Read.val_main_v6 (F := Ideal) (inp m c) (cts m c) := by
  refine (dats m 0 c).arrAt_eq_of_covers 2 _ (by decide +kernel) fun t hf y => ?_
  have h : t.val % 16 = 15 := (flush0_2 t).mp hf
  blk_simp
  rw [after0_2, out_last m c t h]
  refine (acc_last m c t h y).trans ?_
  refine Eq.trans ?_ (ref_eq m c ((win0_2.blk t).view.emb y)).symm
  have e0 : (win0_2.blk t).view.emb y 0 = y 0 := Fin.ext (by blk_simp [idx t])
  have e1 : (win0_2.blk t).view.emb y 1 = y 1 := Fin.ext (by blk_simp [idx t])
  rw [e0, e1]
  rfl

end Kernel

/-- The reference's result. -/
def res (m' : (ℓ : Loc Cert.WBranchRefIdeal.nD Cert.WBranchRefIdeal.τ Cert.WBranchRefIdeal.sig) → Buf (Elt Ideal) ℓ) (c : Dev Cert.WBranchRefIdeal.nD) : Buf (Elt Ideal) ((c.tc : Thread Cert.WBranchRefIdeal.nD Cert.WBranchRefIdeal.τ).loc Cert.WBranchRefIdeal.main_v6) :=
  Cert.WBranchRefIdeal.Read.val_main_v6 (F := Ideal) (m' ((c.tc : Thread Cert.WBranchRefIdeal.nD Cert.WBranchRefIdeal.τ).loc Cert.WBranchRefIdeal.main_arg0)) (m' ((c.tc : Thread Cert.WBranchRefIdeal.nD Cert.WBranchRefIdeal.τ).loc Cert.WBranchRefIdeal.main_arg1))

/-- The reference's run ends with it. -/
theorem ref_run (m' : (ℓ : Loc Cert.WBranchRefIdeal.nD Cert.WBranchRefIdeal.τ Cert.WBranchRefIdeal.sig) → Buf (Elt Ideal) ℓ) (g : Dev Cert.WBranchRefIdeal.nD → PrngReg) :
    θ_run Cert.WBranchRefIdeal.defs (onTc (τ := Cert.WBranchRefIdeal.τ) (Cert.WBranchRefIdeal.main (F := Ideal))) ⟨m', fun _ => 0, g⟩ (fun r => ∀ c : Dev Cert.WBranchRefIdeal.nD,
      r.2.mem ((c.tc : Thread Cert.WBranchRefIdeal.nD Cert.WBranchRefIdeal.τ).loc Cert.WBranchRefIdeal.main_v6) = res m' c
      ∧ r.2.mem ((c.tc : Thread Cert.WBranchRefIdeal.nD Cert.WBranchRefIdeal.τ).loc Cert.WBranchRefIdeal.main_arg0) = m' ((c.tc : Thread Cert.WBranchRefIdeal.nD Cert.WBranchRefIdeal.τ).loc Cert.WBranchRefIdeal.main_arg0)
      ∧ r.2.mem ((c.tc : Thread Cert.WBranchRefIdeal.nD Cert.WBranchRefIdeal.τ).loc Cert.WBranchRefIdeal.main_arg1) = m' ((c.tc : Thread Cert.WBranchRefIdeal.nD Cert.WBranchRefIdeal.τ).loc Cert.WBranchRefIdeal.main_arg1)) :=
  (θ_run Cert.WBranchRefIdeal.defs _ _).mono (fun _ h c => ⟨(h c).1.trans (Cert.WBranchRefIdeal.Read.val_main_v6_eq _ _), (h c).2⟩) (Cert.WBranchRefIdeal.Value.run m' g)

/-- It is the kernel's array where the arguments agree. -/
theorem out (m : (ℓ : Loc Cert.WBranchIdeal.nD Cert.WBranchIdeal.τ Cert.WBranchIdeal.sig) → Buf (Elt Ideal) ℓ) (m' : (ℓ : Loc Cert.WBranchRefIdeal.nD Cert.WBranchRefIdeal.τ Cert.WBranchRefIdeal.sig) → Buf (Elt Ideal) ℓ) (c : Dev Cert.WBranchRefIdeal.nD)
    (h0 : m' ((c.tc : Thread Cert.WBranchRefIdeal.nD Cert.WBranchRefIdeal.τ).loc Cert.WBranchRefIdeal.main_arg0) = m ((c.tc : Thread Cert.WBranchIdeal.nD Cert.WBranchIdeal.τ).loc Cert.WBranchIdeal.main_arg0))
    (h1 : m' ((c.tc : Thread Cert.WBranchRefIdeal.nD Cert.WBranchRefIdeal.τ).loc Cert.WBranchRefIdeal.main_arg1) = m ((c.tc : Thread Cert.WBranchIdeal.nD Cert.WBranchIdeal.τ).loc Cert.WBranchIdeal.main_arg1)) :
    res m' c = (Cert.WBranchIdeal.Gen.dats m 0 c).arrAt 2 (Cert.WBranchIdeal.cfgs 0).N := by
  unfold res
  rw [h0, h1]
  exact (final m c).symm

/-- The value claim. -/
theorem algebraic : Cert.algebraic_WBranchIdeal_WBranchRefIdeal := by
  pair_intro
  · run_from Cert.WBranchIdeal.Gen.run_main m g
  · refine θ_run_mono (ref_run m' g') ?_
    intro r hr c
    exact ⟨(hr c).1.trans (out m m' c (hagree c).1 (hagree c).2), (hr c).2⟩

/-- The reference runs, keeps its arguments, and leaves every counter at zero. -/
theorem frame_ref : Cert.quiescent_WBranchRefIdeal := by
  intro m g _
  refine (θ_run_and (?_ : θ_run _ _ _ (fun r => ∀ c : Dev Cert.WBranchRefIdeal.nD, _)) (?_ : θ_run _ _ _ (fun r => r.2.sem = fun _ => 0)))
  · run_from Cert.WBranchRefIdeal.Value.run m g
  · exact (θ_run Cert.WBranchRefIdeal.defs _ _).mono (fun r _ => sem_eq_zero_of_no_sems (by decide) r.2) (Cert.WBranchRefIdeal.Value.run m g)

end Cert.WBranchClaim

end
-- ==== Proof.WQkvClaim.lean ====
/- The weight gradient of the input projection's q, k and v columns: the call's array is the reference's product over all rows. -/
module

public import proofs.«01_k».proof.Defs
public import proofs.«01_k».proof.Proof.Gen.WQkvIdeal.Frame
public import proofs.«01_k».proof.Proof.Gen.WQkvRefIdeal.Run
public import proofs.«01_k».proof.Proof.Gen.WQkvRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WQkvClaim

open Idealize.ShloMosaic Idealize.ShloMosaic.TcCoe Idealize.SL.Sem
open Idealize.ShloMosaic.Pipeline (Dat)

section Kernel

open Cert.WQkvIdeal Cert.WQkvIdeal.Gen

variable (m : (ℓ : Loc nD τ sig) → Buf (Elt Ideal) ℓ)

/-- Every window's block index at grid point `t`. -/
theorem idx : ∀ t : Fin cfg0.N,
    win0_0.index t = ![t.val % 13, 0] ∧ win0_1.index t = ![t.val % 13, 0] ∧ win0_2.index t = ![0, 0] :=
  (by decide +kernel : ∀ t : Fin grid0.N, _)

/-- The two factors, as the launch has them. -/
abbrev inp (c : Dev nD) : FVec Ideal S16640x1024 .bf16 := m ((c : Thread nD τ).loc main_arg0)
abbrev cts (c : Dev nD) : FVec Ideal S16640x3072 .bf16 := m ((c : Thread nD τ).loc main_arg1)

/-- The accumulator after point `n`. -/
def acc (c : Dev nD) (n : ℕ) (h : n < cfg0.N) : Vec Ideal S1024x3072 .f32 := (outsAt0 m c n h).2

/-- A point's addend to the accumulator: the product over its own rows. -/
def part (c : Dev nD) (t : Fin cfg0.N) (a : Fin 1024) (b : Fin 3072) : EReal :=
  ∑ k : Fin 1280, inp m c (ix2 (⟨t.val % 13 * 1280 + k, by omega⟩ : Fin 16640) a) * cts m c (ix2 (⟨t.val % 13 * 1280 + k, by omega⟩ : Fin 16640) b)

/-- At a block's first point the accumulator is the point's addend. -/
theorem acc_reset (c : Dev nD) (t : Fin cfg0.N) (h0 : t.val % 13 = 0) (y) : acc m c t.val t.isLt y = 0 + part m c t (y 0) (y 1) := by
  unfold acc part
  rw [outsAt0_A m c t h0 (by omega)]
  frame_out
  pointwise [k0_pay2, k0_pay1]
  blk_point [iblk, V, idx t]

/-- At every other it is what it was and the point's addend. -/
theorem acc_step (c : Dev nD) (t : Fin cfg0.N) (h0 : ¬t.val % 13 = 0) (y) :
    acc m c t.val t.isLt y = acc m c (t.val - 1) (Nat.lt_of_le_of_lt (Nat.sub_le _ _) t.isLt) y + part m c t (y 0) (y 1) := by
  unfold acc part
  by_cases h1 : t.val % 13 = 12
  · rw [outsAt0_C m c t h0 h1]
    frame_out
    rw [read_unread_whole]
    pointwise [k0_pay2]
    blk_point [iblk, V, idx t]
  · rw [outsAt0_B m c t h0 h1]
    frame_out
    rw [read_unread_whole]
    pointwise [k0_pay2]
    blk_point [iblk, V, idx t]

/-- A block's entry of the product over all rows. -/
def total (c : Dev nD) (t : Fin cfg0.N) (a : Fin 1024) (b : Fin 3072) : EReal :=
  ∑ i : Fin 16640, inp m c (ix2 i a) * cts m c (ix2 i b)

/-- At a block's last point the accumulator is it. -/
theorem acc_last (c : Dev nD) (t : Fin cfg0.N) (h : t.val % 13 = 12) (y) : acc m c t.val t.isLt y = total m c t (y 0) (y 1) := by
  unfold total
  rw [Pipeline.eq_sum_fin_of_reset_step_apply_of_flush (acc m c) 13 (fun _ => 0) (fun t y => part m c t (y 0) (y 1)) (acc_reset m c) (acc_step m c) t h y,
    Fin.sum_univ_tiles 13 1280 rfl]
  refine (zero_add _).trans (Fin.sum_fin_congr fun s => Fin.sum_fin_congr fun k => ?_)
  have hs := s.isLt
  have e : (13 * (t.val / 13) + s.val) % 13 = s.val := by omega
  have d : (13 * (t.val / 13) + s.val) / 13 = t.val / 13 := by omega
  congr 1
  · refine congrArg (inp m c) (congrArg₂ ix2 (Fin.ext ?_) rfl)
    · show (13 * (t.val / 13) + s.val) % 13 * 1280 + k.val = s.val * 1280 + k.val
      rw [e]
  · refine congrArg (cts m c) (congrArg₂ ix2 (Fin.ext ?_) rfl)
    · show (13 * (t.val / 13) + s.val) % 13 * 1280 + k.val = s.val * 1280 + k.val
      rw [e]

/-- The block that its last point stores is the accumulator. -/
theorem out_last (c : Dev nD) (t : Fin cfg0.N) (h : t.val % 13 = 12) (y : S1024x3072.Idx) :
    (outsAt0 m c t.val t.isLt).1 y = acc m c t.val t.isLt y := by
  unfold acc
  rw [outsAt0_C m c t (by omega) h]
  frame_out
  pointwise [k0_pay3]

/-- The reference's entry is the product over all rows. -/
theorem ref_eq (c : Dev nD) (z : S1024x3072.Idx) :
    Cert.WQkvRefIdeal.Read.val_main_v6 (F := Ideal) (inp m c) (cts m c) z = ∑ i : Fin 16640, inp m c (ix2 i (z 0)) * cts m c (ix2 i (z 1)) := by
  open Cert.WQkvRefIdeal Cert.WQkvRefIdeal.Gen Cert.WQkvRefIdeal.Read in pointwise [val_main_v6, val_main_v5, val_main_v4, val_main_v3, val_main_v1]
  exact Finset.sum_congr rfl fun _ _ => mul_comm _ _

/-- The array after the run is the reference's. -/
theorem final (c : Dev nD) : (dats m 0 c).arrAt 2 (cfgs 0).N = Cert.WQkvRefIdeal.Read.val_main_v6 (F := Ideal) (inp m c) (cts m c) := by
  refine (dats m 0 c).arrAt_eq_of_covers 2 _ (by decide +kernel) fun t hf y => ?_
  have h : t.val % 13 = 12 := (flush0_2 t).mp hf
  blk_simp
  rw [after0_2, out_last m c t h]
  refine (acc_last m c t h y).trans ?_
  refine Eq.trans ?_ (ref_eq m c ((win0_2.blk t).view.emb y)).symm
  have e0 : (win0_2.blk t).view.emb y 0 = y 0 := Fin.ext (by blk_simp [idx t])
  have e1 : (win0_2.blk t).view.emb y 1 = y 1 := Fin.ext (by blk_simp [idx t])
  rw [e0, e1]
  rfl

end Kernel

/-- The reference's result. -/
def res (m' : (ℓ : Loc Cert.WQkvRefIdeal.nD Cert.WQkvRefIdeal.τ Cert.WQkvRefIdeal.sig) → Buf (Elt Ideal) ℓ) (c : Dev Cert.WQkvRefIdeal.nD) : Buf (Elt Ideal) ((c.tc : Thread Cert.WQkvRefIdeal.nD Cert.WQkvRefIdeal.τ).loc Cert.WQkvRefIdeal.main_v6) :=
  Cert.WQkvRefIdeal.Read.val_main_v6 (F := Ideal) (m' ((c.tc : Thread Cert.WQkvRefIdeal.nD Cert.WQkvRefIdeal.τ).loc Cert.WQkvRefIdeal.main_arg0)) (m' ((c.tc : Thread Cert.WQkvRefIdeal.nD Cert.WQkvRefIdeal.τ).loc Cert.WQkvRefIdeal.main_arg1))

/-- The reference's run ends with it. -/
theorem ref_run (m' : (ℓ : Loc Cert.WQkvRefIdeal.nD Cert.WQkvRefIdeal.τ Cert.WQkvRefIdeal.sig) → Buf (Elt Ideal) ℓ) (g : Dev Cert.WQkvRefIdeal.nD → PrngReg) :
    θ_run Cert.WQkvRefIdeal.defs (onTc (τ := Cert.WQkvRefIdeal.τ) (Cert.WQkvRefIdeal.main (F := Ideal))) ⟨m', fun _ => 0, g⟩ (fun r => ∀ c : Dev Cert.WQkvRefIdeal.nD,
      r.2.mem ((c.tc : Thread Cert.WQkvRefIdeal.nD Cert.WQkvRefIdeal.τ).loc Cert.WQkvRefIdeal.main_v6) = res m' c
      ∧ r.2.mem ((c.tc : Thread Cert.WQkvRefIdeal.nD Cert.WQkvRefIdeal.τ).loc Cert.WQkvRefIdeal.main_arg0) = m' ((c.tc : Thread Cert.WQkvRefIdeal.nD Cert.WQkvRefIdeal.τ).loc Cert.WQkvRefIdeal.main_arg0)
      ∧ r.2.mem ((c.tc : Thread Cert.WQkvRefIdeal.nD Cert.WQkvRefIdeal.τ).loc Cert.WQkvRefIdeal.main_arg1) = m' ((c.tc : Thread Cert.WQkvRefIdeal.nD Cert.WQkvRefIdeal.τ).loc Cert.WQkvRefIdeal.main_arg1)) :=
  (θ_run Cert.WQkvRefIdeal.defs _ _).mono (fun _ h c => ⟨(h c).1.trans (Cert.WQkvRefIdeal.Read.val_main_v6_eq _ _), (h c).2⟩) (Cert.WQkvRefIdeal.Value.run m' g)

/-- It is the kernel's array where the arguments agree. -/
theorem out (m : (ℓ : Loc Cert.WQkvIdeal.nD Cert.WQkvIdeal.τ Cert.WQkvIdeal.sig) → Buf (Elt Ideal) ℓ) (m' : (ℓ : Loc Cert.WQkvRefIdeal.nD Cert.WQkvRefIdeal.τ Cert.WQkvRefIdeal.sig) → Buf (Elt Ideal) ℓ) (c : Dev Cert.WQkvRefIdeal.nD)
    (h0 : m' ((c.tc : Thread Cert.WQkvRefIdeal.nD Cert.WQkvRefIdeal.τ).loc Cert.WQkvRefIdeal.main_arg0) = m ((c.tc : Thread Cert.WQkvIdeal.nD Cert.WQkvIdeal.τ).loc Cert.WQkvIdeal.main_arg0))
    (h1 : m' ((c.tc : Thread Cert.WQkvRefIdeal.nD Cert.WQkvRefIdeal.τ).loc Cert.WQkvRefIdeal.main_arg1) = m ((c.tc : Thread Cert.WQkvIdeal.nD Cert.WQkvIdeal.τ).loc Cert.WQkvIdeal.main_arg1)) :
    res m' c = (Cert.WQkvIdeal.Gen.dats m 0 c).arrAt 2 (Cert.WQkvIdeal.cfgs 0).N := by
  unfold res
  rw [h0, h1]
  exact (final m c).symm

/-- The value claim. -/
theorem algebraic : Cert.algebraic_WQkvIdeal_WQkvRefIdeal := by
  pair_intro
  · run_from Cert.WQkvIdeal.Gen.run_main m g
  · refine θ_run_mono (ref_run m' g') ?_
    intro r hr c
    exact ⟨(hr c).1.trans (out m m' c (hagree c).1 (hagree c).2), (hr c).2⟩

/-- The reference runs, keeps its arguments, and leaves every counter at zero. -/
theorem frame_ref : Cert.quiescent_WQkvRefIdeal := by
  intro m g _
  refine (θ_run_and (?_ : θ_run _ _ _ (fun r => ∀ c : Dev Cert.WQkvRefIdeal.nD, _)) (?_ : θ_run _ _ _ (fun r => r.2.sem = fun _ => 0)))
  · run_from Cert.WQkvRefIdeal.Value.run m g
  · exact (θ_run Cert.WQkvRefIdeal.defs _ _).mono (fun r _ => sem_eq_zero_of_no_sems (by decide) r.2) (Cert.WQkvRefIdeal.Value.run m g)

end Cert.WQkvClaim

end
-- ==== Proof.WRestClaim.lean ====
/- The weight gradient of the input projection's other columns: the call's array is the reference's product over all rows. -/
module

public import proofs.«01_k».proof.Defs
public import proofs.«01_k».proof.Proof.Gen.WRestIdeal.Frame
public import proofs.«01_k».proof.Proof.Gen.WRestRefIdeal.Run
public import proofs.«01_k».proof.Proof.Gen.WRestRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WRestClaim

open Idealize.ShloMosaic Idealize.ShloMosaic.TcCoe Idealize.SL.Sem
open Idealize.ShloMosaic.Pipeline (Dat)

section Kernel

open Cert.WRestIdeal Cert.WRestIdeal.Gen

variable (m : (ℓ : Loc nD τ sig) → Buf (Elt Ideal) ℓ)

/-- Every window's block index at grid point `t`. -/
theorem idx : ∀ t : Fin cfg0.N,
    win0_0.index t = ![t.val % 16, 0] ∧ win0_1.index t = ![t.val % 16, t.val / 16] ∧ win0_2.index t = ![0, t.val / 16] :=
  (by decide +kernel : ∀ t : Fin grid0.N, _)

/-- A point's block of the result is one of two. -/
theorem tile_lt (t : Fin cfg0.N) : t.val / 16 < 2 := by have := lt_of_lt_of_eq t.isLt N_0; omega

/-- The two factors, as the launch has them. -/
abbrev inp (c : Dev nD) : FVec Ideal S16640x1024 .bf16 := m ((c : Thread nD τ).loc main_arg0)
abbrev cts (c : Dev nD) : FVec Ideal S16384x5120 .bf16 := m ((c : Thread nD τ).loc main_arg1)

/-- The accumulator after point `n`. -/
def acc (c : Dev nD) (n : ℕ) (h : n < cfg0.N) : Vec Ideal S1024x2560 .f32 := (outsAt0 m c n h).2

/-- A point's addend to the accumulator: the product over its own rows. -/
def part (c : Dev nD) (t : Fin cfg0.N) (a : Fin 1024) (b : Fin 2560) : EReal :=
  ∑ k : Fin 1024, inp m c (ix2 (⟨t.val % 16 * 1024 + k, by omega⟩ : Fin 16640) a) * cts m c (ix2 (⟨t.val % 16 * 1024 + k, by omega⟩ : Fin 16384) (⟨t.val / 16 * 2560 + b, by have := tile_lt t; omega⟩ : Fin 5120))

/-- The first operand's block is wholly fetched at every point: an entry of it is the array's. -/
theorem a_at (c : Dev nD) (t : Fin cfg0.N) (i k : Fin 1024) :
    X0_0 m c t (ix2 i k) = inp m c (ix2 (⟨t.val % 16 * 1024 + i, by omega⟩ : Fin 16640) k) := by
  unfold X0_0 Pipeline.Window.fill
  rw [dif_pos (moved0_0 t _)]
  blk_point [iblk, V, idx t]

/-- At a block's first point the accumulator is the point's addend. -/
theorem acc_reset (c : Dev nD) (t : Fin cfg0.N) (h0 : t.val % 16 = 0) (y) : acc m c t.val t.isLt y = 0 + part m c t (y 0) (y 1) := by
  unfold acc part
  rw [outsAt0_A m c t h0 (by omega)]
  frame_out
  pointwise [k0_pay2, k0_pay1]
  blk_point [iblk, V, idx t]
  exact a_at m c t _ _

/-- At every other it is what it was and the point's addend. -/
theorem acc_step (c : Dev nD) (t : Fin cfg0.N) (h0 : ¬t.val % 16 = 0) (y) :
    acc m c t.val t.isLt y = acc m c (t.val - 1) (Nat.lt_of_le_of_lt (Nat.sub_le _ _) t.isLt) y + part m c t (y 0) (y 1) := by
  unfold acc part
  by_cases h1 : t.val % 16 = 15
  · rw [outsAt0_C m c t h0 h1]
    frame_out
    rw [read_unread_whole]
    pointwise [k0_pay2]
    blk_point [iblk, V, idx t]
    exact a_at m c t _ _
  · rw [outsAt0_B m c t h0 h1]
    frame_out
    rw [read_unread_whole]
    pointwise [k0_pay2]
    blk_point [iblk, V, idx t]
    exact a_at m c t _ _

/-- A block's entry of the product over all rows. -/
def total (c : Dev nD) (t : Fin cfg0.N) (a : Fin 1024) (b : Fin 2560) : EReal :=
  ∑ i : Fin 16384, inp m c (ix2 (⟨i, by omega⟩ : Fin 16640) a) * cts m c (ix2 i (⟨t.val / 16 * 2560 + b, by have := tile_lt t; omega⟩ : Fin 5120))

/-- At a block's last point the accumulator is it. -/
theorem acc_last (c : Dev nD) (t : Fin cfg0.N) (h : t.val % 16 = 15) (y) : acc m c t.val t.isLt y = total m c t (y 0) (y 1) := by
  unfold total
  rw [Pipeline.eq_sum_fin_of_reset_step_apply_of_flush (acc m c) 16 (fun _ => 0) (fun t y => part m c t (y 0) (y 1)) (acc_reset m c) (acc_step m c) t h y,
    Fin.sum_univ_tiles 16 1024 rfl]
  refine (zero_add _).trans (Fin.sum_fin_congr fun s => Fin.sum_fin_congr fun k => ?_)
  have hs := s.isLt
  have e : (16 * (t.val / 16) + s.val) % 16 = s.val := by omega
  have d : (16 * (t.val / 16) + s.val) / 16 = t.val / 16 := by omega
  congr 1
  · refine congrArg (inp m c) (congrArg₂ ix2 (Fin.ext ?_) rfl)
    · show (16 * (t.val / 16) + s.val) % 16 * 1024 + k.val = s.val * 1024 + k.val
      rw [e]
  · refine congrArg (cts m c) (congrArg₂ ix2 (Fin.ext ?_) (Fin.ext ?_))
    · show (16 * (t.val / 16) + s.val) % 16 * 1024 + k.val = s.val * 1024 + k.val
      rw [e]
    · show (16 * (t.val / 16) + s.val) / 16 * 2560 + (y 1).val = t.val / 16 * 2560 + (y 1).val
      rw [d]

/-- The block that its last point stores is the accumulator. -/
theorem out_last (c : Dev nD) (t : Fin cfg0.N) (h : t.val % 16 = 15) (y : S1024x2560.Idx) :
    (outsAt0 m c t.val t.isLt).1 y = acc m c t.val t.isLt y := by
  unfold acc
  rw [outsAt0_C m c t (by omega) h]
  frame_out
  pointwise [k0_pay3]

/-- The reference's entry is the product over all rows. -/
theorem ref_eq (c : Dev nD) (z : S1024x5120.Idx) :
    Cert.WRestRefIdeal.Read.val_main_v7 (F := Ideal) (inp m c) (cts m c) z = ∑ i : Fin 16384, inp m c (ix2 (⟨i, by omega⟩ : Fin 16640) (z 0)) * cts m c (ix2 i (z 1)) := by
  open Cert.WRestRefIdeal Cert.WRestRefIdeal.Gen Cert.WRestRefIdeal.Read in pointwise [val_main_v7, val_main_v6, val_main_v5, val_main_v4, val_main_v2, val_main_v1]
  exact Finset.sum_congr rfl fun _ _ => mul_comm _ _

/-- The array after the run is the reference's. -/
theorem final (c : Dev nD) : (dats m 0 c).arrAt 2 (cfgs 0).N = Cert.WRestRefIdeal.Read.val_main_v7 (F := Ideal) (inp m c) (cts m c) := by
  refine (dats m 0 c).arrAt_eq_of_covers 2 _ (by decide +kernel) fun t hf y => ?_
  have h : t.val % 16 = 15 := (flush0_2 t).mp hf
  blk_simp
  rw [after0_2, out_last m c t h]
  refine (acc_last m c t h y).trans ?_
  refine Eq.trans ?_ (ref_eq m c ((win0_2.blk t).view.emb y)).symm
  have e0 : (win0_2.blk t).view.emb y 0 = y 0 := Fin.ext (by blk_simp [idx t])
  have e1 : (win0_2.blk t).view.emb y 1 = (⟨t.val / 16 * 2560 + (y 1).val, by have := tile_lt t; have : (y 1).val < 2560 := (y 1).isLt; omega⟩ : Fin 5120) := Fin.ext (by blk_simp [idx t])
  rw [e0, e1]
  rfl

end Kernel

/-- The reference's result. -/
def res (m' : (ℓ : Loc Cert.WRestRefIdeal.nD Cert.WRestRefIdeal.τ Cert.WRestRefIdeal.sig) → Buf (Elt Ideal) ℓ) (c : Dev Cert.WRestRefIdeal.nD) : Buf (Elt Ideal) ((c.tc : Thread Cert.WRestRefIdeal.nD Cert.WRestRefIdeal.τ).loc Cert.WRestRefIdeal.main_v7) :=
  Cert.WRestRefIdeal.Read.val_main_v7 (F := Ideal) (m' ((c.tc : Thread Cert.WRestRefIdeal.nD Cert.WRestRefIdeal.τ).loc Cert.WRestRefIdeal.main_arg0)) (m' ((c.tc : Thread Cert.WRestRefIdeal.nD Cert.WRestRefIdeal.τ).loc Cert.WRestRefIdeal.main_arg1))

/-- The reference's run ends with it. -/
theorem ref_run (m' : (ℓ : Loc Cert.WRestRefIdeal.nD Cert.WRestRefIdeal.τ Cert.WRestRefIdeal.sig) → Buf (Elt Ideal) ℓ) (g : Dev Cert.WRestRefIdeal.nD → PrngReg) :
    θ_run Cert.WRestRefIdeal.defs (onTc (τ := Cert.WRestRefIdeal.τ) (Cert.WRestRefIdeal.main (F := Ideal))) ⟨m', fun _ => 0, g⟩ (fun r => ∀ c : Dev Cert.WRestRefIdeal.nD,
      r.2.mem ((c.tc : Thread Cert.WRestRefIdeal.nD Cert.WRestRefIdeal.τ).loc Cert.WRestRefIdeal.main_v7) = res m' c
      ∧ r.2.mem ((c.tc : Thread Cert.WRestRefIdeal.nD Cert.WRestRefIdeal.τ).loc Cert.WRestRefIdeal.main_arg0) = m' ((c.tc : Thread Cert.WRestRefIdeal.nD Cert.WRestRefIdeal.τ).loc Cert.WRestRefIdeal.main_arg0)
      ∧ r.2.mem ((c.tc : Thread Cert.WRestRefIdeal.nD Cert.WRestRefIdeal.τ).loc Cert.WRestRefIdeal.main_arg1) = m' ((c.tc : Thread Cert.WRestRefIdeal.nD Cert.WRestRefIdeal.τ).loc Cert.WRestRefIdeal.main_arg1)) :=
  (θ_run Cert.WRestRefIdeal.defs _ _).mono (fun _ h c => ⟨(h c).1.trans (Cert.WRestRefIdeal.Read.val_main_v7_eq _ _), (h c).2⟩) (Cert.WRestRefIdeal.Value.run m' g)

/-- It is the kernel's array where the arguments agree. -/
theorem out (m : (ℓ : Loc Cert.WRestIdeal.nD Cert.WRestIdeal.τ Cert.WRestIdeal.sig) → Buf (Elt Ideal) ℓ) (m' : (ℓ : Loc Cert.WRestRefIdeal.nD Cert.WRestRefIdeal.τ Cert.WRestRefIdeal.sig) → Buf (Elt Ideal) ℓ) (c : Dev Cert.WRestRefIdeal.nD)
    (h0 : m' ((c.tc : Thread Cert.WRestRefIdeal.nD Cert.WRestRefIdeal.τ).loc Cert.WRestRefIdeal.main_arg0) = m ((c.tc : Thread Cert.WRestIdeal.nD Cert.WRestIdeal.τ).loc Cert.WRestIdeal.main_arg0))
    (h1 : m' ((c.tc : Thread Cert.WRestRefIdeal.nD Cert.WRestRefIdeal.τ).loc Cert.WRestRefIdeal.main_arg1) = m ((c.tc : Thread Cert.WRestIdeal.nD Cert.WRestIdeal.τ).loc Cert.WRestIdeal.main_arg1)) :
    res m' c = (Cert.WRestIdeal.Gen.dats m 0 c).arrAt 2 (Cert.WRestIdeal.cfgs 0).N := by
  unfold res
  rw [h0, h1]
  exact (final m c).symm

/-- The value claim. -/
theorem algebraic : Cert.algebraic_WRestIdeal_WRestRefIdeal := by
  pair_intro
  · run_from Cert.WRestIdeal.Gen.run_main m g
  · refine θ_run_mono (ref_run m' g') ?_
    intro r hr c
    exact ⟨(hr c).1.trans (out m m' c (hagree c).1 (hagree c).2), (hr c).2⟩

/-- The reference runs, keeps its arguments, and leaves every counter at zero. -/
theorem frame_ref : Cert.quiescent_WRestRefIdeal := by
  intro m g _
  refine (θ_run_and (?_ : θ_run _ _ _ (fun r => ∀ c : Dev Cert.WRestRefIdeal.nD, _)) (?_ : θ_run _ _ _ (fun r => r.2.sem = fun _ => 0)))
  · run_from Cert.WRestRefIdeal.Value.run m g
  · exact (θ_run Cert.WRestRefIdeal.defs _ _).mono (fun r _ => sem_eq_zero_of_no_sems (by decide) r.2) (Cert.WRestRefIdeal.Value.run m g)

end Cert.WRestClaim

end
-- ==== Proof.WInGateClaim.lean ====
/- The weight gradient of the input projection's gate columns: the call's array is the reference's product over all rows. -/
module

public import proofs.«01_k».proof.Defs
public import proofs.«01_k».proof.Proof.Gen.WInGateIdeal.Frame
public import proofs.«01_k».proof.Proof.Gen.WInGateRefIdeal.Run
public import proofs.«01_k».proof.Proof.Gen.WInGateRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WInGateClaim

open Idealize.ShloMosaic Idealize.ShloMosaic.TcCoe Idealize.SL.Sem
open Idealize.ShloMosaic.Pipeline (Dat)

section Kernel

open Cert.WInGateIdeal Cert.WInGateIdeal.Gen

variable (m : (ℓ : Loc nD τ sig) → Buf (Elt Ideal) ℓ)

/-- Every window's block index at grid point `t`. -/
theorem idx : ∀ t : Fin cfg0.N,
    win0_0.index t = ![t.val % 13, 0] ∧ win0_1.index t = ![t.val % 13, 0] ∧ win0_2.index t = ![0, 0] :=
  (by decide +kernel : ∀ t : Fin grid0.N, _)

/-- The two factors, as the launch has them. -/
abbrev inp (c : Dev nD) : FVec Ideal S16640x1024 .bf16 := m ((c : Thread nD τ).loc main_arg0)
abbrev cts (c : Dev nD) : FVec Ideal S16640x128 .bf16 := m ((c : Thread nD τ).loc main_arg1)

/-- The accumulator after point `n`. -/
def acc (c : Dev nD) (n : ℕ) (h : n < cfg0.N) : Vec Ideal S1024x128 .f32 := (outsAt0 m c n h).2

/-- A point's addend to the accumulator: the product over its own rows. -/
def part (c : Dev nD) (t : Fin cfg0.N) (a : Fin 1024) (b : Fin 128) : EReal :=
  ∑ k : Fin 1280, inp m c (ix2 (⟨t.val % 13 * 1280 + k, by omega⟩ : Fin 16640) a) * cts m c (ix2 (⟨t.val % 13 * 1280 + k, by omega⟩ : Fin 16640) b)

/-- At a block's first point the accumulator is the point's addend. -/
theorem acc_reset (c : Dev nD) (t : Fin cfg0.N) (h0 : t.val % 13 = 0) (y) : acc m c t.val t.isLt y = 0 + part m c t (y 0) (y 1) := by
  unfold acc part
  rw [outsAt0_A m c t h0 (by omega)]
  frame_out
  pointwise [k0_pay2, k0_pay1]
  blk_point [iblk, V, idx t]

/-- At every other it is what it was and the point's addend. -/
theorem acc_step (c : Dev nD) (t : Fin cfg0.N) (h0 : ¬t.val % 13 = 0) (y) :
    acc m c t.val t.isLt y = acc m c (t.val - 1) (Nat.lt_of_le_of_lt (Nat.sub_le _ _) t.isLt) y + part m c t (y 0) (y 1) := by
  unfold acc part
  by_cases h1 : t.val % 13 = 12
  · rw [outsAt0_C m c t h0 h1]
    frame_out
    rw [read_unread_whole]
    pointwise [k0_pay2]
    blk_point [iblk, V, idx t]
  · rw [outsAt0_B m c t h0 h1]
    frame_out
    rw [read_unread_whole]
    pointwise [k0_pay2]
    blk_point [iblk, V, idx t]

/-- A block's entry of the product over all rows. -/
def total (c : Dev nD) (t : Fin cfg0.N) (a : Fin 1024) (b : Fin 128) : EReal :=
  ∑ i : Fin 16640, inp m c (ix2 i a) * cts m c (ix2 i b)

/-- At a block's last point the accumulator is it. -/
theorem acc_last (c : Dev nD) (t : Fin cfg0.N) (h : t.val % 13 = 12) (y) : acc m c t.val t.isLt y = total m c t (y 0) (y 1) := by
  unfold total
  rw [Pipeline.eq_sum_fin_of_reset_step_apply_of_flush (acc m c) 13 (fun _ => 0) (fun t y => part m c t (y 0) (y 1)) (acc_reset m c) (acc_step m c) t h y,
    Fin.sum_univ_tiles 13 1280 rfl]
  refine (zero_add _).trans (Fin.sum_fin_congr fun s => Fin.sum_fin_congr fun k => ?_)
  have hs := s.isLt
  have e : (13 * (t.val / 13) + s.val) % 13 = s.val := by omega
  have d : (13 * (t.val / 13) + s.val) / 13 = t.val / 13 := by omega
  congr 1
  · refine congrArg (inp m c) (congrArg₂ ix2 (Fin.ext ?_) rfl)
    · show (13 * (t.val / 13) + s.val) % 13 * 1280 + k.val = s.val * 1280 + k.val
      rw [e]
  · refine congrArg (cts m c) (congrArg₂ ix2 (Fin.ext ?_) rfl)
    · show (13 * (t.val / 13) + s.val) % 13 * 1280 + k.val = s.val * 1280 + k.val
      rw [e]

/-- The block that its last point stores is the accumulator. -/
theorem out_last (c : Dev nD) (t : Fin cfg0.N) (h : t.val % 13 = 12) (y : S1024x128.Idx) :
    (outsAt0 m c t.val t.isLt).1 y = acc m c t.val t.isLt y := by
  unfold acc
  rw [outsAt0_C m c t (by omega) h]
  frame_out
  pointwise [k0_pay3]

/-- The reference's entry is the product over all rows. -/
theorem ref_eq (c : Dev nD) (z : S1024x128.Idx) :
    Cert.WInGateRefIdeal.Read.val_main_v6 (F := Ideal) (inp m c) (cts m c) z = ∑ i : Fin 16640, inp m c (ix2 i (z 0)) * cts m c (ix2 i (z 1)) := by
  open Cert.WInGateRefIdeal Cert.WInGateRefIdeal.Gen Cert.WInGateRefIdeal.Read in pointwise [val_main_v6, val_main_v5, val_main_v4, val_main_v3, val_main_v1]
  exact Finset.sum_congr rfl fun _ _ => mul_comm _ _

/-- The array after the run is the reference's. -/
theorem final (c : Dev nD) : (dats m 0 c).arrAt 2 (cfgs 0).N = Cert.WInGateRefIdeal.Read.val_main_v6 (F := Ideal) (inp m c) (cts m c) := by
  refine (dats m 0 c).arrAt_eq_of_covers 2 _ (by decide +kernel) fun t hf y => ?_
  have h : t.val % 13 = 12 := (flush0_2 t).mp hf
  blk_simp
  rw [after0_2, out_last m c t h]
  refine (acc_last m c t h y).trans ?_
  refine Eq.trans ?_ (ref_eq m c ((win0_2.blk t).view.emb y)).symm
  have e0 : (win0_2.blk t).view.emb y 0 = y 0 := Fin.ext (by blk_simp [idx t])
  have e1 : (win0_2.blk t).view.emb y 1 = y 1 := Fin.ext (by blk_simp [idx t])
  rw [e0, e1]
  rfl

end Kernel

/-- The reference's result. -/
def res (m' : (ℓ : Loc Cert.WInGateRefIdeal.nD Cert.WInGateRefIdeal.τ Cert.WInGateRefIdeal.sig) → Buf (Elt Ideal) ℓ) (c : Dev Cert.WInGateRefIdeal.nD) : Buf (Elt Ideal) ((c.tc : Thread Cert.WInGateRefIdeal.nD Cert.WInGateRefIdeal.τ).loc Cert.WInGateRefIdeal.main_v6) :=
  Cert.WInGateRefIdeal.Read.val_main_v6 (F := Ideal) (m' ((c.tc : Thread Cert.WInGateRefIdeal.nD Cert.WInGateRefIdeal.τ).loc Cert.WInGateRefIdeal.main_arg0)) (m' ((c.tc : Thread Cert.WInGateRefIdeal.nD Cert.WInGateRefIdeal.τ).loc Cert.WInGateRefIdeal.main_arg1))

/-- The reference's run ends with it. -/
theorem ref_run (m' : (ℓ : Loc Cert.WInGateRefIdeal.nD Cert.WInGateRefIdeal.τ Cert.WInGateRefIdeal.sig) → Buf (Elt Ideal) ℓ) (g : Dev Cert.WInGateRefIdeal.nD → PrngReg) :
    θ_run Cert.WInGateRefIdeal.defs (onTc (τ := Cert.WInGateRefIdeal.τ) (Cert.WInGateRefIdeal.main (F := Ideal))) ⟨m', fun _ => 0, g⟩ (fun r => ∀ c : Dev Cert.WInGateRefIdeal.nD,
      r.2.mem ((c.tc : Thread Cert.WInGateRefIdeal.nD Cert.WInGateRefIdeal.τ).loc Cert.WInGateRefIdeal.main_v6) = res m' c
      ∧ r.2.mem ((c.tc : Thread Cert.WInGateRefIdeal.nD Cert.WInGateRefIdeal.τ).loc Cert.WInGateRefIdeal.main_arg0) = m' ((c.tc : Thread Cert.WInGateRefIdeal.nD Cert.WInGateRefIdeal.τ).loc Cert.WInGateRefIdeal.main_arg0)
      ∧ r.2.mem ((c.tc : Thread Cert.WInGateRefIdeal.nD Cert.WInGateRefIdeal.τ).loc Cert.WInGateRefIdeal.main_arg1) = m' ((c.tc : Thread Cert.WInGateRefIdeal.nD Cert.WInGateRefIdeal.τ).loc Cert.WInGateRefIdeal.main_arg1)) :=
  (θ_run Cert.WInGateRefIdeal.defs _ _).mono (fun _ h c => ⟨(h c).1.trans (Cert.WInGateRefIdeal.Read.val_main_v6_eq _ _), (h c).2⟩) (Cert.WInGateRefIdeal.Value.run m' g)

/-- It is the kernel's array where the arguments agree. -/
theorem out (m : (ℓ : Loc Cert.WInGateIdeal.nD Cert.WInGateIdeal.τ Cert.WInGateIdeal.sig) → Buf (Elt Ideal) ℓ) (m' : (ℓ : Loc Cert.WInGateRefIdeal.nD Cert.WInGateRefIdeal.τ Cert.WInGateRefIdeal.sig) → Buf (Elt Ideal) ℓ) (c : Dev Cert.WInGateRefIdeal.nD)
    (h0 : m' ((c.tc : Thread Cert.WInGateRefIdeal.nD Cert.WInGateRefIdeal.τ).loc Cert.WInGateRefIdeal.main_arg0) = m ((c.tc : Thread Cert.WInGateIdeal.nD Cert.WInGateIdeal.τ).loc Cert.WInGateIdeal.main_arg0))
    (h1 : m' ((c.tc : Thread Cert.WInGateRefIdeal.nD Cert.WInGateRefIdeal.τ).loc Cert.WInGateRefIdeal.main_arg1) = m ((c.tc : Thread Cert.WInGateIdeal.nD Cert.WInGateIdeal.τ).loc Cert.WInGateIdeal.main_arg1)) :
    res m' c = (Cert.WInGateIdeal.Gen.dats m 0 c).arrAt 2 (Cert.WInGateIdeal.cfgs 0).N := by
  unfold res
  rw [h0, h1]
  exact (final m c).symm

/-- The value claim. -/
theorem algebraic : Cert.algebraic_WInGateIdeal_WInGateRefIdeal := by
  pair_intro
  · run_from Cert.WInGateIdeal.Gen.run_main m g
  · refine θ_run_mono (ref_run m' g') ?_
    intro r hr c
    exact ⟨(hr c).1.trans (out m m' c (hagree c).1 (hagree c).2), (hr c).2⟩

/-- The reference runs, keeps its arguments, and leaves every counter at zero. -/
theorem frame_ref : Cert.quiescent_WInGateRefIdeal := by
  intro m g _
  refine (θ_run_and (?_ : θ_run _ _ _ (fun r => ∀ c : Dev Cert.WInGateRefIdeal.nD, _)) (?_ : θ_run _ _ _ (fun r => r.2.sem = fun _ => 0)))
  · run_from Cert.WInGateRefIdeal.Value.run m g
  · exact (θ_run Cert.WInGateRefIdeal.defs _ _).mono (fun r _ => sem_eq_zero_of_no_sems (by decide) r.2) (Cert.WInGateRefIdeal.Value.run m g)

end Cert.WInGateClaim

end
-- ==== Proof.AdamUpClaim.lean ====
/- The optimiser's step of the up projection: its four result arrays are the reference's, and the claim. -/
module

public import proofs.«01_k».proof.Defs
public import proofs.«01_k».proof.Proof.Gen.AdamUpIdeal.Frame
public import proofs.«01_k».proof.Proof.Gen.AdamUpRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdamUpClaim

open Idealize.ShloMosaic Idealize.ShloMosaic.TcCoe Idealize.SL.Sem
open Idealize.ShloMosaic.Pipeline (Dat)
open Cert.AdamUpIdeal Cert.AdamUpIdeal.Gen

variable (m : (ℓ : Loc nD τ sig) → Buf (Elt Ideal) ℓ)

/-- Every window's block index at grid point `t`. -/
theorem idx : ∀ t : Fin cfg0.N,
    win0_0.index t = ![0, t.val, 0] ∧ win0_1.index t = ![0, t.val, 0] ∧ win0_2.index t = ![0, t.val, 0] ∧ win0_3.index t = ![0, t.val, 0]
    ∧ win0_5.index t = ![0, t.val, 0] ∧ win0_6.index t = ![0, t.val, 0] ∧ win0_7.index t = ![0, t.val, 0] ∧ win0_8.index t = ![0, t.val, 0] :=
  (by decide +kernel : ∀ t : Fin grid0.N, _)

/-- A slot's entry at grid point `t`, by its place in result 0's array. -/
theorem slot5 (c : Dev nD) (t : Fin cfg0.N) (k : Fin 8) (y : ((cfg0.win 5).xblock (cfg0.grid.coords t)).Idx) :
    iblk m c 1 t (ix3 k (y 1) (y 2)) = m ((c : Thread nD τ).loc main_arg1)
      (ix3 k (((View.whole main_v0_0).slice (win0_5.rect t)).emb y 1) (((View.whole main_v0_0).slice (win0_5.rect t)).emb y 2)) := by
  blk_point [iblk, V, idx t]

/-- The gradient after the run is the reference's: the sum over the slots. -/
theorem final5 (c : Dev nD) : (dats m 0 c).arrAt 5 (cfgs 0).N
    = Cert.AdamUpRefIdeal.Read.val_main_v2 (F := Ideal) (m ((c : Thread nD τ).loc main_arg1)) := by
  refine (dats m 0 c).arrAt_eq_of_covers 5 _ (by decide +kernel) fun t _ y => ?_
  rw [← Cert.AdamUpRefIdeal.Read.val_main_v2_eq]
  blk_simp
  rw [after0_5]; unfold_out out0_5; frame_out
  pointwise [k0_pay1, k0_pay2, k0_pay3, k0_pay4, k0_pay5, k0_pay6, k0_pay7, k0_pay8, k0_pay9, k0_pay10, k0_pay11]
  simp only [Fin.sum_univ_eight, slot5]

/-- A slot's entry at grid point `t`, by its place in result 1's array. -/
theorem slot6 (c : Dev nD) (t : Fin cfg0.N) (k : Fin 8) (y : ((cfg0.win 6).xblock (cfg0.grid.coords t)).Idx) :
    iblk m c 1 t (ix3 k (y 1) (y 2)) = m ((c : Thread nD τ).loc main_arg1)
      (ix3 k (((View.whole main_v0_1).slice (win0_6.rect t)).emb y 1) (((View.whole main_v0_1).slice (win0_6.rect t)).emb y 2)) := by
  blk_point [iblk, V, idx t]

/-- The other arguments' entries at grid point `t`, by their place in result 1's array. -/
theorem own6 (c : Dev nD) (t : Fin cfg0.N) (y : ((cfg0.win 6).xblock (cfg0.grid.coords t)).Idx) :
    iblk m c 0 t y = m ((c : Thread nD τ).loc main_arg0) (((cfg0.win 6).blk t).view.emb y)
    ∧ iblk m c 2 t y = m ((c : Thread nD τ).loc main_arg2) (((cfg0.win 6).blk t).view.emb y)
    ∧ iblk m c 3 t y = m ((c : Thread nD τ).loc main_arg3) (((cfg0.win 6).blk t).view.emb y) :=
  ⟨rfl, rfl, rfl⟩

/-- The weight's change after the run is the reference's. -/
theorem final6 (c : Dev nD) : (dats m 0 c).arrAt 6 (cfgs 0).N
    = Cert.AdamUpRefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [← Cert.AdamUpRefIdeal.Read.val_main_v26_eq]
  blk_simp
  rw [after0_6]; unfold_out out0_6; frame_out
  pointwise [k0_pay1, k0_pay2, k0_pay3, k0_pay4, k0_pay5, k0_pay6, k0_pay7, k0_pay8, k0_pay9, k0_pay10, k0_pay11]
  simp only [Fin.sum_univ_eight, slot6, own6]

/-- A slot's entry at grid point `t`, by its place in result 2's array. -/
theorem slot7 (c : Dev nD) (t : Fin cfg0.N) (k : Fin 8) (y : ((cfg0.win 7).xblock (cfg0.grid.coords t)).Idx) :
    iblk m c 1 t (ix3 k (y 1) (y 2)) = m ((c : Thread nD τ).loc main_arg1)
      (ix3 k (((View.whole main_v0_2).slice (win0_7.rect t)).emb y 1) (((View.whole main_v0_2).slice (win0_7.rect t)).emb y 2)) := by
  blk_point [iblk, V, idx t]

/-- The other arguments' entries at grid point `t`, by their place in result 2's array. -/
theorem own7 (c : Dev nD) (t : Fin cfg0.N) (y : ((cfg0.win 7).xblock (cfg0.grid.coords t)).Idx) :
    iblk m c 2 t y = m ((c : Thread nD τ).loc main_arg2) (((cfg0.win 7).blk t).view.emb y) :=
  rfl

/-- The first moment after the run is the reference's. -/
theorem final7 (c : Dev nD) : (dats m 0 c).arrAt 7 (cfgs 0).N
    = Cert.AdamUpRefIdeal.Read.val_main_v7 (F := Ideal) (m ((c : Thread nD τ).loc main_arg1)) (m ((c : Thread nD τ).loc main_arg2)) := by
  refine (dats m 0 c).arrAt_eq_of_covers 7 _ (by decide +kernel) fun t _ y => ?_
  rw [← Cert.AdamUpRefIdeal.Read.val_main_v7_eq]
  blk_simp
  rw [after0_7]; unfold_out out0_7; frame_out
  pointwise [k0_pay1, k0_pay2, k0_pay3, k0_pay4, k0_pay5, k0_pay6, k0_pay7, k0_pay8, k0_pay9, k0_pay10, k0_pay11]
  simp only [Fin.sum_univ_eight, slot7, own7]

/-- A slot's entry at grid point `t`, by its place in result 3's array. -/
theorem slot8 (c : Dev nD) (t : Fin cfg0.N) (k : Fin 8) (y : ((cfg0.win 8).xblock (cfg0.grid.coords t)).Idx) :
    iblk m c 1 t (ix3 k (y 1) (y 2)) = m ((c : Thread nD τ).loc main_arg1)
      (ix3 k (((View.whole main_v0_3).slice (win0_8.rect t)).emb y 1) (((View.whole main_v0_3).slice (win0_8.rect t)).emb y 2)) := by
  blk_point [iblk, V, idx t]

/-- The other arguments' entries at grid point `t`, by their place in result 3's array. -/
theorem own8 (c : Dev nD) (t : Fin cfg0.N) (y : ((cfg0.win 8).xblock (cfg0.grid.coords t)).Idx) :
    iblk m c 3 t y = m ((c : Thread nD τ).loc main_arg3) (((cfg0.win 8).blk t).view.emb y) :=
  rfl

/-- The second moment after the run is the reference's. -/
theorem final8 (c : Dev nD) : (dats m 0 c).arrAt 8 (cfgs 0).N
    = Cert.AdamUpRefIdeal.Read.val_main_v13 (F := Ideal) (m ((c : Thread nD τ).loc main_arg1)) (m ((c : Thread nD τ).loc main_arg3)) := by
  refine (dats m 0 c).arrAt_eq_of_covers 8 _ (by decide +kernel) fun t _ y => ?_
  rw [← Cert.AdamUpRefIdeal.Read.val_main_v13_eq]
  blk_simp
  rw [after0_8]; unfold_out out0_8; frame_out
  pointwise [k0_pay1, k0_pay2, k0_pay3, k0_pay4, k0_pay5, k0_pay6, k0_pay7, k0_pay8, k0_pay9, k0_pay10, k0_pay11]
  simp only [Fin.sum_univ_eight, slot8, own8]

set_option maxHeartbeats 1000000 in
/-- The run ends with the four arrays and keeps the arguments. -/
theorem run_out (g : Dev nD → PrngReg) :
    θ_run defs (onTc (τ := τ) (main (F := Ideal))) ⟨m, fun _ => 0, g⟩ (fun r => ∀ c : Dev nD,
      r.2.mem ((c.tc : Thread nD τ).loc main_v0_0) = (dats m 0 c).arrAt 5 (cfgs 0).N
      ∧ r.2.mem ((c.tc : Thread nD τ).loc main_v0_1) = (dats m 0 c).arrAt 6 (cfgs 0).N
      ∧ r.2.mem ((c.tc : Thread nD τ).loc main_v0_2) = (dats m 0 c).arrAt 7 (cfgs 0).N
      ∧ r.2.mem ((c.tc : Thread nD τ).loc main_v0_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, (h.1 c).1 8, h.2 c⟩)
    (θ_run_and (run_main m g) (unchanged m g))

/-- The value claim of the step. -/
theorem algebraic : Cert.algebraic_AdamUpIdeal_AdamUpRefIdeal := by
  pair_intro
  · exact run_out m g
  · refine θ_run_mono (Cert.AdamUpRefIdeal.Value.run m' g') ?_
    intro r hr c
    obtain ⟨h0, h1, h2, h3, h4⟩ := hagree c
    obtain ⟨o0, o1, o2, o3, keep⟩ := hr c
    exact ⟨o0.trans ((Cert.AdamUpRefIdeal.Read.val_main_v2_eq _).trans (by rw [h1]; exact (final5 m c).symm)),
      o1.trans ((Cert.AdamUpRefIdeal.Read.val_main_v26_eq _ _ _ _).trans (by rw [h0, h1, h2, h3]; exact (final6 m c).symm)),
      o2.trans ((Cert.AdamUpRefIdeal.Read.val_main_v7_eq _ _).trans (by rw [h1, h2]; exact (final7 m c).symm)),
      o3.trans ((Cert.AdamUpRefIdeal.Read.val_main_v13_eq _ _).trans (by rw [h1, h3]; exact (final8 m c).symm)), keep⟩

/-- The reference runs, keeps its arguments, and leaves every counter at zero. -/
theorem frame_ref : Cert.quiescent_AdamUpRefIdeal := by
  intro m g _
  refine (θ_run_and (?_ : θ_run _ _ _ (fun r => ∀ c : Dev Cert.AdamUpRefIdeal.nD, _)) (?_ : θ_run _ _ _ (fun r => r.2.sem = fun _ => 0)))
  · run_from Cert.AdamUpRefIdeal.Value.run m g
  · exact (θ_run Cert.AdamUpRefIdeal.defs _ _).mono (fun r _ => sem_eq_zero_of_no_sems (by decide) r.2) (Cert.AdamUpRefIdeal.Value.run m g)

end Cert.AdamUpClaim

end
-- ==== Proof.AdamSquareClaim.lean ====
/- The optimiser's step of the branch projections and the output projection: its four result arrays are the reference's, and the claim. -/
module

public import proofs.«01_k».proof.Defs
public import proofs.«01_k».proof.Proof.Gen.AdamSquareIdeal.Frame
public import proofs.«01_k».proof.Proof.Gen.AdamSquareRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdamSquareClaim

open Idealize.ShloMosaic Idealize.ShloMosaic.TcCoe Idealize.SL.Sem
open Idealize.ShloMosaic.Pipeline (Dat)
open Cert.AdamSquareIdeal Cert.AdamSquareIdeal.Gen

variable (m : (ℓ : Loc nD τ sig) → Buf (Elt Ideal) ℓ)

/-- Every window's block index at grid point `t`. -/
theorem idx : ∀ t : Fin cfg0.N,
    win0_0.index t = ![0, t.val, 0] ∧ win0_1.index t = ![0, t.val, 0] ∧ win0_2.index t = ![0, t.val, 0] ∧ win0_3.index t = ![0, t.val, 0]
    ∧ win0_5.index t = ![0, t.val, 0] ∧ win0_6.index t = ![0, t.val, 0] ∧ win0_7.index t = ![0, t.val, 0] ∧ win0_8.index t = ![0, t.val, 0] :=
  (by decide +kernel : ∀ t : Fin grid0.N, _)

/-- A slot's entry at grid point `t`, by its place in result 0's array. -/
theorem slot5 (c : Dev nD) (t : Fin cfg0.N) (k : Fin 8) (y : ((cfg0.win 5).xblock (cfg0.grid.coords t)).Idx) :
    iblk m c 1 t (ix3 k (y 1) (y 2)) = m ((c : Thread nD τ).loc main_arg1)
      (ix3 k (((View.whole main_v0_0).slice (win0_5.rect t)).emb y 1) (((View.whole main_v0_0).slice (win0_5.rect t)).emb y 2)) := by
  blk_point [iblk, V, idx t]

/-- The gradient after the run is the reference's: the sum over the slots. -/
theorem final5 (c : Dev nD) : (dats m 0 c).arrAt 5 (cfgs 0).N
    = Cert.AdamSquareRefIdeal.Read.val_main_v2 (F := Ideal) (m ((c : Thread nD τ).loc main_arg1)) := by
  refine (dats m 0 c).arrAt_eq_of_covers 5 _ (by decide +kernel) fun t _ y => ?_
  rw [← Cert.AdamSquareRefIdeal.Read.val_main_v2_eq]
  blk_simp
  rw [after0_5]; unfold_out out0_5; frame_out
  pointwise [k0_pay1, k0_pay2, k0_pay3, k0_pay4, k0_pay5, k0_pay6, k0_pay7, k0_pay8, k0_pay9, k0_pay10, k0_pay11]
  simp only [Fin.sum_univ_eight, slot5]

/-- A slot's entry at grid point `t`, by its place in result 1's array. -/
theorem slot6 (c : Dev nD) (t : Fin cfg0.N) (k : Fin 8) (y : ((cfg0.win 6).xblock (cfg0.grid.coords t)).Idx) :
    iblk m c 1 t (ix3 k (y 1) (y 2)) = m ((c : Thread nD τ).loc main_arg1)
      (ix3 k (((View.whole main_v0_1).slice (win0_6.rect t)).emb y 1) (((View.whole main_v0_1).slice (win0_6.rect t)).emb y 2)) := by
  blk_point [iblk, V, idx t]

/-- The other arguments' entries at grid point `t`, by their place in result 1's array. -/
theorem own6 (c : Dev nD) (t : Fin cfg0.N) (y : ((cfg0.win 6).xblock (cfg0.grid.coords t)).Idx) :
    iblk m c 0 t y = m ((c : Thread nD τ).loc main_arg0) (((cfg0.win 6).blk t).view.emb y)
    ∧ iblk m c 2 t y = m ((c : Thread nD τ).loc main_arg2) (((cfg0.win 6).blk t).view.emb y)
    ∧ iblk m c 3 t y = m ((c : Thread nD τ).loc main_arg3) (((cfg0.win 6).blk t).view.emb y) :=
  ⟨rfl, rfl, rfl⟩

/-- The weight's change after the run is the reference's. -/
theorem final6 (c : Dev nD) : (dats m 0 c).arrAt 6 (cfgs 0).N
    = Cert.AdamSquareRefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [← Cert.AdamSquareRefIdeal.Read.val_main_v26_eq]
  blk_simp
  rw [after0_6]; unfold_out out0_6; frame_out
  pointwise [k0_pay1, k0_pay2, k0_pay3, k0_pay4, k0_pay5, k0_pay6, k0_pay7, k0_pay8, k0_pay9, k0_pay10, k0_pay11]
  simp only [Fin.sum_univ_eight, slot6, own6]

/-- A slot's entry at grid point `t`, by its place in result 2's array. -/
theorem slot7 (c : Dev nD) (t : Fin cfg0.N) (k : Fin 8) (y : ((cfg0.win 7).xblock (cfg0.grid.coords t)).Idx) :
    iblk m c 1 t (ix3 k (y 1) (y 2)) = m ((c : Thread nD τ).loc main_arg1)
      (ix3 k (((View.whole main_v0_2).slice (win0_7.rect t)).emb y 1) (((View.whole main_v0_2).slice (win0_7.rect t)).emb y 2)) := by
  blk_point [iblk, V, idx t]

/-- The other arguments' entries at grid point `t`, by their place in result 2's array. -/
theorem own7 (c : Dev nD) (t : Fin cfg0.N) (y : ((cfg0.win 7).xblock (cfg0.grid.coords t)).Idx) :
    iblk m c 2 t y = m ((c : Thread nD τ).loc main_arg2) (((cfg0.win 7).blk t).view.emb y) :=
  rfl

/-- The first moment after the run is the reference's. -/
theorem final7 (c : Dev nD) : (dats m 0 c).arrAt 7 (cfgs 0).N
    = Cert.AdamSquareRefIdeal.Read.val_main_v7 (F := Ideal) (m ((c : Thread nD τ).loc main_arg1)) (m ((c : Thread nD τ).loc main_arg2)) := by
  refine (dats m 0 c).arrAt_eq_of_covers 7 _ (by decide +kernel) fun t _ y => ?_
  rw [← Cert.AdamSquareRefIdeal.Read.val_main_v7_eq]
  blk_simp
  rw [after0_7]; unfold_out out0_7; frame_out
  pointwise [k0_pay1, k0_pay2, k0_pay3, k0_pay4, k0_pay5, k0_pay6, k0_pay7, k0_pay8, k0_pay9, k0_pay10, k0_pay11]
  simp only [Fin.sum_univ_eight, slot7, own7]

/-- A slot's entry at grid point `t`, by its place in result 3's array. -/
theorem slot8 (c : Dev nD) (t : Fin cfg0.N) (k : Fin 8) (y : ((cfg0.win 8).xblock (cfg0.grid.coords t)).Idx) :
    iblk m c 1 t (ix3 k (y 1) (y 2)) = m ((c : Thread nD τ).loc main_arg1)
      (ix3 k (((View.whole main_v0_3).slice (win0_8.rect t)).emb y 1) (((View.whole main_v0_3).slice (win0_8.rect t)).emb y 2)) := by
  blk_point [iblk, V, idx t]

/-- The other arguments' entries at grid point `t`, by their place in result 3's array. -/
theorem own8 (c : Dev nD) (t : Fin cfg0.N) (y : ((cfg0.win 8).xblock (cfg0.grid.coords t)).Idx) :
    iblk m c 3 t y = m ((c : Thread nD τ).loc main_arg3) (((cfg0.win 8).blk t).view.emb y) :=
  rfl

/-- The second moment after the run is the reference's. -/
theorem final8 (c : Dev nD) : (dats m 0 c).arrAt 8 (cfgs 0).N
    = Cert.AdamSquareRefIdeal.Read.val_main_v13 (F := Ideal) (m ((c : Thread nD τ).loc main_arg1)) (m ((c : Thread nD τ).loc main_arg3)) := by
  refine (dats m 0 c).arrAt_eq_of_covers 8 _ (by decide +kernel) fun t _ y => ?_
  rw [← Cert.AdamSquareRefIdeal.Read.val_main_v13_eq]
  blk_simp
  rw [after0_8]; unfold_out out0_8; frame_out
  pointwise [k0_pay1, k0_pay2, k0_pay3, k0_pay4, k0_pay5, k0_pay6, k0_pay7, k0_pay8, k0_pay9, k0_pay10, k0_pay11]
  simp only [Fin.sum_univ_eight, slot8, own8]

set_option maxHeartbeats 1000000 in
/-- The run ends with the four arrays and keeps the arguments. -/
theorem run_out (g : Dev nD → PrngReg) :
    θ_run defs (onTc (τ := τ) (main (F := Ideal))) ⟨m, fun _ => 0, g⟩ (fun r => ∀ c : Dev nD,
      r.2.mem ((c.tc : Thread nD τ).loc main_v0_0) = (dats m 0 c).arrAt 5 (cfgs 0).N
      ∧ r.2.mem ((c.tc : Thread nD τ).loc main_v0_1) = (dats m 0 c).arrAt 6 (cfgs 0).N
      ∧ r.2.mem ((c.tc : Thread nD τ).loc main_v0_2) = (dats m 0 c).arrAt 7 (cfgs 0).N
      ∧ r.2.mem ((c.tc : Thread nD τ).loc main_v0_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, (h.1 c).1 8, h.2 c⟩)
    (θ_run_and (run_main m g) (unchanged m g))

/-- The value claim of the step. -/
theorem algebraic : Cert.algebraic_AdamSquareIdeal_AdamSquareRefIdeal := by
  pair_intro
  · exact run_out m g
  · refine θ_run_mono (Cert.AdamSquareRefIdeal.Value.run m' g') ?_
    intro r hr c
    obtain ⟨h0, h1, h2, h3, h4⟩ := hagree c
    obtain ⟨o0, o1, o2, o3, keep⟩ := hr c
    exact ⟨o0.trans ((Cert.AdamSquareRefIdeal.Read.val_main_v2_eq _).trans (by rw [h1]; exact (final5 m c).symm)),
      o1.trans ((Cert.AdamSquareRefIdeal.Read.val_main_v26_eq _ _ _ _).trans (by rw [h0, h1, h2, h3]; exact (final6 m c).symm)),
      o2.trans ((Cert.AdamSquareRefIdeal.Read.val_main_v7_eq _ _).trans (by rw [h1, h2]; exact (final7 m c).symm)),
      o3.trans ((Cert.AdamSquareRefIdeal.Read.val_main_v13_eq _ _).trans (by rw [h1, h3]; exact (final8 m c).symm)), keep⟩

/-- The reference runs, keeps its arguments, and leaves every counter at zero. -/
theorem frame_ref : Cert.quiescent_AdamSquareRefIdeal := by
  intro m g _
  refine (θ_run_and (?_ : θ_run _ _ _ (fun r => ∀ c : Dev Cert.AdamSquareRefIdeal.nD, _)) (?_ : θ_run _ _ _ (fun r => r.2.sem = fun _ => 0)))
  · run_from Cert.AdamSquareRefIdeal.Value.run m g
  · exact (θ_run Cert.AdamSquareRefIdeal.defs _ _).mono (fun r _ => sem_eq_zero_of_no_sems (by decide) r.2) (Cert.AdamSquareRefIdeal.Value.run m g)

end Cert.AdamSquareClaim

end
-- ==== Proof.AdamDownClaim.lean ====
/- The optimiser's step of the down projection: its four result arrays are the reference's, and the claim. -/
module

public import proofs.«01_k».proof.Defs
public import proofs.«01_k».proof.Proof.Gen.AdamDownIdeal.Frame
public import proofs.«01_k».proof.Proof.Gen.AdamDownRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdamDownClaim

open Idealize.ShloMosaic Idealize.ShloMosaic.TcCoe Idealize.SL.Sem
open Idealize.ShloMosaic.Pipeline (Dat)
open Cert.AdamDownIdeal Cert.AdamDownIdeal.Gen

variable (m : (ℓ : Loc nD τ sig) → Buf (Elt Ideal) ℓ)

/-- Every window's block index at grid point `t`. -/
theorem idx : ∀ t : Fin cfg0.N,
    win0_0.index t = ![0, t.val, 0] ∧ win0_1.index t = ![0, t.val, 0] ∧ win0_2.index t = ![0, t.val, 0] ∧ win0_3.index t = ![0, t.val, 0]
    ∧ win0_5.index t = ![0, t.val, 0] ∧ win0_6.index t = ![0, t.val, 0] ∧ win0_7.index t = ![0, t.val, 0] ∧ win0_8.index t = ![0, t.val, 0] :=
  (by decide +kernel : ∀ t : Fin grid0.N, _)

/-- A slot's entry at grid point `t`, by its place in result 0's array. -/
theorem slot5 (c : Dev nD) (t : Fin cfg0.N) (k : Fin 8) (y : ((cfg0.win 5).xblock (cfg0.grid.coords t)).Idx) :
    iblk m c 1 t (ix3 k (y 1) (y 2)) = m ((c : Thread nD τ).loc main_arg1)
      (ix3 k (((View.whole main_v0_0).slice (win0_5.rect t)).emb y 1) (((View.whole main_v0_0).slice (win0_5.rect t)).emb y 2)) := by
  blk_point [iblk, V, idx t]

/-- The gradient after the run is the reference's: the sum over the slots. -/
theorem final5 (c : Dev nD) : (dats m 0 c).arrAt 5 (cfgs 0).N
    = Cert.AdamDownRefIdeal.Read.val_main_v2 (F := Ideal) (m ((c : Thread nD τ).loc main_arg1)) := by
  refine (dats m 0 c).arrAt_eq_of_covers 5 _ (by decide +kernel) fun t _ y => ?_
  rw [← Cert.AdamDownRefIdeal.Read.val_main_v2_eq]
  blk_simp
  rw [after0_5]; unfold_out out0_5; frame_out
  pointwise [k0_pay1, k0_pay2, k0_pay3, k0_pay4, k0_pay5, k0_pay6, k0_pay7, k0_pay8, k0_pay9, k0_pay10, k0_pay11]
  simp only [Fin.sum_univ_eight, slot5]

/-- A slot's entry at grid point `t`, by its place in result 1's array. -/
theorem slot6 (c : Dev nD) (t : Fin cfg0.N) (k : Fin 8) (y : ((cfg0.win 6).xblock (cfg0.grid.coords t)).Idx) :
    iblk m c 1 t (ix3 k (y 1) (y 2)) = m ((c : Thread nD τ).loc main_arg1)
      (ix3 k (((View.whole main_v0_1).slice (win0_6.rect t)).emb y 1) (((View.whole main_v0_1).slice (win0_6.rect t)).emb y 2)) := by
  blk_point [iblk, V, idx t]

/-- The other arguments' entries at grid point `t`, by their place in result 1's array. -/
theorem own6 (c : Dev nD) (t : Fin cfg0.N) (y : ((cfg0.win 6).xblock (cfg0.grid.coords t)).Idx) :
    iblk m c 0 t y = m ((c : Thread nD τ).loc main_arg0) (((cfg0.win 6).blk t).view.emb y)
    ∧ iblk m c 2 t y = m ((c : Thread nD τ).loc main_arg2) (((cfg0.win 6).blk t).view.emb y)
    ∧ iblk m c 3 t y = m ((c : Thread nD τ).loc main_arg3) (((cfg0.win 6).blk t).view.emb y) :=
  ⟨rfl, rfl, rfl⟩

/-- The weight's change after the run is the reference's. -/
theorem final6 (c : Dev nD) : (dats m 0 c).arrAt 6 (cfgs 0).N
    = Cert.AdamDownRefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [← Cert.AdamDownRefIdeal.Read.val_main_v26_eq]
  blk_simp
  rw [after0_6]; unfold_out out0_6; frame_out
  pointwise [k0_pay1, k0_pay2, k0_pay3, k0_pay4, k0_pay5, k0_pay6, k0_pay7, k0_pay8, k0_pay9, k0_pay10, k0_pay11]
  simp only [Fin.sum_univ_eight, slot6, own6]

/-- A slot's entry at grid point `t`, by its place in result 2's array. -/
theorem slot7 (c : Dev nD) (t : Fin cfg0.N) (k : Fin 8) (y : ((cfg0.win 7).xblock (cfg0.grid.coords t)).Idx) :
    iblk m c 1 t (ix3 k (y 1) (y 2)) = m ((c : Thread nD τ).loc main_arg1)
      (ix3 k (((View.whole main_v0_2).slice (win0_7.rect t)).emb y 1) (((View.whole main_v0_2).slice (win0_7.rect t)).emb y 2)) := by
  blk_point [iblk, V, idx t]

/-- The other arguments' entries at grid point `t`, by their place in result 2's array. -/
theorem own7 (c : Dev nD) (t : Fin cfg0.N) (y : ((cfg0.win 7).xblock (cfg0.grid.coords t)).Idx) :
    iblk m c 2 t y = m ((c : Thread nD τ).loc main_arg2) (((cfg0.win 7).blk t).view.emb y) :=
  rfl

/-- The first moment after the run is the reference's. -/
theorem final7 (c : Dev nD) : (dats m 0 c).arrAt 7 (cfgs 0).N
    = Cert.AdamDownRefIdeal.Read.val_main_v7 (F := Ideal) (m ((c : Thread nD τ).loc main_arg1)) (m ((c : Thread nD τ).loc main_arg2)) := by
  refine (dats m 0 c).arrAt_eq_of_covers 7 _ (by decide +kernel) fun t _ y => ?_
  rw [← Cert.AdamDownRefIdeal.Read.val_main_v7_eq]
  blk_simp
  rw [after0_7]; unfold_out out0_7; frame_out
  pointwise [k0_pay1, k0_pay2, k0_pay3, k0_pay4, k0_pay5, k0_pay6, k0_pay7, k0_pay8, k0_pay9, k0_pay10, k0_pay11]
  simp only [Fin.sum_univ_eight, slot7, own7]

/-- A slot's entry at grid point `t`, by its place in result 3's array. -/
theorem slot8 (c : Dev nD) (t : Fin cfg0.N) (k : Fin 8) (y : ((cfg0.win 8).xblock (cfg0.grid.coords t)).Idx) :
    iblk m c 1 t (ix3 k (y 1) (y 2)) = m ((c : Thread nD τ).loc main_arg1)
      (ix3 k (((View.whole main_v0_3).slice (win0_8.rect t)).emb y 1) (((View.whole main_v0_3).slice (win0_8.rect t)).emb y 2)) := by
  blk_point [iblk, V, idx t]

/-- The other arguments' entries at grid point `t`, by their place in result 3's array. -/
theorem own8 (c : Dev nD) (t : Fin cfg0.N) (y : ((cfg0.win 8).xblock (cfg0.grid.coords t)).Idx) :
    iblk m c 3 t y = m ((c : Thread nD τ).loc main_arg3) (((cfg0.win 8).blk t).view.emb y) :=
  rfl

/-- The second moment after the run is the reference's. -/
theorem final8 (c : Dev nD) : (dats m 0 c).arrAt 8 (cfgs 0).N
    = Cert.AdamDownRefIdeal.Read.val_main_v13 (F := Ideal) (m ((c : Thread nD τ).loc main_arg1)) (m ((c : Thread nD τ).loc main_arg3)) := by
  refine (dats m 0 c).arrAt_eq_of_covers 8 _ (by decide +kernel) fun t _ y => ?_
  rw [← Cert.AdamDownRefIdeal.Read.val_main_v13_eq]
  blk_simp
  rw [after0_8]; unfold_out out0_8; frame_out
  pointwise [k0_pay1, k0_pay2, k0_pay3, k0_pay4, k0_pay5, k0_pay6, k0_pay7, k0_pay8, k0_pay9, k0_pay10, k0_pay11]
  simp only [Fin.sum_univ_eight, slot8, own8]

set_option maxHeartbeats 1000000 in
/-- The run ends with the four arrays and keeps the arguments. -/
theorem run_out (g : Dev nD → PrngReg) :
    θ_run defs (onTc (τ := τ) (main (F := Ideal))) ⟨m, fun _ => 0, g⟩ (fun r => ∀ c : Dev nD,
      r.2.mem ((c.tc : Thread nD τ).loc main_v0_0) = (dats m 0 c).arrAt 5 (cfgs 0).N
      ∧ r.2.mem ((c.tc : Thread nD τ).loc main_v0_1) = (dats m 0 c).arrAt 6 (cfgs 0).N
      ∧ r.2.mem ((c.tc : Thread nD τ).loc main_v0_2) = (dats m 0 c).arrAt 7 (cfgs 0).N
      ∧ r.2.mem ((c.tc : Thread nD τ).loc main_v0_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, (h.1 c).1 8, h.2 c⟩)
    (θ_run_and (run_main m g) (unchanged m g))

/-- The value claim of the step. -/
theorem algebraic : Cert.algebraic_AdamDownIdeal_AdamDownRefIdeal := by
  pair_intro
  · exact run_out m g
  · refine θ_run_mono (Cert.AdamDownRefIdeal.Value.run m' g') ?_
    intro r hr c
    obtain ⟨h0, h1, h2, h3, h4⟩ := hagree c
    obtain ⟨o0, o1, o2, o3, keep⟩ := hr c
    exact ⟨o0.trans ((Cert.AdamDownRefIdeal.Read.val_main_v2_eq _).trans (by rw [h1]; exact (final5 m c).symm)),
      o1.trans ((Cert.AdamDownRefIdeal.Read.val_main_v26_eq _ _ _ _).trans (by rw [h0, h1, h2, h3]; exact (final6 m c).symm)),
      o2.trans ((Cert.AdamDownRefIdeal.Read.val_main_v7_eq _ _).trans (by rw [h1, h2]; exact (final7 m c).symm)),
      o3.trans ((Cert.AdamDownRefIdeal.Read.val_main_v13_eq _ _).trans (by rw [h1, h3]; exact (final8 m c).symm)), keep⟩

/-- The reference runs, keeps its arguments, and leaves every counter at zero. -/
theorem frame_ref : Cert.quiescent_AdamDownRefIdeal := by
  intro m g _
  refine (θ_run_and (?_ : θ_run _ _ _ (fun r => ∀ c : Dev Cert.AdamDownRefIdeal.nD, _)) (?_ : θ_run _ _ _ (fun r => r.2.sem = fun _ => 0)))
  · run_from Cert.AdamDownRefIdeal.Value.run m g
  · exact (θ_run Cert.AdamDownRefIdeal.defs _ _).mono (fun r _ => sem_eq_zero_of_no_sems (by decide) r.2) (Cert.AdamDownRefIdeal.Value.run m g)

end Cert.AdamDownClaim

end
-- ==== Proof.AdamInClaim.lean ====
/- The optimiser's step of the input projection: its four result arrays are the reference's, and the claim. -/
module

public import proofs.«01_k».proof.Defs
public import proofs.«01_k».proof.Proof.Gen.AdamInIdeal.Frame
public import proofs.«01_k».proof.Proof.Gen.AdamInRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdamInClaim

open Idealize.ShloMosaic Idealize.ShloMosaic.TcCoe Idealize.SL.Sem
open Idealize.ShloMosaic.Pipeline (Dat)
open Cert.AdamInIdeal Cert.AdamInIdeal.Gen

variable (m : (ℓ : Loc nD τ sig) → Buf (Elt Ideal) ℓ)

/-- Every window's block index at grid point `t`. -/
theorem idx : ∀ t : Fin cfg0.N,
    win0_0.index t = ![0, t.val, 0] ∧ win0_1.index t = ![0, t.val, 0] ∧ win0_2.index t = ![0, t.val, 0] ∧ win0_3.index t = ![0, t.val, 0]
    ∧ win0_5.index t = ![0, t.val, 0] ∧ win0_6.index t = ![0, t.val, 0] ∧ win0_7.index t = ![0, t.val, 0] ∧ win0_8.index t = ![0, t.val, 0] :=
  (by decide +kernel : ∀ t : Fin grid0.N, _)

/-- A slot's entry at grid point `t`, by its place in result 0's array. -/
theorem slot5 (c : Dev nD) (t : Fin cfg0.N) (k : Fin 8) (y : ((cfg0.win 5).xblock (cfg0.grid.coords t)).Idx) :
    iblk m c 1 t (ix3 k (y 1) (y 2)) = m ((c : Thread nD τ).loc main_arg1)
      (ix3 k (((View.whole main_v0_0).slice (win0_5.rect t)).emb y 1) (((View.whole main_v0_0).slice (win0_5.rect t)).emb y 2)) := by
  blk_point [iblk, V, idx t]

/-- The gradient after the run is the reference's: the sum over the slots. -/
theorem final5 (c : Dev nD) : (dats m 0 c).arrAt 5 (cfgs 0).N
    = Cert.AdamInRefIdeal.Read.val_main_v2 (F := Ideal) (m ((c : Thread nD τ).loc main_arg1)) := by
  refine (dats m 0 c).arrAt_eq_of_covers 5 _ (by decide +kernel) fun t _ y => ?_
  rw [← Cert.AdamInRefIdeal.Read.val_main_v2_eq]
  blk_simp
  rw [after0_5]; unfold_out out0_5; frame_out
  pointwise [k0_pay1, k0_pay2, k0_pay3, k0_pay4, k0_pay5, k0_pay6, k0_pay7, k0_pay8, k0_pay9, k0_pay10, k0_pay11]
  simp only [Fin.sum_univ_eight, slot5]

/-- A slot's entry at grid point `t`, by its place in result 1's array. -/
theorem slot6 (c : Dev nD) (t : Fin cfg0.N) (k : Fin 8) (y : ((cfg0.win 6).xblock (cfg0.grid.coords t)).Idx) :
    iblk m c 1 t (ix3 k (y 1) (y 2)) = m ((c : Thread nD τ).loc main_arg1)
      (ix3 k (((View.whole main_v0_1).slice (win0_6.rect t)).emb y 1) (((View.whole main_v0_1).slice (win0_6.rect t)).emb y 2)) := by
  blk_point [iblk, V, idx t]

/-- The other arguments' entries at grid point `t`, by their place in result 1's array. -/
theorem own6 (c : Dev nD) (t : Fin cfg0.N) (y : ((cfg0.win 6).xblock (cfg0.grid.coords t)).Idx) :
    iblk m c 0 t y = m ((c : Thread nD τ).loc main_arg0) (((cfg0.win 6).blk t).view.emb y)
    ∧ iblk m c 2 t y = m ((c : Thread nD τ).loc main_arg2) (((cfg0.win 6).blk t).view.emb y)
    ∧ iblk m c 3 t y = m ((c : Thread nD τ).loc main_arg3) (((cfg0.win 6).blk t).view.emb y) :=
  ⟨rfl, rfl, rfl⟩

/-- The weight's change after the run is the reference's. -/
theorem final6 (c : Dev nD) : (dats m 0 c).arrAt 6 (cfgs 0).N
    = Cert.AdamInRefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [← Cert.AdamInRefIdeal.Read.val_main_v26_eq]
  blk_simp
  rw [after0_6]; unfold_out out0_6; frame_out
  pointwise [k0_pay1, k0_pay2, k0_pay3, k0_pay4, k0_pay5, k0_pay6, k0_pay7, k0_pay8, k0_pay9, k0_pay10, k0_pay11]
  simp only [Fin.sum_univ_eight, slot6, own6]

/-- A slot's entry at grid point `t`, by its place in result 2's array. -/
theorem slot7 (c : Dev nD) (t : Fin cfg0.N) (k : Fin 8) (y : ((cfg0.win 7).xblock (cfg0.grid.coords t)).Idx) :
    iblk m c 1 t (ix3 k (y 1) (y 2)) = m ((c : Thread nD τ).loc main_arg1)
      (ix3 k (((View.whole main_v0_2).slice (win0_7.rect t)).emb y 1) (((View.whole main_v0_2).slice (win0_7.rect t)).emb y 2)) := by
  blk_point [iblk, V, idx t]

/-- The other arguments' entries at grid point `t`, by their place in result 2's array. -/
theorem own7 (c : Dev nD) (t : Fin cfg0.N) (y : ((cfg0.win 7).xblock (cfg0.grid.coords t)).Idx) :
    iblk m c 2 t y = m ((c : Thread nD τ).loc main_arg2) (((cfg0.win 7).blk t).view.emb y) :=
  rfl

/-- The first moment after the run is the reference's. -/
theorem final7 (c : Dev nD) : (dats m 0 c).arrAt 7 (cfgs 0).N
    = Cert.AdamInRefIdeal.Read.val_main_v7 (F := Ideal) (m ((c : Thread nD τ).loc main_arg1)) (m ((c : Thread nD τ).loc main_arg2)) := by
  refine (dats m 0 c).arrAt_eq_of_covers 7 _ (by decide +kernel) fun t _ y => ?_
  rw [← Cert.AdamInRefIdeal.Read.val_main_v7_eq]
  blk_simp
  rw [after0_7]; unfold_out out0_7; frame_out
  pointwise [k0_pay1, k0_pay2, k0_pay3, k0_pay4, k0_pay5, k0_pay6, k0_pay7, k0_pay8, k0_pay9, k0_pay10, k0_pay11]
  simp only [Fin.sum_univ_eight, slot7, own7]

/-- A slot's entry at grid point `t`, by its place in result 3's array. -/
theorem slot8 (c : Dev nD) (t : Fin cfg0.N) (k : Fin 8) (y : ((cfg0.win 8).xblock (cfg0.grid.coords t)).Idx) :
    iblk m c 1 t (ix3 k (y 1) (y 2)) = m ((c : Thread nD τ).loc main_arg1)
      (ix3 k (((View.whole main_v0_3).slice (win0_8.rect t)).emb y 1) (((View.whole main_v0_3).slice (win0_8.rect t)).emb y 2)) := by
  blk_point [iblk, V, idx t]

/-- The other arguments' entries at grid point `t`, by their place in result 3's array. -/
theorem own8 (c : Dev nD) (t : Fin cfg0.N) (y : ((cfg0.win 8).xblock (cfg0.grid.coords t)).Idx) :
    iblk m c 3 t y = m ((c : Thread nD τ).loc main_arg3) (((cfg0.win 8).blk t).view.emb y) :=
  rfl

/-- The second moment after the run is the reference's. -/
theorem final8 (c : Dev nD) : (dats m 0 c).arrAt 8 (cfgs 0).N
    = Cert.AdamInRefIdeal.Read.val_main_v13 (F := Ideal) (m ((c : Thread nD τ).loc main_arg1)) (m ((c : Thread nD τ).loc main_arg3)) := by
  refine (dats m 0 c).arrAt_eq_of_covers 8 _ (by decide +kernel) fun t _ y => ?_
  rw [← Cert.AdamInRefIdeal.Read.val_main_v13_eq]
  blk_simp
  rw [after0_8]; unfold_out out0_8; frame_out
  pointwise [k0_pay1, k0_pay2, k0_pay3, k0_pay4, k0_pay5, k0_pay6, k0_pay7, k0_pay8, k0_pay9, k0_pay10, k0_pay11]
  simp only [Fin.sum_univ_eight, slot8, own8]

set_option maxHeartbeats 1000000 in
/-- The run ends with the four arrays and keeps the arguments. -/
theorem run_out (g : Dev nD → PrngReg) :
    θ_run defs (onTc (τ := τ) (main (F := Ideal))) ⟨m, fun _ => 0, g⟩ (fun r => ∀ c : Dev nD,
      r.2.mem ((c.tc : Thread nD τ).loc main_v0_0) = (dats m 0 c).arrAt 5 (cfgs 0).N
      ∧ r.2.mem ((c.tc : Thread nD τ).loc main_v0_1) = (dats m 0 c).arrAt 6 (cfgs 0).N
      ∧ r.2.mem ((c.tc : Thread nD τ).loc main_v0_2) = (dats m 0 c).arrAt 7 (cfgs 0).N
      ∧ r.2.mem ((c.tc : Thread nD τ).loc main_v0_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, (h.1 c).1 8, h.2 c⟩)
    (θ_run_and (run_main m g) (unchanged m g))

/-- The value claim of the step. -/
theorem algebraic : Cert.algebraic_AdamInIdeal_AdamInRefIdeal := by
  pair_intro
  · exact run_out m g
  · refine θ_run_mono (Cert.AdamInRefIdeal.Value.run m' g') ?_
    intro r hr c
    obtain ⟨h0, h1, h2, h3, h4⟩ := hagree c
    obtain ⟨o0, o1, o2, o3, keep⟩ := hr c
    exact ⟨o0.trans ((Cert.AdamInRefIdeal.Read.val_main_v2_eq _).trans (by rw [h1]; exact (final5 m c).symm)),
      o1.trans ((Cert.AdamInRefIdeal.Read.val_main_v26_eq _ _ _ _).trans (by rw [h0, h1, h2, h3]; exact (final6 m c).symm)),
      o2.trans ((Cert.AdamInRefIdeal.Read.val_main_v7_eq _ _).trans (by rw [h1, h2]; exact (final7 m c).symm)),
      o3.trans ((Cert.AdamInRefIdeal.Read.val_main_v13_eq _ _).trans (by rw [h1, h3]; exact (final8 m c).symm)), keep⟩

/-- The reference runs, keeps its arguments, and leaves every counter at zero. -/
theorem frame_ref : Cert.quiescent_AdamInRefIdeal := by
  intro m g _
  refine (θ_run_and (?_ : θ_run _ _ _ (fun r => ∀ c : Dev Cert.AdamInRefIdeal.nD, _)) (?_ : θ_run _ _ _ (fun r => r.2.sem = fun _ => 0)))
  · run_from Cert.AdamInRefIdeal.Value.run m g
  · exact (θ_run Cert.AdamInRefIdeal.defs _ _).mono (fun r _ => sem_eq_zero_of_no_sems (by decide) r.2) (Cert.AdamInRefIdeal.Value.run m g)

end Cert.AdamInClaim

end
-- ==== Proof.AdamModClaim.lean ====
/- The optimiser's step of the modulation: its four result arrays are the reference's, and the claim. -/
module

public import proofs.«01_k».proof.Defs
public import proofs.«01_k».proof.Proof.Gen.AdamModIdeal.Frame
public import proofs.«01_k».proof.Proof.Gen.AdamModRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdamModClaim

open Idealize.ShloMosaic Idealize.ShloMosaic.TcCoe Idealize.SL.Sem
open Idealize.ShloMosaic.Pipeline (Dat)
open Cert.AdamModIdeal Cert.AdamModIdeal.Gen

variable (m : (ℓ : Loc nD τ sig) → Buf (Elt Ideal) ℓ)

/-- Every window's block index at grid point `t`. -/
theorem idx : ∀ t : Fin cfg0.N,
    win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- A slot's entry at grid point `t`, by its place in result 0's array. -/
theorem slot4 (c : Dev nD) (t : Fin cfg0.N) (y : ((cfg0.win 4).xblock (cfg0.grid.coords t)).Idx) :
    iblk m c 1 t y = m ((c : Thread nD τ).loc main_arg1)
      (ix3 0 (((View.whole main_v0_0).slice (win0_4.rect t)).emb y 1) (((View.whole main_v0_0).slice (win0_4.rect t)).emb y 2)) := by
  blk_point [iblk, V, idx t]

/-- The gradient after the run is the reference's: the sum over the slots. -/
theorem final4 (c : Dev nD) : (dats m 0 c).arrAt 4 (cfgs 0).N
    = Cert.AdamModRefIdeal.Read.val_main_v1 (F := Ideal) (m ((c : Thread nD τ).loc main_arg1)) := by
  refine (dats m 0 c).arrAt_eq_of_covers 4 _ (by decide +kernel) fun t _ y => ?_
  rw [← Cert.AdamModRefIdeal.Read.val_main_v1_eq]
  blk_simp
  rw [after0_4]; unfold out0_4; frame_out
  pointwise [k0_pay1, k0_pay2, k0_pay3, k0_pay4, k0_pay5, k0_pay6, k0_pay7, k0_pay8, k0_pay9]
  simp only [Fin.sum_univ_one, slot4]

/-- A slot's entry at grid point `t`, by its place in result 1's array. -/
theorem slot5 (c : Dev nD) (t : Fin cfg0.N) (y : ((cfg0.win 5).xblock (cfg0.grid.coords t)).Idx) :
    iblk m c 1 t y = m ((c : Thread nD τ).loc main_arg1)
      (ix3 0 (((View.whole main_v0_1).slice (win0_5.rect t)).emb y 1) (((View.whole main_v0_1).slice (win0_5.rect t)).emb y 2)) := by
  blk_point [iblk, V, idx t]

/-- The other arguments' entries at grid point `t`, by their place in result 1's array. -/
theorem own5 (c : Dev nD) (t : Fin cfg0.N) (y : ((cfg0.win 5).xblock (cfg0.grid.coords t)).Idx) :
    iblk m c 0 t y = m ((c : Thread nD τ).loc main_arg0) (((cfg0.win 5).blk t).view.emb y)
    ∧ iblk m c 2 t y = m ((c : Thread nD τ).loc main_arg2) (((cfg0.win 5).blk t).view.emb y)
    ∧ iblk m c 3 t y = m ((c : Thread nD τ).loc main_arg3) (((cfg0.win 5).blk t).view.emb y) :=
  ⟨rfl, rfl, rfl⟩

/-- The weight's change after the run is the reference's. -/
theorem final5 (c : Dev nD) : (dats m 0 c).arrAt 5 (cfgs 0).N
    = Cert.AdamModRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  rw [← Cert.AdamModRefIdeal.Read.val_main_v25_eq]
  blk_simp
  rw [after0_5]; unfold out0_5; frame_out
  pointwise [k0_pay1, k0_pay2, k0_pay3, k0_pay4, k0_pay5, k0_pay6, k0_pay7, k0_pay8, k0_pay9]
  simp only [Fin.sum_univ_one, slot5, own5]

/-- A slot's entry at grid point `t`, by its place in result 2's array. -/
theorem slot6 (c : Dev nD) (t : Fin cfg0.N) (y : ((cfg0.win 6).xblock (cfg0.grid.coords t)).Idx) :
    iblk m c 1 t y = m ((c : Thread nD τ).loc main_arg1)
      (ix3 0 (((View.whole main_v0_2).slice (win0_6.rect t)).emb y 1) (((View.whole main_v0_2).slice (win0_6.rect t)).emb y 2)) := by
  blk_point [iblk, V, idx t]

/-- The other arguments' entries at grid point `t`, by their place in result 2's array. -/
theorem own6 (c : Dev nD) (t : Fin cfg0.N) (y : ((cfg0.win 6).xblock (cfg0.grid.coords t)).Idx) :
    iblk m c 2 t y = m ((c : Thread nD τ).loc main_arg2) (((cfg0.win 6).blk t).view.emb y) :=
  rfl

/-- The first moment after the run is the reference's. -/
theorem final6 (c : Dev nD) : (dats m 0 c).arrAt 6 (cfgs 0).N
    = Cert.AdamModRefIdeal.Read.val_main_v6 (F := Ideal) (m ((c : Thread nD τ).loc main_arg1)) (m ((c : Thread nD τ).loc main_arg2)) := by
  refine (dats m 0 c).arrAt_eq_of_covers 6 _ (by decide +kernel) fun t _ y => ?_
  rw [← Cert.AdamModRefIdeal.Read.val_main_v6_eq]
  blk_simp
  rw [after0_6]; unfold out0_6; frame_out
  pointwise [k0_pay1, k0_pay2, k0_pay3, k0_pay4, k0_pay5, k0_pay6, k0_pay7, k0_pay8, k0_pay9]
  simp only [Fin.sum_univ_one, slot6, own6]

/-- A slot's entry at grid point `t`, by its place in result 3's array. -/
theorem slot7 (c : Dev nD) (t : Fin cfg0.N) (y : ((cfg0.win 7).xblock (cfg0.grid.coords t)).Idx) :
    iblk m c 1 t y = m ((c : Thread nD τ).loc main_arg1)
      (ix3 0 (((View.whole main_v0_3).slice (win0_7.rect t)).emb y 1) (((View.whole main_v0_3).slice (win0_7.rect t)).emb y 2)) := by
  blk_point [iblk, V, idx t]

/-- The other arguments' entries at grid point `t`, by their place in result 3's array. -/
theorem own7 (c : Dev nD) (t : Fin cfg0.N) (y : ((cfg0.win 7).xblock (cfg0.grid.coords t)).Idx) :
    iblk m c 3 t y = m ((c : Thread nD τ).loc main_arg3) (((cfg0.win 7).blk t).view.emb y) :=
  rfl

/-- The second moment after the run is the reference's. -/
theorem final7 (c : Dev nD) : (dats m 0 c).arrAt 7 (cfgs 0).N
    = Cert.AdamModRefIdeal.Read.val_main_v12 (F := Ideal) (m ((c : Thread nD τ).loc main_arg1)) (m ((c : Thread nD τ).loc main_arg3)) := by
  refine (dats m 0 c).arrAt_eq_of_covers 7 _ (by decide +kernel) fun t _ y => ?_
  rw [← Cert.AdamModRefIdeal.Read.val_main_v12_eq]
  blk_simp
  rw [after0_7]; unfold out0_7; frame_out
  pointwise [k0_pay1, k0_pay2, k0_pay3, k0_pay4, k0_pay5, k0_pay6, k0_pay7, k0_pay8, k0_pay9]
  simp only [Fin.sum_univ_one, slot7, own7]

set_option maxHeartbeats 1000000 in
/-- The run ends with the four arrays and keeps the arguments. -/
theorem run_out (g : Dev nD → PrngReg) :
    θ_run defs (onTc (τ := τ) (main (F := Ideal))) ⟨m, fun _ => 0, g⟩ (fun r => ∀ c : Dev nD,
      r.2.mem ((c.tc : Thread nD τ).loc main_v0_0) = (dats m 0 c).arrAt 4 (cfgs 0).N
      ∧ r.2.mem ((c.tc : Thread nD τ).loc main_v0_1) = (dats m 0 c).arrAt 5 (cfgs 0).N
      ∧ r.2.mem ((c.tc : Thread nD τ).loc main_v0_2) = (dats m 0 c).arrAt 6 (cfgs 0).N
      ∧ r.2.mem ((c.tc : Thread nD τ).loc main_v0_3) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, (h.1 c).1 6, (h.1 c).1 7, h.2 c⟩)
    (θ_run_and (run_main m g) (unchanged m g))

/-- The value claim of the step. -/
theorem algebraic : Cert.algebraic_AdamModIdeal_AdamModRefIdeal := by
  pair_intro
  · exact run_out m g
  · refine θ_run_mono (Cert.AdamModRefIdeal.Value.run m' g') ?_
    intro r hr c
    obtain ⟨h0, h1, h2, h3⟩ := hagree c
    obtain ⟨o0, o1, o2, o3, keep⟩ := hr c
    exact ⟨o0.trans ((Cert.AdamModRefIdeal.Read.val_main_v1_eq _).trans (by rw [h1]; exact (final4 m c).symm)),
      o1.trans ((Cert.AdamModRefIdeal.Read.val_main_v25_eq _ _ _ _).trans (by rw [h0, h1, h2, h3]; exact (final5 m c).symm)),
      o2.trans ((Cert.AdamModRefIdeal.Read.val_main_v6_eq _ _).trans (by rw [h1, h2]; exact (final6 m c).symm)),
      o3.trans ((Cert.AdamModRefIdeal.Read.val_main_v12_eq _ _).trans (by rw [h1, h3]; exact (final7 m c).symm)), keep⟩

/-- The reference runs, keeps its arguments, and leaves every counter at zero. -/
theorem frame_ref : Cert.quiescent_AdamModRefIdeal := by
  intro m g _
  refine (θ_run_and (?_ : θ_run _ _ _ (fun r => ∀ c : Dev Cert.AdamModRefIdeal.nD, _)) (?_ : θ_run _ _ _ (fun r => r.2.sem = fun _ => 0)))
  · run_from Cert.AdamModRefIdeal.Value.run m g
  · exact (θ_run Cert.AdamModRefIdeal.defs _ _).mono (fun r _ => sem_eq_zero_of_no_sems (by decide) r.2) (Cert.AdamModRefIdeal.Value.run m g)

end Cert.AdamModClaim

end
-- ==== Proof.AdamRepClaim.lean ====
/- The optimiser's step of the packed replicated weights: its four result arrays are the reference's, and the claim. -/
module

public import proofs.«01_k».proof.Defs
public import proofs.«01_k».proof.Proof.Gen.AdamRepIdeal.Frame
public import proofs.«01_k».proof.Proof.Gen.AdamRepRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdamRepClaim

open Idealize.ShloMosaic Idealize.ShloMosaic.TcCoe Idealize.SL.Sem
open Idealize.ShloMosaic.Pipeline (Dat)
open Cert.AdamRepIdeal Cert.AdamRepIdeal.Gen

variable (m : (ℓ : Loc nD τ sig) → Buf (Elt Ideal) ℓ)

/-- Every window's block index at grid point `t`. -/
theorem idx : ∀ t : Fin cfg0.N,
    win0_0.index t = ![t.val, 0] ∧ win0_1.index t = ![0, t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- A slot's entry at grid point `t`, by its place in result 0's array. -/
theorem slot4 (c : Dev nD) (t : Fin cfg0.N) (k : Fin 1) (y : ((cfg0.win 4).xblock (cfg0.grid.coords t)).Idx) :
    iblk m c 1 t (ix3 k (y 0) (y 1)) = m ((c : Thread nD τ).loc main_arg1)
      (ix3 k (((View.whole main_v0_0).slice (win0_4.rect t)).emb y 0) (((View.whole main_v0_0).slice (win0_4.rect t)).emb y 1)) := by
  blk_point [iblk, V, idx t]

/-- The gradient after the run is the reference's: the sum over the slots. -/
theorem final4 (c : Dev nD) : (dats m 0 c).arrAt 4 (cfgs 0).N
    = Cert.AdamRepRefIdeal.Read.val_main_v0 (F := Ideal) (m ((c : Thread nD τ).loc main_arg1)) := by
  refine (dats m 0 c).arrAt_eq_of_covers 4 _ (by decide +kernel) fun t _ y => ?_
  rw [← Cert.AdamRepRefIdeal.Read.val_main_v0_eq]
  blk_simp
  rw [after0_4]; unfold out0_4; frame_out
  pointwise [k0_pay1, k0_pay2, k0_pay3, k0_pay4]
  simp only [Fin.sum_univ_one, slot4]

/-- A slot's entry at grid point `t`, by its place in result 1's array. -/
theorem slot5 (c : Dev nD) (t : Fin cfg0.N) (k : Fin 1) (y : ((cfg0.win 5).xblock (cfg0.grid.coords t)).Idx) :
    iblk m c 1 t (ix3 k (y 0) (y 1)) = m ((c : Thread nD τ).loc main_arg1)
      (ix3 k (((View.whole main_v0_1).slice (win0_5.rect t)).emb y 0) (((View.whole main_v0_1).slice (win0_5.rect t)).emb y 1)) := by
  blk_point [iblk, V, idx t]

/-- The other arguments' entries at grid point `t`, by their place in result 1's array. -/
theorem own5 (c : Dev nD) (t : Fin cfg0.N) (y : ((cfg0.win 5).xblock (cfg0.grid.coords t)).Idx) :
    iblk m c 0 t y = m ((c : Thread nD τ).loc main_arg0) (((cfg0.win 5).blk t).view.emb y)
    ∧ iblk m c 2 t y = m ((c : Thread nD τ).loc main_arg2) (((cfg0.win 5).blk t).view.emb y)
    ∧ iblk m c 3 t y = m ((c : Thread nD τ).loc main_arg3) (((cfg0.win 5).blk t).view.emb y) :=
  ⟨rfl, rfl, rfl⟩

/-- The weight's change after the run is the reference's. -/
theorem final5 (c : Dev nD) : (dats m 0 c).arrAt 5 (cfgs 0).N
    = Cert.AdamRepRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  rw [← Cert.AdamRepRefIdeal.Read.val_main_v24_eq]
  blk_simp
  rw [after0_5]; unfold out0_5; frame_out
  pointwise [k0_pay1, k0_pay2, k0_pay3, k0_pay4]
  simp only [Fin.sum_univ_one, slot5, own5]

/-- A slot's entry at grid point `t`, by its place in result 2's array. -/
theorem slot6 (c : Dev nD) (t : Fin cfg0.N) (k : Fin 1) (y : ((cfg0.win 6).xblock (cfg0.grid.coords t)).Idx) :
    iblk m c 1 t (ix3 k (y 0) (y 1)) = m ((c : Thread nD τ).loc main_arg1)
      (ix3 k (((View.whole main_v0_2).slice (win0_6.rect t)).emb y 0) (((View.whole main_v0_2).slice (win0_6.rect t)).emb y 1)) := by
  blk_point [iblk, V, idx t]

/-- The other arguments' entries at grid point `t`, by their place in result 2's array. -/
theorem own6 (c : Dev nD) (t : Fin cfg0.N) (y : ((cfg0.win 6).xblock (cfg0.grid.coords t)).Idx) :
    iblk m c 2 t y = m ((c : Thread nD τ).loc main_arg2) (((cfg0.win 6).blk t).view.emb y) :=
  rfl

/-- The first moment after the run is the reference's. -/
theorem final6 (c : Dev nD) : (dats m 0 c).arrAt 6 (cfgs 0).N
    = Cert.AdamRepRefIdeal.Read.val_main_v5 (F := Ideal) (m ((c : Thread nD τ).loc main_arg1)) (m ((c : Thread nD τ).loc main_arg2)) := by
  refine (dats m 0 c).arrAt_eq_of_covers 6 _ (by decide +kernel) fun t _ y => ?_
  rw [← Cert.AdamRepRefIdeal.Read.val_main_v5_eq]
  blk_simp
  rw [after0_6]; unfold out0_6; frame_out
  pointwise [k0_pay1, k0_pay2, k0_pay3, k0_pay4]
  simp only [Fin.sum_univ_one, slot6, own6]

/-- A slot's entry at grid point `t`, by its place in result 3's array. -/
theorem slot7 (c : Dev nD) (t : Fin cfg0.N) (k : Fin 1) (y : ((cfg0.win 7).xblock (cfg0.grid.coords t)).Idx) :
    iblk m c 1 t (ix3 k (y 0) (y 1)) = m ((c : Thread nD τ).loc main_arg1)
      (ix3 k (((View.whole main_v0_3).slice (win0_7.rect t)).emb y 0) (((View.whole main_v0_3).slice (win0_7.rect t)).emb y 1)) := by
  blk_point [iblk, V, idx t]

/-- The other arguments' entries at grid point `t`, by their place in result 3's array. -/
theorem own7 (c : Dev nD) (t : Fin cfg0.N) (y : ((cfg0.win 7).xblock (cfg0.grid.coords t)).Idx) :
    iblk m c 3 t y = m ((c : Thread nD τ).loc main_arg3) (((cfg0.win 7).blk t).view.emb y) :=
  rfl

/-- The second moment after the run is the reference's. -/
theorem final7 (c : Dev nD) : (dats m 0 c).arrAt 7 (cfgs 0).N
    = Cert.AdamRepRefIdeal.Read.val_main_v11 (F := Ideal) (m ((c : Thread nD τ).loc main_arg1)) (m ((c : Thread nD τ).loc main_arg3)) := by
  refine (dats m 0 c).arrAt_eq_of_covers 7 _ (by decide +kernel) fun t _ y => ?_
  rw [← Cert.AdamRepRefIdeal.Read.val_main_v11_eq]
  blk_simp
  rw [after0_7]; unfold out0_7; frame_out
  pointwise [k0_pay1, k0_pay2, k0_pay3, k0_pay4]
  simp only [Fin.sum_univ_one, slot7, own7]

set_option maxHeartbeats 1000000 in
/-- The run ends with the four arrays and keeps the arguments. -/
theorem run_out (g : Dev nD → PrngReg) :
    θ_run defs (onTc (τ := τ) (main (F := Ideal))) ⟨m, fun _ => 0, g⟩ (fun r => ∀ c : Dev nD,
      r.2.mem ((c.tc : Thread nD τ).loc main_v0_0) = (dats m 0 c).arrAt 4 (cfgs 0).N
      ∧ r.2.mem ((c.tc : Thread nD τ).loc main_v0_1) = (dats m 0 c).arrAt 5 (cfgs 0).N
      ∧ r.2.mem ((c.tc : Thread nD τ).loc main_v0_2) = (dats m 0 c).arrAt 6 (cfgs 0).N
      ∧ r.2.mem ((c.tc : Thread nD τ).loc main_v0_3) = (dats m 0 c).arrAt 7 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 4, (h.1 c).1 5, (h.1 c).1 6, (h.1 c).1 7, h.2 c⟩)
    (θ_run_and (run_main m g) (unchanged m g))

/-- The value claim of the step. -/
theorem algebraic : Cert.algebraic_AdamRepIdeal_AdamRepRefIdeal := by
  pair_intro
  · exact run_out m g
  · refine θ_run_mono (Cert.AdamRepRefIdeal.Value.run m' g') ?_
    intro r hr c
    obtain ⟨h0, h1, h2, h3⟩ := hagree c
    obtain ⟨o0, o1, o2, o3, keep⟩ := hr c
    exact ⟨o0.trans ((Cert.AdamRepRefIdeal.Read.val_main_v0_eq _).trans (by rw [h1]; exact (final4 m c).symm)),
      o1.trans ((Cert.AdamRepRefIdeal.Read.val_main_v24_eq _ _ _ _).trans (by rw [h0, h1, h2, h3]; exact (final5 m c).symm)),
      o2.trans ((Cert.AdamRepRefIdeal.Read.val_main_v5_eq _ _).trans (by rw [h1, h2]; exact (final6 m c).symm)),
      o3.trans ((Cert.AdamRepRefIdeal.Read.val_main_v11_eq _ _).trans (by rw [h1, h3]; exact (final7 m c).symm)), keep⟩

/-- The reference runs, keeps its arguments, and leaves every counter at zero. -/
theorem frame_ref : Cert.quiescent_AdamRepRefIdeal := by
  intro m g _
  refine (θ_run_and (?_ : θ_run _ _ _ (fun r => ∀ c : Dev Cert.AdamRepRefIdeal.nD, _)) (?_ : θ_run _ _ _ (fun r => r.2.sem = fun _ => 0)))
  · run_from Cert.AdamRepRefIdeal.Value.run m g
  · exact (θ_run Cert.AdamRepRefIdeal.defs _ _).mono (fun r _ => sem_eq_zero_of_no_sems (by decide) r.2) (Cert.AdamRepRefIdeal.Value.run m g)

end Cert.AdamRepClaim

end
-- ==== Proof.AdamConvClaim.lean ====
/- The optimiser's step of the q and k convolution: its four result arrays are the reference's, and the claim. -/
module

public import proofs.«01_k».proof.Defs
public import proofs.«01_k».proof.Proof.Gen.AdamConvIdeal.Frame
public import proofs.«01_k».proof.Proof.Gen.AdamConvRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdamConvClaim

open Idealize.ShloMosaic Idealize.ShloMosaic.TcCoe Idealize.SL.Sem
open Idealize.ShloMosaic.Pipeline (Dat)
open Cert.AdamConvIdeal Cert.AdamConvIdeal.Gen

variable (m : (ℓ : Loc nD τ sig) → Buf (Elt Ideal) ℓ)

/-- Every window's block index at grid point `t`. -/
theorem idx : ∀ t : Fin cfg0.N,
    win0_0.index t = ![0, t.val, 0] ∧ win0_1.index t = ![0, t.val, 0] ∧ win0_2.index t = ![0, t.val, 0] ∧ win0_3.index t = ![0, t.val, 0]
    ∧ win0_5.index t = ![0, t.val, 0] ∧ win0_6.index t = ![0, t.val, 0] ∧ win0_7.index t = ![0, t.val, 0] ∧ win0_8.index t = ![0, t.val, 0] :=
  (by decide +kernel : ∀ t : Fin grid0.N, _)

/-- A slot's entry at grid point `t`, by its place in result 0's array. -/
theorem slot5 (c : Dev nD) (t : Fin cfg0.N) (k : Fin 8) (y : ((cfg0.win 5).xblock (cfg0.grid.coords t)).Idx) (h : (y 1).val < 8) :
    iblk m c 1 t (ix3 k ⟨(y 1).val, h⟩ (y 2)) = m ((c : Thread nD τ).loc main_arg1)
      (ix3 k ⟨(((View.whole main_v0_0).slice (win0_5.rect t)).emb y 1).val, Nat.lt_of_lt_of_le (((View.whole main_v0_0).slice (win0_5.rect t)).emb y 1).isLt (by decide : 3 ≤ 8)⟩ (((View.whole main_v0_0).slice (win0_5.rect t)).emb y 2)) := by
  blk_point [iblk, V, idx t]

/-- The gradient after the run is the reference's: the sum over the slots. -/
theorem final5 (c : Dev nD) : (dats m 0 c).arrAt 5 (cfgs 0).N
    = Cert.AdamConvRefIdeal.Read.val_main_v2 (F := Ideal) (m ((c : Thread nD τ).loc main_arg1)) := by
  refine (dats m 0 c).arrAt_eq_of_covers 5 _ (by decide +kernel) fun t _ y => ?_
  rw [← Cert.AdamConvRefIdeal.Read.val_main_v2_eq]
  blk_simp
  rw [after0_5]; unfold_out out0_5; frame_out
  pointwise [k0_pay1, k0_pay2, k0_pay3, k0_pay4, k0_pay5, k0_pay6, k0_pay7, k0_pay8, k0_pay9, k0_pay10]
  simp only [Fin.sum_univ_eight, slot5]

/-- A slot's entry at grid point `t`, by its place in result 1's array. -/
theorem slot6 (c : Dev nD) (t : Fin cfg0.N) (k : Fin 8) (y : ((cfg0.win 6).xblock (cfg0.grid.coords t)).Idx) (h : (y 1).val < 8) :
    iblk m c 1 t (ix3 k ⟨(y 1).val, h⟩ (y 2)) = m ((c : Thread nD τ).loc main_arg1)
      (ix3 k ⟨(((View.whole main_v0_1).slice (win0_6.rect t)).emb y 1).val, Nat.lt_of_lt_of_le (((View.whole main_v0_1).slice (win0_6.rect t)).emb y 1).isLt (by decide : 3 ≤ 8)⟩ (((View.whole main_v0_1).slice (win0_6.rect t)).emb y 2)) := by
  blk_point [iblk, V, idx t]

/-- The other arguments' entries at grid point `t`, by their place in result 1's array. -/
theorem own6 (c : Dev nD) (t : Fin cfg0.N) (y : ((cfg0.win 6).xblock (cfg0.grid.coords t)).Idx) :
    iblk m c 0 t y = m ((c : Thread nD τ).loc main_arg0) (((cfg0.win 6).blk t).view.emb y)
    ∧ iblk m c 2 t y = m ((c : Thread nD τ).loc main_arg2) (((cfg0.win 6).blk t).view.emb y)
    ∧ iblk m c 3 t y = m ((c : Thread nD τ).loc main_arg3) (((cfg0.win 6).blk t).view.emb y) :=
  ⟨rfl, rfl, rfl⟩

/-- The weight's change after the run is the reference's. -/
theorem final6 (c : Dev nD) : (dats m 0 c).arrAt 6 (cfgs 0).N
    = Cert.AdamConvRefIdeal.Read.val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [← Cert.AdamConvRefIdeal.Read.val_main_v26_eq]
  blk_simp
  rw [after0_6]; unfold_out out0_6; frame_out
  pointwise [k0_pay1, k0_pay2, k0_pay3, k0_pay4, k0_pay5, k0_pay6, k0_pay7, k0_pay8, k0_pay9, k0_pay10]
  simp only [Fin.sum_univ_eight, slot6, own6]

/-- A slot's entry at grid point `t`, by its place in result 2's array. -/
theorem slot7 (c : Dev nD) (t : Fin cfg0.N) (k : Fin 8) (y : ((cfg0.win 7).xblock (cfg0.grid.coords t)).Idx) (h : (y 1).val < 8) :
    iblk m c 1 t (ix3 k ⟨(y 1).val, h⟩ (y 2)) = m ((c : Thread nD τ).loc main_arg1)
      (ix3 k ⟨(((View.whole main_v0_2).slice (win0_7.rect t)).emb y 1).val, Nat.lt_of_lt_of_le (((View.whole main_v0_2).slice (win0_7.rect t)).emb y 1).isLt (by decide : 3 ≤ 8)⟩ (((View.whole main_v0_2).slice (win0_7.rect t)).emb y 2)) := by
  blk_point [iblk, V, idx t]

/-- The other arguments' entries at grid point `t`, by their place in result 2's array. -/
theorem own7 (c : Dev nD) (t : Fin cfg0.N) (y : ((cfg0.win 7).xblock (cfg0.grid.coords t)).Idx) :
    iblk m c 2 t y = m ((c : Thread nD τ).loc main_arg2) (((cfg0.win 7).blk t).view.emb y) :=
  rfl

/-- The first moment after the run is the reference's. -/
theorem final7 (c : Dev nD) : (dats m 0 c).arrAt 7 (cfgs 0).N
    = Cert.AdamConvRefIdeal.Read.val_main_v7 (F := Ideal) (m ((c : Thread nD τ).loc main_arg1)) (m ((c : Thread nD τ).loc main_arg2)) := by
  refine (dats m 0 c).arrAt_eq_of_covers 7 _ (by decide +kernel) fun t _ y => ?_
  rw [← Cert.AdamConvRefIdeal.Read.val_main_v7_eq]
  blk_simp
  rw [after0_7]; unfold_out out0_7; frame_out
  pointwise [k0_pay1, k0_pay2, k0_pay3, k0_pay4, k0_pay5, k0_pay6, k0_pay7, k0_pay8, k0_pay9, k0_pay10]
  simp only [Fin.sum_univ_eight, slot7, own7]

/-- A slot's entry at grid point `t`, by its place in result 3's array. -/
theorem slot8 (c : Dev nD) (t : Fin cfg0.N) (k : Fin 8) (y : ((cfg0.win 8).xblock (cfg0.grid.coords t)).Idx) (h : (y 1).val < 8) :
    iblk m c 1 t (ix3 k ⟨(y 1).val, h⟩ (y 2)) = m ((c : Thread nD τ).loc main_arg1)
      (ix3 k ⟨(((View.whole main_v0_3).slice (win0_8.rect t)).emb y 1).val, Nat.lt_of_lt_of_le (((View.whole main_v0_3).slice (win0_8.rect t)).emb y 1).isLt (by decide : 3 ≤ 8)⟩ (((View.whole main_v0_3).slice (win0_8.rect t)).emb y 2)) := by
  blk_point [iblk, V, idx t]

/-- The other arguments' entries at grid point `t`, by their place in result 3's array. -/
theorem own8 (c : Dev nD) (t : Fin cfg0.N) (y : ((cfg0.win 8).xblock (cfg0.grid.coords t)).Idx) :
    iblk m c 3 t y = m ((c : Thread nD τ).loc main_arg3) (((cfg0.win 8).blk t).view.emb y) :=
  rfl

/-- The second moment after the run is the reference's. -/
theorem final8 (c : Dev nD) : (dats m 0 c).arrAt 8 (cfgs 0).N
    = Cert.AdamConvRefIdeal.Read.val_main_v13 (F := Ideal) (m ((c : Thread nD τ).loc main_arg1)) (m ((c : Thread nD τ).loc main_arg3)) := by
  refine (dats m 0 c).arrAt_eq_of_covers 8 _ (by decide +kernel) fun t _ y => ?_
  rw [← Cert.AdamConvRefIdeal.Read.val_main_v13_eq]
  blk_simp
  rw [after0_8]; unfold_out out0_8; frame_out
  pointwise [k0_pay1, k0_pay2, k0_pay3, k0_pay4, k0_pay5, k0_pay6, k0_pay7, k0_pay8, k0_pay9, k0_pay10]
  simp only [Fin.sum_univ_eight, slot8, own8]

set_option maxHeartbeats 1000000 in
/-- The run ends with the four arrays and keeps the arguments. -/
theorem run_out (g : Dev nD → PrngReg) :
    θ_run defs (onTc (τ := τ) (main (F := Ideal))) ⟨m, fun _ => 0, g⟩ (fun r => ∀ c : Dev nD,
      r.2.mem ((c.tc : Thread nD τ).loc main_v0_0) = (dats m 0 c).arrAt 5 (cfgs 0).N
      ∧ r.2.mem ((c.tc : Thread nD τ).loc main_v0_1) = (dats m 0 c).arrAt 6 (cfgs 0).N
      ∧ r.2.mem ((c.tc : Thread nD τ).loc main_v0_2) = (dats m 0 c).arrAt 7 (cfgs 0).N
      ∧ r.2.mem ((c.tc : Thread nD τ).loc main_v0_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, (h.1 c).1 8, h.2 c⟩)
    (θ_run_and (run_main m g) (unchanged m g))

/-- The value claim of the step. -/
theorem algebraic : Cert.algebraic_AdamConvIdeal_AdamConvRefIdeal := by
  pair_intro
  · exact run_out m g
  · refine θ_run_mono (Cert.AdamConvRefIdeal.Value.run m' g') ?_
    intro r hr c
    obtain ⟨h0, h1, h2, h3, h4⟩ := hagree c
    obtain ⟨o0, o1, o2, o3, keep⟩ := hr c
    exact ⟨o0.trans ((Cert.AdamConvRefIdeal.Read.val_main_v2_eq _).trans (by rw [h1]; exact (final5 m c).symm)),
      o1.trans ((Cert.AdamConvRefIdeal.Read.val_main_v26_eq _ _ _ _).trans (by rw [h0, h1, h2, h3]; exact (final6 m c).symm)),
      o2.trans ((Cert.AdamConvRefIdeal.Read.val_main_v7_eq _ _).trans (by rw [h1, h2]; exact (final7 m c).symm)),
      o3.trans ((Cert.AdamConvRefIdeal.Read.val_main_v13_eq _ _).trans (by rw [h1, h3]; exact (final8 m c).symm)), keep⟩

/-- The reference runs, keeps its arguments, and leaves every counter at zero. -/
theorem frame_ref : Cert.quiescent_AdamConvRefIdeal := by
  intro m g _
  refine (θ_run_and (?_ : θ_run _ _ _ (fun r => ∀ c : Dev Cert.AdamConvRefIdeal.nD, _)) (?_ : θ_run _ _ _ (fun r => r.2.sem = fun _ => 0)))
  · run_from Cert.AdamConvRefIdeal.Value.run m g
  · exact (θ_run Cert.AdamConvRefIdeal.defs _ _).mono (fun r _ => sem_eq_zero_of_no_sems (by decide) r.2) (Cert.AdamConvRefIdeal.Value.run m g)

end Cert.AdamConvClaim

end
-- ==== Proof.AdamFfnClaim.lean ====
/- The optimiser's step of the feed-forward convolution: its four result arrays are the reference's, and the claim. -/
module

public import proofs.«01_k».proof.Defs
public import proofs.«01_k».proof.Proof.Gen.AdamFfnIdeal.Frame
public import proofs.«01_k».proof.Proof.Gen.AdamFfnRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.AdamFfnClaim

open Idealize.ShloMosaic Idealize.ShloMosaic.TcCoe Idealize.SL.Sem
open Idealize.ShloMosaic.Pipeline (Dat)
open Cert.AdamFfnIdeal Cert.AdamFfnIdeal.Gen

variable (m : (ℓ : Loc nD τ sig) → Buf (Elt Ideal) ℓ)

/-- Every window's block index at grid point `t`. -/
theorem idx : ∀ t : Fin cfg0.N,
    win0_0.index t = ![t.val, 0] ∧ win0_1.index t = ![0, t.val, 0] ∧ win0_2.index t = ![t.val, 0] ∧ win0_3.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

/-- A slot's entry at grid point `t`, by its place in result 0's array. -/
theorem slot5 (c : Dev nD) (t : Fin cfg0.N) (k : Fin 8) (y : ((cfg0.win 5).xblock (cfg0.grid.coords t)).Idx) (h : (y 0).val < 16) :
    iblk m c 1 t (ix3 k ⟨(y 0).val, h⟩ (y 1)) = m ((c : Thread nD τ).loc main_arg1)
      (ix3 k ⟨(((View.whole main_v0_0).slice (win0_5.rect t)).emb y 0).val, Nat.lt_of_lt_of_le (((View.whole main_v0_0).slice (win0_5.rect t)).emb y 0).isLt (by decide : 9 ≤ 16)⟩ (((View.whole main_v0_0).slice (win0_5.rect t)).emb y 1)) := by
  blk_point [iblk, V, idx t]

/-- The gradient after the run is the reference's: the sum over the slots. -/
theorem final5 (c : Dev nD) : (dats m 0 c).arrAt 5 (cfgs 0).N
    = Cert.AdamFfnRefIdeal.Read.val_main_v1 (F := Ideal) (m ((c : Thread nD τ).loc main_arg1)) := by
  refine (dats m 0 c).arrAt_eq_of_covers 5 _ (by decide +kernel) fun t _ y => ?_
  rw [← Cert.AdamFfnRefIdeal.Read.val_main_v1_eq]
  blk_simp
  rw [after0_5]; unfold_out out0_5; frame_out
  pointwise [k0_pay1, k0_pay2, k0_pay3, k0_pay4, k0_pay5, k0_pay6]
  simp only [Fin.sum_univ_eight, slot5]

/-- A slot's entry at grid point `t`, by its place in result 1's array. -/
theorem slot6 (c : Dev nD) (t : Fin cfg0.N) (k : Fin 8) (y : ((cfg0.win 6).xblock (cfg0.grid.coords t)).Idx) (h : (y 0).val < 16) :
    iblk m c 1 t (ix3 k ⟨(y 0).val, h⟩ (y 1)) = m ((c : Thread nD τ).loc main_arg1)
      (ix3 k ⟨(((View.whole main_v0_1).slice (win0_6.rect t)).emb y 0).val, Nat.lt_of_lt_of_le (((View.whole main_v0_1).slice (win0_6.rect t)).emb y 0).isLt (by decide : 9 ≤ 16)⟩ (((View.whole main_v0_1).slice (win0_6.rect t)).emb y 1)) := by
  blk_point [iblk, V, idx t]

/-- The other arguments' entries at grid point `t`, by their place in result 1's array. -/
theorem own6 (c : Dev nD) (t : Fin cfg0.N) (y : ((cfg0.win 6).xblock (cfg0.grid.coords t)).Idx) :
    iblk m c 0 t y = m ((c : Thread nD τ).loc main_arg0) (((cfg0.win 6).blk t).view.emb y)
    ∧ iblk m c 2 t y = m ((c : Thread nD τ).loc main_arg2) (((cfg0.win 6).blk t).view.emb y)
    ∧ iblk m c 3 t y = m ((c : Thread nD τ).loc main_arg3) (((cfg0.win 6).blk t).view.emb y) :=
  ⟨rfl, rfl, rfl⟩

/-- The weight's change after the run is the reference's. -/
theorem final6 (c : Dev nD) : (dats m 0 c).arrAt 6 (cfgs 0).N
    = Cert.AdamFfnRefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  rw [← Cert.AdamFfnRefIdeal.Read.val_main_v25_eq]
  blk_simp
  rw [after0_6]; unfold_out out0_6; frame_out
  pointwise [k0_pay1, k0_pay2, k0_pay3, k0_pay4, k0_pay5, k0_pay6]
  simp only [Fin.sum_univ_eight, slot6, own6]

/-- A slot's entry at grid point `t`, by its place in result 2's array. -/
theorem slot7 (c : Dev nD) (t : Fin cfg0.N) (k : Fin 8) (y : ((cfg0.win 7).xblock (cfg0.grid.coords t)).Idx) (h : (y 0).val < 16) :
    iblk m c 1 t (ix3 k ⟨(y 0).val, h⟩ (y 1)) = m ((c : Thread nD τ).loc main_arg1)
      (ix3 k ⟨(((View.whole main_v0_2).slice (win0_7.rect t)).emb y 0).val, Nat.lt_of_lt_of_le (((View.whole main_v0_2).slice (win0_7.rect t)).emb y 0).isLt (by decide : 9 ≤ 16)⟩ (((View.whole main_v0_2).slice (win0_7.rect t)).emb y 1)) := by
  blk_point [iblk, V, idx t]

/-- The other arguments' entries at grid point `t`, by their place in result 2's array. -/
theorem own7 (c : Dev nD) (t : Fin cfg0.N) (y : ((cfg0.win 7).xblock (cfg0.grid.coords t)).Idx) :
    iblk m c 2 t y = m ((c : Thread nD τ).loc main_arg2) (((cfg0.win 7).blk t).view.emb y) :=
  rfl

/-- The first moment after the run is the reference's. -/
theorem final7 (c : Dev nD) : (dats m 0 c).arrAt 7 (cfgs 0).N
    = Cert.AdamFfnRefIdeal.Read.val_main_v6 (F := Ideal) (m ((c : Thread nD τ).loc main_arg1)) (m ((c : Thread nD τ).loc main_arg2)) := by
  refine (dats m 0 c).arrAt_eq_of_covers 7 _ (by decide +kernel) fun t _ y => ?_
  rw [← Cert.AdamFfnRefIdeal.Read.val_main_v6_eq]
  blk_simp
  rw [after0_7]; unfold_out out0_7; frame_out
  pointwise [k0_pay1, k0_pay2, k0_pay3, k0_pay4, k0_pay5, k0_pay6]
  simp only [Fin.sum_univ_eight, slot7, own7]

/-- A slot's entry at grid point `t`, by its place in result 3's array. -/
theorem slot8 (c : Dev nD) (t : Fin cfg0.N) (k : Fin 8) (y : ((cfg0.win 8).xblock (cfg0.grid.coords t)).Idx) (h : (y 0).val < 16) :
    iblk m c 1 t (ix3 k ⟨(y 0).val, h⟩ (y 1)) = m ((c : Thread nD τ).loc main_arg1)
      (ix3 k ⟨(((View.whole main_v0_3).slice (win0_8.rect t)).emb y 0).val, Nat.lt_of_lt_of_le (((View.whole main_v0_3).slice (win0_8.rect t)).emb y 0).isLt (by decide : 9 ≤ 16)⟩ (((View.whole main_v0_3).slice (win0_8.rect t)).emb y 1)) := by
  blk_point [iblk, V, idx t]

/-- The other arguments' entries at grid point `t`, by their place in result 3's array. -/
theorem own8 (c : Dev nD) (t : Fin cfg0.N) (y : ((cfg0.win 8).xblock (cfg0.grid.coords t)).Idx) :
    iblk m c 3 t y = m ((c : Thread nD τ).loc main_arg3) (((cfg0.win 8).blk t).view.emb y) :=
  rfl

/-- The second moment after the run is the reference's. -/
theorem final8 (c : Dev nD) : (dats m 0 c).arrAt 8 (cfgs 0).N
    = Cert.AdamFfnRefIdeal.Read.val_main_v12 (F := Ideal) (m ((c : Thread nD τ).loc main_arg1)) (m ((c : Thread nD τ).loc main_arg3)) := by
  refine (dats m 0 c).arrAt_eq_of_covers 8 _ (by decide +kernel) fun t _ y => ?_
  rw [← Cert.AdamFfnRefIdeal.Read.val_main_v12_eq]
  blk_simp
  rw [after0_8]; unfold_out out0_8; frame_out
  pointwise [k0_pay1, k0_pay2, k0_pay3, k0_pay4, k0_pay5, k0_pay6]
  simp only [Fin.sum_univ_eight, slot8, own8]

set_option maxHeartbeats 1000000 in
/-- The run ends with the four arrays and keeps the arguments. -/
theorem run_out (g : Dev nD → PrngReg) :
    θ_run defs (onTc (τ := τ) (main (F := Ideal))) ⟨m, fun _ => 0, g⟩ (fun r => ∀ c : Dev nD,
      r.2.mem ((c.tc : Thread nD τ).loc main_v0_0) = (dats m 0 c).arrAt 5 (cfgs 0).N
      ∧ r.2.mem ((c.tc : Thread nD τ).loc main_v0_1) = (dats m 0 c).arrAt 6 (cfgs 0).N
      ∧ r.2.mem ((c.tc : Thread nD τ).loc main_v0_2) = (dats m 0 c).arrAt 7 (cfgs 0).N
      ∧ r.2.mem ((c.tc : Thread nD τ).loc main_v0_3) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).1 7, (h.1 c).1 8, h.2 c⟩)
    (θ_run_and (run_main m g) (unchanged m g))

/-- The value claim of the step. -/
theorem algebraic : Cert.algebraic_AdamFfnIdeal_AdamFfnRefIdeal := by
  pair_intro
  · exact run_out m g
  · refine θ_run_mono (Cert.AdamFfnRefIdeal.Value.run m' g') ?_
    intro r hr c
    obtain ⟨h0, h1, h2, h3, h4⟩ := hagree c
    obtain ⟨o0, o1, o2, o3, keep⟩ := hr c
    exact ⟨o0.trans ((Cert.AdamFfnRefIdeal.Read.val_main_v1_eq _).trans (by rw [h1]; exact (final5 m c).symm)),
      o1.trans ((Cert.AdamFfnRefIdeal.Read.val_main_v25_eq _ _ _ _).trans (by rw [h0, h1, h2, h3]; exact (final6 m c).symm)),
      o2.trans ((Cert.AdamFfnRefIdeal.Read.val_main_v6_eq _ _).trans (by rw [h1, h2]; exact (final7 m c).symm)),
      o3.trans ((Cert.AdamFfnRefIdeal.Read.val_main_v12_eq _ _).trans (by rw [h1, h3]; exact (final8 m c).symm)), keep⟩

/-- The reference runs, keeps its arguments, and leaves every counter at zero. -/
theorem frame_ref : Cert.quiescent_AdamFfnRefIdeal := by
  intro m g _
  refine (θ_run_and (?_ : θ_run _ _ _ (fun r => ∀ c : Dev Cert.AdamFfnRefIdeal.nD, _)) (?_ : θ_run _ _ _ (fun r => r.2.sem = fun _ => 0)))
  · run_from Cert.AdamFfnRefIdeal.Value.run m g
  · exact (θ_run Cert.AdamFfnRefIdeal.defs _ _).mono (fun r _ => sem_eq_zero_of_no_sems (by decide) r.2) (Cert.AdamFfnRefIdeal.Value.run m g)

end Cert.AdamFfnClaim

end
-- ==== Proof.lean ====
/- The claim: each call's frames, its rewrites (none) and its value claim, from the modules that prove them. -/
module

public import proofs.«01_k».proof.Defs
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.UpFwd
public import proofs.«01_k».proof.Proof.Gen.UpFwd.Frame
public import proofs.«01_k».proof.Proof.Gen.UpFwdIdeal
public import proofs.«01_k».proof.Proof.Gen.UpFwdIdeal.Frame
public import proofs.«01_k».proof.Proof.Gen.UpFwdRefIdeal
public import proofs.«01_k».proof.Proof.Gen.InFwd
public import proofs.«01_k».proof.Proof.Gen.InFwd.Frame
public import proofs.«01_k».proof.Proof.Gen.InFwdIdeal
public import proofs.«01_k».proof.Proof.Gen.InFwdIdeal.Frame
public import proofs.«01_k».proof.Proof.Gen.InFwdRefIdeal
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdRefIdeal
public import proofs.«01_k».proof.Proof.Gen.UpProj
public import proofs.«01_k».proof.Proof.Gen.UpProj.Frame
public import proofs.«01_k».proof.Proof.Gen.UpProjIdeal
public import proofs.«01_k».proof.Proof.Gen.UpProjIdeal.Frame
public import proofs.«01_k».proof.Proof.Gen.UpProjRefIdeal
public import proofs.«01_k».proof.Proof.Gen.WDown
public import proofs.«01_k».proof.Proof.Gen.WDown.Frame
public import proofs.«01_k».proof.Proof.Gen.WDownIdeal
public import proofs.«01_k».proof.Proof.Gen.WDownIdeal.Frame
public import proofs.«01_k».proof.Proof.Gen.WDownRefIdeal
public import proofs.«01_k».proof.Proof.Gen.WUp
public import proofs.«01_k».proof.Proof.Gen.WUp.Frame
public import proofs.«01_k».proof.Proof.Gen.WUpIdeal
public import proofs.«01_k».proof.Proof.Gen.WUpIdeal.Frame
public import proofs.«01_k».proof.Proof.Gen.WUpRefIdeal
public import proofs.«01_k».proof.Proof.Gen.WBranch
public import proofs.«01_k».proof.Proof.Gen.WBranch.Frame
public import proofs.«01_k».proof.Proof.Gen.WBranchIdeal
public import proofs.«01_k».proof.Proof.Gen.WBranchIdeal.Frame
public import proofs.«01_k».proof.Proof.Gen.WBranchRefIdeal
public import proofs.«01_k».proof.Proof.Gen.WQkv
public import proofs.«01_k».proof.Proof.Gen.WQkv.Frame
public import proofs.«01_k».proof.Proof.Gen.WQkvIdeal
public import proofs.«01_k».proof.Proof.Gen.WQkvIdeal.Frame
public import proofs.«01_k».proof.Proof.Gen.WQkvRefIdeal
public import proofs.«01_k».proof.Proof.Gen.WRest
public import proofs.«01_k».proof.Proof.Gen.WRest.Frame
public import proofs.«01_k».proof.Proof.Gen.WRestIdeal
public import proofs.«01_k».proof.Proof.Gen.WRestIdeal.Frame
public import proofs.«01_k».proof.Proof.Gen.WRestRefIdeal
public import proofs.«01_k».proof.Proof.Gen.WInGate
public import proofs.«01_k».proof.Proof.Gen.WInGate.Frame
public import proofs.«01_k».proof.Proof.Gen.WInGateIdeal
public import proofs.«01_k».proof.Proof.Gen.WInGateIdeal.Frame
public import proofs.«01_k».proof.Proof.Gen.WInGateRefIdeal
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpRefIdeal
public import proofs.«01_k».proof.Proof.Gen.AdamSquare
public import proofs.«01_k».proof.Proof.Gen.AdamSquare.Frame
public import proofs.«01_k».proof.Proof.Gen.AdamSquareIdeal
public import proofs.«01_k».proof.Proof.Gen.AdamSquareIdeal.Frame
public import proofs.«01_k».proof.Proof.Gen.AdamSquareRefIdeal
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownRefIdeal
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamMod
public import proofs.«01_k».proof.Proof.Gen.AdamMod.Frame
public import proofs.«01_k».proof.Proof.Gen.AdamModIdeal
public import proofs.«01_k».proof.Proof.Gen.AdamModIdeal.Frame
public import proofs.«01_k».proof.Proof.Gen.AdamModRefIdeal
public import proofs.«01_k».proof.Proof.Gen.AdamRep
public import proofs.«01_k».proof.Proof.Gen.AdamRep.Frame
public import proofs.«01_k».proof.Proof.Gen.AdamRepIdeal
public import proofs.«01_k».proof.Proof.Gen.AdamRepIdeal.Frame
public import proofs.«01_k».proof.Proof.Gen.AdamRepRefIdeal
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Frame
public import proofs.«01_k».proof.Proof.Gen.AdamConvRefIdeal
public import proofs.«01_k».proof.Proof.Gen.AdamFfn
public import proofs.«01_k».proof.Proof.Gen.AdamFfn.Frame
public import proofs.«01_k».proof.Proof.Gen.AdamFfnIdeal
public import proofs.«01_k».proof.Proof.Gen.AdamFfnIdeal.Frame
public import proofs.«01_k».proof.Proof.Gen.AdamFfnRefIdeal
public import proofs.«01_k».proof.Proof.Gen.Pre_gate_finite
public import proofs.«01_k».proof.Proof.Gen.Pre_in_finite
public import proofs.«01_k».proof.Proof.Gen.Pre_up_finite
public import proofs.«01_k».proof.Proof.UpFwdRun
public import proofs.«01_k».proof.Proof.UpFwdBits
public import proofs.«01_k».proof.Proof.InFwdRun
public import proofs.«01_k».proof.Proof.InFwdBits
public import proofs.«01_k».proof.Proof.GateClaim
public import proofs.«01_k».proof.Proof.InProjClaim
public import proofs.«01_k».proof.Proof.UpFwdClaim
public import proofs.«01_k».proof.Proof.InFwdClaim
public import proofs.«01_k».proof.Proof.MixFwdClaim
public import proofs.«01_k».proof.Proof.UpProjClaim
public import proofs.«01_k».proof.Proof.WDownClaim
public import proofs.«01_k».proof.Proof.WUpClaim
public import proofs.«01_k».proof.Proof.WBranchClaim
public import proofs.«01_k».proof.Proof.WQkvClaim
public import proofs.«01_k».proof.Proof.WRestClaim
public import proofs.«01_k».proof.Proof.WInGateClaim
public import proofs.«01_k».proof.Proof.AdamUpClaim
public import proofs.«01_k».proof.Proof.AdamSquareClaim
public import proofs.«01_k».proof.Proof.AdamDownClaim
public import proofs.«01_k».proof.Proof.AdamInClaim
public import proofs.«01_k».proof.Proof.AdamModClaim
public import proofs.«01_k».proof.Proof.AdamRepClaim
public import proofs.«01_k».proof.Proof.AdamConvClaim
public import proofs.«01_k».proof.Proof.AdamFfnClaim
public import Idealize.ShloMosaic.Adequacy
public import Idealize.ShloMosaic.Init

@[expose] public section

set_option maxRecDepth 16384

noncomputable section

namespace Cert.Proof

open Idealize.ShloMosaic Idealize.SL.Sem

theorem claim : Cert.Claim := ⟨Cert.Gate.Gen.facts, Cert.GateIdeal.Gen.facts, Cert.GateRefIdeal.Gen.facts, Cert.InProj.Gen.facts, Cert.InProjIdeal.Gen.facts, Cert.InProjRefIdeal.Gen.facts, Cert.UpFwd.Gen.facts, Cert.UpFwdIdeal.Gen.facts, Cert.UpFwdRefIdeal.Gen.facts, Cert.InFwd.Gen.facts, Cert.InFwdIdeal.Gen.facts, Cert.InFwdRefIdeal.Gen.facts, Cert.MixFwd.Gen.facts, Cert.MixFwdIdeal.Gen.facts, Cert.MixFwdRefIdeal.Gen.facts, Cert.UpProj.Gen.facts, Cert.UpProjIdeal.Gen.facts, Cert.UpProjRefIdeal.Gen.facts, Cert.WDown.Gen.facts, Cert.WDownIdeal.Gen.facts, Cert.WDownRefIdeal.Gen.facts, Cert.WUp.Gen.facts, Cert.WUpIdeal.Gen.facts, Cert.WUpRefIdeal.Gen.facts, Cert.WBranch.Gen.facts, Cert.WBranchIdeal.Gen.facts, Cert.WBranchRefIdeal.Gen.facts, Cert.WQkv.Gen.facts, Cert.WQkvIdeal.Gen.facts, Cert.WQkvRefIdeal.Gen.facts, Cert.WRest.Gen.facts, Cert.WRestIdeal.Gen.facts, Cert.WRestRefIdeal.Gen.facts, Cert.WInGate.Gen.facts, Cert.WInGateIdeal.Gen.facts, Cert.WInGateRefIdeal.Gen.facts, Cert.AdamUp.Gen.facts, Cert.AdamUpIdeal.Gen.facts, Cert.AdamUpRefIdeal.Gen.facts, Cert.AdamSquare.Gen.facts, Cert.AdamSquareIdeal.Gen.facts, Cert.AdamSquareRefIdeal.Gen.facts, Cert.AdamDown.Gen.facts, Cert.AdamDownIdeal.Gen.facts, Cert.AdamDownRefIdeal.Gen.facts, Cert.AdamIn.Gen.facts, Cert.AdamInIdeal.Gen.facts, Cert.AdamInRefIdeal.Gen.facts, Cert.AdamMod.Gen.facts, Cert.AdamModIdeal.Gen.facts, Cert.AdamModRefIdeal.Gen.facts, Cert.AdamRep.Gen.facts, Cert.AdamRepIdeal.Gen.facts, Cert.AdamRepRefIdeal.Gen.facts, Cert.AdamConv.Gen.facts, Cert.AdamConvIdeal.Gen.facts, Cert.AdamConvRefIdeal.Gen.facts, Cert.AdamFfn.Gen.facts, Cert.AdamFfnIdeal.Gen.facts, Cert.AdamFfnRefIdeal.Gen.facts, Cert.Pre_gate_finite.Gen.facts, Cert.Pre_in_finite.Gen.facts, Cert.Pre_up_finite.Gen.facts,
  fun m ρ _ => Cert.Gate.Gen.frame m ρ,
  fun m ρ _ => Cert.GateIdeal.Gen.frame m ρ,
  fun m ρ _ => Cert.GateIdeal.Gen.frame m ρ,
  Cert.GateClaim.frame_ref,
  Cert.GateClaim.frame_ref_finite,
  fun m ρ _ => Cert.InProj.Gen.frame m ρ,
  fun m ρ _ => Cert.InProjIdeal.Gen.frame m ρ,
  fun m ρ _ => Cert.InProjIdeal.Gen.frame m ρ,
  Cert.InProjClaim.frame_ref,
  Cert.InProjClaim.frame_ref_finite,
  Cert.UpFwdBits.frame,
  fun m ρ _ => Cert.UpFwdRun.frame_main m ρ,
  Cert.UpFwdClaim.frame_ref,
  Cert.InFwdBits.frame,
  fun m ρ _ => Cert.InFwdRun.frame_main m ρ,
  Cert.InFwdClaim.frame_ref,
  fun m ρ _ => Cert.MixFwd.Gen.frame m ρ,
  fun m ρ _ => Cert.MixFwdIdeal.Gen.frame m ρ,
  Cert.MixFwdClaim.frame_ref,
  fun m ρ _ => Cert.UpProj.Gen.frame m ρ,
  fun m ρ _ => Cert.UpProjIdeal.Gen.frame m ρ,
  fun m ρ _ => Cert.UpProjIdeal.Gen.frame m ρ,
  Cert.UpProjClaim.frame_ref,
  Cert.UpProjClaim.frame_ref_finite,
  fun m ρ _ => Cert.WDown.Gen.frame m ρ,
  fun m ρ _ => Cert.WDownIdeal.Gen.frame m ρ,
  Cert.WDownClaim.frame_ref,
  fun m ρ _ => Cert.WUp.Gen.frame m ρ,
  fun m ρ _ => Cert.WUpIdeal.Gen.frame m ρ,
  Cert.WUpClaim.frame_ref,
  fun m ρ _ => Cert.WBranch.Gen.frame m ρ,
  fun m ρ _ => Cert.WBranchIdeal.Gen.frame m ρ,
  Cert.WBranchClaim.frame_ref,
  fun m ρ _ => Cert.WQkv.Gen.frame m ρ,
  fun m ρ _ => Cert.WQkvIdeal.Gen.frame m ρ,
  Cert.WQkvClaim.frame_ref,
  fun m ρ _ => Cert.WRest.Gen.frame m ρ,
  fun m ρ _ => Cert.WRestIdeal.Gen.frame m ρ,
  Cert.WRestClaim.frame_ref,
  fun m ρ _ => Cert.WInGate.Gen.frame m ρ,
  fun m ρ _ => Cert.WInGateIdeal.Gen.frame m ρ,
  Cert.WInGateClaim.frame_ref,
  fun m ρ _ => Cert.AdamUp.Gen.frame m ρ,
  fun m ρ _ => Cert.AdamUpIdeal.Gen.frame m ρ,
  Cert.AdamUpClaim.frame_ref,
  fun m ρ _ => Cert.AdamSquare.Gen.frame m ρ,
  fun m ρ _ => Cert.AdamSquareIdeal.Gen.frame m ρ,
  Cert.AdamSquareClaim.frame_ref,
  fun m ρ _ => Cert.AdamDown.Gen.frame m ρ,
  fun m ρ _ => Cert.AdamDownIdeal.Gen.frame m ρ,
  Cert.AdamDownClaim.frame_ref,
  fun m ρ _ => Cert.AdamIn.Gen.frame m ρ,
  fun m ρ _ => Cert.AdamInIdeal.Gen.frame m ρ,
  Cert.AdamInClaim.frame_ref,
  fun m ρ _ => Cert.AdamMod.Gen.frame m ρ,
  fun m ρ _ => Cert.AdamModIdeal.Gen.frame m ρ,
  Cert.AdamModClaim.frame_ref,
  fun m ρ _ => Cert.AdamRep.Gen.frame m ρ,
  fun m ρ _ => Cert.AdamRepIdeal.Gen.frame m ρ,
  Cert.AdamRepClaim.frame_ref,
  fun m ρ _ => Cert.AdamConv.Gen.frame m ρ,
  fun m ρ _ => Cert.AdamConvIdeal.Gen.frame m ρ,
  Cert.AdamConvClaim.frame_ref,
  fun m ρ _ => Cert.AdamFfn.Gen.frame m ρ,
  fun m ρ _ => Cert.AdamFfnIdeal.Gen.frame m ρ,
  Cert.AdamFfnClaim.frame_ref,
  trivial,
  Cert.GateClaim.algebraic,
  trivial,
  Cert.InProjClaim.algebraic,
  trivial,
  Cert.UpFwdClaim.algebraic,
  trivial,
  Cert.InFwdClaim.algebraic,
  trivial,
  Cert.MixFwdClaim.algebraic,
  trivial,
  Cert.UpProjClaim.algebraic,
  trivial,
  Cert.WDownClaim.algebraic,
  trivial,
  Cert.WUpClaim.algebraic,
  trivial,
  Cert.WBranchClaim.algebraic,
  trivial,
  Cert.WQkvClaim.algebraic,
  trivial,
  Cert.WRestClaim.algebraic,
  trivial,
  Cert.WInGateClaim.algebraic,
  trivial,
  Cert.AdamUpClaim.algebraic,
  trivial,
  Cert.AdamSquareClaim.algebraic,
  trivial,
  Cert.AdamDownClaim.algebraic,
  trivial,
  Cert.AdamInClaim.algebraic,
  trivial,
  Cert.AdamModClaim.algebraic,
  trivial,
  Cert.AdamRepClaim.algebraic,
  trivial,
  Cert.AdamConvClaim.algebraic,
  trivial,
  Cert.AdamFfnClaim.algebraic⟩

end Cert.Proof

end
